-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v68) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v110_0)) (v1 : (c : Dev Cert.Kernel3Ideal.nD) → Buf (Elt Ideal) ((c.tc : Thread Cert.Kernel3Ideal.nD Cert.Kernel3Ideal.τ).loc Cert.Kernel3Ideal.main_v110_1)) (v2 : (c : Dev Cert.Kernel3Ideal.nD) → Buf (Elt Ideal) ((c.tc : Thread Cert.Kernel3Ideal.nD Cert.Kernel3Ideal.τ).loc Cert.Kernel3Ideal.main_v110_2)) (v3 : (c : Dev Cert.Kernel3Ideal.nD) → Buf (Elt Ideal) ((c.tc : Thread Cert.Kernel3Ideal.nD Cert.Kernel3Ideal.τ).loc Cert.Kernel3Ideal.main_v110_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v110_0) = v0 c
          ∧ r.2.mem ((c.tc : Thread Cert.Kernel3Ideal.nD Cert.Kernel3Ideal.τ).loc Cert.Kernel3Ideal.main_v110_1) = v1 c
          ∧ r.2.mem ((c.tc : Thread Cert.Kernel3Ideal.nD Cert.Kernel3Ideal.τ).loc Cert.Kernel3Ideal.main_v110_2) = v2 c
          ∧ r.2.mem ((c.tc : Thread Cert.Kernel3Ideal.nD Cert.Kernel3Ideal.τ).loc Cert.Kernel3Ideal.main_v110_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v207) = v0 c
          ∧ r.2.mem ((c.tc : Thread Cert.Reference3Ideal.nD Cert.Reference3Ideal.τ).loc Cert.Reference3Ideal.main_v209) = v1 c
          ∧ r.2.mem ((c.tc : Thread Cert.Reference3Ideal.nD Cert.Reference3Ideal.τ).loc Cert.Reference3Ideal.main_v216) = v2 c
          ∧ r.2.mem ((c.tc : Thread Cert.Reference3Ideal.nD Cert.Reference3Ideal.τ).loc Cert.Reference3Ideal.main_v218) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v129_0)) (v1 : (c : Dev Cert.Kernel5Ideal.nD) → Buf (Elt Ideal) ((c.tc : Thread Cert.Kernel5Ideal.nD Cert.Kernel5Ideal.τ).loc Cert.Kernel5Ideal.main_v129_1)) (v2 : (c : Dev Cert.Kernel5Ideal.nD) → Buf (Elt Ideal) ((c.tc : Thread Cert.Kernel5Ideal.nD Cert.Kernel5Ideal.τ).loc Cert.Kernel5Ideal.main_v129_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v129_0) = v0 c
          ∧ r.2.mem ((c.tc : Thread Cert.Kernel5Ideal.nD Cert.Kernel5Ideal.τ).loc Cert.Kernel5Ideal.main_v129_1) = v1 c
          ∧ r.2.mem ((c.tc : Thread Cert.Kernel5Ideal.nD Cert.Kernel5Ideal.τ).loc Cert.Kernel5Ideal.main_v129_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v91) = v0 c
          ∧ r.2.mem ((c.tc : Thread Cert.Reference5Ideal.nD Cert.Reference5Ideal.τ).loc Cert.Reference5Ideal.main_v94) = v1 c
          ∧ r.2.mem ((c.tc : Thread Cert.Reference5Ideal.nD Cert.Reference5Ideal.τ).loc Cert.Reference5Ideal.main_v97) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S16x4096x256 : Shape := ⟨3, ![16, 4096, 256]⟩
abbrev S16x4096x128 : Shape := ⟨3, ![16, 4096, 128]⟩
abbrev S16x256x128 : Shape := ⟨3, ![16, 256, 128]⟩
abbrev S4 : Shape := ⟨1, ![4]⟩
abbrev S_ : Shape := ⟨0, ![]⟩

class Facts : Prop where
  bcast_S_S16x4096x256 : S_.BroadcastsInDim S16x4096x256 (![] : Fin 0 → Fin S16x4096x256.rank)
  reducesTo_S16x4096x256_S_d0_1_2 : S16x4096x256.ReducesTo [0, 1, 2] S_
  h_S_ : 0 < S_.numel
  bcast_S_S16x4096x128 : S_.BroadcastsInDim S16x4096x128 (![] : Fin 0 → Fin S16x4096x128.rank)
  reducesTo_S16x4096x128_S_d0_1_2 : S16x4096x128.ReducesTo [0, 1, 2] S_
  bcast_S_S16x256x128 : S_.BroadcastsInDim S16x256x128 (![] : Fin 0 → Fin S16x256x128.rank)
  reducesTo_S16x256x128_S_d0_1_2 : S16x256x128.ReducesTo [0, 1, 2] S_
  bcast_S_S4 : S_.BroadcastsInDim S4 (![] : Fin 0 → Fin S4.rank)
  reducesTo_S4_S_d0 : S4.ReducesTo [0] S_

variable [Facts]

def fn_part1 {F : FTy → Type} [FloatOps F] (main_v13 : IVec S_ 1) (main_v16 : IVec S4 1) : IVec S_ 1 :=
  let main_c_5 : IVec S_ 1 := constantI S_ 1 1#1
  let main_v17 : IVec S_ 1 := (fun x v => Host.reduce IntOp.andi x v reducesTo_S4_S_d0 h_S_) main_v16 main_c_5
  let main_v18 : IVec S_ 1 := andi main_v13 main_v17
  main_v18

def fn {F : FTy → Type} [FloatOps F] (main_arg0 : FVec F S16x4096x256 .f32) (main_arg1 : FVec F S16x4096x128 .f32) (main_arg2 : FVec F S16x4096x128 .f32) (main_arg3 : FVec F S16x256x128 .f32) (main_arg4 : FVec F S16x256x128 .f32) (main_arg5 : FVec F S4 .f32) : IVec S_ 1 :=
  let main_v0 : FVec F S16x4096x256 .f32 := Host.absf main_arg0
  let main_cst : FVec F S_ .f32 := constant S_ .f32 0x7F800000#32
  let main_v1 : FVec F S16x4096x256 .f32 := broadcastInDim S16x4096x256 ![] bcast_S_S16x4096x256 main_cst
  let main_v2 : IVec S16x4096x256 1 := cmpf .olt main_v0 main_v1
  let main_c : IVec S_ 1 := constantI S_ 1 1#1
  let main_v3 : IVec S_ 1 := (fun x v => Host.reduce IntOp.andi x v reducesTo_S16x4096x256_S_d0_1_2 h_S_) main_v2 main_c
  let main_v4 : FVec F S16x4096x128 .f32 := Host.absf main_arg1
  let main_cst_0 : FVec F S_ .f32 := constant S_ .f32 0x7F800000#32
  let main_v5 : FVec F S16x4096x128 .f32 := broadcastInDim S16x4096x128 ![] bcast_S_S16x4096x128 main_cst_0
  let main_v6 : IVec S16x4096x128 1 := cmpf .olt main_v4 main_v5
  let main_c_1 : IVec S_ 1 := constantI S_ 1 1#1
  let main_v7 : IVec S_ 1 := (fun x v => Host.reduce IntOp.andi x v reducesTo_S16x4096x128_S_d0_1_2 h_S_) main_v6 main_c_1
  let main_v8 : IVec S_ 1 := andi main_v3 main_v7
  let main_v9 : FVec F S16x256x128 .f32 := Host.absf main_arg3
  let main_cst_2 : FVec F S_ .f32 := constant S_ .f32 0x7F800000#32
  let main_v10 : FVec F S16x256x128 .f32 := broadcastInDim S16x256x128 ![] bcast_S_S16x256x128 main_cst_2
  let main_v11 : IVec S16x256x128 1 := cmpf .olt main_v9 main_v10
  let main_c_3 : IVec S_ 1 := constantI S_ 1 1#1
  let main_v12 : IVec S_ 1 := (fun x v => Host.reduce IntOp.andi x v reducesTo_S16x256x128_S_d0_1_2 h_S_) main_v11 main_c_3
  let main_v13 : IVec S_ 1 := andi main_v8 main_v12
  let main_v14 : FVec F S4 .f32 := Host.absf main_arg5
  let main_cst_4 : FVec F S_ .f32 := constant S_ .f32 0x7F800000#32
  let main_v15 : FVec F S4 .f32 := broadcastInDim S4 ![] bcast_S_S4 main_cst_4
  let main_v16 : IVec S4 1 := cmpf .olt main_v14 main_v15
  fn_part1 (F := F) main_v13 main_v16
-- ==== Kernel.lean ====
abbrev S16x4096x256 : Shape := ⟨3, ![16, 4096, 256]⟩
abbrev S16x4096x128 : Shape := ⟨3, ![16, 4096, 128]⟩
abbrev S16x256x128 : Shape := ⟨3, ![16, 256, 128]⟩
abbrev S4 : Shape := ⟨1, ![4]⟩
abbrev S16x4096x2x2x2x32 : Shape := ⟨6, ![16, 4096, 2, 2, 2, 32]⟩
abbrev S16x4096x2x2x32 : Shape := ⟨5, ![16, 4096, 2, 2, 32]⟩
abbrev S16x4096x512 : Shape := ⟨3, ![16, 4096, 512]⟩
abbrev S16x256x2x2x32 : Shape := ⟨5, ![16, 256, 2, 2, 32]⟩
abbrev S16x256x256 : Shape := ⟨3, ![16, 256, 256]⟩
abbrev S_ : Shape := ⟨0, ![]⟩
abbrev S16x256x512 : Shape := ⟨3, ![16, 256, 512]⟩
abbrev S1x256x256 : Shape := ⟨3, ![1, 256, 256]⟩
abbrev S1x128x128 : Shape := ⟨3, ![1, 128, 128]⟩
abbrev S1x256x128 : Shape := ⟨3, ![1, 256, 128]⟩
abbrev S128x128 : Shape := ⟨2, ![128, 128]⟩
abbrev S256x128 : Shape := ⟨2, ![256, 128]⟩
abbrev S768x128 : Shape := ⟨2, ![768, 128]⟩
abbrev S256x768 : Shape := ⟨2, ![256, 768]⟩
abbrev S256x256 : Shape := ⟨2, ![256, 256]⟩
abbrev S1x128 : Shape := ⟨2, ![1, 128]⟩
abbrev S1 : Shape := ⟨1, ![1]⟩
abbrev S256 : Shape := ⟨1, ![256]⟩
abbrev S256x1 : Shape := ⟨2, ![256, 1]⟩

abbrev nBuf : Space → Nat
  | .hbm => 21
  | .vmem => 20
  | .smem => 1
  | _ => 0

abbrev bufTy : (tb : Table) → Fin (tcTables nBuf tb) → BufTy
  | .hbm, ⟨0, _⟩ => ⟨S16x4096x256, .f32⟩
  | .hbm, ⟨1, _⟩ => ⟨S16x4096x128, .f32⟩
  | .hbm, ⟨2, _⟩ => ⟨S16x4096x128, .f32⟩
  | .hbm, ⟨3, _⟩ => ⟨S16x256x128, .f32⟩
  | .hbm, ⟨4, _⟩ => ⟨S16x256x128, .f32⟩
  | .hbm, ⟨5, _⟩ => ⟨S4, .f32⟩
  | .hbm, ⟨6, _⟩ => ⟨S16x4096x2x2x2x32, .f32⟩
  | .hbm, ⟨7, _⟩ => ⟨S16x4096x2x2x2x32, .f32⟩
  | .hbm, ⟨8, _⟩ => ⟨S16x4096x256, .f32⟩
  | .hbm, ⟨9, _⟩ => ⟨S16x4096x2x2x32, .f32⟩
  | .hbm, ⟨10, _⟩ => ⟨S16x4096x2x2x32, .f32⟩
  | .hbm, ⟨11, _⟩ => ⟨S16x4096x128, .f32⟩
  | .hbm, ⟨12, _⟩ => ⟨S16x4096x512, .f32⟩
  | .hbm, ⟨13, _⟩ => ⟨S16x256x2x2x32, .f32⟩
  | .hbm, ⟨14, _⟩ => ⟨S16x256x2x2x32, .f32⟩
  | .hbm, ⟨15, _⟩ => ⟨S16x256x128, .f32⟩
  | .hbm, ⟨16, _⟩ => ⟨S16x256x256, .f32⟩
  | .hbm, ⟨17, _⟩ => ⟨S_, .i32⟩
  | .hbm, ⟨18, _⟩ => ⟨S_, .f32⟩
  | .hbm, ⟨19, _⟩ => ⟨S16x256x512, .f32⟩
  | .hbm, ⟨20, _⟩ => ⟨S16x4096x256, .f32⟩
  | .local _ .vmem, ⟨0, _⟩ => ⟨S1x256x256, .f32⟩
  | .local _ .vmem, ⟨1, _⟩ => ⟨S1x256x256, .f32⟩
  | .local _ .vmem, ⟨2, _⟩ => ⟨S1x128x128, .f32⟩
  | .local _ .vmem, ⟨3, _⟩ => ⟨S1x128x128, .f32⟩
  | .local _ .vmem, ⟨4, _⟩ => ⟨S1x256x128, .f32⟩
  | .local _ .vmem, ⟨5, _⟩ => ⟨S1x256x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x256x128, .f32⟩
  | .local _ .vmem, ⟨11, _⟩ => ⟨S1x256x128, .f32⟩
  | .local _ .vmem, ⟨12, _⟩ => ⟨S1x128x128, .f32⟩
  | .local _ .vmem, ⟨13, _⟩ => ⟨S1x128x128, .f32⟩
  | .local _ .vmem, ⟨14, _⟩ => ⟨S1x256x128, .f32⟩
  | .local _ .vmem, ⟨15, _⟩ => ⟨S1x256x128, .f32⟩
  | .local _ .vmem, ⟨16, _⟩ => ⟨S1x256x128, .f32⟩
  | .local _ .vmem, ⟨17, _⟩ => ⟨S1x256x128, .f32⟩
  | .local _ .vmem, ⟨18, _⟩ => ⟨S1x256x256, .f32⟩
  | .local _ .vmem, ⟨19, _⟩ => ⟨S1x256x256, .f32⟩
  | .local _ .smem, ⟨0, _⟩ => ⟨S4, .f32⟩
  | _, _ => ⟨S16x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_call0_v0 : Ref sig .tc := ⟨.hbm, 18, rfl⟩
abbrev main_v11 : Ref sig .tc := ⟨.hbm, 19, rfl⟩
abbrev main_v12 : Ref sig .tc := ⟨.hbm, 20, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![16, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c2_i32_0 : BitVec 32 := 2#32
  let c0_i32_1 : BitVec 32 := 0#32
  ![arg0.toNat, v2.toNat, c2_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c2_i32 : BitVec 32 := 2#32
  let v1 : BitVec 32 := Scalar.muli v0 c2_i32
  let c31_i32 : BitVec 32 := 31#32
  let v2 : BitVec 32 := Scalar.minsi v1 c31_i32
  let c2_i32_0 : BitVec 32 := 2#32
  let c0_i32 : BitVec 32 := 0#32
  ![arg0.toNat, v2.toNat, c2_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![arg0.toNat, v2.toNat, c3_i32.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c2_i32 : BitVec 32 := 2#32
  let v1 : BitVec 32 := Scalar.muli v0 c2_i32
  let c31_i32 : BitVec 32 := 31#32
  let v2 : BitVec 32 := Scalar.minsi v1 c31_i32
  let c3_i32 : BitVec 32 := 3#32
  let c0_i32 : BitVec 32 := 0#32
  ![arg0.toNat, v2.toNat, c3_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16x4096x256 : Shape := ⟨3, ![16, 4096, 256]⟩
abbrev S16x4096x128 : Shape := ⟨3, ![16, 4096, 128]⟩
abbrev S16x256x128 : Shape := ⟨3, ![16, 256, 128]⟩
abbrev S4 : Shape := ⟨1, ![4]⟩
abbrev S16x32x128x2x2x64 : Shape := ⟨6, ![16, 32, 128, 2, 2, 64]⟩
abbrev S16x4096x2x64 : Shape := ⟨4, ![16, 4096, 2, 64]⟩
abbrev S16x256x2x64 : Shape := ⟨4, ![16, 256, 2, 64]⟩
abbrev S_ : Shape := ⟨0, ![]⟩
abbrev S16x4352x2x64 : Shape := ⟨4, ![16, 4352, 2, 64]⟩
abbrev S16x34x128x2x64 : Shape := ⟨5, ![16, 34, 128, 2, 64]⟩
abbrev S16x32x128x2x64 : Shape := ⟨5, ![16, 32, 128, 2, 64]⟩
abbrev S16x32x384x2x64 : Shape := ⟨5, ![16, 32, 384, 2, 64]⟩
abbrev S4096 : Shape := ⟨1, ![4096]⟩
abbrev S32x128 : Shape := ⟨2, ![32, 128]⟩
abbrev S32 : Shape := ⟨1, ![32]⟩
abbrev S32x1 : Shape := ⟨2, ![32, 1]⟩
abbrev S384 : Shape := ⟨1, ![384]⟩
abbrev S1x384 : Shape := ⟨2, ![1, 384]⟩
abbrev S32x384 : Shape := ⟨2, ![32, 384]⟩
abbrev S32x1x384 : Shape := ⟨3, ![32, 1, 384]⟩
abbrev S32x128x1 : Shape := ⟨3, ![32, 128, 1]⟩
abbrev S32x128x384 : Shape := ⟨3, ![32, 128, 384]⟩
abbrev S2x2 : Shape := ⟨2, ![2, 2]⟩
abbrev S16x2x32x384x128x2 : Shape := ⟨6, ![16, 2, 32, 384, 128, 2]⟩
abbrev S16x2x2x32x128x384 : Shape := ⟨6, ![16, 2, 2, 32, 128, 384]⟩
abbrev S16x2x256x32x128x2 : Shape := ⟨6, ![16, 2, 256, 32, 128, 2]⟩
abbrev S16x2x2x32x128x256 : Shape := ⟨6, ![16, 2, 2, 32, 128, 256]⟩
abbrev S1x2x2x1x1x1 : Shape := ⟨6, ![1, 2, 2, 1, 1, 1]⟩
abbrev S16x2x2x32x128x1 : Shape := ⟨6, ![16, 2, 2, 32, 128, 1]⟩
abbrev S16x2x2x32x128x641 : Shape := ⟨6, ![16, 2, 2, 32, 128, 641]⟩
abbrev S16x2x2x32x128 : Shape := ⟨5, ![16, 2, 2, 32, 128]⟩
abbrev S16x32x2x64x2x128 : Shape := ⟨6, ![16, 32, 2, 64, 2, 128]⟩
abbrev S16x2x64x2x32x128 : Shape := ⟨6, ![16, 2, 64, 2, 32, 128]⟩

abbrev nBuf : Space → Nat
  | .hbm => 105
  | .vmem => 0
  | .smem => 0
  | _ => 0

abbrev bufTy : (tb : Table) → Fin (tcTables nBuf tb) → BufTy
  | .hbm, ⟨0, _⟩ => ⟨S16x4096x256, .f32⟩
  | .hbm, ⟨1, _⟩ => ⟨S16x4096x128, .f32⟩
  | .hbm, ⟨2, _⟩ => ⟨S16x4096x128, .f32⟩
  | .hbm, ⟨3, _⟩ => ⟨S16x256x128, .f32⟩
  | .hbm, ⟨4, _⟩ => ⟨S16x256x128, .f32⟩
  | .hbm, ⟨5, _⟩ => ⟨S4, .f32⟩
  | .hbm, ⟨6, _⟩ => ⟨S16x32x128x2x2x64, .f32⟩
  | .hbm, ⟨7, _⟩ => ⟨S16x4096x2x64, .f32⟩
  | .hbm, ⟨8, _⟩ => ⟨S16x4096x2x64, .f32⟩
  | .hbm, ⟨9, _⟩ => ⟨S16x256x2x64, .f32⟩
  | .hbm, ⟨10, _⟩ => ⟨S16x256x2x64, .f32⟩
  | .hbm, ⟨11, _⟩ => ⟨S_, .i32⟩
  | .hbm, ⟨12, _⟩ => ⟨S_, .f32⟩
  | .hbm, ⟨13, _⟩ => ⟨S16x4352x2x64, .f32⟩
  | .hbm, ⟨14, _⟩ => ⟨S16x34x128x2x64, .f32⟩
  | .hbm, ⟨15, _⟩ => ⟨S16x32x128x2x64, .f32⟩
  | .hbm, ⟨16, _⟩ => ⟨S16x32x128x2x64, .f32⟩
  | .hbm, ⟨17, _⟩ => ⟨S16x32x128x2x64, .f32⟩
  | .hbm, ⟨18, _⟩ => ⟨S16x32x384x2x64, .f32⟩
  | .hbm, ⟨19, _⟩ => ⟨S_, .i32⟩
  | .hbm, ⟨20, _⟩ => ⟨S_, .f32⟩
  | .hbm, ⟨21, _⟩ => ⟨S16x4352x2x64, .f32⟩
  | .hbm, ⟨22, _⟩ => ⟨S16x34x128x2x64, .f32⟩
  | .hbm, ⟨23, _⟩ => ⟨S16x32x128x2x64, .f32⟩
  | .hbm, ⟨24, _⟩ => ⟨S16x32x128x2x64, .f32⟩
  | .hbm, ⟨25, _⟩ => ⟨S16x32x128x2x64, .f32⟩
  | .hbm, ⟨26, _⟩ => ⟨S16x32x384x2x64, .f32⟩
  | .hbm, ⟨27, _⟩ => ⟨S4096, .i32⟩
  | .hbm, ⟨28, _⟩ => ⟨S32x128, .i32⟩
  | .hbm, ⟨29, _⟩ => ⟨S32, .i32⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S_, .i32⟩
  | .hbm, ⟨34, _⟩ => ⟨S32, .i32⟩
  | .hbm, ⟨35, _⟩ => ⟨S32, .i32⟩
  | .hbm, ⟨36, _⟩ => ⟨S32x1, .i32⟩
  | .hbm, ⟨37, _⟩ => ⟨S384, .i32⟩
  | .hbm, ⟨38, _⟩ => ⟨S1x384, .i32⟩
  | .hbm, ⟨39, _⟩ => ⟨S32x384, .i32⟩
  | .hbm, ⟨40, _⟩ => ⟨S32x384, .i32⟩
  | .hbm, ⟨41, _⟩ => ⟨S32x384, .i32⟩
  | .hbm, ⟨42, _⟩ => ⟨S32x1x384, .i32⟩
  | .hbm, ⟨43, _⟩ => ⟨S32x128x1, .i32⟩
  | .hbm, ⟨44, _⟩ => ⟨S32x128x384, .i32⟩
  | .hbm, ⟨45, _⟩ => ⟨S32x128x384, .i32⟩
  | .hbm, ⟨46, _⟩ => ⟨S32x128x384, .i32⟩
  | .hbm, ⟨47, _⟩ => ⟨S32x128x384, .i32⟩
  | .hbm, ⟨48, _⟩ => ⟨S_, .i32⟩
  | .hbm, ⟨49, _⟩ => ⟨S32x128x384, .i32⟩
  | .hbm, ⟨50, _⟩ => ⟨S32x128x384, .i1⟩
  | .hbm, ⟨51, _⟩ => ⟨S_, .i32⟩
  | .hbm, ⟨52, _⟩ => ⟨S32x384, .i32⟩
  | .hbm, ⟨53, _⟩ => ⟨S32x384, .i1⟩
  | .hbm, ⟨54, _⟩ => ⟨S32x1x384, .i1⟩
  | .hbm, ⟨55, _⟩ => ⟨S32x128x384, .i1⟩
  | .hbm, ⟨56, _⟩ => ⟨S32x128x384, .i1⟩
  | .hbm, ⟨57, _⟩ => ⟨S_, .i32⟩
  | .hbm, ⟨58, _⟩ => ⟨S32x384, .i32⟩
  | .hbm, ⟨59, _⟩ => ⟨S32x384, .i1⟩
  | .hbm, ⟨60, _⟩ => ⟨S32x1x384, .i1⟩
  | .hbm, ⟨61, _⟩ => ⟨S32x128x384, .i1⟩
  | .hbm, ⟨62, _⟩ => ⟨S32x128x384, .i1⟩
  | .hbm, ⟨63, _⟩ => ⟨S2x2, .f32⟩
  | .hbm, ⟨64, _⟩ => ⟨S16x2x32x384x128x2, .f32⟩
  | .hbm, ⟨65, _⟩ => ⟨S16x2x2x32x128x384, .f32⟩
  | .hbm, ⟨66, _⟩ => ⟨S_, .f32⟩
  | .hbm, ⟨67, _⟩ => ⟨S16x2x2x32x128x384, .f32⟩
  | .hbm, ⟨68, _⟩ => ⟨S16x2x2x32x128x384, .f32⟩
  | .hbm, ⟨69, _⟩ => ⟨S_, .f32⟩
  | .hbm, ⟨70, _⟩ => ⟨S_, .f32⟩
  | .hbm, ⟨71, _⟩ => ⟨S16x2x2x32x128x384, .i1⟩
  | .hbm, ⟨72, _⟩ => ⟨S16x2x2x32x128x384, .f32⟩
  | .hbm, ⟨73, _⟩ => ⟨S16x2x2x32x128x384, .f32⟩
  | .hbm, ⟨74, _⟩ => ⟨S16x2x256x32x128x2, .f32⟩
  | .hbm, ⟨75, _⟩ => ⟨S16x2x2x32x128x256, .f32⟩
  | .hbm, ⟨76, _⟩ => ⟨S_, .f32⟩
  | .hbm, ⟨77, _⟩ => ⟨S16x2x2x32x128x256, .f32⟩
  | .hbm, ⟨78, _⟩ => ⟨S16x2x2x32x128x256, .f32⟩
  | .hbm, ⟨79, _⟩ => ⟨S1x2x2x1x1x1, .f32⟩
  | .hbm, ⟨80, _⟩ => ⟨S16x2x2x32x128x1, .f32⟩
  | .hbm, ⟨81, _⟩ => ⟨S16x2x2x32x128x641, .f32⟩
  | .hbm, ⟨82, _⟩ => ⟨S_, .f32⟩
  | .hbm, ⟨83, _⟩ => ⟨S16x2x2x32x128, .f32⟩
  | .hbm, ⟨84, _⟩ => ⟨S_, .f32⟩
  | .hbm, ⟨85, _⟩ => ⟨S16x2x2x32x128, .f32⟩
  | .hbm, ⟨86, _⟩ => ⟨S16x2x2x32x128, .f32⟩
  | .hbm, ⟨87, _⟩ => ⟨S16x2x2x32x128x1, .f32⟩
  | .hbm, ⟨88, _⟩ => ⟨S16x2x2x32x128x641, .f32⟩
  | .hbm, ⟨89, _⟩ => ⟨S16x2x2x32x128x641, .f32⟩
  | .hbm, ⟨90, _⟩ => ⟨S16x2x2x32x128x641, .f32⟩
  | .hbm, ⟨91, _⟩ => ⟨S_, .f32⟩
  | .hbm, ⟨92, _⟩ => ⟨S16x2x2x32x128, .f32⟩
  | .hbm, ⟨93, _⟩ => ⟨S16x2x2x32x128x1, .f32⟩
  | .hbm, ⟨94, _⟩ => ⟨S16x2x2x32x128x641, .f32⟩
  | .hbm, ⟨95, _⟩ => ⟨S16x2x2x32x128x641, .f32⟩
  | .hbm, ⟨96, _⟩ => ⟨S16x2x2x32x128x384, .f32⟩
  | .hbm, ⟨97, _⟩ => ⟨S16x32x2x64x2x128, .f32⟩
  | .hbm, ⟨98, _⟩ => ⟨S16x32x128x2x2x64, .f32⟩
  | .hbm, ⟨99, _⟩ => ⟨S16x2x2x32x128x256, .f32⟩
  | .hbm, ⟨100, _⟩ => ⟨S16x2x64x2x32x128, .f32⟩
  | .hbm, ⟨101, _⟩ => ⟨S16x32x128x2x2x64, .f32⟩
  | .hbm, ⟨102, _⟩ => ⟨S16x32x128x2x2x64, .f32⟩
  | .hbm, ⟨103, _⟩ => ⟨S16x32x128x2x2x64, .f32⟩
  | .hbm, ⟨104, _⟩ => ⟨S16x4096x256, .f32⟩
  | _, _ => ⟨S16x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_call1_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_1 : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_3 : Ref sig .tc := ⟨.hbm, 48, rfl⟩
abbrev main_v36 : Ref sig .tc := ⟨.hbm, 49, rfl⟩
abbrev main_v37 : Ref sig .tc := ⟨.hbm, 50, rfl⟩
abbrev main_c_4 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst : Ref sig .tc := ⟨.hbm, 66, rfl⟩
abbrev main_v51 : Ref sig .tc := ⟨.hbm, 67, rfl⟩
abbrev main_v52 : Ref sig .tc := ⟨.hbm, 68, rfl⟩
abbrev main_cst_6 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_7 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_8 : Ref sig .tc := ⟨.hbm, 82, rfl⟩
abbrev main_v61 : Ref sig .tc := ⟨.hbm, 83, rfl⟩
abbrev main_cst_9 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_10 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩

abbrev nD : Nat := 1
abbrev τ : Topo := Topo.v7x

variable {F : FTy → Type} [FloatOps F]
-- ==== Kernel2.lean ====
abbrev S16x4096x1024 : Shape := ⟨3, ![16, 4096, 1024]⟩
abbrev S16x1x1024 : Shape := ⟨3, ![16, 1, 1024]⟩
abbrev S1024x1024 : Shape := ⟨2, ![1024, 1024]⟩
abbrev S1024x4096 : Shape := ⟨2, ![1024, 4096]⟩
abbrev S4096x1024 : Shape := ⟨2, ![4096, 1024]⟩
abbrev S1024 : Shape := ⟨1, ![1024]⟩
abbrev S16x4096x256 : Shape := ⟨3, ![16, 4096, 256]⟩
abbrev S16x4096x2x2x64 : Shape := ⟨5, ![16, 4096, 2, 2, 64]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1x1024 : Shape := ⟨2, ![1, 1024]⟩
abbrev S1x512x256 : Shape := ⟨3, ![1, 512, 256]⟩
abbrev S1x512x1024 : Shape := ⟨3, ![1, 512, 1024]⟩
abbrev S1x1x1024 : Shape := ⟨3, ![1, 1, 1024]⟩
abbrev S512x256 : Shape := ⟨2, ![512, 256]⟩
abbrev S512x1024 : Shape := ⟨2, ![512, 1024]⟩
abbrev S512 : Shape := ⟨1, ![512]⟩
abbrev S512x1 : Shape := ⟨2, ![512, 1]⟩

abbrev nBuf : Space → Nat
  | .hbm => 52
  | .vmem => 27
  | .smem => 0
  | _ => 0

abbrev bufTy : (tb : Table) → Fin (tcTables nBuf tb) → BufTy
  | .hbm, ⟨0, _⟩ => ⟨S16x4096x1024, .f32⟩
  | .hbm, ⟨1, _⟩ => ⟨S16x4096x1024, .f32⟩
  | .hbm, ⟨2, _⟩ => ⟨S16x1x1024, .f32⟩
  | .hbm, ⟨3, _⟩ => ⟨S16x1x1024, .f32⟩
  | .hbm, ⟨4, _⟩ => ⟨S16x1x1024, .f32⟩
  | .hbm, ⟨5, _⟩ => ⟨S16x1x1024, .f32⟩
  | .hbm, ⟨6, _⟩ => ⟨S1024x1024, .f32⟩
  | .hbm, ⟨7, _⟩ => ⟨S1024x4096, .f32⟩
  | .hbm, ⟨8, _⟩ => ⟨S4096x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .i32⟩
  | .hbm, ⟨14, _⟩ => ⟨S16x4096x256, .f32⟩
  | .hbm, ⟨15, _⟩ => ⟨S16x4096x2x2x64, .f32⟩
  | .hbm, ⟨16, _⟩ => ⟨S16x4096x2x2x64, .f32⟩
  | .hbm, ⟨17, _⟩ => ⟨S16x4096x256, .f32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S1024, .i32⟩
  | .hbm, ⟨25, _⟩ => ⟨S1024x1, .i32⟩
  | .hbm, ⟨26, _⟩ => ⟨S1, .i32⟩
  | .hbm, ⟨27, _⟩ => ⟨S_, .i32⟩
  | .hbm, ⟨28, _⟩ => ⟨S1024x1, .i32⟩
  | .hbm, ⟨29, _⟩ => ⟨S1024x1, .i1⟩
  | .hbm, ⟨30, _⟩ => ⟨S1x1, .i32⟩
  | .hbm, ⟨31, _⟩ => ⟨S1024x1, .i32⟩
  | .hbm, ⟨32, _⟩ => ⟨S1024x1, .i1⟩
  | .hbm, ⟨33, _⟩ => ⟨S1024x1, .i1⟩
  | .hbm, ⟨34, _⟩ => ⟨S_, .i1⟩
  | .hbm, ⟨35, _⟩ => ⟨S1024, .i1⟩
  | .hbm, ⟨36, _⟩ => ⟨S1024x1024, .f32⟩
  | .hbm, ⟨37, _⟩ => ⟨S1024x1024, .i1⟩
  | .hbm, ⟨38, _⟩ => ⟨S_, .f32⟩
  | .hbm, ⟨39, _⟩ => ⟨S1024x1024, .f32⟩
  | .hbm, ⟨40, _⟩ => ⟨S1024x1024, .f32⟩
  | .hbm, ⟨41, _⟩ => ⟨S1024x1024, .bf16⟩
  | .hbm, ⟨42, _⟩ => ⟨S1024x4096, .bf16⟩
  | .hbm, ⟨43, _⟩ => ⟨S4096x1024, .bf16⟩
  | .hbm, ⟨44, _⟩ => ⟨S16x4096x256, .f32⟩
  | .hbm, ⟨45, _⟩ => ⟨S16x4096x256, .f32⟩
  | .hbm, ⟨46, _⟩ => ⟨S16x4096x256, .f32⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S16x4096x1024, .f32⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x1024, .f32⟩
  | .local _ .vmem, ⟨9, _⟩ => ⟨S1x512x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1024x1024, .bf16⟩
  | .local _ .vmem, ⟨19, _⟩ => ⟨S1024x4096, .bf16⟩
  | .local _ .vmem, ⟨20, _⟩ => ⟨S4096x1024, .bf16⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x512x1024, .f32⟩
  | .local _ .vmem, ⟨26, _⟩ => ⟨S1x512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4096x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference2Ideal.lean ====
abbrev S16x4096x1024 : Shape := ⟨3, ![16, 4096, 1024]⟩
abbrev S16x1x1024 : Shape := ⟨3, ![16, 1, 1024]⟩
abbrev S1024x1024 : Shape := ⟨2, ![1024, 1024]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x4096 : Shape := ⟨3, ![16, 4096, 4096]⟩

abbrev nBuf : Space → Nat
  | .hbm => 97
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x1024, .f32⟩
  | .hbm, ⟨2, _⟩ => ⟨S16x1x1024, .f32⟩
  | .hbm, ⟨3, _⟩ => ⟨S16x1x1024, .f32⟩
  | .hbm, ⟨4, _⟩ => ⟨S16x1x1024, .f32⟩
  | .hbm, ⟨5, _⟩ => ⟨S16x1x1024, .f32⟩
  | .hbm, ⟨6, _⟩ => ⟨S1024x1024, .f32⟩
  | .hbm, ⟨7, _⟩ => ⟨S1024x4096, .f32⟩
  | .hbm, ⟨8, _⟩ => ⟨S4096x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S_, .f32⟩
  | .hbm, ⟨14, _⟩ => ⟨S16x4096x1024, .f32⟩
  | .hbm, ⟨15, _⟩ => ⟨S16x4096x1024, .f32⟩
  | .hbm, ⟨16, _⟩ => ⟨S16x4096x1024, .f32⟩
  | .hbm, ⟨17, _⟩ => ⟨S16x4096x1024, .f32⟩
  | .hbm, ⟨18, _⟩ => ⟨S16x4096x1024, .f32⟩
  | .hbm, ⟨19, _⟩ => ⟨S16x4096x1024, .f32⟩
  | .hbm, ⟨20, _⟩ => ⟨S_, .f32⟩
  | .hbm, ⟨21, _⟩ => ⟨S16x4096, .f32⟩
  | .hbm, ⟨22, _⟩ => ⟨S16x4096x1, .f32⟩
  | .hbm, ⟨23, _⟩ => ⟨S_, .f32⟩
  | .hbm, ⟨24, _⟩ => ⟨S16x4096x1, .f32⟩
  | .hbm, ⟨25, _⟩ => ⟨S16x4096x1, .f32⟩
  | .hbm, ⟨26, _⟩ => ⟨S16x4096x1024, .f32⟩
  | .hbm, ⟨27, _⟩ => ⟨S16x4096x1024, .f32⟩
  | .hbm, ⟨28, _⟩ => ⟨S16x4096x1024, .f32⟩
  | .hbm, ⟨29, _⟩ => ⟨S_, .f32⟩
  | .hbm, ⟨30, _⟩ => ⟨S16x4096, .f32⟩
  | .hbm, ⟨31, _⟩ => ⟨S16x4096x1, .f32⟩
  | .hbm, ⟨32, _⟩ => ⟨S_, .f32⟩
  | .hbm, ⟨33, _⟩ => ⟨S16x4096x1, .f32⟩
  | .hbm, ⟨34, _⟩ => ⟨S16x4096x1, .f32⟩
  | .hbm, ⟨35, _⟩ => ⟨S16x4096x1024, .f32⟩
  | .hbm, ⟨36, _⟩ => ⟨S16x4096x1024, .f32⟩
  | .hbm, ⟨37, _⟩ => ⟨S_, .f32⟩
  | .hbm, ⟨38, _⟩ => ⟨S16x4096x1, .f32⟩
  | .hbm, ⟨39, _⟩ => ⟨S16x4096x1, .f32⟩
  | .hbm, ⟨40, _⟩ => ⟨S16x4096x1, .f32⟩
  | .hbm, ⟨41, _⟩ => ⟨S16x4096x1024, .f32⟩
  | .hbm, ⟨42, _⟩ => ⟨S16x4096x1024, .f32⟩
  | .hbm, ⟨43, _⟩ => ⟨S1x1x1024, .f32⟩
  | .hbm, ⟨44, _⟩ => ⟨S16x4096x1024, .f32⟩
  | .hbm, ⟨45, _⟩ => ⟨S16x4096x1024, .f32⟩
  | .hbm, ⟨46, _⟩ => ⟨S1x1x1024, .f32⟩
  | .hbm, ⟨47, _⟩ => ⟨S16x4096x1024, .f32⟩
  | .hbm, ⟨48, _⟩ => ⟨S16x4096x1024, .f32⟩
  | .hbm, ⟨49, _⟩ => ⟨S_, .f32⟩
  | .hbm, ⟨50, _⟩ => ⟨S16x4096x1024, .f32⟩
  | .hbm, ⟨51, _⟩ => ⟨S16x4096x1024, .f32⟩
  | .hbm, ⟨52, _⟩ => ⟨S_, .f32⟩
  | .hbm, ⟨53, _⟩ => ⟨S16x1x1024, .f32⟩
  | .hbm, ⟨54, _⟩ => ⟨S16x1x1024, .f32⟩
  | .hbm, ⟨55, _⟩ => ⟨S16x4096x1024, .f32⟩
  | .hbm, ⟨56, _⟩ => ⟨S16x4096x1024, .f32⟩
  | .hbm, ⟨57, _⟩ => ⟨S16x4096x1024, .f32⟩
  | .hbm, ⟨58, _⟩ => ⟨S16x4096x1024, .f32⟩
  | .hbm, ⟨59, _⟩ => ⟨S16x4096x4096, .f32⟩
  | .hbm, ⟨60, _⟩ => ⟨S_, .f32⟩
  | .hbm, ⟨61, _⟩ => ⟨S16x4096x4096, .f32⟩
  | .hbm, ⟨62, _⟩ => ⟨S16x4096x4096, .f32⟩
  | .hbm, ⟨63, _⟩ => ⟨S16x4096x4096, .f32⟩
  | .hbm, ⟨64, _⟩ => ⟨S16x4096x1024, .f32⟩
  | .hbm, ⟨65, _⟩ => ⟨S16x4096x1024, .f32⟩
  | .hbm, ⟨66, _⟩ => ⟨S16x4096x1024, .f32⟩
  | .hbm, ⟨67, _⟩ => ⟨S16x4096x1024, .f32⟩
  | .hbm, ⟨68, _⟩ => ⟨S_, .f32⟩
  | .hbm, ⟨69, _⟩ => ⟨S16x4096, .f32⟩
  | .hbm, ⟨70, _⟩ => ⟨S16x4096x1, .f32⟩
  | .hbm, ⟨71, _⟩ => ⟨S_, .f32⟩
  | .hbm, ⟨72, _⟩ => ⟨S16x4096x1, .f32⟩
  | .hbm, ⟨73, _⟩ => ⟨S16x4096x1, .f32⟩
  | .hbm, ⟨74, _⟩ => ⟨S16x4096x1024, .f32⟩
  | .hbm, ⟨75, _⟩ => ⟨S16x4096x1024, .f32⟩
  | .hbm, ⟨76, _⟩ => ⟨S16x4096x1024, .f32⟩
  | .hbm, ⟨77, _⟩ => ⟨S_, .f32⟩
  | .hbm, ⟨78, _⟩ => ⟨S16x4096, .f32⟩
  | .hbm, ⟨79, _⟩ => ⟨S16x4096x1, .f32⟩
  | .hbm, ⟨80, _⟩ => ⟨S_, .f32⟩
  | .hbm, ⟨81, _⟩ => ⟨S16x4096x1, .f32⟩
  | .hbm, ⟨82, _⟩ => ⟨S16x4096x1, .f32⟩
  | .hbm, ⟨83, _⟩ => ⟨S16x4096x1024, .f32⟩
  | .hbm, ⟨84, _⟩ => ⟨S16x4096x1024, .f32⟩
  | .hbm, ⟨85, _⟩ => ⟨S_, .f32⟩
  | .hbm, ⟨86, _⟩ => ⟨S16x4096x1, .f32⟩
  | .hbm, ⟨87, _⟩ => ⟨S16x4096x1, .f32⟩
  | .hbm, ⟨88, _⟩ => ⟨S16x4096x1, .f32⟩
  | .hbm, ⟨89, _⟩ => ⟨S16x4096x1024, .f32⟩
  | .hbm, ⟨90, _⟩ => ⟨S16x4096x1024, .f32⟩
  | .hbm, ⟨91, _⟩ => ⟨S1x1x1024, .f32⟩
  | .hbm, ⟨92, _⟩ => ⟨S16x4096x1024, .f32⟩
  | .hbm, ⟨93, _⟩ => ⟨S16x4096x1024, .f32⟩
  | .hbm, ⟨94, _⟩ => ⟨S1x1x1024, .f32⟩
  | .hbm, ⟨95, _⟩ => ⟨S16x4096x1024, .f32⟩
  | .hbm, ⟨96, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_call0_cst : Ref sig .tc := ⟨.hbm, 60, rfl⟩
abbrev main_call0_v0 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_7 : Ref sig .tc := ⟨.hbm, 68, rfl⟩
abbrev main_v45 : Ref sig .tc := ⟨.hbm, 69, rfl⟩
abbrev main_v46 : Ref sig .tc := ⟨.hbm, 70, rfl⟩
abbrev main_cst_8 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_9 : Ref sig .tc := ⟨.hbm, 77, rfl⟩
abbrev main_v52 : Ref sig .tc := ⟨.hbm, 78, rfl⟩
abbrev main_v53 : Ref sig .tc := ⟨.hbm, 79, rfl⟩
abbrev main_cst_10 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_11 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩

abbrev nD : Nat := 1
abbrev τ : Topo := Topo.v7x

variable {F : FTy → Type} [FloatOps F]
-- ==== Kernel3.lean ====
abbrev S16x4096x1024 : Shape := ⟨3, ![16, 4096, 1024]⟩
abbrev S16x1x1024 : Shape := ⟨3, ![16, 1, 1024]⟩
abbrev S1024x2736 : Shape := ⟨2, ![1024, 2736]⟩
abbrev S3072 : Shape := ⟨1, ![3072]⟩
abbrev S_ : Shape := ⟨0, ![]⟩
abbrev S3072x1 : Shape := ⟨2, ![3072, 1]⟩
abbrev S1 : Shape := ⟨1, ![1]⟩
abbrev S1x1 : Shape := ⟨2, ![1, 1]⟩
abbrev S1024x3072 : Shape := ⟨2, ![1024, 3072]⟩
abbrev S1x3072 : Shape := ⟨2, ![1, 3072]⟩
abbrev S64 : Shape := ⟨1, ![64]⟩
abbrev S64x1 : Shape := ⟨2, ![64, 1]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S8 : Shape := ⟨1, ![8]⟩
abbrev S1x8 : Shape := ⟨2, ![1, 8]⟩
abbrev S4096x8 : Shape := ⟨2, ![4096, 8]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S1x4096x2x32 : Shape := ⟨4, ![1, 4096, 2, 32]⟩
abbrev S4096x64 : Shape := ⟨2, ![4096, 64]⟩
abbrev S1x4096x1x16 : Shape := ⟨4, ![1, 4096, 1, 16]⟩
abbrev S1x4096x8x16 : Shape := ⟨4, ![1, 4096, 8, 16]⟩
abbrev S1x4096x4x16 : Shape := ⟨4, ![1, 4096, 4, 16]⟩
abbrev S16x4096x512 : Shape := ⟨3, ![16, 4096, 512]⟩
abbrev S16x4096x1152 : Shape := ⟨3, ![16, 4096, 1152]⟩
abbrev S16x4096x768 : Shape := ⟨3, ![16, 4096, 768]⟩
abbrev S1x512x1024 : Shape := ⟨3, ![1, 512, 1024]⟩
abbrev S1x1x1024 : Shape := ⟨3, ![1, 1, 1024]⟩
abbrev S512x128 : Shape := ⟨2, ![512, 128]⟩
abbrev S1x512x512 : Shape := ⟨3, ![1, 512, 512]⟩
abbrev S1x512x1152 : Shape := ⟨3, ![1, 512, 1152]⟩
abbrev S1x512x768 : Shape := ⟨3, ![1, 512, 768]⟩
abbrev S512x1024 : Shape := ⟨2, ![512, 1024]⟩
abbrev S1x1024 : Shape := ⟨2, ![1, 1024]⟩
abbrev S512x3072 : Shape := ⟨2, ![512, 3072]⟩
abbrev S512x512 : Shape := ⟨2, ![512, 512]⟩
abbrev S512x768 : Shape := ⟨2, ![512, 768]⟩
abbrev S512x1152 : Shape := ⟨2, ![512, 1152]⟩
abbrev S1x512x128 : Shape := ⟨3, ![1, 512, 128]⟩
abbrev S512x384 : Shape := ⟨2, ![512, 384]⟩
abbrev S1x512x384 : Shape := ⟨3, ![1, 512, 384]⟩

abbrev nBuf : Space → Nat
  | .hbm => 156
  | .vmem => 27
  | .smem => 0
  | _ => 0

abbrev hbmTy0_0 (i : Nat) : BufTy := match i % 128 with
  | 0 => ⟨S16x4096x1024, .f32⟩
  | 1 => ⟨S16x1x1024, .f32⟩
  | 2 => ⟨S16x1x1024, .f32⟩
  | 3 => ⟨S1024x2736, .f32⟩
  | 4 => ⟨S3072, .i32⟩
  | 5 => ⟨S3072, .f32⟩
  | 6 => ⟨S_, .i32⟩
  | 7 => ⟨S3072, .i32⟩
  | 8 => ⟨S3072, .i1⟩
  | 9 => ⟨S_, .i32⟩
  | 10 => ⟨S3072, .i32⟩
  | 11 => ⟨S3072, .i32⟩
  | 12 => ⟨S3072, .i32⟩
  | 13 => ⟨S3072x1, .i32⟩
  | 14 => ⟨S1, .i32⟩
  | 15 => ⟨S_, .i32⟩
  | 16 => ⟨S3072x1, .i32⟩
  | 17 => ⟨S3072x1, .i1⟩
  | 18 => ⟨S1x1, .i32⟩
  | 19 => ⟨S3072x1, .i32⟩
  | 20 => ⟨S3072x1, .i1⟩
  | 21 => ⟨S3072x1, .i1⟩
  | 22 => ⟨S_, .i1⟩
  | 23 => ⟨S3072, .i1⟩
  | 24 => ⟨S1024x3072, .f32⟩
  | 25 => ⟨S1024x3072, .i1⟩
  | 26 => ⟨S_, .f32⟩
  | 27 => ⟨S1024x3072, .f32⟩
  | 28 => ⟨S1024x3072, .f32⟩
  | 29 => ⟨S1x3072, .f32⟩
  | 30 => ⟨S1024x3072, .f32⟩
  | 31 => ⟨S1024x3072, .f32⟩
  | 32 => ⟨S1024x3072, .bf16⟩
  | 33 => ⟨S64, .f32⟩
  | 34 => ⟨S64x1, .f32⟩
  | 35 => ⟨S64x64, .f32⟩
  | 36 => ⟨S4096, .f32⟩
  | 37 => ⟨S64, .f32⟩
  | 38 => ⟨S1x64, .f32⟩
  | 39 => ⟨S64x64, .f32⟩
  | 40 => ⟨S4096, .f32⟩
  | 41 => ⟨S16, .f32⟩
  | 42 => ⟨S_, .f32⟩
  | 43 => ⟨S16, .f32⟩
  | 44 => ⟨S16, .f32⟩
  | 45 => ⟨S_, .f32⟩
  | 46 => ⟨S16, .f32⟩
  | 47 => ⟨S16, .f32⟩
  | 48 => ⟨S16, .f32⟩
  | 49 => ⟨S_, .f32⟩
  | 50 => ⟨S16, .f32⟩
  | 51 => ⟨S16, .f32⟩
  | 52 => ⟨S_, .f32⟩
  | 53 => ⟨S16, .f32⟩
  | 54 => ⟨S16, .f32⟩
  | 55 => ⟨S4096x1, .f32⟩
  | 56 => ⟨S1x16, .f32⟩
  | 57 => ⟨S4096x16, .f32⟩
  | 58 => ⟨S4096x16, .f32⟩
  | 59 => ⟨S4096x16, .f32⟩
  | 60 => ⟨S4096x1, .f32⟩
  | 61 => ⟨S1x16, .f32⟩
  | 62 => ⟨S4096x16, .f32⟩
  | 63 => ⟨S4096x16, .f32⟩
  | 64 => ⟨S4096x16, .f32⟩
  | 65 => ⟨S4096x32, .f32⟩
  | 66 => ⟨S4096, .f32⟩
  | 67 => ⟨S4096x1, .f32⟩
  | 68 => ⟨S16, .f32⟩
  | 69 => ⟨S_, .f32⟩
  | 70 => ⟨S16, .f32⟩
  | 71 => ⟨S16, .f32⟩
  | 72 => ⟨S_, .f32⟩
  | 73 => ⟨S16, .f32⟩
  | 74 => ⟨S16, .f32⟩
  | 75 => ⟨S16, .f32⟩
  | 76 => ⟨S_, .f32⟩
  | 77 => ⟨S16, .f32⟩
  | 78 => ⟨S16, .f32⟩
  | 79 => ⟨S_, .f32⟩
  | 80 => ⟨S16, .f32⟩
  | 81 => ⟨S16, .f32⟩
  | 82 => ⟨S1x16, .f32⟩
  | 83 => ⟨S4096x16, .f32⟩
  | 84 => ⟨S4096x16, .f32⟩
  | 85 => ⟨S4096x16, .f32⟩
  | 86 => ⟨S8, .f32⟩
  | 87 => ⟨S_, .f32⟩
  | 88 => ⟨S8, .f32⟩
  | 89 => ⟨S8, .f32⟩
  | 90 => ⟨S_, .f32⟩
  | 91 => ⟨S8, .f32⟩
  | 92 => ⟨S8, .f32⟩
  | 93 => ⟨S8, .f32⟩
  | 94 => ⟨S_, .f32⟩
  | 95 => ⟨S8, .f32⟩
  | 96 => ⟨S8, .f32⟩
  | 97 => ⟨S_, .f32⟩
  | 98 => ⟨S8, .f32⟩
  | 99 => ⟨S8, .f32⟩
  | 100 => ⟨S4096x1, .f32⟩
  | 101 => ⟨S1x8, .f32⟩
  | 102 => ⟨S4096x8, .f32⟩
  | 103 => ⟨S4096x8, .f32⟩
  | 104 => ⟨S4096x8, .f32⟩
  | 105 => ⟨S4096x1, .f32⟩
  | 106 => ⟨S1x8, .f32⟩
  | 107 => ⟨S4096x8, .f32⟩
  | 108 => ⟨S4096x8, .f32⟩
  | 109 => ⟨S4096x8, .f32⟩
  | 110 => ⟨S4096x16, .f32⟩
  | 111 => ⟨S4096x32, .f32⟩
  | 112 => ⟨S1x4096x1x32, .f32⟩
  | 113 => ⟨S1x4096x4x32, .f32⟩
  | 114 => ⟨S4096x128, .f32⟩
  | 115 => ⟨S4096x32, .f32⟩
  | 116 => ⟨S1x4096x1x32, .f32⟩
  | 117 => ⟨S1x4096x2x32, .f32⟩
  | 118 => ⟨S4096x64, .f32⟩
  | 119 => ⟨S4096x64, .f32⟩
  | 120 => ⟨S4096x32, .f32⟩
  | 121 => ⟨S1x4096x1x32, .f32⟩
  | 122 => ⟨S1x4096x2x32, .f32⟩
  | 123 => ⟨S4096x64, .f32⟩
  | 124 => ⟨S4096x128, .f32⟩
  | 125 => ⟨S4096x16, .f32⟩
  | 126 => ⟨S1x4096x1x16, .f32⟩
  | 127 => ⟨S1x4096x8x16, .f32⟩
  | _ => ⟨S16x4096x1024, .f32⟩

abbrev hbmTy0_1 (i : Nat) : BufTy := match i % 128 with
  | 0 => ⟨S4096x128, .f32⟩
  | 1 => ⟨S4096x16, .f32⟩
  | 2 => ⟨S1x4096x1x16, .f32⟩
  | 3 => ⟨S1x4096x4x16, .f32⟩
  | 4 => ⟨S4096x64, .f32⟩
  | 5 => ⟨S4096x64, .f32⟩
  | 6 => ⟨S4096x16, .f32⟩
  | 7 => ⟨S1x4096x1x16, .f32⟩
  | 8 => ⟨S1x4096x4x16, .f32⟩
  | 9 => ⟨S4096x64, .f32⟩
  | 10 => ⟨S4096x128, .f32⟩
  | 11 => ⟨S_, .f32⟩
  | 12 => ⟨S4096x64, .f32⟩
  | 13 => ⟨S_, .f32⟩
  | 14 => ⟨S4096x64, .f32⟩
  | 15 => ⟨S4096x16, .f32⟩
  | 16 => ⟨S4096x16, .f32⟩
  | 17 => ⟨S4096x32, .f32⟩
  | 18 => ⟨S4096x128, .f32⟩
  | 19 => ⟨S4096x16, .f32⟩
  | 20 => ⟨S4096x16, .f32⟩
  | 21 => ⟨S4096x16, .f32⟩
  | 22 => ⟨S4096x32, .f32⟩
  | 23 => ⟨S4096x128, .f32⟩
  | 24 => ⟨S16x4096x512, .f32⟩
  | 25 => ⟨S16x4096x1152, .f32⟩
  | 26 => ⟨S16x4096x768, .f32⟩
  | 27 => ⟨S16x4096x512, .f32⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x3072, .bf16⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S1x512x512, .f32⟩
  | .local _ .vmem, ⟨20, _⟩ => ⟨S1x512x512, .f32⟩
  | .local _ .vmem, ⟨21, _⟩ => ⟨S1x512x1152, .f32⟩
  | .local _ .vmem, ⟨22, _⟩ => ⟨S1x512x1152, .f32⟩
  | .local _ .vmem, ⟨23, _⟩ => ⟨S1x512x768, .f32⟩
  | .local _ .vmem, ⟨24, _⟩ => ⟨S1x512x768, .f32⟩
  | .local _ .vmem, ⟨25, _⟩ => ⟨S1x512x512, .f32⟩
  | .local _ .vmem, ⟨26, _⟩ => ⟨S1x512x512, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_cst : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_0 : Ref sig .tc := ⟨.hbm, 42, rfl⟩
abbrev main_v14 : Ref sig .tc := ⟨.hbm, 43, rfl⟩
abbrev main_v15 : Ref sig .tc := ⟨.hbm, 44, rfl⟩
abbrev main_cst_1 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_cst_2 : Ref sig .tc := ⟨.hbm, 49, rfl⟩
abbrev main_v19 : Ref sig .tc := ⟨.hbm, 50, rfl⟩
abbrev main_v20 : Ref sig .tc := ⟨.hbm, 51, rfl⟩
abbrev main_cst_3 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_cst_4 : Ref sig .tc := ⟨.hbm, 69, rfl⟩
abbrev main_v37 : Ref sig .tc := ⟨.hbm, 70, rfl⟩
abbrev main_v38 : Ref sig .tc := ⟨.hbm, 71, rfl⟩
abbrev main_cst_5 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst_6 : Ref sig .tc := ⟨.hbm, 76, rfl⟩
abbrev main_v42 : Ref sig .tc := ⟨.hbm, 77, rfl⟩
abbrev main_v43 : Ref sig .tc := ⟨.hbm, 78, rfl⟩
abbrev main_cst_7 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_8 : Ref sig .tc := ⟨.hbm, 87, rfl⟩
abbrev main_v51 : Ref sig .tc := ⟨.hbm, 88, rfl⟩
abbrev main_v52 : Ref sig .tc := ⟨.hbm, 89, rfl⟩
abbrev main_cst_9 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_cst_10 : Ref sig .tc := ⟨.hbm, 94, rfl⟩
abbrev main_v56 : Ref sig .tc := ⟨.hbm, 95, rfl⟩
abbrev main_v57 : Ref sig .tc := ⟨.hbm, 96, rfl⟩
abbrev main_cst_11 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_12 : Ref sig .tc := ⟨.hbm, 139, rfl⟩
abbrev main_v99 : Ref sig .tc := ⟨.hbm, 140, rfl⟩
abbrev main_cst_13 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110_0 : Ref sig .tc := ⟨.hbm, 152, rfl⟩
abbrev main_v110_1 : Ref sig .tc := ⟨.hbm, 153, rfl⟩
abbrev main_v110_2 : Ref sig .tc := ⟨.hbm, 154, rfl⟩
abbrev main_v110_3 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1152 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference3Ideal.lean ====
abbrev S16x4096x1024 : Shape := ⟨3, ![16, 4096, 1024]⟩
abbrev S16x1x1024 : Shape := ⟨3, ![16, 1, 1024]⟩
abbrev S1024x2736 : Shape := ⟨2, ![1024, 2736]⟩
abbrev S_ : Shape := ⟨0, ![]⟩
abbrev S16x4096x2736 : Shape := ⟨3, ![16, 4096, 2736]⟩
abbrev S16x4096x256 : Shape := ⟨3, ![16, 4096, 256]⟩
abbrev S16x4096x128 : Shape := ⟨3, ![16, 4096, 128]⟩
abbrev S16x4096x768 : Shape := ⟨3, ![16, 4096, 768]⟩
abbrev S16x4096x16 : Shape := ⟨3, ![16, 4096, 16]⟩
abbrev S16x4096x32 : Shape := ⟨3, ![16, 4096, 32]⟩
abbrev S64 : Shape := ⟨1, ![64]⟩
abbrev S64x1 : Shape := ⟨2, ![64, 1]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S8 : Shape := ⟨1, ![8]⟩
abbrev S1x8 : Shape := ⟨2, ![1, 8]⟩
abbrev S4096x8 : Shape := ⟨2, ![4096, 8]⟩
abbrev S16x4096x4x64 : Shape := ⟨4, ![16, 4096, 4, 64]⟩
abbrev S16x4096x4x32 : Shape := ⟨4, ![16, 4096, 4, 32]⟩
abbrev S4096x1x32 : Shape := ⟨3, ![4096, 1, 32]⟩
abbrev S1x4096x1x32 : Shape := ⟨4, ![1, 4096, 1, 32]⟩
abbrev S16x4096x2x64 : Shape := ⟨4, ![16, 4096, 2, 64]⟩
abbrev S16x4096x2x32 : Shape := ⟨4, ![16, 4096, 2, 32]⟩
abbrev S16x4096x4x16 : Shape := ⟨4, ![16, 4096, 4, 16]⟩
abbrev S4096x1x16 : Shape := ⟨3, ![4096, 1, 16]⟩
abbrev S1x4096x1x16 : Shape := ⟨4, ![1, 4096, 1, 16]⟩
abbrev S16x4096x1x32 : Shape := ⟨4, ![16, 4096, 1, 32]⟩
abbrev S16x4096x1x16 : Shape := ⟨4, ![16, 4096, 1, 16]⟩
abbrev S16x4096x2x2x2x32 : Shape := ⟨6, ![16, 4096, 2, 2, 2, 32]⟩
abbrev S16x4096x2x2x32 : Shape := ⟨5, ![16, 4096, 2, 2, 32]⟩
abbrev S16x4096x512 : Shape := ⟨3, ![16, 4096, 512]⟩
abbrev S16x4096x1040 : Shape := ⟨3, ![16, 4096, 1040]⟩
abbrev S16x4096x1152 : Shape := ⟨3, ![16, 4096, 1152]⟩
abbrev S16x4096x4x2x16 : Shape := ⟨5, ![16, 4096, 4, 2, 16]⟩
abbrev S16x4096x2x4x16 : Shape := ⟨5, ![16, 4096, 2, 4, 16]⟩

abbrev nBuf : Space → Nat
  | .hbm => 240
  | .vmem => 0
  | .smem => 0
  | _ => 0

abbrev hbmTy0_0 (i : Nat) : BufTy := match i % 128 with
  | 0 => ⟨S16x4096x1024, .f32⟩
  | 1 => ⟨S16x1x1024, .f32⟩
  | 2 => ⟨S16x1x1024, .f32⟩
  | 3 => ⟨S1024x2736, .f32⟩
  | 4 => ⟨S_, .f32⟩
  | 5 => ⟨S16x1x1024, .f32⟩
  | 6 => ⟨S16x1x1024, .f32⟩
  | 7 => ⟨S16x4096x1024, .f32⟩
  | 8 => ⟨S16x4096x1024, .f32⟩
  | 9 => ⟨S16x4096x1024, .f32⟩
  | 10 => ⟨S16x4096x1024, .f32⟩
  | 11 => ⟨S16x4096x2736, .f32⟩
  | 12 => ⟨S16x4096x256, .f32⟩
  | 13 => ⟨S16x4096x128, .f32⟩
  | 14 => ⟨S16x4096x128, .f32⟩
  | 15 => ⟨S16x4096x768, .f32⟩
  | 16 => ⟨S16x4096x256, .f32⟩
  | 17 => ⟨S16x4096x16, .f32⟩
  | 18 => ⟨S16x4096x128, .f32⟩
  | 19 => ⟨S16x4096x128, .f32⟩
  | 20 => ⟨S16x4096x256, .f32⟩
  | 21 => ⟨S16x4096x256, .f32⟩
  | 22 => ⟨S16x4096x256, .f32⟩
  | 23 => ⟨S16x4096x128, .f32⟩
  | 24 => ⟨S16x4096x32, .f32⟩
  | 25 => ⟨S64, .f32⟩
  | 26 => ⟨S64x1, .f32⟩
  | 27 => ⟨S64x64, .f32⟩
  | 28 => ⟨S4096, .f32⟩
  | 29 => ⟨S64, .f32⟩
  | 30 => ⟨S1x64, .f32⟩
  | 31 => ⟨S64x64, .f32⟩
  | 32 => ⟨S4096, .f32⟩
  | 33 => ⟨S16, .f32⟩
  | 34 => ⟨S_, .f32⟩
  | 35 => ⟨S16, .f32⟩
  | 36 => ⟨S16, .f32⟩
  | 37 => ⟨S_, .f32⟩
  | 38 => ⟨S16, .f32⟩
  | 39 => ⟨S16, .f32⟩
  | 40 => ⟨S16, .f32⟩
  | 41 => ⟨S_, .f32⟩
  | 42 => ⟨S16, .f32⟩
  | 43 => ⟨S16, .f32⟩
  | 44 => ⟨S_, .f32⟩
  | 45 => ⟨S16, .f32⟩
  | 46 => ⟨S16, .f32⟩
  | 47 => ⟨S4096x1, .f32⟩
  | 48 => ⟨S1x16, .f32⟩
  | 49 => ⟨S4096x16, .f32⟩
  | 50 => ⟨S4096x16, .f32⟩
  | 51 => ⟨S4096x16, .f32⟩
  | 52 => ⟨S4096x1, .f32⟩
  | 53 => ⟨S1x16, .f32⟩
  | 54 => ⟨S4096x16, .f32⟩
  | 55 => ⟨S4096x16, .f32⟩
  | 56 => ⟨S4096x16, .f32⟩
  | 57 => ⟨S4096x32, .f32⟩
  | 58 => ⟨S4096x32, .f32⟩
  | 59 => ⟨S4096x32, .f32⟩
  | 60 => ⟨S4096, .f32⟩
  | 61 => ⟨S4096x1, .f32⟩
  | 62 => ⟨S16, .f32⟩
  | 63 => ⟨S_, .f32⟩
  | 64 => ⟨S16, .f32⟩
  | 65 => ⟨S16, .f32⟩
  | 66 => ⟨S_, .f32⟩
  | 67 => ⟨S16, .f32⟩
  | 68 => ⟨S16, .f32⟩
  | 69 => ⟨S16, .f32⟩
  | 70 => ⟨S_, .f32⟩
  | 71 => ⟨S16, .f32⟩
  | 72 => ⟨S16, .f32⟩
  | 73 => ⟨S_, .f32⟩
  | 74 => ⟨S16, .f32⟩
  | 75 => ⟨S16, .f32⟩
  | 76 => ⟨S1x16, .f32⟩
  | 77 => ⟨S4096x16, .f32⟩
  | 78 => ⟨S4096x16, .f32⟩
  | 79 => ⟨S4096x16, .f32⟩
  | 80 => ⟨S4096x16, .f32⟩
  | 81 => ⟨S4096x16, .f32⟩
  | 82 => ⟨S64, .f32⟩
  | 83 => ⟨S64x1, .f32⟩
  | 84 => ⟨S64x64, .f32⟩
  | 85 => ⟨S4096, .f32⟩
  | 86 => ⟨S64, .f32⟩
  | 87 => ⟨S1x64, .f32⟩
  | 88 => ⟨S64x64, .f32⟩
  | 89 => ⟨S4096, .f32⟩
  | 90 => ⟨S8, .f32⟩
  | 91 => ⟨S_, .f32⟩
  | 92 => ⟨S8, .f32⟩
  | 93 => ⟨S8, .f32⟩
  | 94 => ⟨S_, .f32⟩
  | 95 => ⟨S8, .f32⟩
  | 96 => ⟨S8, .f32⟩
  | 97 => ⟨S8, .f32⟩
  | 98 => ⟨S_, .f32⟩
  | 99 => ⟨S8, .f32⟩
  | 100 => ⟨S8, .f32⟩
  | 101 => ⟨S_, .f32⟩
  | 102 => ⟨S8, .f32⟩
  | 103 => ⟨S8, .f32⟩
  | 104 => ⟨S4096x1, .f32⟩
  | 105 => ⟨S1x8, .f32⟩
  | 106 => ⟨S4096x8, .f32⟩
  | 107 => ⟨S4096x8, .f32⟩
  | 108 => ⟨S4096x8, .f32⟩
  | 109 => ⟨S4096x1, .f32⟩
  | 110 => ⟨S1x8, .f32⟩
  | 111 => ⟨S4096x8, .f32⟩
  | 112 => ⟨S4096x8, .f32⟩
  | 113 => ⟨S4096x8, .f32⟩
  | 114 => ⟨S4096x16, .f32⟩
  | 115 => ⟨S4096x16, .f32⟩
  | 116 => ⟨S4096x16, .f32⟩
  | 117 => ⟨S16x4096x4x64, .f32⟩
  | 118 => ⟨S16x4096x4x32, .f32⟩
  | 119 => ⟨S16x4096x4x32, .f32⟩
  | 120 => ⟨S4096x1x32, .f32⟩
  | 121 => ⟨S4096x1x32, .f32⟩
  | 122 => ⟨S1x4096x1x32, .f32⟩
  | 123 => ⟨S16x4096x4x32, .f32⟩
  | 124 => ⟨S16x4096x4x32, .f32⟩
  | 125 => ⟨S1x4096x1x32, .f32⟩
  | 126 => ⟨S16x4096x4x32, .f32⟩
  | 127 => ⟨S16x4096x4x32, .f32⟩
  | _ => ⟨S16x4096x1024, .f32⟩

abbrev hbmTy0_1 (i : Nat) : BufTy := match i % 128 with
  | 0 => ⟨S16x4096x4x32, .f32⟩
  | 1 => ⟨S1x4096x1x32, .f32⟩
  | 2 => ⟨S16x4096x4x32, .f32⟩
  | 3 => ⟨S16x4096x4x32, .f32⟩
  | 4 => ⟨S1x4096x1x32, .f32⟩
  | 5 => ⟨S16x4096x4x32, .f32⟩
  | 6 => ⟨S16x4096x4x32, .f32⟩
  | 7 => ⟨S16x4096x4x32, .f32⟩
  | 8 => ⟨S16x4096x4x64, .f32⟩
  | 9 => ⟨S16x4096x2x64, .f32⟩
  | 10 => ⟨S16x4096x2x32, .f32⟩
  | 11 => ⟨S16x4096x2x32, .f32⟩
  | 12 => ⟨S4096x1x32, .f32⟩
  | 13 => ⟨S4096x1x32, .f32⟩
  | 14 => ⟨S1x4096x1x32, .f32⟩
  | 15 => ⟨S16x4096x2x32, .f32⟩
  | 16 => ⟨S16x4096x2x32, .f32⟩
  | 17 => ⟨S1x4096x1x32, .f32⟩
  | 18 => ⟨S16x4096x2x32, .f32⟩
  | 19 => ⟨S16x4096x2x32, .f32⟩
  | 20 => ⟨S16x4096x2x32, .f32⟩
  | 21 => ⟨S1x4096x1x32, .f32⟩
  | 22 => ⟨S16x4096x2x32, .f32⟩
  | 23 => ⟨S16x4096x2x32, .f32⟩
  | 24 => ⟨S1x4096x1x32, .f32⟩
  | 25 => ⟨S16x4096x2x32, .f32⟩
  | 26 => ⟨S16x4096x2x32, .f32⟩
  | 27 => ⟨S16x4096x2x32, .f32⟩
  | 28 => ⟨S16x4096x2x64, .f32⟩
  | 29 => ⟨S16x4096x4x32, .f32⟩
  | 30 => ⟨S16x4096x4x16, .f32⟩
  | 31 => ⟨S16x4096x4x16, .f32⟩
  | 32 => ⟨S4096x1x16, .f32⟩
  | 33 => ⟨S4096x1x16, .f32⟩
  | 34 => ⟨S1x4096x1x16, .f32⟩
  | 35 => ⟨S16x4096x4x16, .f32⟩
  | 36 => ⟨S16x4096x4x16, .f32⟩
  | 37 => ⟨S1x4096x1x16, .f32⟩
  | 38 => ⟨S16x4096x4x16, .f32⟩
  | 39 => ⟨S16x4096x4x16, .f32⟩
  | 40 => ⟨S16x4096x4x16, .f32⟩
  | 41 => ⟨S1x4096x1x16, .f32⟩
  | 42 => ⟨S16x4096x4x16, .f32⟩
  | 43 => ⟨S16x4096x4x16, .f32⟩
  | 44 => ⟨S1x4096x1x16, .f32⟩
  | 45 => ⟨S16x4096x4x16, .f32⟩
  | 46 => ⟨S16x4096x4x16, .f32⟩
  | 47 => ⟨S16x4096x4x16, .f32⟩
  | 48 => ⟨S16x4096x4x32, .f32⟩
  | 49 => ⟨S16x4096x4x32, .f32⟩
  | 50 => ⟨S16x4096x4x16, .f32⟩
  | 51 => ⟨S16x4096x4x16, .f32⟩
  | 52 => ⟨S4096x1x16, .f32⟩
  | 53 => ⟨S4096x1x16, .f32⟩
  | 54 => ⟨S1x4096x1x16, .f32⟩
  | 55 => ⟨S16x4096x4x16, .f32⟩
  | 56 => ⟨S16x4096x4x16, .f32⟩
  | 57 => ⟨S1x4096x1x16, .f32⟩
  | 58 => ⟨S16x4096x4x16, .f32⟩
  | 59 => ⟨S16x4096x4x16, .f32⟩
  | 60 => ⟨S16x4096x4x16, .f32⟩
  | 61 => ⟨S1x4096x1x16, .f32⟩
  | 62 => ⟨S16x4096x4x16, .f32⟩
  | 63 => ⟨S16x4096x4x16, .f32⟩
  | 64 => ⟨S1x4096x1x16, .f32⟩
  | 65 => ⟨S16x4096x4x16, .f32⟩
  | 66 => ⟨S16x4096x4x16, .f32⟩
  | 67 => ⟨S16x4096x4x16, .f32⟩
  | 68 => ⟨S16x4096x4x32, .f32⟩
  | 69 => ⟨S16x4096x1x32, .f32⟩
  | 70 => ⟨S16x4096x1x16, .f32⟩
  | 71 => ⟨S16x4096x1x16, .f32⟩
  | 72 => ⟨S4096x1x16, .f32⟩
  | 73 => ⟨S4096x1x16, .f32⟩
  | 74 => ⟨S1x4096x1x16, .f32⟩
  | 75 => ⟨S16x4096x1x16, .f32⟩
  | 76 => ⟨S16x4096x1x16, .f32⟩
  | 77 => ⟨S1x4096x1x16, .f32⟩
  | 78 => ⟨S16x4096x1x16, .f32⟩
  | 79 => ⟨S16x4096x1x16, .f32⟩
  | 80 => ⟨S16x4096x1x16, .f32⟩
  | 81 => ⟨S1x4096x1x16, .f32⟩
  | 82 => ⟨S16x4096x1x16, .f32⟩
  | 83 => ⟨S16x4096x1x16, .f32⟩
  | 84 => ⟨S1x4096x1x16, .f32⟩
  | 85 => ⟨S16x4096x1x16, .f32⟩
  | 86 => ⟨S16x4096x1x16, .f32⟩
  | 87 => ⟨S16x4096x1x16, .f32⟩
  | 88 => ⟨S16x4096x1x32, .f32⟩
  | 89 => ⟨S16x4096x32, .f32⟩
  | 90 => ⟨S16x4096x2x2x2x32, .f32⟩
  | 91 => ⟨S16x4096x2x2x2x32, .f32⟩
  | 92 => ⟨S16x4096x256, .f32⟩
  | 93 => ⟨S16x4096x2x2x32, .f32⟩
  | 94 => ⟨S16x4096x2x2x32, .f32⟩
  | 95 => ⟨S16x4096x128, .f32⟩
  | 96 => ⟨S16x4096x512, .f32⟩
  | 97 => ⟨S16x4096x1040, .f32⟩
  | 98 => ⟨S_, .i32⟩
  | 99 => ⟨S_, .f32⟩
  | 100 => ⟨S16x4096x1152, .f32⟩
  | 101 => ⟨S16x4096x4x2x16, .f32⟩
  | 102 => ⟨S16x4096x2x4x16, .f32⟩
  | 103 => ⟨S16x4096x128, .f32⟩
  | 104 => ⟨S16x4096x4x2x16, .f32⟩
  | 105 => ⟨S16x4096x2x4x16, .f32⟩
  | 106 => ⟨S16x4096x128, .f32⟩
  | 107 => ⟨S16x4096x768, .f32⟩
  | 108 => ⟨S_, .i32⟩
  | 109 => ⟨S_, .f32⟩
  | 110 => ⟨S16x4096x128, .f32⟩
  | 111 => ⟨S16x4096x512, .f32⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_0 : Ref sig .tc := ⟨.hbm, 34, rfl⟩
abbrev main_v29 : Ref sig .tc := ⟨.hbm, 35, rfl⟩
abbrev main_v30 : Ref sig .tc := ⟨.hbm, 36, rfl⟩
abbrev main_cst_1 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_2 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_cst_4 : Ref sig .tc := ⟨.hbm, 63, rfl⟩
abbrev main_v54 : Ref sig .tc := ⟨.hbm, 64, rfl⟩
abbrev main_v55 : Ref sig .tc := ⟨.hbm, 65, rfl⟩
abbrev main_cst_5 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_cst_6 : Ref sig .tc := ⟨.hbm, 70, rfl⟩
abbrev main_v59 : Ref sig .tc := ⟨.hbm, 71, rfl⟩
abbrev main_v60 : Ref sig .tc := ⟨.hbm, 72, rfl⟩
abbrev main_cst_7 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_cst_8 : Ref sig .tc := ⟨.hbm, 91, rfl⟩
abbrev main_v78 : Ref sig .tc := ⟨.hbm, 92, rfl⟩
abbrev main_v79 : Ref sig .tc := ⟨.hbm, 93, rfl⟩
abbrev main_cst_9 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_cst_10 : Ref sig .tc := ⟨.hbm, 98, rfl⟩
abbrev main_v83 : Ref sig .tc := ⟨.hbm, 99, rfl⟩
abbrev main_v84 : Ref sig .tc := ⟨.hbm, 100, rfl⟩
abbrev main_cst_11 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_v201 : Ref sig .tc := ⟨.hbm, 218, rfl⟩
abbrev main_v202 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_c : Ref sig .tc := ⟨.hbm, 226, rfl⟩
abbrev main_call0_v0 : Ref sig .tc := ⟨.hbm, 227, rfl⟩
abbrev main_v209 : Ref sig .tc := ⟨.hbm, 228, rfl⟩
abbrev main_v210 : Ref sig .tc := ⟨.hbm, 229, rfl⟩
abbrev main_v211 : Ref sig .tc := ⟨.hbm, 230, rfl⟩
abbrev main_v212 : Ref sig .tc := ⟨.hbm, 231, rfl⟩
abbrev main_v213 : Ref sig .tc := ⟨.hbm, 232, rfl⟩
abbrev main_v214 : Ref sig .tc := ⟨.hbm, 233, rfl⟩
abbrev main_v215 : Ref sig .tc := ⟨.hbm, 234, rfl⟩
abbrev main_v216 : Ref sig .tc := ⟨.hbm, 235, rfl⟩
abbrev main_c_12 : Ref sig .tc := ⟨.hbm, 236, rfl⟩
abbrev main_call1_v0 : Ref sig .tc := ⟨.hbm, 237, rfl⟩
abbrev main_v217 : Ref sig .tc := ⟨.hbm, 238, rfl⟩
abbrev main_v218 : Ref sig .tc := ⟨.hbm, 239, rfl⟩

abbrev nD : Nat := 1
abbrev τ : Topo := Topo.v7x

variable {F : FTy → Type} [FloatOps F]
-- ==== Kernel4.lean ====
abbrev S16x1024 : Shape := ⟨2, ![16, 1024]⟩
abbrev S1024 : Shape := ⟨1, ![1024]⟩
abbrev S1024x6144 : Shape := ⟨2, ![1024, 6144]⟩
abbrev S6144 : Shape := ⟨1, ![6144]⟩
abbrev S1x1024 : Shape := ⟨2, ![1, 1024]⟩
abbrev S_ : Shape := ⟨0, ![]⟩
abbrev S7x1024 : Shape := ⟨2, ![7, 1024]⟩
abbrev S24x1024 : Shape := ⟨2, ![24, 1024]⟩
abbrev S1x6144 : Shape := ⟨2, ![1, 6144]⟩
abbrev S24x6144 : Shape := ⟨2, ![24, 6144]⟩
abbrev S1024x1536 : Shape := ⟨2, ![1024, 1536]⟩
abbrev S1x1536 : Shape := ⟨2, ![1, 1536]⟩
abbrev S24x1536 : Shape := ⟨2, ![24, 1536]⟩

abbrev nBuf : Space → Nat
  | .hbm => 10
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S24x1024, .f32⟩
  | .hbm, ⟨8, _⟩ => ⟨S1x6144, .f32⟩
  | .hbm, ⟨9, _⟩ => ⟨S24x6144, .f32⟩
  | .local _ .vmem, ⟨0, _⟩ => ⟨S24x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S24x1536, .f32⟩
  | .local _ .vmem, ⟨6, _⟩ => ⟨S24x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S24x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S16x1024 : Shape := ⟨2, ![16, 1024]⟩
abbrev S1024 : Shape := ⟨1, ![1024]⟩
abbrev S1024x6144 : Shape := ⟨2, ![1024, 6144]⟩
abbrev S6144 : Shape := ⟨1, ![6144]⟩
abbrev S_ : Shape := ⟨0, ![]⟩
abbrev S16x6144 : Shape := ⟨2, ![16, 6144]⟩
abbrev S1x6144 : Shape := ⟨2, ![1, 6144]⟩
abbrev S7x6144 : Shape := ⟨2, ![7, 6144]⟩
abbrev S24x6144 : Shape := ⟨2, ![24, 6144]⟩

abbrev nBuf : Space → Nat
  | .hbm => 32
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S16x1024, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S16x6144, .f32⟩
  | .hbm, ⟨14, _⟩ => ⟨S1x6144, .f32⟩
  | .hbm, ⟨15, _⟩ => ⟨S16x6144, .f32⟩
  | .hbm, ⟨16, _⟩ => ⟨S16x6144, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S6144, .f32⟩
  | .hbm, ⟨27, _⟩ => ⟨S6144, .f32⟩
  | .hbm, ⟨28, _⟩ => ⟨S1x6144, .f32⟩
  | .hbm, ⟨29, _⟩ => ⟨S1x6144, .f32⟩
  | .hbm, ⟨30, _⟩ => ⟨S7x6144, .f32⟩
  | .hbm, ⟨31, _⟩ => ⟨S24x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_call1_v5 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩

abbrev nD : Nat := 1
abbrev τ : Topo := Topo.v7x

variable {F : FTy → Type} [FloatOps F]
-- ==== Kernel5.lean ====
abbrev S16x4096x256 : Shape := ⟨3, ![16, 4096, 256]⟩
abbrev S16x4096x128 : Shape := ⟨3, ![16, 4096, 128]⟩
abbrev S16x4096x32 : Shape := ⟨3, ![16, 4096, 32]⟩
abbrev S256 : Shape := ⟨1, ![256]⟩
abbrev S256x384 : Shape := ⟨2, ![256, 384]⟩
abbrev S128 : Shape := ⟨1, ![128]⟩
abbrev S128x512 : Shape := ⟨2, ![128, 512]⟩
abbrev S512 : Shape := ⟨1, ![512]⟩
abbrev S_ : Shape := ⟨0, ![]⟩
abbrev S16x4096x512 : Shape := ⟨3, ![16, 4096, 512]⟩
abbrev S512x1 : Shape := ⟨2, ![512, 1]⟩
abbrev S1 : Shape := ⟨1, ![1]⟩
abbrev S1x1 : Shape := ⟨2, ![1, 1]⟩
abbrev S256x512 : Shape := ⟨2, ![256, 512]⟩
abbrev S1x512 : Shape := ⟨2, ![1, 512]⟩
abbrev S256x1 : Shape := ⟨2, ![256, 1]⟩
abbrev S128x256 : Shape := ⟨2, ![128, 256]⟩
abbrev S1x256 : Shape := ⟨2, ![1, 256]⟩
abbrev S64 : Shape := ⟨1, ![64]⟩
abbrev S64x1 : Shape := ⟨2, ![64, 1]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S8 : Shape := ⟨1, ![8]⟩
abbrev S1x8 : Shape := ⟨2, ![1, 8]⟩
abbrev S4096x8 : Shape := ⟨2, ![4096, 8]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S1x4096x2x32 : Shape := ⟨4, ![1, 4096, 2, 32]⟩
abbrev S4096x64 : Shape := ⟨2, ![4096, 64]⟩
abbrev S1x4096x1x16 : Shape := ⟨4, ![1, 4096, 1, 16]⟩
abbrev S1x4096x8x16 : Shape := ⟨4, ![1, 4096, 8, 16]⟩
abbrev S1x4096x4x16 : Shape := ⟨4, ![1, 4096, 4, 16]⟩
abbrev S1x128 : Shape := ⟨2, ![1, 128]⟩
abbrev S1x512x512 : Shape := ⟨3, ![1, 512, 512]⟩
abbrev S512x128 : Shape := ⟨2, ![512, 128]⟩
abbrev S1x512x256 : Shape := ⟨3, ![1, 512, 256]⟩
abbrev S512x512 : Shape := ⟨2, ![512, 512]⟩
abbrev S512x256 : Shape := ⟨2, ![512, 256]⟩
abbrev S1x512x128 : Shape := ⟨3, ![1, 512, 128]⟩

abbrev nBuf : Space → Nat
  | .hbm => 251
  | .vmem => 18
  | .smem => 0
  | _ => 0

abbrev hbmTy0_0 (i : Nat) : BufTy := match i % 128 with
  | 0 => ⟨S16x4096x256, .f32⟩
  | 1 => ⟨S16x4096x128, .f32⟩
  | 2 => ⟨S16x4096x32, .f32⟩
  | 3 => ⟨S256, .f32⟩
  | 4 => ⟨S256x384, .f32⟩
  | 5 => ⟨S128, .f32⟩
  | 6 => ⟨S128x512, .f32⟩
  | 7 => ⟨S512, .i32⟩
  | 8 => ⟨S512, .f32⟩
  | 9 => ⟨S512, .i32⟩
  | 10 => ⟨S512, .f32⟩
  | 11 => ⟨S512, .i32⟩
  | 12 => ⟨S512, .f32⟩
  | 13 => ⟨S256, .i32⟩
  | 14 => ⟨S256, .f32⟩
  | 15 => ⟨S_, .i32⟩
  | 16 => ⟨S_, .f32⟩
  | 17 => ⟨S16x4096x128, .f32⟩
  | 18 => ⟨S16x4096x512, .f32⟩
  | 19 => ⟨S_, .i32⟩
  | 20 => ⟨S512, .i32⟩
  | 21 => ⟨S512, .i1⟩
  | 22 => ⟨S_, .i32⟩
  | 23 => ⟨S512, .i32⟩
  | 24 => ⟨S512, .i32⟩
  | 25 => ⟨S512, .i32⟩
  | 26 => ⟨S512x1, .i32⟩
  | 27 => ⟨S1, .i32⟩
  | 28 => ⟨S_, .i32⟩
  | 29 => ⟨S512x1, .i32⟩
  | 30 => ⟨S512x1, .i1⟩
  | 31 => ⟨S1x1, .i32⟩
  | 32 => ⟨S512x1, .i32⟩
  | 33 => ⟨S512x1, .i1⟩
  | 34 => ⟨S512x1, .i1⟩
  | 35 => ⟨S_, .i1⟩
  | 36 => ⟨S512, .i1⟩
  | 37 => ⟨S256x512, .f32⟩
  | 38 => ⟨S256x512, .i1⟩
  | 39 => ⟨S_, .f32⟩
  | 40 => ⟨S256x512, .f32⟩
  | 41 => ⟨S256x512, .f32⟩
  | 42 => ⟨S1x512, .f32⟩
  | 43 => ⟨S256x512, .f32⟩
  | 44 => ⟨S256x512, .f32⟩
  | 45 => ⟨S256x512, .bf16⟩
  | 46 => ⟨S_, .i32⟩
  | 47 => ⟨S512, .i32⟩
  | 48 => ⟨S512, .i1⟩
  | 49 => ⟨S_, .i32⟩
  | 50 => ⟨S512, .i32⟩
  | 51 => ⟨S512, .i32⟩
  | 52 => ⟨S512, .i32⟩
  | 53 => ⟨S512x1, .i32⟩
  | 54 => ⟨S1, .i32⟩
  | 55 => ⟨S_, .i32⟩
  | 56 => ⟨S512x1, .i32⟩
  | 57 => ⟨S512x1, .i1⟩
  | 58 => ⟨S1x1, .i32⟩
  | 59 => ⟨S512x1, .i32⟩
  | 60 => ⟨S512x1, .i1⟩
  | 61 => ⟨S512x1, .i1⟩
  | 62 => ⟨S_, .i1⟩
  | 63 => ⟨S512, .i1⟩
  | 64 => ⟨S256x512, .f32⟩
  | 65 => ⟨S256x512, .i1⟩
  | 66 => ⟨S_, .f32⟩
  | 67 => ⟨S256x512, .f32⟩
  | 68 => ⟨S256x512, .f32⟩
  | 69 => ⟨S1x512, .f32⟩
  | 70 => ⟨S256x512, .f32⟩
  | 71 => ⟨S256x512, .f32⟩
  | 72 => ⟨S256x512, .bf16⟩
  | 73 => ⟨S_, .i32⟩
  | 74 => ⟨S512, .i32⟩
  | 75 => ⟨S512, .i1⟩
  | 76 => ⟨S_, .i32⟩
  | 77 => ⟨S512, .i32⟩
  | 78 => ⟨S512, .i32⟩
  | 79 => ⟨S512, .i32⟩
  | 80 => ⟨S512x1, .i32⟩
  | 81 => ⟨S1, .i32⟩
  | 82 => ⟨S_, .i32⟩
  | 83 => ⟨S512x1, .i32⟩
  | 84 => ⟨S512x1, .i1⟩
  | 85 => ⟨S1x1, .i32⟩
  | 86 => ⟨S512x1, .i32⟩
  | 87 => ⟨S512x1, .i1⟩
  | 88 => ⟨S512x1, .i1⟩
  | 89 => ⟨S_, .i1⟩
  | 90 => ⟨S512, .i1⟩
  | 91 => ⟨S128x512, .f32⟩
  | 92 => ⟨S128x512, .i1⟩
  | 93 => ⟨S_, .f32⟩
  | 94 => ⟨S128x512, .f32⟩
  | 95 => ⟨S128x512, .f32⟩
  | 96 => ⟨S1x512, .f32⟩
  | 97 => ⟨S128x512, .f32⟩
  | 98 => ⟨S128x512, .f32⟩
  | 99 => ⟨S128x512, .bf16⟩
  | 100 => ⟨S_, .i32⟩
  | 101 => ⟨S256, .i32⟩
  | 102 => ⟨S256, .i1⟩
  | 103 => ⟨S_, .i32⟩
  | 104 => ⟨S256, .i32⟩
  | 105 => ⟨S256, .i32⟩
  | 106 => ⟨S256, .i32⟩
  | 107 => ⟨S256x1, .i32⟩
  | 108 => ⟨S1, .i32⟩
  | 109 => ⟨S_, .i32⟩
  | 110 => ⟨S256x1, .i32⟩
  | 111 => ⟨S256x1, .i1⟩
  | 112 => ⟨S1x1, .i32⟩
  | 113 => ⟨S256x1, .i32⟩
  | 114 => ⟨S256x1, .i1⟩
  | 115 => ⟨S256x1, .i1⟩
  | 116 => ⟨S_, .i1⟩
  | 117 => ⟨S256, .i1⟩
  | 118 => ⟨S128x256, .f32⟩
  | 119 => ⟨S128x256, .i1⟩
  | 120 => ⟨S_, .f32⟩
  | 121 => ⟨S128x256, .f32⟩
  | 122 => ⟨S128x256, .f32⟩
  | 123 => ⟨S1x256, .f32⟩
  | 124 => ⟨S128x256, .f32⟩
  | 125 => ⟨S128x256, .f32⟩
  | 126 => ⟨S128x256, .bf16⟩
  | 127 => ⟨S64, .f32⟩
  | _ => ⟨S16x4096x256, .f32⟩

abbrev hbmTy0_1 (i : Nat) : BufTy := match i % 128 with
  | 0 => ⟨S64x1, .f32⟩
  | 1 => ⟨S64x64, .f32⟩
  | 2 => ⟨S4096, .f32⟩
  | 3 => ⟨S64, .f32⟩
  | 4 => ⟨S1x64, .f32⟩
  | 5 => ⟨S64x64, .f32⟩
  | 6 => ⟨S4096, .f32⟩
  | 7 => ⟨S16, .f32⟩
  | 8 => ⟨S_, .f32⟩
  | 9 => ⟨S16, .f32⟩
  | 10 => ⟨S16, .f32⟩
  | 11 => ⟨S_, .f32⟩
  | 12 => ⟨S16, .f32⟩
  | 13 => ⟨S16, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S4096x1, .f32⟩
  | 22 => ⟨S1x16, .f32⟩
  | 23 => ⟨S4096x16, .f32⟩
  | 24 => ⟨S4096x16, .f32⟩
  | 25 => ⟨S4096x16, .f32⟩
  | 26 => ⟨S4096x1, .f32⟩
  | 27 => ⟨S1x16, .f32⟩
  | 28 => ⟨S4096x16, .f32⟩
  | 29 => ⟨S4096x16, .f32⟩
  | 30 => ⟨S4096x16, .f32⟩
  | 31 => ⟨S4096x32, .f32⟩
  | 32 => ⟨S4096, .f32⟩
  | 33 => ⟨S4096x1, .f32⟩
  | 34 => ⟨S16, .f32⟩
  | 35 => ⟨S_, .f32⟩
  | 36 => ⟨S16, .f32⟩
  | 37 => ⟨S16, .f32⟩
  | 38 => ⟨S_, .f32⟩
  | 39 => ⟨S16, .f32⟩
  | 40 => ⟨S16, .f32⟩
  | 41 => ⟨S16, .f32⟩
  | 42 => ⟨S_, .f32⟩
  | 43 => ⟨S16, .f32⟩
  | 44 => ⟨S16, .f32⟩
  | 45 => ⟨S_, .f32⟩
  | 46 => ⟨S16, .f32⟩
  | 47 => ⟨S16, .f32⟩
  | 48 => ⟨S1x16, .f32⟩
  | 49 => ⟨S4096x16, .f32⟩
  | 50 => ⟨S4096x16, .f32⟩
  | 51 => ⟨S4096x16, .f32⟩
  | 52 => ⟨S8, .f32⟩
  | 53 => ⟨S_, .f32⟩
  | 54 => ⟨S8, .f32⟩
  | 55 => ⟨S8, .f32⟩
  | 56 => ⟨S_, .f32⟩
  | 57 => ⟨S8, .f32⟩
  | 58 => ⟨S8, .f32⟩
  | 59 => ⟨S8, .f32⟩
  | 60 => ⟨S_, .f32⟩
  | 61 => ⟨S8, .f32⟩
  | 62 => ⟨S8, .f32⟩
  | 63 => ⟨S_, .f32⟩
  | 64 => ⟨S8, .f32⟩
  | 65 => ⟨S8, .f32⟩
  | 66 => ⟨S4096x1, .f32⟩
  | 67 => ⟨S1x8, .f32⟩
  | 68 => ⟨S4096x8, .f32⟩
  | 69 => ⟨S4096x8, .f32⟩
  | 70 => ⟨S4096x8, .f32⟩
  | 71 => ⟨S4096x1, .f32⟩
  | 72 => ⟨S1x8, .f32⟩
  | 73 => ⟨S4096x8, .f32⟩
  | 74 => ⟨S4096x8, .f32⟩
  | 75 => ⟨S4096x8, .f32⟩
  | 76 => ⟨S4096x16, .f32⟩
  | 77 => ⟨S4096x32, .f32⟩
  | 78 => ⟨S1x4096x1x32, .f32⟩
  | 79 => ⟨S1x4096x4x32, .f32⟩
  | 80 => ⟨S4096x128, .f32⟩
  | 81 => ⟨S4096x32, .f32⟩
  | 82 => ⟨S1x4096x1x32, .f32⟩
  | 83 => ⟨S1x4096x2x32, .f32⟩
  | 84 => ⟨S4096x64, .f32⟩
  | 85 => ⟨S4096x64, .f32⟩
  | 86 => ⟨S4096x32, .f32⟩
  | 87 => ⟨S1x4096x1x32, .f32⟩
  | 88 => ⟨S1x4096x2x32, .f32⟩
  | 89 => ⟨S4096x64, .f32⟩
  | 90 => ⟨S4096x128, .f32⟩
  | 91 => ⟨S4096x16, .f32⟩
  | 92 => ⟨S1x4096x1x16, .f32⟩
  | 93 => ⟨S1x4096x8x16, .f32⟩
  | 94 => ⟨S4096x128, .f32⟩
  | 95 => ⟨S4096x16, .f32⟩
  | 96 => ⟨S1x4096x1x16, .f32⟩
  | 97 => ⟨S1x4096x4x16, .f32⟩
  | 98 => ⟨S4096x64, .f32⟩
  | 99 => ⟨S4096x64, .f32⟩
  | 100 => ⟨S4096x16, .f32⟩
  | 101 => ⟨S1x4096x1x16, .f32⟩
  | 102 => ⟨S1x4096x4x16, .f32⟩
  | 103 => ⟨S4096x64, .f32⟩
  | 104 => ⟨S4096x128, .f32⟩
  | 105 => ⟨S_, .f32⟩
  | 106 => ⟨S4096x64, .f32⟩
  | 107 => ⟨S_, .f32⟩
  | 108 => ⟨S4096x64, .f32⟩
  | 109 => ⟨S4096x16, .f32⟩
  | 110 => ⟨S4096x16, .f32⟩
  | 111 => ⟨S4096x32, .f32⟩
  | 112 => ⟨S4096x128, .f32⟩
  | 113 => ⟨S4096x16, .f32⟩
  | 114 => ⟨S4096x16, .f32⟩
  | 115 => ⟨S4096x16, .f32⟩
  | 116 => ⟨S4096x32, .f32⟩
  | 117 => ⟨S4096x128, .f32⟩
  | 118 => ⟨S1x256, .f32⟩
  | 119 => ⟨S1x128, .f32⟩
  | 120 => ⟨S16x4096x512, .bf16⟩
  | 121 => ⟨S16x4096x512, .bf16⟩
  | 122 => ⟨S16x4096x256, .bf16⟩
  | _ => ⟨S16x4096x256, .f32⟩

abbrev hbmTy (i : Nat) : BufTy := match i / 128 with
  | 0 => hbmTy0_0 i
  | 1 => hbmTy0_1 i
  | _ => ⟨S16x4096x256, .f32⟩

abbrev bufTy : (tb : Table) → Fin (tcTables nBuf tb) → BufTy
  | .hbm, ⟨i, _⟩ => hbmTy i
  | .local _ .vmem, ⟨0, _⟩ => ⟨S1x512x512, .f32⟩
  | .local _ .vmem, ⟨1, _⟩ => ⟨S1x512x512, .f32⟩
  | .local _ .vmem, ⟨2, _⟩ => ⟨S1x256, .f32⟩
  | .local _ .vmem, ⟨3, _⟩ => ⟨S1x128, .f32⟩
  | .local _ .vmem, ⟨4, _⟩ => ⟨S256x512, .bf16⟩
  | .local _ .vmem, ⟨5, _⟩ => ⟨S256x512, .bf16⟩
  | .local _ .vmem, ⟨6, _⟩ => ⟨S128x512, .bf16⟩
  | .local _ .vmem, ⟨7, _⟩ => ⟨S128x256, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x256, .bf16⟩
  | .local _ .vmem, ⟨17, _⟩ => ⟨S1x512x256, .bf16⟩
  | _, _ => ⟨S16x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_cst : Ref sig .tc := ⟨.hbm, 8, rfl⟩
abbrev main_c_0 : Ref sig .tc := ⟨.hbm, 9, rfl⟩
abbrev main_cst_1 : Ref sig .tc := ⟨.hbm, 10, rfl⟩
abbrev main_c_2 : Ref sig .tc := ⟨.hbm, 11, rfl⟩
abbrev main_cst_3 : Ref sig .tc := ⟨.hbm, 12, rfl⟩
abbrev main_c_4 : Ref sig .tc := ⟨.hbm, 13, rfl⟩
abbrev main_cst_5 : Ref sig .tc := ⟨.hbm, 14, rfl⟩
abbrev main_c_6 : Ref sig .tc := ⟨.hbm, 15, rfl⟩
abbrev main_call0_v0 : Ref sig .tc := ⟨.hbm, 16, rfl⟩
abbrev main_v0 : Ref sig .tc := ⟨.hbm, 17, rfl⟩
abbrev main_v1 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_v14 : Ref sig .tc := ⟨.hbm, 38, rfl⟩
abbrev main_call1_cst : Ref sig .tc := ⟨.hbm, 39, rfl⟩
abbrev main_call1_v15 : Ref sig .tc := ⟨.hbm, 40, rfl⟩
abbrev main_v2 : Ref sig .tc := ⟨.hbm, 41, rfl⟩
abbrev main_v3 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_call2_c : Ref sig .tc := ⟨.hbm, 46, rfl⟩
abbrev main_call2_v0 : Ref sig .tc := ⟨.hbm, 47, rfl⟩
abbrev main_call2_v1 : Ref sig .tc := ⟨.hbm, 48, rfl⟩
abbrev main_call2_c_0 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_call2_v5 : Ref sig .tc := ⟨.hbm, 53, rfl⟩
abbrev main_call2_c_1 : Ref sig .tc := ⟨.hbm, 54, rfl⟩
abbrev main_call2_c_2 : Ref sig .tc := ⟨.hbm, 55, rfl⟩
abbrev main_call2_v6 : Ref sig .tc := ⟨.hbm, 56, rfl⟩
abbrev main_call2_v7 : Ref sig .tc := ⟨.hbm, 57, rfl⟩
abbrev main_call2_v8 : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_call2_c_3 : Ref sig .tc := ⟨.hbm, 62, rfl⟩
abbrev main_call2_v12 : Ref sig .tc := ⟨.hbm, 63, rfl⟩
abbrev main_call2_v13 : Ref sig .tc := ⟨.hbm, 64, rfl⟩
abbrev main_call2_v14 : Ref sig .tc := ⟨.hbm, 65, rfl⟩
abbrev main_call2_cst : Ref sig .tc := ⟨.hbm, 66, rfl⟩
abbrev main_call2_v15 : Ref sig .tc := ⟨.hbm, 67, rfl⟩
abbrev main_v7 : Ref sig .tc := ⟨.hbm, 68, rfl⟩
abbrev main_v8 : Ref sig .tc := ⟨.hbm, 69, rfl⟩
abbrev main_v9 : Ref sig .tc := ⟨.hbm, 70, rfl⟩
abbrev main_v10 : Ref sig .tc := ⟨.hbm, 71, rfl⟩
abbrev main_v11 : Ref sig .tc := ⟨.hbm, 72, rfl⟩
abbrev main_call3_c : Ref sig .tc := ⟨.hbm, 73, rfl⟩
abbrev main_call3_v0 : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_v5 : Ref sig .tc := ⟨.hbm, 80, rfl⟩
abbrev main_call3_c_1 : Ref sig .tc := ⟨.hbm, 81, rfl⟩
abbrev main_call3_c_2 : Ref sig .tc := ⟨.hbm, 82, rfl⟩
abbrev main_call3_v6 : Ref sig .tc := ⟨.hbm, 83, rfl⟩
abbrev main_call3_v7 : Ref sig .tc := ⟨.hbm, 84, rfl⟩
abbrev main_call3_v8 : Ref sig .tc := ⟨.hbm, 85, rfl⟩
abbrev main_call3_v9 : Ref sig .tc := ⟨.hbm, 86, rfl⟩
abbrev main_call3_v10 : Ref sig .tc := ⟨.hbm, 87, rfl⟩
abbrev main_call3_v11 : Ref sig .tc := ⟨.hbm, 88, rfl⟩
abbrev main_call3_c_3 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_call3_cst : Ref sig .tc := ⟨.hbm, 93, rfl⟩
abbrev main_call3_v15 : Ref sig .tc := ⟨.hbm, 94, rfl⟩
abbrev main_v12 : Ref sig .tc := ⟨.hbm, 95, rfl⟩
abbrev main_v13 : Ref sig .tc := ⟨.hbm, 96, rfl⟩
abbrev main_v14 : Ref sig .tc := ⟨.hbm, 97, rfl⟩
abbrev main_v15 : Ref sig .tc := ⟨.hbm, 98, rfl⟩
abbrev main_v16 : Ref sig .tc := ⟨.hbm, 99, rfl⟩
abbrev main_call4_c : Ref sig .tc := ⟨.hbm, 100, rfl⟩
abbrev main_call4_v0 : Ref sig .tc := ⟨.hbm, 101, rfl⟩
abbrev main_call4_v1 : Ref sig .tc := ⟨.hbm, 102, rfl⟩
abbrev main_call4_c_0 : Ref sig .tc := ⟨.hbm, 103, rfl⟩
abbrev main_call4_v2 : Ref sig .tc := ⟨.hbm, 104, rfl⟩
abbrev main_call4_v3 : Ref sig .tc := ⟨.hbm, 105, rfl⟩
abbrev main_call4_v4 : Ref sig .tc := ⟨.hbm, 106, rfl⟩
abbrev main_call4_v5 : Ref sig .tc := ⟨.hbm, 107, rfl⟩
abbrev main_call4_c_1 : Ref sig .tc := ⟨.hbm, 108, rfl⟩
abbrev main_call4_c_2 : Ref sig .tc := ⟨.hbm, 109, rfl⟩
abbrev main_call4_v6 : Ref sig .tc := ⟨.hbm, 110, rfl⟩
abbrev main_call4_v7 : Ref sig .tc := ⟨.hbm, 111, rfl⟩
abbrev main_call4_v8 : Ref sig .tc := ⟨.hbm, 112, rfl⟩
abbrev main_call4_v9 : Ref sig .tc := ⟨.hbm, 113, rfl⟩
abbrev main_call4_v10 : Ref sig .tc := ⟨.hbm, 114, rfl⟩
abbrev main_call4_v11 : Ref sig .tc := ⟨.hbm, 115, rfl⟩
abbrev main_call4_c_3 : Ref sig .tc := ⟨.hbm, 116, rfl⟩
abbrev main_call4_v12 : Ref sig .tc := ⟨.hbm, 117, rfl⟩
abbrev main_call4_v13 : Ref sig .tc := ⟨.hbm, 118, rfl⟩
abbrev main_call4_v14 : Ref sig .tc := ⟨.hbm, 119, rfl⟩
abbrev main_call4_cst : Ref sig .tc := ⟨.hbm, 120, rfl⟩
abbrev main_call4_v15 : Ref sig .tc := ⟨.hbm, 121, rfl⟩
abbrev main_v17 : Ref sig .tc := ⟨.hbm, 122, rfl⟩
abbrev main_v18 : Ref sig .tc := ⟨.hbm, 123, rfl⟩
abbrev main_v19 : Ref sig .tc := ⟨.hbm, 124, rfl⟩
abbrev main_v20 : Ref sig .tc := ⟨.hbm, 125, rfl⟩
abbrev main_v21 : Ref sig .tc := ⟨.hbm, 126, rfl⟩
abbrev main_v22 : Ref sig .tc := ⟨.hbm, 127, rfl⟩
abbrev main_v23 : Ref sig .tc := ⟨.hbm, 128, rfl⟩
abbrev main_v24 : Ref sig .tc := ⟨.hbm, 129, rfl⟩
abbrev main_v25 : Ref sig .tc := ⟨.hbm, 130, rfl⟩
abbrev main_v26 : Ref sig .tc := ⟨.hbm, 131, rfl⟩
abbrev main_v27 : Ref sig .tc := ⟨.hbm, 132, rfl⟩
abbrev main_v28 : Ref sig .tc := ⟨.hbm, 133, rfl⟩
abbrev main_v29 : Ref sig .tc := ⟨.hbm, 134, rfl⟩
abbrev main_v30 : Ref sig .tc := ⟨.hbm, 135, rfl⟩
abbrev main_cst_7 : Ref sig .tc := ⟨.hbm, 136, rfl⟩
abbrev main_v31 : Ref sig .tc := ⟨.hbm, 137, rfl⟩
abbrev main_v32 : Ref sig .tc := ⟨.hbm, 138, rfl⟩
abbrev main_cst_8 : Ref sig .tc := ⟨.hbm, 139, rfl⟩
abbrev main_v33 : Ref sig .tc := ⟨.hbm, 140, rfl⟩
abbrev main_v34 : Ref sig .tc := ⟨.hbm, 141, rfl⟩
abbrev main_v35 : Ref sig .tc := ⟨.hbm, 142, rfl⟩
abbrev main_cst_9 : Ref sig .tc := ⟨.hbm, 143, rfl⟩
abbrev main_v36 : Ref sig .tc := ⟨.hbm, 144, rfl⟩
abbrev main_v37 : Ref sig .tc := ⟨.hbm, 145, rfl⟩
abbrev main_cst_10 : Ref sig .tc := ⟨.hbm, 146, rfl⟩
abbrev main_v38 : Ref sig .tc := ⟨.hbm, 147, rfl⟩
abbrev main_v39 : Ref sig .tc := ⟨.hbm, 148, rfl⟩
abbrev main_v40 : Ref sig .tc := ⟨.hbm, 149, rfl⟩
abbrev main_v41 : Ref sig .tc := ⟨.hbm, 150, rfl⟩
abbrev main_v42 : Ref sig .tc := ⟨.hbm, 151, rfl⟩
abbrev main_v43 : Ref sig .tc := ⟨.hbm, 152, rfl⟩
abbrev main_v44 : Ref sig .tc := ⟨.hbm, 153, rfl⟩
abbrev main_v45 : Ref sig .tc := ⟨.hbm, 154, rfl⟩
abbrev main_v46 : Ref sig .tc := ⟨.hbm, 155, rfl⟩
abbrev main_v47 : Ref sig .tc := ⟨.hbm, 156, rfl⟩
abbrev main_v48 : Ref sig .tc := ⟨.hbm, 157, rfl⟩
abbrev main_v49 : Ref sig .tc := ⟨.hbm, 158, rfl⟩
abbrev main_v50 : Ref sig .tc := ⟨.hbm, 159, rfl⟩
abbrev main_v51 : Ref sig .tc := ⟨.hbm, 160, rfl⟩
abbrev main_v52 : Ref sig .tc := ⟨.hbm, 161, rfl⟩
abbrev main_v53 : Ref sig .tc := ⟨.hbm, 162, rfl⟩
abbrev main_cst_11 : Ref sig .tc := ⟨.hbm, 163, rfl⟩
abbrev main_v54 : Ref sig .tc := ⟨.hbm, 164, rfl⟩
abbrev main_v55 : Ref sig .tc := ⟨.hbm, 165, rfl⟩
abbrev main_cst_12 : Ref sig .tc := ⟨.hbm, 166, rfl⟩
abbrev main_v56 : Ref sig .tc := ⟨.hbm, 167, rfl⟩
abbrev main_v57 : Ref sig .tc := ⟨.hbm, 168, rfl⟩
abbrev main_v58 : Ref sig .tc := ⟨.hbm, 169, rfl⟩
abbrev main_cst_13 : Ref sig .tc := ⟨.hbm, 170, rfl⟩
abbrev main_v59 : Ref sig .tc := ⟨.hbm, 171, rfl⟩
abbrev main_v60 : Ref sig .tc := ⟨.hbm, 172, rfl⟩
abbrev main_cst_14 : Ref sig .tc := ⟨.hbm, 173, rfl⟩
abbrev main_v61 : Ref sig .tc := ⟨.hbm, 174, rfl⟩
abbrev main_v62 : Ref sig .tc := ⟨.hbm, 175, rfl⟩
abbrev main_v63 : Ref sig .tc := ⟨.hbm, 176, rfl⟩
abbrev main_v64 : Ref sig .tc := ⟨.hbm, 177, rfl⟩
abbrev main_v65 : Ref sig .tc := ⟨.hbm, 178, rfl⟩
abbrev main_v66 : Ref sig .tc := ⟨.hbm, 179, rfl⟩
abbrev main_v67 : Ref sig .tc := ⟨.hbm, 180, rfl⟩
abbrev main_cst_15 : Ref sig .tc := ⟨.hbm, 181, rfl⟩
abbrev main_v68 : Ref sig .tc := ⟨.hbm, 182, rfl⟩
abbrev main_v69 : Ref sig .tc := ⟨.hbm, 183, rfl⟩
abbrev main_cst_16 : Ref sig .tc := ⟨.hbm, 184, rfl⟩
abbrev main_v70 : Ref sig .tc := ⟨.hbm, 185, rfl⟩
abbrev main_v71 : Ref sig .tc := ⟨.hbm, 186, rfl⟩
abbrev main_v72 : Ref sig .tc := ⟨.hbm, 187, rfl⟩
abbrev main_cst_17 : Ref sig .tc := ⟨.hbm, 188, rfl⟩
abbrev main_v73 : Ref sig .tc := ⟨.hbm, 189, rfl⟩
abbrev main_v74 : Ref sig .tc := ⟨.hbm, 190, rfl⟩
abbrev main_cst_18 : Ref sig .tc := ⟨.hbm, 191, rfl⟩
abbrev main_v75 : Ref sig .tc := ⟨.hbm, 192, rfl⟩
abbrev main_v76 : Ref sig .tc := ⟨.hbm, 193, rfl⟩
abbrev main_v77 : Ref sig .tc := ⟨.hbm, 194, rfl⟩
abbrev main_v78 : Ref sig .tc := ⟨.hbm, 195, rfl⟩
abbrev main_v79 : Ref sig .tc := ⟨.hbm, 196, rfl⟩
abbrev main_v80 : Ref sig .tc := ⟨.hbm, 197, rfl⟩
abbrev main_v81 : Ref sig .tc := ⟨.hbm, 198, rfl⟩
abbrev main_v82 : Ref sig .tc := ⟨.hbm, 199, rfl⟩
abbrev main_v83 : Ref sig .tc := ⟨.hbm, 200, rfl⟩
abbrev main_v84 : Ref sig .tc := ⟨.hbm, 201, rfl⟩
abbrev main_v85 : Ref sig .tc := ⟨.hbm, 202, rfl⟩
abbrev main_v86 : Ref sig .tc := ⟨.hbm, 203, rfl⟩
abbrev main_v87 : Ref sig .tc := ⟨.hbm, 204, rfl⟩
abbrev main_v88 : Ref sig .tc := ⟨.hbm, 205, rfl⟩
abbrev main_v89 : Ref sig .tc := ⟨.hbm, 206, rfl⟩
abbrev main_v90 : Ref sig .tc := ⟨.hbm, 207, rfl⟩
abbrev main_v91 : Ref sig .tc := ⟨.hbm, 208, rfl⟩
abbrev main_v92 : Ref sig .tc := ⟨.hbm, 209, rfl⟩
abbrev main_v93 : Ref sig .tc := ⟨.hbm, 210, rfl⟩
abbrev main_v94 : Ref sig .tc := ⟨.hbm, 211, rfl⟩
abbrev main_v95 : Ref sig .tc := ⟨.hbm, 212, rfl⟩
abbrev main_v96 : Ref sig .tc := ⟨.hbm, 213, rfl⟩
abbrev main_v97 : Ref sig .tc := ⟨.hbm, 214, rfl⟩
abbrev main_v98 : Ref sig .tc := ⟨.hbm, 215, rfl⟩
abbrev main_v99 : Ref sig .tc := ⟨.hbm, 216, rfl⟩
abbrev main_v100 : Ref sig .tc := ⟨.hbm, 217, rfl⟩
abbrev main_v101 : Ref sig .tc := ⟨.hbm, 218, rfl⟩
abbrev main_v102 : Ref sig .tc := ⟨.hbm, 219, rfl⟩
abbrev main_v103 : Ref sig .tc := ⟨.hbm, 220, rfl⟩
abbrev main_v104 : Ref sig .tc := ⟨.hbm, 221, rfl⟩
abbrev main_v105 : Ref sig .tc := ⟨.hbm, 222, rfl⟩
abbrev main_v106 : Ref sig .tc := ⟨.hbm, 223, rfl⟩
abbrev main_v107 : Ref sig .tc := ⟨.hbm, 224, rfl⟩
abbrev main_v108 : Ref sig .tc := ⟨.hbm, 225, rfl⟩
abbrev main_v109 : Ref sig .tc := ⟨.hbm, 226, rfl⟩
abbrev main_v110 : Ref sig .tc := ⟨.hbm, 227, rfl⟩
abbrev main_v111 : Ref sig .tc := ⟨.hbm, 228, rfl⟩
abbrev main_v112 : Ref sig .tc := ⟨.hbm, 229, rfl⟩
abbrev main_v113 : Ref sig .tc := ⟨.hbm, 230, rfl⟩
abbrev main_v114 : Ref sig .tc := ⟨.hbm, 231, rfl⟩
abbrev main_v115 : Ref sig .tc := ⟨.hbm, 232, rfl⟩
abbrev main_cst_19 : Ref sig .tc := ⟨.hbm, 233, rfl⟩
abbrev main_v116 : Ref sig .tc := ⟨.hbm, 234, rfl⟩
abbrev main_cst_20 : Ref sig .tc := ⟨.hbm, 235, rfl⟩
abbrev main_v117 : Ref sig .tc := ⟨.hbm, 236, rfl⟩
abbrev main_v118 : Ref sig .tc := ⟨.hbm, 237, rfl⟩
abbrev main_v119 : Ref sig .tc := ⟨.hbm, 238, rfl⟩
abbrev main_v120 : Ref sig .tc := ⟨.hbm, 239, rfl⟩
abbrev main_v121 : Ref sig .tc := ⟨.hbm, 240, rfl⟩
abbrev main_v122 : Ref sig .tc := ⟨.hbm, 241, rfl⟩
abbrev main_v123 : Ref sig .tc := ⟨.hbm, 242, rfl⟩
abbrev main_v124 : Ref sig .tc := ⟨.hbm, 243, rfl⟩
abbrev main_v125 : Ref sig .tc := ⟨.hbm, 244, rfl⟩
abbrev main_v126 : Ref sig .tc := ⟨.hbm, 245, rfl⟩
abbrev main_v127 : Ref sig .tc := ⟨.hbm, 246, rfl⟩
abbrev main_v128 : Ref sig .tc := ⟨.hbm, 247, rfl⟩
abbrev main_v129_0 : Ref sig .tc := ⟨.hbm, 248, rfl⟩
abbrev main_v129_1 : Ref sig .tc := ⟨.hbm, 249, rfl⟩
abbrev main_v129_2 : Ref sig .tc := ⟨.hbm, 250, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference5Ideal.lean ====
abbrev S16x4096x256 : Shape := ⟨3, ![16, 4096, 256]⟩
abbrev S16x4096x128 : Shape := ⟨3, ![16, 4096, 128]⟩
abbrev S16x4096x32 : Shape := ⟨3, ![16, 4096, 32]⟩
abbrev S256 : Shape := ⟨1, ![256]⟩
abbrev S256x384 : Shape := ⟨2, ![256, 384]⟩
abbrev S128 : Shape := ⟨1, ![128]⟩
abbrev S128x512 : Shape := ⟨2, ![128, 512]⟩
abbrev S_ : Shape := ⟨0, ![]⟩
abbrev S16x4096 : Shape := ⟨2, ![16, 4096]⟩
abbrev S16x4096x1 : Shape := ⟨3, ![16, 4096, 1]⟩
abbrev S1x1x256 : Shape := ⟨3, ![1, 1, 256]⟩
abbrev S16x4096x384 : Shape := ⟨3, ![16, 4096, 384]⟩
abbrev S16x4096x4x96 : Shape := ⟨4, ![16, 4096, 4, 96]⟩
abbrev S64 : Shape := ⟨1, ![64]⟩
abbrev S64x1 : Shape := ⟨2, ![64, 1]⟩
abbrev S64x64 : Shape := ⟨2, ![64, 64]⟩
abbrev S4096 : Shape := ⟨1, ![4096]⟩
abbrev S1x64 : Shape := ⟨2, ![1, 64]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x16 : Shape := ⟨2, ![4096, 16]⟩
abbrev S16x4096x4x64 : Shape := ⟨4, ![16, 4096, 4, 64]⟩
abbrev S16x4096x4x32 : Shape := ⟨4, ![16, 4096, 4, 32]⟩
abbrev S16x4096x4x16 : Shape := ⟨4, ![16, 4096, 4, 16]⟩
abbrev S4096x1x16 : Shape := ⟨3, ![4096, 1, 16]⟩
abbrev S1x4096x1x16 : Shape := ⟨4, ![1, 4096, 1, 16]⟩
abbrev S1x1x128 : Shape := ⟨3, ![1, 1, 128]⟩
abbrev S16x4096x512 : Shape := ⟨3, ![16, 4096, 512]⟩
abbrev S16x4096x4x128 : Shape := ⟨4, ![16, 4096, 4, 128]⟩
abbrev S16x4096x1x32 : Shape := ⟨4, ![16, 4096, 1, 32]⟩

abbrev nBuf : Space → Nat
  | .hbm => 120
  | .vmem => 0
  | .smem => 0
  | _ => 0

abbrev bufTy : (tb : Table) → Fin (tcTables nBuf tb) → BufTy
  | .hbm, ⟨0, _⟩ => ⟨S16x4096x256, .f32⟩
  | .hbm, ⟨1, _⟩ => ⟨S16x4096x128, .f32⟩
  | .hbm, ⟨2, _⟩ => ⟨S16x4096x32, .f32⟩
  | .hbm, ⟨3, _⟩ => ⟨S256, .f32⟩
  | .hbm, ⟨4, _⟩ => ⟨S256x384, .f32⟩
  | .hbm, ⟨5, _⟩ => ⟨S128, .f32⟩
  | .hbm, ⟨6, _⟩ => ⟨S128x512, .f32⟩
  | .hbm, ⟨7, _⟩ => ⟨S16x4096x256, .f32⟩
  | .hbm, ⟨8, _⟩ => ⟨S_, .f32⟩
  | .hbm, ⟨9, _⟩ => ⟨S16x4096, .f32⟩
  | .hbm, ⟨10, _⟩ => ⟨S16x4096x1, .f32⟩
  | .hbm, ⟨11, _⟩ => ⟨S_, .f32⟩
  | .hbm, ⟨12, _⟩ => ⟨S16x4096x1, .f32⟩
  | .hbm, ⟨13, _⟩ => ⟨S16x4096x1, .f32⟩
  | .hbm, ⟨14, _⟩ => ⟨S_, .f32⟩
  | .hbm, ⟨15, _⟩ => ⟨S16x4096x1, .f32⟩
  | .hbm, ⟨16, _⟩ => ⟨S16x4096x1, .f32⟩
  | .hbm, ⟨17, _⟩ => ⟨S16x4096x1, .f32⟩
  | .hbm, ⟨18, _⟩ => ⟨S16x4096x256, .f32⟩
  | .hbm, ⟨19, _⟩ => ⟨S16x4096x256, .f32⟩
  | .hbm, ⟨20, _⟩ => ⟨S1x1x256, .f32⟩
  | .hbm, ⟨21, _⟩ => ⟨S16x4096x256, .f32⟩
  | .hbm, ⟨22, _⟩ => ⟨S16x4096x256, .f32⟩
  | .hbm, ⟨23, _⟩ => ⟨S16x4096x384, .f32⟩
  | .hbm, ⟨24, _⟩ => ⟨S16x4096x4x96, .f32⟩
  | .hbm, ⟨25, _⟩ => ⟨S64, .f32⟩
  | .hbm, ⟨26, _⟩ => ⟨S64x1, .f32⟩
  | .hbm, ⟨27, _⟩ => ⟨S64x64, .f32⟩
  | .hbm, ⟨28, _⟩ => ⟨S4096, .f32⟩
  | .hbm, ⟨29, _⟩ => ⟨S64, .f32⟩
  | .hbm, ⟨30, _⟩ => ⟨S1x64, .f32⟩
  | .hbm, ⟨31, _⟩ => ⟨S64x64, .f32⟩
  | .hbm, ⟨32, _⟩ => ⟨S4096, .f32⟩
  | .hbm, ⟨33, _⟩ => ⟨S8, .f32⟩
  | .hbm, ⟨34, _⟩ => ⟨S_, .f32⟩
  | .hbm, ⟨35, _⟩ => ⟨S8, .f32⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S8, .f32⟩
  | .hbm, ⟨41, _⟩ => ⟨S_, .f32⟩
  | .hbm, ⟨42, _⟩ => ⟨S8, .f32⟩
  | .hbm, ⟨43, _⟩ => ⟨S8, .f32⟩
  | .hbm, ⟨44, _⟩ => ⟨S_, .f32⟩
  | .hbm, ⟨45, _⟩ => ⟨S8, .f32⟩
  | .hbm, ⟨46, _⟩ => ⟨S8, .f32⟩
  | .hbm, ⟨47, _⟩ => ⟨S4096x1, .f32⟩
  | .hbm, ⟨48, _⟩ => ⟨S1x8, .f32⟩
  | .hbm, ⟨49, _⟩ => ⟨S4096x8, .f32⟩
  | .hbm, ⟨50, _⟩ => ⟨S4096x8, .f32⟩
  | .hbm, ⟨51, _⟩ => ⟨S4096x8, .f32⟩
  | .hbm, ⟨52, _⟩ => ⟨S4096x1, .f32⟩
  | .hbm, ⟨53, _⟩ => ⟨S1x8, .f32⟩
  | .hbm, ⟨54, _⟩ => ⟨S4096x8, .f32⟩
  | .hbm, ⟨55, _⟩ => ⟨S4096x8, .f32⟩
  | .hbm, ⟨56, _⟩ => ⟨S4096x8, .f32⟩
  | .hbm, ⟨57, _⟩ => ⟨S4096x16, .f32⟩
  | .hbm, ⟨58, _⟩ => ⟨S4096x16, .f32⟩
  | .hbm, ⟨59, _⟩ => ⟨S4096x16, .f32⟩
  | .hbm, ⟨60, _⟩ => ⟨S16x4096x4x64, .f32⟩
  | .hbm, ⟨61, _⟩ => ⟨S16x4096x4x32, .f32⟩
  | .hbm, ⟨62, _⟩ => ⟨S16x4096x4x16, .f32⟩
  | .hbm, ⟨63, _⟩ => ⟨S16x4096x4x16, .f32⟩
  | .hbm, ⟨64, _⟩ => ⟨S4096x1x16, .f32⟩
  | .hbm, ⟨65, _⟩ => ⟨S4096x1x16, .f32⟩
  | .hbm, ⟨66, _⟩ => ⟨S1x4096x1x16, .f32⟩
  | .hbm, ⟨67, _⟩ => ⟨S16x4096x4x16, .f32⟩
  | .hbm, ⟨68, _⟩ => ⟨S16x4096x4x16, .f32⟩
  | .hbm, ⟨69, _⟩ => ⟨S1x4096x1x16, .f32⟩
  | .hbm, ⟨70, _⟩ => ⟨S16x4096x4x16, .f32⟩
  | .hbm, ⟨71, _⟩ => ⟨S16x4096x4x16, .f32⟩
  | .hbm, ⟨72, _⟩ => ⟨S16x4096x4x16, .f32⟩
  | .hbm, ⟨73, _⟩ => ⟨S1x4096x1x16, .f32⟩
  | .hbm, ⟨74, _⟩ => ⟨S16x4096x4x16, .f32⟩
  | .hbm, ⟨75, _⟩ => ⟨S16x4096x4x16, .f32⟩
  | .hbm, ⟨76, _⟩ => ⟨S1x4096x1x16, .f32⟩
  | .hbm, ⟨77, _⟩ => ⟨S16x4096x4x16, .f32⟩
  | .hbm, ⟨78, _⟩ => ⟨S16x4096x4x16, .f32⟩
  | .hbm, ⟨79, _⟩ => ⟨S16x4096x4x16, .f32⟩
  | .hbm, ⟨80, _⟩ => ⟨S16x4096x4x32, .f32⟩
  | .hbm, ⟨81, _⟩ => ⟨S16x4096x4x96, .f32⟩
  | .hbm, ⟨82, _⟩ => ⟨S16x4096x128, .f32⟩
  | .hbm, ⟨83, _⟩ => ⟨S_, .f32⟩
  | .hbm, ⟨84, _⟩ => ⟨S16x4096, .f32⟩
  | .hbm, ⟨85, _⟩ => ⟨S16x4096x1, .f32⟩
  | .hbm, ⟨86, _⟩ => ⟨S_, .f32⟩
  | .hbm, ⟨87, _⟩ => ⟨S16x4096x1, .f32⟩
  | .hbm, ⟨88, _⟩ => ⟨S16x4096x1, .f32⟩
  | .hbm, ⟨89, _⟩ => ⟨S_, .f32⟩
  | .hbm, ⟨90, _⟩ => ⟨S16x4096x1, .f32⟩
  | .hbm, ⟨91, _⟩ => ⟨S16x4096x1, .f32⟩
  | .hbm, ⟨92, _⟩ => ⟨S16x4096x1, .f32⟩
  | .hbm, ⟨93, _⟩ => ⟨S16x4096x128, .f32⟩
  | .hbm, ⟨94, _⟩ => ⟨S16x4096x128, .f32⟩
  | .hbm, ⟨95, _⟩ => ⟨S1x1x128, .f32⟩
  | .hbm, ⟨96, _⟩ => ⟨S16x4096x128, .f32⟩
  | .hbm, ⟨97, _⟩ => ⟨S16x4096x128, .f32⟩
  | .hbm, ⟨98, _⟩ => ⟨S16x4096x512, .f32⟩
  | .hbm, ⟨99, _⟩ => ⟨S16x4096x4x128, .f32⟩
  | .hbm, ⟨100, _⟩ => ⟨S16x4096x4x64, .f32⟩
  | .hbm, ⟨101, _⟩ => ⟨S16x4096x1x32, .f32⟩
  | .hbm, ⟨102, _⟩ => ⟨S16x4096x4x32, .f32⟩
  | .hbm, ⟨103, _⟩ => ⟨S16x4096x4x96, .f32⟩
  | .hbm, ⟨104, _⟩ => ⟨S_, .f32⟩
  | .hbm, ⟨105, _⟩ => ⟨S16x4096x4x96, .f32⟩
  | .hbm, ⟨106, _⟩ => ⟨S16x4096x4x96, .f32⟩
  | .hbm, ⟨107, _⟩ => ⟨S_, .i32⟩
  | .hbm, ⟨108, _⟩ => ⟨S_, .f32⟩
  | .hbm, ⟨109, _⟩ => ⟨S16x4096x4x128, .f32⟩
  | .hbm, ⟨110, _⟩ => ⟨S16x4096x512, .f32⟩
  | .hbm, ⟨111, _⟩ => ⟨S16x4096x512, .bf16⟩
  | .hbm, ⟨112, _⟩ => ⟨S_, .i32⟩
  | .hbm, ⟨113, _⟩ => ⟨S_, .f32⟩
  | .hbm, ⟨114, _⟩ => ⟨S16x4096x4x128, .f32⟩
  | .hbm, ⟨115, _⟩ => ⟨S16x4096x512, .f32⟩
  | .hbm, ⟨116, _⟩ => ⟨S16x4096x512, .bf16⟩
  | .hbm, ⟨117, _⟩ => ⟨S16x4096x4x64, .f32⟩
  | .hbm, ⟨118, _⟩ => ⟨S16x4096x256, .f32⟩
  | .hbm, ⟨119, _⟩ => ⟨S16x4096x256, .bf16⟩
  | _, _ => ⟨S16x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_6 : Ref sig .tc := ⟨.hbm, 83, rfl⟩
abbrev main_v69 : Ref sig .tc := ⟨.hbm, 84, rfl⟩
abbrev main_v70 : Ref sig .tc := ⟨.hbm, 85, rfl⟩
abbrev main_cst_7 : Ref sig .tc := ⟨.hbm, 86, rfl⟩
abbrev main_v71 : Ref sig .tc := ⟨.hbm, 87, rfl⟩
abbrev main_v72 : Ref sig .tc := ⟨.hbm, 88, rfl⟩
abbrev main_cst_8 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_cst_9 : Ref sig .tc := ⟨.hbm, 104, rfl⟩
abbrev main_v87 : Ref sig .tc := ⟨.hbm, 105, rfl⟩
abbrev main_v88 : Ref sig .tc := ⟨.hbm, 106, rfl⟩
abbrev main_c : Ref sig .tc := ⟨.hbm, 107, rfl⟩
abbrev main_call0_v0 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_c_10 : Ref sig .tc := ⟨.hbm, 112, rfl⟩
abbrev main_call1_v0 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩

abbrev nD : Nat := 1
abbrev τ : Topo := Topo.v7x

variable {F : FTy → Type} [FloatOps F]
-- ==== Proof.Swa.Host.lean ====
module

public import proofs.«01_k».proof.Proof.Gen.KernelIdeal.Value
public import Idealize.ShloMosaic.Lib.Pointwise
public import Idealize.ShloMosaic.Lib.IdealHost
public import Idealize.ShloMosaic.Lib.StableHlo.ReadAt

@[expose] public section

set_option maxRecDepth 16384

noncomputable section

/-! The arrays that the windowed attention's grid reads, in terms of the arguments. -/

namespace Cert.Swa

open Idealize.ShloMosaic Cert.KernelIdeal Cert.KernelIdeal.Gen

/-- The queries, the lanes of a group's two heads put side by side half by half. -/
def qArr (q : FVec Ideal S16x4096x256 .f32) : FVec Ideal S16x4096x256 .f32 :=
  shapeCast S16x4096x256 (transpose S16x4096x2x2x2x32 [0, 1, 3, 4, 2, 5] (shapeCast S16x4096x2x2x2x32 q shapeCasts_S16x4096x256_S16x4096x2x2x2x32)
    transposes_S16x4096x2x2x2x32_S16x4096x2x2x2x32_0_1_3_4_2_5) shapeCasts_S16x4096x2x2x2x32_S16x4096x256

/-- The keys, likewise. -/
def kArr (k : FVec Ideal S16x4096x128 .f32) : FVec Ideal S16x4096x128 .f32 :=
  shapeCast S16x4096x128 (transpose S16x4096x2x2x32 [0, 1, 3, 2, 4] (shapeCast S16x4096x2x2x32 k shapeCasts_S16x4096x128_S16x4096x2x2x32)
    transposes_S16x4096x2x2x32_S16x4096x2x2x32_0_1_3_2_4) shapeCasts_S16x4096x2x2x32_S16x4096x128

/-- The context's keys, likewise. -/
def kcArr (k : FVec Ideal S16x256x128 .f32) : FVec Ideal S16x256x128 .f32 :=
  shapeCast S16x256x128 (transpose S16x256x2x2x32 [0, 1, 3, 2, 4] (shapeCast S16x256x2x2x32 k shapeCasts_S16x256x128_S16x256x2x2x32)
    transposes_S16x256x2x2x32_S16x256x2x2x32_0_1_3_2_4) shapeCasts_S16x256x2x2x32_S16x256x128

/-- Queries, keys and values side by side. -/
def tokens (q : FVec Ideal S16x4096x256 .f32) (k v : FVec Ideal S16x4096x128 .f32) : FVec Ideal S16x4096x512 .f32 :=
  concatenate S16x4096x512 2 [⟨S16x4096x256, qArr q⟩, ⟨S16x4096x128, kArr k⟩, ⟨S16x4096x128, v⟩]
    concatenates_S16x4096x256_S16x4096x128_S16x4096x128_S16x4096x512_d2

/-- The context's keys and values in the same columns. -/
def context (k v : FVec Ideal S16x256x128 .f32) : FVec Ideal S16x256x512 .f32 :=
  pad S16x256x512 ![0, 0, 256] ![0, 0, 0] ![0, 0, 0]
    (concatenate S16x256x256 2 [⟨S16x256x128, kcArr k⟩, ⟨S16x256x128, v⟩] concatenates_S16x256x128_S16x256x128_S16x256x256_d2)
    (sitofp .f32 (constantI S_ 32 0#32)) pads_S16x256x256_S16x256x512_000_000_25600 h_S_

section
variable (m : (ℓ : Loc nD τ sig) → Buf (Elt Ideal) ℓ) (c : Dev nD)

/-- The first array the grid reads. -/
theorem V_tokens : V m c main_v6 = tokens (m ((c.tc : Thread nD τ).loc main_arg0)) (m ((c.tc : Thread nD τ).loc main_arg1)) (m ((c.tc : Thread nD τ).loc main_arg2)) := by
  unfold V
  rfl

/-- The second. -/
theorem V_context : V m c main_v11 = context (m ((c.tc : Thread nD τ).loc main_arg3)) (m ((c.tc : Thread nD τ).loc main_arg4)) := by
  unfold V
  rfl

end

theorem at_col {n0 n1 n2 : Nat} (x : (⟨3, ![n0, n1, n2]⟩ : Shape).Idx → EReal) (a : Fin n0) (b : Fin n1) {r r' : Nat} (h : r < n2) (h' : r' < n2)
    (e : r = r') : x (ix3 a b ⟨r, h⟩) = x (ix3 a b ⟨r', h'⟩) := by subst e; rfl

section
variable (q : FVec Ideal S16x4096x256 .f32) (k v : FVec Ideal S16x4096x128 .f32) (kc vc : FVec Ideal S16x256x128 .f32)

/-- The first columns are the queries, -/
theorem tokens_q (b : Fin 16) (t : Fin 4096) (g : Fin 2) (l : Fin 128) :
    tokens q k v (ix3 b t ⟨g.val * 128 + l.val, by omega⟩)
      = q (ix3 b t ⟨(l.val / 32 % 2) * 128 + g.val * 64 + (l.val / 64 * 32 + l.val % 32), by omega⟩) := by
  pointwise [tokens, qArr]
  rw [dif_pos (by omega)]
  exact at_col q b t _ _ (by omega)

/-- the next ones the keys, -/
theorem tokens_k (b : Fin 16) (t : Fin 4096) (l : Fin 128) :
    tokens q k v (ix3 b t ⟨256 + l.val, by omega⟩)
      = k (ix3 b t ⟨(l.val / 32 % 2) * 64 + (l.val / 64 * 32 + l.val % 32), by omega⟩) := by
  pointwise [tokens, kArr]
  exact at_col k b t _ _ (by omega)

/-- the last ones the values. -/
theorem tokens_v (b : Fin 16) (t : Fin 4096) (l : Fin 128) :
    tokens q k v (ix3 b t ⟨384 + l.val, by omega⟩) = v (ix3 b t l) := by
  pointwise [tokens]
  rw [dif_neg (by omega), dif_neg (by omega)]
  exact at_col v b t _ _ (by omega)

/-- Likewise the context's keys, -/
theorem context_k (b : Fin 16) (t : Fin 256) (l : Fin 128) :
    context kc vc (ix3 b t ⟨256 + l.val, by omega⟩)
      = kc (ix3 b t ⟨(l.val / 32 % 2) * 64 + (l.val / 64 * 32 + l.val % 32), by omega⟩) := by
  pointwise [context, kcArr]
  rw [dif_pos (by omega)]
  exact at_col kc b t _ _ (by omega)

/-- and values. -/
theorem context_v (b : Fin 16) (t : Fin 256) (l : Fin 128) :
    context kc vc (ix3 b t ⟨384 + l.val, by omega⟩) = vc (ix3 b t l) := by
  pointwise [context]
  rw [dif_pos (by omega), dif_neg (by omega)]
  exact at_col vc b t _ _ (by omega)

end

end Cert.Swa
end
-- ==== Proof.Swa.Attn.lean ====
module

public import Idealize.ShloMosaic.Lib.Pointwise
public import Idealize.ShloMosaic.Lib.IdealHost

@[expose] public section

noncomputable section

/-! Softmax attention with a sink over the extended reals: normalising after the weighted sum or before it is the same. -/

namespace Cert.Swa

open Idealize.ShloMosaic

section transport

variable {κ κ' : Type} [Fintype κ] [Fintype κ']

/-- Two sums whose terms vanish outside the live indices agree if the live indices correspond one to one. -/
theorem sum_live (P : κ → Prop) (P' : κ' → Prop) (f : κ → κ') (hf : ∀ a, P a → P' (f a))
    (inj : ∀ a b, P a → P b → f a = f b → a = b) (sur : ∀ b, P' b → ∃ a, P a ∧ f a = b) (G : κ → EReal) (G' : κ' → EReal)
    (h0 : ∀ a, ¬ P a → G a = 0) (h0' : ∀ b, ¬ P' b → G' b = 0) (e : ∀ a, P a → G a = G' (f a)) :
    ∑ a, G a = ∑ b, G' b := by
  classical
  rw [← Finset.sum_filter_of_ne (p := P) (s := Finset.univ) (f := G) (fun a _ h => by by_contra hp; exact h (h0 a hp)),
    ← Finset.sum_filter_of_ne (p := P') (s := Finset.univ) (f := G') (fun a _ h => by by_contra hp; exact h (h0' a hp))]
  refine Finset.sum_bij (fun a _ => f a) ?_ ?_ ?_ ?_
  · intro a ha; simpa using hf a (by simpa using ha)
  · intro a ha b hb h; exact inj a b (by simpa using ha) (by simpa using hb) h
  · intro b hb
    obtain ⟨a, ha, hab⟩ := sur b (by simpa using hb)
    exact ⟨a, by simpa using ha, hab⟩
  · intro a ha; exact e a (by simpa using ha)

/-- The largest of the scores, likewise: a masked score is `⊥`. -/
theorem max_live (P : κ → Prop) (P' : κ' → Prop) (f : κ → κ') (hf : ∀ a, P a → P' (f a))
    (sur : ∀ b, P' b → ∃ a, P a ∧ f a = b) (G : κ → EReal) (G' : κ' → EReal)
    (h0 : ∀ a, ¬ P a → G a = ⊥) (h0' : ∀ b, ¬ P' b → G' b = ⊥) (e : ∀ a, P a → G a = G' (f a)) :
    Finset.univ.fold max ⊥ G = Finset.univ.fold max ⊥ G' := by
  apply le_antisymm
  · rw [Finset.fold_max_le]
    refine ⟨bot_le, fun a _ => ?_⟩
    by_cases hp : P a
    · rw [e a hp, Finset.le_fold_max]
      exact .inr ⟨f a, Finset.mem_univ _, le_rfl⟩
    · rw [h0 a hp]; exact bot_le
  · rw [Finset.fold_max_le]
    refine ⟨bot_le, fun b _ => ?_⟩
    by_cases hp : P' b
    · obtain ⟨a, ha, rfl⟩ := sur b hp
      rw [← e a ha, Finset.le_fold_max]
      exact .inr ⟨a, Finset.mem_univ _, le_rfl⟩
    · rw [h0' b hp]; exact bot_le

end transport

/-- The word of minus infinity. -/
theorem negInf : Ideal.ofBits .f32 4286578688#32 = ⊥ := by simp [Ideal.ofBits, Ideal.ieee]

/-- The word of the scale is an eighth. -/
theorem eighth : Ideal.ofBits .f32 1040187392#32 = ((1 / 8 : ℝ) : EReal) := by
  simp [Ideal.ofBits, Ideal.ieee, -EReal.coe_mul]; norm_num

theorem eighth_nonneg : 0 ≤ Ideal.ofBits .f32 1040187392#32 := by rw [eighth]; exact EReal.coe_nonneg.mpr (by norm_num)

theorem eighth_ne_top : Ideal.ofBits .f32 1040187392#32 ≠ ⊤ := by rw [eighth]; exact EReal.coe_ne_top _

/-- The largest score, the sink among them. -/
def top {κ : Type} [Fintype κ] (sc : κ → EReal) (s : EReal) : EReal := max (Finset.univ.fold max ⊥ sc) s

/-- The softmax denominator. -/
def den {κ : Type} [Fintype κ] (sc : κ → EReal) (s : EReal) : EReal :=
  (∑ j, Ideal.exp (sc j - top sc s)) + Ideal.exp (s - top sc s)

/-- The weighted values, divided at the end. -/
def attn {κ : Type} [Fintype κ] (sc : κ → EReal) (s : EReal) (v : κ → EReal) : EReal :=
  (∑ j, Ideal.exp (sc j - top sc s) * v j) * Ideal.div 1 (den sc s)

/-- The values under weights that are divided first. -/
def attn' {κ : Type} [Fintype κ] (sc : κ → EReal) (s : EReal) (v : κ → EReal) : EReal :=
  ∑ j, v j * Ideal.div (Ideal.exp (sc j - top sc s)) (den sc s)

theorem exp_nonneg (x : EReal) : 0 ≤ Ideal.exp x := by
  induction x with
  | bot => exact le_rfl
  | top => exact le_top
  | coe r => exact EReal.coe_nonneg.mpr (Real.exp_pos r).le

theorem exp_sub_self (x : EReal) (h : x ≠ ⊥) (h' : x ≠ ⊤) : Ideal.exp (x - x) = 1 := by
  rw [EReal.sub_self h' h]
  show ((Real.exp 0 : ℝ) : EReal) = 1
  rw [Real.exp_zero]; rfl

theorem exp_bot_sub (x : EReal) : Ideal.exp (⊥ - x) = 0 := by
  rw [EReal.bot_sub]; rfl

section
variable {κ : Type} [Fintype κ] (sc : κ → EReal) (s : EReal)

theorem top_ne_bot (hs : s ≠ ⊥) : top sc s ≠ ⊥ :=
  ne_of_gt (lt_of_lt_of_le (bot_lt_iff_ne_bot.mpr hs) (le_max_right _ _))

theorem top_ne_top (hs : s ≠ ⊤) (h : ∀ j, sc j ≠ ⊤) : top sc s ≠ ⊤ := by
  refine ne_of_lt (max_lt ?_ (lt_top_iff_ne_top.mpr hs))
  rw [Finset.fold_max_lt]
  exact ⟨bot_lt_top, fun j _ => lt_top_iff_ne_top.mpr (h j)⟩

/-- The denominator is at least one: the largest score counts one. -/
theorem one_le_den (hs : s ≠ ⊥) (hs' : s ≠ ⊤) (h : ∀ j, sc j ≠ ⊤) : 1 ≤ den sc s := by
  have hb := top_ne_bot sc s hs
  have ht := top_ne_top sc s hs' h
  have hnn : ∀ j ∈ (Finset.univ : Finset κ), 0 ≤ Ideal.exp (sc j - top sc s) := fun j _ => exp_nonneg _
  by_cases e : s = top sc s
  · have h1 : Ideal.exp (s - top sc s) = 1 := by rw [← e]; exact exp_sub_self s hs hs'
    unfold den
    rw [h1]
    exact le_add_of_nonneg_left (Finset.sum_nonneg hnn)
  · obtain ⟨j, hj⟩ : ∃ j, sc j = top sc s := by
      by_contra hn
      push Not at hn
      have hle : ∀ j, sc j ≤ top sc s := fun j =>
        le_max_of_le_left ((Finset.le_fold_max _).mpr (.inr ⟨j, Finset.mem_univ _, le_rfl⟩))
      have : top sc s < top sc s := by
        conv_lhs => unfold top
        refine max_lt ?_ (lt_of_le_of_ne (le_max_right _ _) e)
        rw [Finset.fold_max_lt]
        exact ⟨bot_lt_iff_ne_bot.mpr hb, fun j _ => lt_of_le_of_ne (hle j) (hn j)⟩
      exact lt_irrefl _ this
    have h1 : (1 : EReal) ≤ ∑ j, Ideal.exp (sc j - top sc s) := by
      refine le_trans (le_of_eq ?_) (Finset.single_le_sum hnn (Finset.mem_univ j))
      rw [hj]; exact (exp_sub_self _ hb ht).symm
    exact le_trans h1 (le_add_of_nonneg_right (exp_nonneg _))

end

/-- A finite factor that is not negative goes into a sum. -/
theorem sum_mul_const {κ : Type} (S : Finset κ) (f : κ → EReal) (c : EReal) (h0 : 0 ≤ c) (ht : c ≠ ⊤) :
    (∑ j ∈ S, f j) * c = ∑ j ∈ S, f j * c := by
  classical
  induction S using Finset.induction_on with
  | empty => simp
  | insert a S ha ih => rw [Finset.sum_insert ha, Finset.sum_insert ha, EReal.right_distrib_of_nonneg_of_ne_top h0 ht, ih]

/-- An inverse is never infinite. -/
theorem inv_ne_top (x : EReal) : x⁻¹ ≠ ⊤ := by
  induction x with
  | bot => rw [EReal.inv_bot]; exact EReal.zero_ne_top
  | top => rw [EReal.inv_top]; exact EReal.zero_ne_top
  | coe r => rw [← EReal.coe_inv]; exact EReal.coe_ne_top _

/-- Dividing at the end or at the start: the same, where the denominator is at least one. -/
theorem attn_eq {κ : Type} [Fintype κ] (sc : κ → EReal) (s : EReal) (v : κ → EReal) (hs : s ≠ ⊥) (hs' : s ≠ ⊤)
    (h : ∀ j, sc j ≠ ⊤) : attn sc s v = attn' sc s v := by
  have h1 := one_le_den sc s hs hs' h
  have h0 : den sc s ≠ 0 := fun e => by rw [e] at h1; exact absurd h1 (by norm_num)
  unfold attn attn'
  have hd : ∀ x, Ideal.div x (den sc s) = x * (den sc s)⁻¹ := fun x => if_neg h0
  rw [hd, one_mul, sum_mul_const]
  · refine Finset.sum_congr rfl fun j _ => ?_
    rw [hd, mul_comm (v j), mul_right_comm]
  · exact EReal.inv_nonneg_of_nonneg (le_trans zero_le_one h1)
  · exact inv_ne_top _

section
variable {κ κ' : Type} [Fintype κ] [Fintype κ']

/-- The attention over two index sets whose live indices correspond one to one. -/
theorem attn_live (P : κ → Prop) (P' : κ' → Prop) (f : κ → κ') (hf : ∀ a, P a → P' (f a))
    (inj : ∀ a b, P a → P b → f a = f b → a = b) (sur : ∀ b, P' b → ∃ a, P a ∧ f a = b)
    (sc : κ → EReal) (sc' : κ' → EReal) (s : EReal) (v : κ → EReal) (v' : κ' → EReal)
    (h0 : ∀ a, ¬ P a → sc a = ⊥) (h0' : ∀ b, ¬ P' b → sc' b = ⊥) (e : ∀ a, P a → sc a = sc' (f a))
    (ev : ∀ a, P a → v a = v' (f a)) (hs : s ≠ ⊥) (hs' : s ≠ ⊤) (h : ∀ j, sc' j ≠ ⊤) :
    attn sc s v = attn' sc' s v' := by
  rw [← attn_eq sc' s v' hs hs' h]
  have ht : top sc s = top sc' s := by
    unfold top; rw [max_live P P' f hf sur sc sc' h0 h0' e]
  have hd : den sc s = den sc' s := by
    unfold den
    rw [ht, sum_live P P' f hf inj sur (fun j => Ideal.exp (sc j - top sc' s)) (fun j => Ideal.exp (sc' j - top sc' s))
      (fun a ha => by rw [h0 a ha]; exact exp_bot_sub _) (fun a ha => by rw [h0' a ha]; exact exp_bot_sub _)
      (fun a ha => by rw [e a ha])]
  unfold attn
  rw [hd, ht, sum_live P P' f hf inj sur (fun j => Ideal.exp (sc j - top sc' s) * v j)
      (fun j => Ideal.exp (sc' j - top sc' s) * v' j)
      (fun a ha => by rw [h0 a ha, exp_bot_sub, zero_mul]) (fun a ha => by rw [h0' a ha, exp_bot_sub, zero_mul])
      (fun a ha => by rw [e a ha, ev a ha])]

end

end Cert.Swa
end
-- ==== Proof.Swa.Block.lean ====
module

public import proofs.«01_k».proof.Proof.Gen.KernelIdeal.Value
public import Idealize.ShloMosaic.Lib.Pointwise
public import Idealize.ShloMosaic.Lib.IdealHost
public import Idealize.ShloMosaic.Lib.Tactic.WordOmega
public import proofs.«01_k».proof.Proof.Swa.Attn

@[expose] public section

set_option maxRecDepth 16384

noncomputable section

/-! What one grid point of the windowed attention computes from its input blocks. -/

namespace Cert.Swa

open Idealize.ShloMosaic Cert.KernelIdeal Cert.KernelIdeal.Gen

/-- The lane numbers. -/
def lanes : IVec S1x128 32 := iota .tc S1x128 32 [1] iota_S1x128_d1_w32

/-- Which key columns the queries of block `n` see. -/
def live (n : BitVec 32) : IVec S256x768 1 :=
  k0_pay6 (iota .tc S256x768 32 [1] iota_S256x768_d1_w32) (Scalar.select (Scalar.cmpi .sgt n 0#32) 0#32 128#32)
    (Scalar.select (Scalar.cmpi .slt n 15#32) 512#32 384#32) k0_pay4 k0_pay5

section
variable (v : IVec S256x768 1) (K V : FVec Ideal S768x128 .f32) (q : Vec Ideal S1x256x256 .f32)

/-- The masked scores, by query group and head. -/
def w00 : FVec Ideal S256x768 .f32 := k0_pay14 v (k0_pay12 K q)
def w01 : FVec Ideal S256x768 .f32 := k0_pay15 v (k0_pay10 K) (k0_pay13 q)
def w10 : FVec Ideal S256x768 .f32 := k0_pay16 v (k0_pay9 q) lanes (k0_pay10 K)
def w11 : FVec Ideal S256x768 .f32 := k0_pay17 v (k0_pay9 q) lanes (k0_pay10 K)

/-- The stored block, from the four heads' scores and sinks. -/
def stored (a b c d : FVec Ideal S256x768 .f32) (V : FVec Ideal S768x128 .f32) (s0 s1 s2 s3 : Ideal .f32) : FVec Ideal S1x256x256 .f32 :=
  k0_pay1 lanes (k0_pay31 (k0_pay29 d s3) (k0_pay30 d s3)) (k0_pay32 (k0_pay11 V) (k0_pay24 c s1)) (k0_pay33 (k0_pay11 V) (k0_pay25 d s3))
    (k0_pay34 lanes (k0_pay11 V) (k0_pay22 a s0) (k0_pay26 a s0)) (k0_pay35 lanes (k0_pay11 V) (k0_pay23 b s2) (k0_pay27 b s2))
    (k0_pay36 (k0_pay28 c s1)) (Scalar.ofBits .f32 0x00000000#32) (k0_pay37 lanes)

end

/-- The score of query `i` of group `g` against key column `j` under head `h`: the product over the lanes of that head. -/
def score (v : IVec S256x768 1) (K : FVec Ideal S768x128 .f32) (q : Vec Ideal S1x256x256 .f32) (g h : Fin 2) (i : Fin 256) (j : Fin 768) : EReal :=
  if v (ix2 i j) = 1#1 then
    ∑ x : Fin 128, if x.val / 32 % 2 = h.val then
      q (ix3 0 i ⟨g.val * 128 + x.val, by omega⟩) * Ideal.ofBits .f32 1040187392#32 * K (ix2 j x) else 0
  else ⊥

/-- What the body leaves in the output's buffer. -/
def blockOf (n : BitVec 32) (s : Vec Ideal S4 .f32) (x1 : Vec Ideal S1x256x256 .f32) (x2 : Vec Ideal S1x128x128 .f32)
    (x3 : Vec Ideal S1x256x128 .f32) (x4 x5 : Vec Ideal S1x128x128 .f32) (x6 : Vec Ideal S1x256x128 .f32)
    (x7 : Vec Ideal S1x128x128 .f32) (x8 x9 : Vec Ideal S1x256x128 .f32) : Vec Ideal S1x256x256 .f32 :=
  stored (w00 (live n) (k0_pay2 x2 x3 x4 x8) x1) (w01 (live n) (k0_pay2 x2 x3 x4 x8) x1)
    (w10 (live n) (k0_pay2 x2 x3 x4 x8) x1) (w11 (live n) (k0_pay2 x2 x3 x4 x8) x1) (k0_pay3 x5 x6 x7 x9)
    (s (ix1 0)) (s (ix1 1)) (s (ix1 2)) (s (ix1 3))

/-- A scalar load reads its word of the sinks. -/
theorem word_eq (arg2 : Memref sig .tc .smem S4 .f32) (h2 : arg2.IsWhole) (x0 : Vec Ideal S4 .f32) (k : Nat) (hk : k < 4) (inb)
    (H : (Rect.unit (s := S4) ![k] ![1] inb).shape.Idx) :
    View.ld (View.read (Elt Ideal) arg2.view (h2.unread x0)) (Rect.unit (s := S4) ![k] ![1] inb) H = x0 (ix1 ⟨k, hk⟩) := by
  rw [h2.read_unread]
  refine congrArg x0 (funext fun a => ?_)
  match a with
  | ⟨0, _⟩ =>
    apply Fin.ext
    show k + 1 * (H 0).val = k
    have : (H 0).val < 1 := (H 0).isLt
    omega

theorem hz : (![0, 0, 0] : Fin 3 → Nat) = fun _ => 0 := funext fun a => by fin_cases a <;> rfl

/-- The body's one store is of the block just named. -/
theorem out_eq (c : Dev nD) (i : grid0.Coords) (arg2 : Memref sig .tc .smem S4 .f32) (h2 : arg2.IsWhole) (arg3 : Memref sig .tc .vmem S1x256x256 .f32) (h3 : arg3.IsWhole) (arg4 : Memref sig .tc .vmem S1x128x128 .f32) (h4 : arg4.IsWhole) (arg5 : Memref sig .tc .vmem S1x256x128 .f32) (h5 : arg5.IsWhole) (arg6 : Memref sig .tc .vmem S1x128x128 .f32) (h6 : arg6.IsWhole) (arg7 : Memref sig .tc .vmem S1x128x128 .f32) (h7 : arg7.IsWhole) (arg8 : Memref sig .tc .vmem S1x256x128 .f32) (h8 : arg8.IsWhole) (arg9 : Memref sig .tc .vmem S1x128x128 .f32) (h9 : arg9.IsWhole) (arg10 : Memref sig .tc .vmem S1x256x128 .f32) (h10 : arg10.IsWhole) (arg11 : Memref sig .tc .vmem S1x256x128 .f32) (h11 : arg11.IsWhole) (arg12 : Memref sig .tc .vmem S1x256x256 .f32) (h12 : arg12.IsWhole)
    (x0 : Vec Ideal S4 .f32) (x1 : Vec Ideal S1x256x256 .f32) (x2 : Vec Ideal S1x128x128 .f32) (x3 : Vec Ideal S1x256x128 .f32) (x4 : Vec Ideal S1x128x128 .f32) (x5 : Vec Ideal S1x128x128 .f32) (x6 : Vec Ideal S1x256x128 .f32) (x7 : Vec Ideal S1x128x128 .f32) (x8 : Vec Ideal S1x256x128 .f32) (x9 : Vec Ideal S1x256x128 .f32) :
    out0_A_10 (F := Ideal) c i arg2 h2 arg3 h3 arg4 h4 arg5 h5 arg6 h6 arg7 h7 arg8 h8 arg9 h9 arg10 h10 arg11 h11 arg12 h12 x0 x1 x2 x3 x4 x5 x6 x7 x8 x9
      = blockOf (BitVec.ofNat 32 (i 1).val) x0 x1 x2 x3 x4 x5 x6 x7 x8 x9 := by
  unfold out0_A_10
  rw [View.read_writes_junk_eq_canon]
  unfold kernelRun0_A
  dsimp only
  rw [View.canon_unit_zero hz]
  sl_unfold_words
  simp only [View.readAt_eq_ld, h3.read_unread, h4.read_unread, h5.read_unread, h6.read_unread, h7.read_unread, h8.read_unread, h9.read_unread,
    h10.read_unread, h11.read_unread, View.ld_unit_zero (S := S1x256x256) hz, View.ld_unit_zero (S := S1x128x128) hz, View.ld_unit_zero (S := S1x256x128) hz]
  simp only [word_eq arg2 h2 x0 0 (by decide), word_eq arg2 h2 x0 1 (by decide), word_eq arg2 h2 x0 2 (by decide), word_eq arg2 h2 x0 3 (by decide)]
  rfl

/-- The columns a query of block `n` sees: the context, and the band of the keys inside the sequence. -/
theorem live_iff (n : Fin 16) (i : Fin 256) (j : Fin 768) :
    live (BitVec.ofNat 32 n.val) (ix2 i j) = 1#1 ↔
      512 ≤ j.val ∨ (i.val ≤ j.val ∧ j.val ≤ i.val + 256 ∧ 128 ≤ n.val * 256 + j.val ∧ n.val * 256 + j.val < 4224) := by
  pointwise [live, k0_pay6, k0_pay4, k0_pay5]
  word_omega

/-- The named mask is minus infinity. -/
theorem mask_eq : Named.named (F := Ideal) κ "mask" (φ := .f32) 4048155338#32 = ⊥ := IdealRules.named_const.ideal_named_scalar κ "mask" _ ⊥ rfl

/-- The lanes of head `h`. -/
theorem head_iff : ∀ x : Fin 128,
    (IntOp.cmpi .eq (IntOp.andi (IntOp.shrsi ArithUnit.vector (BitVec.ofNat 32 x.val) 5#32) 1#32) 0#32 = 1 ↔ x.val / 32 % 2 = 0)
    ∧ (IntOp.cmpi .eq (IntOp.andi (IntOp.shrsi ArithUnit.vector (BitVec.ofNat 32 x.val) 5#32) 1#32) 1#32 = 1 ↔ x.val / 32 % 2 = 1) := by
  decide +kernel

/-- The lanes of an output head. -/
theorem half_iff : ∀ x : Fin 128,
    (IntOp.cmpi .eq (IntOp.shrsi ArithUnit.vector (BitVec.ofNat 32 x.val) 6#32) 0#32 = 1 ↔ x.val < 64)
    ∧ (IntOp.cmpi .eq (IntOp.shrsi ArithUnit.vector (BitVec.ofNat 32 x.val) 6#32) 1#32 = 1 ↔ ¬ x.val < 64) := by
  decide +kernel

section
variable (v : IVec S256x768 1) (K : FVec Ideal S768x128 .f32) (q : Vec Ideal S1x256x256 .f32) (i : Fin 256) (j : Fin 768)

theorem w00_apply : w00 v K q (ix2 i j) = score v K q 0 0 i j := by
  pointwise [w00, k0_pay14, k0_pay12, k0_pay10, k0_pay8, k0_pay7]
  simp only [Scalar.select, (head_iff _).1, mask_eq, score]
  simp

theorem w01_apply : w01 v K q (ix2 i j) = score v K q 0 1 i j := by
  pointwise [w01, k0_pay15, k0_pay10, k0_pay13, k0_pay8, k0_pay7]
  simp only [Scalar.select, (head_iff _).2, mask_eq, score]
  simp

theorem w10_apply : w10 v K q (ix2 i j) = score v K q 1 0 i j := by
  pointwise [w10, lanes, k0_pay16, k0_pay10, k0_pay9, k0_pay7]
  simp only [Scalar.select, (head_iff _).1, mask_eq, score]
  simp

theorem w11_apply : w11 v K q (ix2 i j) = score v K q 1 1 i j := by
  pointwise [w11, lanes, k0_pay17, k0_pay10, k0_pay9, k0_pay7]
  simp only [Scalar.select, (head_iff _).2, mask_eq, score]
  simp

end

section
variable (a b c d : FVec Ideal S256x768 .f32) (V : FVec Ideal S768x128 .f32) (s0 s1 s2 s3 : Ideal .f32) (i : Fin 256) (l : Fin 128)

/-- The first query group's lanes. -/
theorem stored0 : stored a b c d V s0 s1 s2 s3 (ix3 0 i ⟨l.val, by omega⟩)
    = if l.val < 64 then attn (fun j => a (ix2 i j)) s0 (fun j => V (ix2 j l)) else attn (fun j => b (ix2 i j)) s2 (fun j => V (ix2 j l)) := by
  pointwise [stored, lanes, k0_pay1, k0_pay34, k0_pay35, k0_pay11, k0_pay22, k0_pay26, k0_pay23, k0_pay27, k0_pay18, k0_pay19]
  simp only [Scalar.select, (half_iff _).1, (half_iff _).2, negInf, attn, den, top]
  split_ifs with h
  · rw [add_zero]
  · rw [zero_add]

/-- The second query group's lanes. -/
theorem stored1 : stored a b c d V s0 s1 s2 s3 (ix3 0 i ⟨128 + l.val, by omega⟩)
    = if l.val < 64 then attn (fun j => c (ix2 i j)) s1 (fun j => V (ix2 j l)) else attn (fun j => d (ix2 i j)) s3 (fun j => V (ix2 j l)) := by
  pointwise [stored, lanes, k0_pay1, k0_pay31, k0_pay29, k0_pay30, k0_pay32, k0_pay33, k0_pay24, k0_pay25, k0_pay36, k0_pay28, k0_pay37, k0_pay11, k0_pay20, k0_pay21]
  simp only [Scalar.select, (half_iff _).1, (half_iff _).2, negInf, attn, den, top]
  split_ifs with h
  · rw [add_zero]
  · rw [zero_add]

end

/-- The stored block at a row and a column: the attention of the column's group and head. -/
theorem stored_apply (v : IVec S256x768 1) (K V : FVec Ideal S768x128 .f32) (q : Vec Ideal S1x256x256 .f32) (s : Vec Ideal S4 .f32)
    (i : Fin 256) (g h : Fin 2) (d : Fin 64) :
    stored (w00 v K q) (w01 v K q) (w10 v K q) (w11 v K q) V (s (ix1 0)) (s (ix1 1)) (s (ix1 2)) (s (ix1 3))
        (ix3 0 i ⟨g.val * 128 + h.val * 64 + d.val, by omega⟩)
      = attn (score v K q g h i) (s (ix1 ⟨h.val * 2 + g.val, by omega⟩)) (fun j => V (ix2 j ⟨h.val * 64 + d.val, by omega⟩)) := by
  have e00 : (fun j => w00 v K q (ix2 i j)) = score v K q 0 0 i := funext fun j => w00_apply v K q i j
  have e01 : (fun j => w01 v K q (ix2 i j)) = score v K q 0 1 i := funext fun j => w01_apply v K q i j
  have e10 : (fun j => w10 v K q (ix2 i j)) = score v K q 1 0 i := funext fun j => w10_apply v K q i j
  have e11 : (fun j => w11 v K q (ix2 i j)) = score v K q 1 1 i := funext fun j => w11_apply v K q i j
  match g, h with
  | ⟨0, _⟩, ⟨0, _⟩ =>
    refine Eq.trans (congrArg (stored _ _ _ _ V _ _ _ _) (congrArg (ix3 0 i) (Fin.ext (by simp)))) ((stored0 _ _ _ _ V _ _ _ _ i ⟨0 * 64 + d.val, by omega⟩).trans ?_)
    rw [if_pos (by simp), e00]; rfl
  | ⟨0, _⟩, ⟨1, _⟩ =>
    refine Eq.trans (congrArg (stored _ _ _ _ V _ _ _ _) (congrArg (ix3 0 i) (Fin.ext (by simp)))) ((stored0 _ _ _ _ V _ _ _ _ i ⟨1 * 64 + d.val, by omega⟩).trans ?_)
    rw [if_neg (by simp), e01]; rfl
  | ⟨1, _⟩, ⟨0, _⟩ =>
    refine Eq.trans (congrArg (stored _ _ _ _ V _ _ _ _) (congrArg (ix3 0 i) (Fin.ext (by simp)))) ((stored1 _ _ _ _ V _ _ _ _ i ⟨0 * 64 + d.val, by omega⟩).trans ?_)
    rw [if_pos (by simp), e10]; rfl
  | ⟨1, _⟩, ⟨1, _⟩ =>
    refine Eq.trans (congrArg (stored _ _ _ _ V _ _ _ _) (congrArg (ix3 0 i) (Fin.ext (by simp; omega)))) ((stored1 _ _ _ _ V _ _ _ _ i ⟨1 * 64 + d.val, by omega⟩).trans ?_)
    rw [if_neg (by simp), e11]; rfl

/-- The block's keys, row by row: the previous half block, the own one, the next half block, the context. -/
theorem keys_apply (a : Vec Ideal S1x128x128 .f32) (b : Vec Ideal S1x256x128 .f32) (c : Vec Ideal S1x128x128 .f32) (d : Vec Ideal S1x256x128 .f32)
    (j : Fin 768) (l : Fin 128) : k0_pay2 a b c d (ix2 j l) = if H : j.val < 128 then a (ix3 0 ⟨j.val, H⟩ l)
      else if H1 : j.val - 128 < 256 then b (ix3 0 ⟨j.val - 128, H1⟩ l)
      else if H2 : j.val - 128 - 256 < 128 then c (ix3 0 ⟨j.val - 128 - 256, H2⟩ l)
      else d (ix3 0 ⟨j.val - 128 - 256 - 128, by omega⟩ l) := by
  pointwise [k0_pay2]

/-- Likewise its values. -/
theorem values_apply (a : Vec Ideal S1x128x128 .f32) (b : Vec Ideal S1x256x128 .f32) (c : Vec Ideal S1x128x128 .f32) (d : Vec Ideal S1x256x128 .f32)
    (j : Fin 768) (l : Fin 128) : k0_pay3 a b c d (ix2 j l) = if H : j.val < 128 then a (ix3 0 ⟨j.val, H⟩ l)
      else if H1 : j.val - 128 < 256 then b (ix3 0 ⟨j.val - 128, H1⟩ l)
      else if H2 : j.val - 128 - 256 < 128 then c (ix3 0 ⟨j.val - 128 - 256, H2⟩ l)
      else d (ix3 0 ⟨j.val - 128 - 256 - 128, by omega⟩ l) := by
  pointwise [k0_pay3]

end Cert.Swa
end
-- ==== Proof.Swa.Blocks.lean ====
module

public import proofs.«01_k».proof.Proof.Swa.Host
public import proofs.«01_k».proof.Proof.Swa.Block

@[expose] public section

set_option maxRecDepth 16384

noncomputable section

/-! The blocks that a grid point of the windowed attention reads. -/

namespace Cert.Swa

open Idealize.ShloMosaic Cert.KernelIdeal Cert.KernelIdeal.Gen

/-! Which block each window stages at a point. -/

theorem idx0 : ∀ t : Fin cfg0.N, win0_0.index t (0 : Fin 1) = 0 := (by decide +kernel : ∀ t : Fin grid0.N, _)
theorem idx1 : ∀ t : Fin cfg0.N, win0_1.index t (0 : Fin 3) = t.val / 16 ∧ win0_1.index t (1 : Fin 3) = t.val % 16 ∧ win0_1.index t (2 : Fin 3) = 0 :=
  (by decide +kernel : ∀ t : Fin grid0.N, _)
theorem idx2 : ∀ t : Fin cfg0.N, win0_2.index t (0 : Fin 3) = t.val / 16 ∧ win0_2.index t (1 : Fin 3) = (2 * (t.val % 16) - 1) ∧ win0_2.index t (2 : Fin 3) = 2 :=
  (by decide +kernel : ∀ t : Fin grid0.N, _)
theorem idx3 : ∀ t : Fin cfg0.N, win0_3.index t (0 : Fin 3) = t.val / 16 ∧ win0_3.index t (1 : Fin 3) = t.val % 16 ∧ win0_3.index t (2 : Fin 3) = 2 :=
  (by decide +kernel : ∀ t : Fin grid0.N, _)
theorem idx4 : ∀ t : Fin cfg0.N, win0_4.index t (0 : Fin 3) = t.val / 16 ∧ win0_4.index t (1 : Fin 3) = min (2 * (t.val % 16) + 2) 31 ∧ win0_4.index t (2 : Fin 3) = 2 :=
  (by decide +kernel : ∀ t : Fin grid0.N, _)
theorem idx5 : ∀ t : Fin cfg0.N, win0_5.index t (0 : Fin 3) = t.val / 16 ∧ win0_5.index t (1 : Fin 3) = (2 * (t.val % 16) - 1) ∧ win0_5.index t (2 : Fin 3) = 3 :=
  (by decide +kernel : ∀ t : Fin grid0.N, _)
theorem idx6 : ∀ t : Fin cfg0.N, win0_6.index t (0 : Fin 3) = t.val / 16 ∧ win0_6.index t (1 : Fin 3) = t.val % 16 ∧ win0_6.index t (2 : Fin 3) = 3 :=
  (by decide +kernel : ∀ t : Fin grid0.N, _)
theorem idx7 : ∀ t : Fin cfg0.N, win0_7.index t (0 : Fin 3) = t.val / 16 ∧ win0_7.index t (1 : Fin 3) = min (2 * (t.val % 16) + 2) 31 ∧ win0_7.index t (2 : Fin 3) = 3 :=
  (by decide +kernel : ∀ t : Fin grid0.N, _)
theorem idx8 : ∀ t : Fin cfg0.N, win0_8.index t (0 : Fin 3) = t.val / 16 ∧ win0_8.index t (1 : Fin 3) = 0 ∧ win0_8.index t (2 : Fin 3) = 2 :=
  (by decide +kernel : ∀ t : Fin grid0.N, _)
theorem idx9 : ∀ t : Fin cfg0.N, win0_9.index t (0 : Fin 3) = t.val / 16 ∧ win0_9.index t (1 : Fin 3) = 0 ∧ win0_9.index t (2 : Fin 3) = 3 :=
  (by decide +kernel : ∀ t : Fin grid0.N, _)
theorem idx10 : ∀ t : Fin cfg0.N, win0_10.index t (0 : Fin 3) = t.val / 16 ∧ win0_10.index t (1 : Fin 3) = t.val % 16 ∧ win0_10.index t (2 : Fin 3) = 0 :=
  (by decide +kernel : ∀ t : Fin grid0.N, _)

theorem point_lt (t : Fin cfg0.N) : t.val < 256 := lt_of_lt_of_eq t.isLt N_0

section
variable (m : (ℓ : Loc nD τ sig) → Buf (Elt Ideal) ℓ) (c : Dev nD) (t : Fin cfg0.N)

/-- The grid's first array. -/
abbrev T : FVec Ideal S16x4096x512 .f32 :=
  tokens (m ((c.tc : Thread nD τ).loc main_arg0)) (m ((c.tc : Thread nD τ).loc main_arg1)) (m ((c.tc : Thread nD τ).loc main_arg2))

/-- The grid's second array. -/
abbrev C : FVec Ideal S16x256x512 .f32 :=
  context (m ((c.tc : Thread nD τ).loc main_arg3)) (m ((c.tc : Thread nD τ).loc main_arg4))

/-- The sinks are read whole. -/
theorem blk0 : (iblk m c 0 t : Vec Ideal S4 .f32) = m ((c.tc : Thread nD τ).loc main_arg5) := by
  funext j
  unfold iblk
  rw [View.read_apply]
  show V m c main_arg5 _ = _
  rw [V_main_arg5]
  congr 1; funext a; apply Fin.ext
  match a with
  | ⟨0, _⟩ => show win0_0.index t 0 * 4 + 1 * (j 0).val = (j 0).val; rw [idx0 t]; omega

theorem blk1 (j : Fin 256) (l : Fin 256) : (iblk m c 1 t : Vec Ideal S1x256x256 .f32) (ix3 0 j l)
    = T m c (ix3 ⟨t.val / 16, by have := point_lt t; omega⟩ ⟨t.val % 16 * 256 + j.val, by omega⟩ ⟨0 * 256 + l.val, by omega⟩) := by
  obtain ⟨e0, e1, e2⟩ := idx1 t
  unfold iblk
  rw [View.read_apply]
  show V m c main_v6 _ = _
  rw [V_tokens]
  congr 1; funext a; apply Fin.ext
  match a with
  | ⟨0, _⟩ => show win0_1.index t 0 * 1 + 1 * 0 = t.val / 16; rw [e0]; omega
  | ⟨1, _⟩ => show win0_1.index t 1 * 256 + 1 * j.val = t.val % 16 * 256 + j.val; rw [e1]; omega
  | ⟨2, _⟩ => show win0_1.index t 2 * 256 + 1 * l.val = 0 * 256 + l.val; rw [e2]; omega

theorem blk2 (j : Fin 128) (l : Fin 128) : (iblk m c 2 t : Vec Ideal S1x128x128 .f32) (ix3 0 j l)
    = T m c (ix3 ⟨t.val / 16, by have := point_lt t; omega⟩ ⟨(2 * (t.val % 16) - 1) * 128 + j.val, by omega⟩ ⟨2 * 128 + l.val, by omega⟩) := by
  obtain ⟨e0, e1, e2⟩ := idx2 t
  unfold iblk
  rw [View.read_apply]
  show V m c main_v6 _ = _
  rw [V_tokens]
  congr 1; funext a; apply Fin.ext
  match a with
  | ⟨0, _⟩ => show win0_2.index t 0 * 1 + 1 * 0 = t.val / 16; rw [e0]; omega
  | ⟨1, _⟩ => show win0_2.index t 1 * 128 + 1 * j.val = (2 * (t.val % 16) - 1) * 128 + j.val; rw [e1]; omega
  | ⟨2, _⟩ => show win0_2.index t 2 * 128 + 1 * l.val = 2 * 128 + l.val; rw [e2]; omega

theorem blk3 (j : Fin 256) (l : Fin 128) : (iblk m c 3 t : Vec Ideal S1x256x128 .f32) (ix3 0 j l)
    = T m c (ix3 ⟨t.val / 16, by have := point_lt t; omega⟩ ⟨t.val % 16 * 256 + j.val, by omega⟩ ⟨2 * 128 + l.val, by omega⟩) := by
  obtain ⟨e0, e1, e2⟩ := idx3 t
  unfold iblk
  rw [View.read_apply]
  show V m c main_v6 _ = _
  rw [V_tokens]
  congr 1; funext a; apply Fin.ext
  match a with
  | ⟨0, _⟩ => show win0_3.index t 0 * 1 + 1 * 0 = t.val / 16; rw [e0]; omega
  | ⟨1, _⟩ => show win0_3.index t 1 * 256 + 1 * j.val = t.val % 16 * 256 + j.val; rw [e1]; omega
  | ⟨2, _⟩ => show win0_3.index t 2 * 128 + 1 * l.val = 2 * 128 + l.val; rw [e2]; omega

theorem blk4 (j : Fin 128) (l : Fin 128) : (iblk m c 4 t : Vec Ideal S1x128x128 .f32) (ix3 0 j l)
    = T m c (ix3 ⟨t.val / 16, by have := point_lt t; omega⟩ ⟨min (2 * (t.val % 16) + 2) 31 * 128 + j.val, by omega⟩ ⟨2 * 128 + l.val, by omega⟩) := by
  obtain ⟨e0, e1, e2⟩ := idx4 t
  unfold iblk
  rw [View.read_apply]
  show V m c main_v6 _ = _
  rw [V_tokens]
  congr 1; funext a; apply Fin.ext
  match a with
  | ⟨0, _⟩ => show win0_4.index t 0 * 1 + 1 * 0 = t.val / 16; rw [e0]; omega
  | ⟨1, _⟩ => show win0_4.index t 1 * 128 + 1 * j.val = min (2 * (t.val % 16) + 2) 31 * 128 + j.val; rw [e1]; omega
  | ⟨2, _⟩ => show win0_4.index t 2 * 128 + 1 * l.val = 2 * 128 + l.val; rw [e2]; omega

theorem blk5 (j : Fin 128) (l : Fin 128) : (iblk m c 5 t : Vec Ideal S1x128x128 .f32) (ix3 0 j l)
    = T m c (ix3 ⟨t.val / 16, by have := point_lt t; omega⟩ ⟨(2 * (t.val % 16) - 1) * 128 + j.val, by omega⟩ ⟨3 * 128 + l.val, by omega⟩) := by
  obtain ⟨e0, e1, e2⟩ := idx5 t
  unfold iblk
  rw [View.read_apply]
  show V m c main_v6 _ = _
  rw [V_tokens]
  congr 1; funext a; apply Fin.ext
  match a with
  | ⟨0, _⟩ => show win0_5.index t 0 * 1 + 1 * 0 = t.val / 16; rw [e0]; omega
  | ⟨1, _⟩ => show win0_5.index t 1 * 128 + 1 * j.val = (2 * (t.val % 16) - 1) * 128 + j.val; rw [e1]; omega
  | ⟨2, _⟩ => show win0_5.index t 2 * 128 + 1 * l.val = 3 * 128 + l.val; rw [e2]; omega

theorem blk6 (j : Fin 256) (l : Fin 128) : (iblk m c 6 t : Vec Ideal S1x256x128 .f32) (ix3 0 j l)
    = T m c (ix3 ⟨t.val / 16, by have := point_lt t; omega⟩ ⟨t.val % 16 * 256 + j.val, by omega⟩ ⟨3 * 128 + l.val, by omega⟩) := by
  obtain ⟨e0, e1, e2⟩ := idx6 t
  unfold iblk
  rw [View.read_apply]
  show V m c main_v6 _ = _
  rw [V_tokens]
  congr 1; funext a; apply Fin.ext
  match a with
  | ⟨0, _⟩ => show win0_6.index t 0 * 1 + 1 * 0 = t.val / 16; rw [e0]; omega
  | ⟨1, _⟩ => show win0_6.index t 1 * 256 + 1 * j.val = t.val % 16 * 256 + j.val; rw [e1]; omega
  | ⟨2, _⟩ => show win0_6.index t 2 * 128 + 1 * l.val = 3 * 128 + l.val; rw [e2]; omega

theorem blk7 (j : Fin 128) (l : Fin 128) : (iblk m c 7 t : Vec Ideal S1x128x128 .f32) (ix3 0 j l)
    = T m c (ix3 ⟨t.val / 16, by have := point_lt t; omega⟩ ⟨min (2 * (t.val % 16) + 2) 31 * 128 + j.val, by omega⟩ ⟨3 * 128 + l.val, by omega⟩) := by
  obtain ⟨e0, e1, e2⟩ := idx7 t
  unfold iblk
  rw [View.read_apply]
  show V m c main_v6 _ = _
  rw [V_tokens]
  congr 1; funext a; apply Fin.ext
  match a with
  | ⟨0, _⟩ => show win0_7.index t 0 * 1 + 1 * 0 = t.val / 16; rw [e0]; omega
  | ⟨1, _⟩ => show win0_7.index t 1 * 128 + 1 * j.val = min (2 * (t.val % 16) + 2) 31 * 128 + j.val; rw [e1]; omega
  | ⟨2, _⟩ => show win0_7.index t 2 * 128 + 1 * l.val = 3 * 128 + l.val; rw [e2]; omega

theorem blk8 (j : Fin 256) (l : Fin 128) : (iblk m c 8 t : Vec Ideal S1x256x128 .f32) (ix3 0 j l)
    = C m c (ix3 ⟨t.val / 16, by have := point_lt t; omega⟩ ⟨j.val, by omega⟩ ⟨2 * 128 + l.val, by omega⟩) := by
  obtain ⟨e0, e1, e2⟩ := idx8 t
  unfold iblk
  rw [View.read_apply]
  show V m c main_v11 _ = _
  rw [V_context]
  congr 1; funext a; apply Fin.ext
  match a with
  | ⟨0, _⟩ => show win0_8.index t 0 * 1 + 1 * 0 = t.val / 16; rw [e0]; omega
  | ⟨1, _⟩ => show win0_8.index t 1 * 256 + 1 * j.val = j.val; rw [e1]; omega
  | ⟨2, _⟩ => show win0_8.index t 2 * 128 + 1 * l.val = 2 * 128 + l.val; rw [e2]; omega

theorem blk9 (j : Fin 256) (l : Fin 128) : (iblk m c 9 t : Vec Ideal S1x256x128 .f32) (ix3 0 j l)
    = C m c (ix3 ⟨t.val / 16, by have := point_lt t; omega⟩ ⟨j.val, by omega⟩ ⟨3 * 128 + l.val, by omega⟩) := by
  obtain ⟨e0, e1, e2⟩ := idx9 t
  unfold iblk
  rw [View.read_apply]
  show V m c main_v11 _ = _
  rw [V_context]
  congr 1; funext a; apply Fin.ext
  match a with
  | ⟨0, _⟩ => show win0_9.index t 0 * 1 + 1 * 0 = t.val / 16; rw [e0]; omega
  | ⟨1, _⟩ => show win0_9.index t 1 * 256 + 1 * j.val = j.val; rw [e1]; omega
  | ⟨2, _⟩ => show win0_9.index t 2 * 128 + 1 * l.val = 3 * 128 + l.val; rw [e2]; omega

end

end Cert.Swa
end
-- ==== Proof.Swa.Ref.lean ====
module

public import proofs.«01_k».proof.Proof.Gen.ReferenceIdeal.Run
public import Idealize.ShloMosaic.Lib.Pointwise
public import Idealize.ShloMosaic.Lib.IdealHost
public import Idealize.ShloMosaic.Lib.Tactic.WordOmega
public import proofs.«01_k».proof.Proof.Swa.Attn

@[expose] public section

set_option maxRecDepth 16384

noncomputable section

/-! The reference of the windowed attention: its arrays, stage by stage. -/

namespace Cert.Swa.Ref

open Idealize.ShloMosaic Cert.ReferenceIdeal Cert.ReferenceIdeal.Gen

/-- The keys (or values) padded by one block at both ends, in blocks of 128 rows. -/
def padded (x : FVec Ideal S16x4096x128 .f32) : FVec Ideal S16x34x128x2x64 .f32 :=
  shapeCast S16x34x128x2x64 (pad S16x4352x2x64 ![0, 128, 0, 0] ![0, 128, 0, 0] ![0, 0, 0, 0]
    (shapeCast S16x4096x2x64 x shapeCasts_S16x4096x128_S16x4096x2x64) (sitofp .f32 (constantI S_ 32 0#32))
    pads_S16x4096x2x64_S16x4352x2x64_000_1281280_000_000 h_S_) shapeCasts_S16x4352x2x64_S16x34x128x2x64

/-- The band of 384 rows that a block of 128 queries sees. -/
def band (x : FVec Ideal S16x4096x128 .f32) : FVec Ideal S16x32x384x2x64 .f32 :=
  concatenate S16x32x384x2x64 2
    [⟨S16x32x128x2x64, extractStridedSlice S16x32x128x2x64 ![0, 0, 0, 0, 0] (padded x) slices_S16x34x128x2x64_S16x32x128x2x64_0_0_0_0_0⟩,
     ⟨S16x32x128x2x64, extractStridedSlice S16x32x128x2x64 ![0, 1, 0, 0, 0] (padded x) slices_S16x34x128x2x64_S16x32x128x2x64_0_1_0_0_0⟩,
     ⟨S16x32x128x2x64, extractStridedSlice S16x32x128x2x64 ![0, 2, 0, 0, 0] (padded x) slices_S16x34x128x2x64_S16x32x128x2x64_0_2_0_0_0⟩]
    concatenates_S16x32x128x2x64_S16x32x128x2x64_S16x32x128x2x64_S16x32x384x2x64_d2

/-- The position of every band row, as a word. -/
def kpos : IVec S32x384 32 :=
  addi (broadcastInDim S32x384 ![0, 1] bcast_S32x1_S32x384_0_1 (broadcastInDim S32x1 ![0] bcast_S32_S32x1_0
      (subi (muli (iotaInDim S32 32 0) (broadcastInDim S32 ![] bcast_S_S32 (constantI S_ 32 128#32)))
        (broadcastInDim S32 ![] bcast_S_S32 (constantI S_ 32 128#32)))))
    (broadcastInDim S32x384 ![0, 1] bcast_S1x384_S32x384_0_1 (broadcastInDim S1x384 ![1] bcast_S384_S1x384_1 (iotaInDim S384 32 0)))

/-- Which band rows a query sees: those at a distance of at most 128, inside the sequence. -/
def valid : IVec S32x128x384 1 :=
  andi (andi (cmpi .sle (absi (subi
      (broadcastInDim S32x128x384 ![0, 1, 2] bcast_S32x1x384_S32x128x384_0_1_2 (broadcastInDim S32x1x384 ![0, 2] bcast_S32x384_S32x1x384_0_2 kpos))
      (broadcastInDim S32x128x384 ![0, 1, 2] bcast_S32x128x1_S32x128x384_0_1_2 (broadcastInDim S32x128x1 ![0, 1] bcast_S32x128_S32x128x1_0_1
        (shapeCast S32x128 (iotaInDim S4096 32 0) shapeCasts_S4096_S32x128)))))
      (broadcastInDim S32x128x384 ![] bcast_S_S32x128x384 (constantI S_ 32 128#32)))
    (broadcastInDim S32x128x384 ![0, 1, 2] bcast_S32x1x384_S32x128x384_0_1_2 (broadcastInDim S32x1x384 ![0, 2] bcast_S32x384_S32x1x384_0_2
      (cmpi .sge kpos (broadcastInDim S32x384 ![] bcast_S_S32x384 (constantI S_ 32 0#32))))))
    (broadcastInDim S32x128x384 ![0, 1, 2] bcast_S32x1x384_S32x128x384_0_1_2 (broadcastInDim S32x1x384 ![0, 2] bcast_S32x384_S32x1x384_0_2
      (cmpi .slt kpos (broadcastInDim S32x384 ![] bcast_S_S32x384 (constantI S_ 32 4096#32)))))

/-- The scores against the band, masked. -/
def sloc (q : FVec Ideal S16x4096x256 .f32) (k : FVec Ideal S16x4096x128 .f32) : FVec Ideal S16x2x2x32x128x384 .f32 :=
  select (broadcastInDim S16x2x2x32x128x384 ![3, 4, 5] bcast_S32x128x384_S16x2x2x32x128x384_3_4_5 valid)
    (mulf (transpose S16x2x2x32x128x384 [0, 1, 5, 2, 4, 3]
      (Host.dotGeneral dot_S16x32x384x2x64_S16x32x128x2x2x64_S16x2x32x384x128x2_4_5_2_24_031_031 none (band k)
        (shapeCast S16x32x128x2x2x64 q shapeCasts_S16x4096x256_S16x32x128x2x2x64))
      transposes_S16x2x32x384x128x2_S16x2x2x32x128x384_0_1_5_2_4_3)
      (broadcastInDim S16x2x2x32x128x384 ![] bcast_S_S16x2x2x32x128x384 (constant S_ .f32 0x3E000000#32)))
    (broadcastInDim S16x2x2x32x128x384 ![] bcast_S_S16x2x2x32x128x384 (constant S_ .f32 0xFF800000#32))

/-- The scores against the context. -/
def sctx (q : FVec Ideal S16x4096x256 .f32) (kc : FVec Ideal S16x256x128 .f32) : FVec Ideal S16x2x2x32x128x256 .f32 :=
  mulf (transpose S16x2x2x32x128x256 [0, 1, 5, 3, 4, 2]
      (Host.dotGeneral dot_S16x256x2x64_S16x32x128x2x2x64_S16x2x256x32x128x2_3_5_1_124_02_03 none
        (shapeCast S16x256x2x64 kc shapeCasts_S16x256x128_S16x256x2x64)
        (shapeCast S16x32x128x2x2x64 q shapeCasts_S16x4096x256_S16x32x128x2x2x64))
      transposes_S16x2x256x32x128x2_S16x2x2x32x128x256_0_1_5_3_4_2)
    (broadcastInDim S16x2x2x32x128x256 ![] bcast_S_S16x2x2x32x128x256 (constant S_ .f32 0x3E000000#32))

/-- All the scores: the band's, the context's, the sink's. -/
def logits (a : FVec Ideal S16x2x2x32x128x384 .f32) (b : FVec Ideal S16x2x2x32x128x256 .f32) (s : FVec Ideal S4 .f32) :
    FVec Ideal S16x2x2x32x128x641 .f32 :=
  concatenate S16x2x2x32x128x641 5 [⟨S16x2x2x32x128x384, a⟩, ⟨S16x2x2x32x128x256, b⟩,
    ⟨S16x2x2x32x128x1, broadcastInDim S16x2x2x32x128x1 ![0, 1, 2, 3, 4, 5] bcast_S1x2x2x1x1x1_S16x2x2x32x128x1_0_1_2_3_4_5
      (broadcastInDim S1x2x2x1x1x1 ![1, 2] bcast_S2x2_S1x2x2x1x1x1_1_2 (shapeCast S2x2 s shapeCasts_S4_S2x2))⟩]
    concatenates_S16x2x2x32x128x384_S16x2x2x32x128x256_S16x2x2x32x128x1_S16x2x2x32x128x641_d5

/-- The exponentials of the scores less their maximum. -/
def expo (x : FVec Ideal S16x2x2x32x128x641 .f32) : FVec Ideal S16x2x2x32x128x641 .f32 :=
  Host.exp (subf x (broadcastInDim S16x2x2x32x128x641 ![0, 1, 2, 3, 4, 5] bcast_S16x2x2x32x128x1_S16x2x2x32x128x641_0_1_2_3_4_5
    (broadcastInDim S16x2x2x32x128x1 ![0, 1, 2, 3, 4] bcast_S16x2x2x32x128_S16x2x2x32x128x1_0_1_2_3_4
      (maximumf (broadcastInDim S16x2x2x32x128 ![] bcast_S_S16x2x2x32x128 (constant S_ .f32 0xFF800000#32))
        (Host.reduce FloatOps.maximumf x (constant S_ .f32 0xFF800000#32) reducesTo_S16x2x2x32x128x641_S16x2x2x32x128_d5 h_S_)))))

/-- The softmax weights. -/
def probs (e : FVec Ideal S16x2x2x32x128x641 .f32) : FVec Ideal S16x2x2x32x128x641 .f32 :=
  Host.divf e (broadcastInDim S16x2x2x32x128x641 ![0, 1, 2, 3, 4, 5] bcast_S16x2x2x32x128x1_S16x2x2x32x128x641_0_1_2_3_4_5
    (broadcastInDim S16x2x2x32x128x1 ![0, 1, 2, 3, 4] bcast_S16x2x2x32x128_S16x2x2x32x128x1_0_1_2_3_4
      (Host.reduceAdd e (constant S_ .f32 0x00000000#32) reducesTo_S16x2x2x32x128x641_S16x2x2x32x128_d5 h_S_)))

/-- The weighted values, band and context, in the result's layout. -/
def mix (p : FVec Ideal S16x2x2x32x128x641 .f32) (v : FVec Ideal S16x4096x128 .f32) (vc : FVec Ideal S16x256x128 .f32) :
    FVec Ideal S16x4096x256 .f32 :=
  shapeCast S16x4096x256 (transpose S16x32x128x2x2x64 [0, 1, 2, 4, 3, 5] (addf
    (transpose S16x32x128x2x2x64 [0, 1, 5, 2, 4, 3]
      (Host.dotGeneral dot_S16x32x384x2x64_S16x2x2x32x128x384_S16x32x2x64x2x128_2_5_4_24_013_031 none (band v)
        (extractStridedSlice S16x2x2x32x128x384 ![0, 0, 0, 0, 0, 0] p slices_S16x2x2x32x128x641_S16x2x2x32x128x384_0_0_0_0_0_0))
      transposes_S16x32x2x64x2x128_S16x32x128x2x2x64_0_1_5_2_4_3)
    (transpose S16x32x128x2x2x64 [0, 4, 5, 1, 3, 2]
      (Host.dotGeneral dot_S16x256x2x64_S16x2x2x32x128x256_S16x2x64x2x32x128_1_5_3_234_02_01 none
        (shapeCast S16x256x2x64 vc shapeCasts_S16x256x128_S16x256x2x64)
        (extractStridedSlice S16x2x2x32x128x256 ![0, 0, 0, 0, 0, 384] p slices_S16x2x2x32x128x641_S16x2x2x32x128x256_0_0_0_0_0_384))
      transposes_S16x2x64x2x32x128_S16x32x128x2x2x64_0_4_5_1_3_2))
    transposes_S16x32x128x2x2x64_S16x32x128x2x2x64_0_1_2_4_3_5) shapeCasts_S16x32x128x2x2x64_S16x4096x256

/-- The reference's result is its stages, one after another. -/
theorem result_eq (m : (ℓ : Loc nD τ sig) → Buf (Elt Ideal) ℓ) (c : Dev nD) :
    Cert.ReferenceIdeal.Value.res_main_v80 (F := Ideal) m c
      = mix (probs (expo (logits
          (sloc (m ((c.tc : Thread nD τ).loc main_arg0)) (m ((c.tc : Thread nD τ).loc main_arg1)))
          (sctx (m ((c.tc : Thread nD τ).loc main_arg0)) (m ((c.tc : Thread nD τ).loc main_arg3)))
          (m ((c.tc : Thread nD τ).loc main_arg5)))))
        (m ((c.tc : Thread nD τ).loc main_arg2)) (m ((c.tc : Thread nD τ).loc main_arg4)) := rfl

/-! ## The last axis of six, reduced -/

section
variable {n0 n1 n2 n3 n4 n5 : Nat}

/-- The indices that drop to a given one differ in the last coordinate only. -/
theorem fiber (h : (⟨6, ![n0, n1, n2, n3, n4, n5]⟩ : Shape).ReducesTo [5] ⟨5, ![n0, n1, n2, n3, n4]⟩)
    (a : Fin n0) (b : Fin n1) (c : Fin n2) (d : Fin n3) (e : Fin n4) (i : (⟨6, ![n0, n1, n2, n3, n4, n5]⟩ : Shape).Idx) :
    h.drop i = ix5 a b c d e ↔ ∃ k : Fin n5, ix6 a b c d e k = i := by
  constructor
  · intro H
    refine ⟨i 5, funext fun x => Fin.ext ?_⟩
    match x with
    | ⟨0, _⟩ => exact (congrArg Fin.val (congrFun H 0)).symm
    | ⟨1, _⟩ => exact (congrArg Fin.val (congrFun H 1)).symm
    | ⟨2, _⟩ => exact (congrArg Fin.val (congrFun H 2)).symm
    | ⟨3, _⟩ => exact (congrArg Fin.val (congrFun H 3)).symm
    | ⟨4, _⟩ => exact (congrArg Fin.val (congrFun H 4)).symm
    | ⟨5, _⟩ => rfl
  · rintro ⟨k, rfl⟩
    funext x
    apply Fin.ext
    match x with
    | ⟨0, _⟩ => rfl
    | ⟨1, _⟩ => rfl
    | ⟨2, _⟩ => rfl
    | ⟨3, _⟩ => rfl
    | ⟨4, _⟩ => rfl

/-- A sum along the last axis. -/
theorem reduceAdd_last (h : (⟨6, ![n0, n1, n2, n3, n4, n5]⟩ : Shape).ReducesTo [5] ⟨5, ![n0, n1, n2, n3, n4]⟩)
    (x : FVec Ideal ⟨6, ![n0, n1, n2, n3, n4, n5]⟩ .f32) (z : FVec Ideal S_ .f32) (hz : 0 < S_.numel)
    (a : Fin n0) (b : Fin n1) (c : Fin n2) (d : Fin n3) (e : Fin n4) :
    Host.reduceAdd x z h hz (ix5 a b c d e) = z (Shape.Idx.first hz) + ∑ k : Fin n5, x (ix6 a b c d e k) :=
  congrArg (z (Shape.Idx.first hz) + ·) (Finset.sum_filter_eq_sum_of_fiber _ (fun k : Fin n5 => ix6 a b c d e k)
    (fun _ _ H => congrFun H 5) (fiber h a b c d e) x)

/-- The maximum along the last axis. -/
theorem reduceMax_last (h : (⟨6, ![n0, n1, n2, n3, n4, n5]⟩ : Shape).ReducesTo [5] ⟨5, ![n0, n1, n2, n3, n4]⟩)
    (x : FVec Ideal ⟨6, ![n0, n1, n2, n3, n4, n5]⟩ .f32) (z : FVec Ideal S_ .f32) (hz : 0 < S_.numel)
    (a : Fin n0) (b : Fin n1) (c : Fin n2) (d : Fin n3) (e : Fin n4) :
    Host.reduce (FloatOps.maximumf (F := Ideal) (φ := .f32)) x z h hz (ix5 a b c d e)
      = (Finset.univ : Finset (Fin n5)).fold max (z (Shape.Idx.first hz)) (fun k => x (ix6 a b c d e k)) := by
  rw [Host.reduce_eq_fold]
  exact Finset.fold_filter_eq_fold_of_fiber max _ (fun k : Fin n5 => ix6 a b c d e k)
    (fun _ _ H => congrFun H 5) (fiber h a b c d e) _ x

end

/-! ## Each stage at an index -/

theorem padded_apply (x : FVec Ideal S16x4096x128 .f32) (b : Fin 16) (n : Fin 34) (j : Fin 128) (h : Fin 2) (e : Fin 64) :
    padded x (ix5 b n j h e) = if H : 128 ≤ n.val * 128 + j.val ∧ n.val * 128 + j.val - 128 < 4096
      then x (ix3 b ⟨n.val * 128 + j.val - 128, H.2⟩ ⟨h.val * 64 + e.val, by omega⟩) else FloatOps.sitofp .f32 0#32 := by
  pointwise [padded]

theorem at_row (x : FVec Ideal S16x4096x128 .f32) (b : Fin 16) {r r' : Nat} (h : r < 4096) (h' : r' < 4096) (c : Fin 128) (e : r = r') :
    x (ix3 b ⟨r, h⟩ c) = x (ix3 b ⟨r', h'⟩ c) := by subst e; rfl

/-- Inside the sequence a band row is the array's row. -/
theorem band_apply (x : FVec Ideal S16x4096x128 .f32) (b : Fin 16) (n : Fin 32) (j : Fin 384) (h : Fin 2) (e : Fin 64)
    (h0 : 128 ≤ n.val * 128 + j.val) (h1 : n.val * 128 + j.val - 128 < 4096) :
    band x (ix5 b n j h e) = x (ix3 b ⟨n.val * 128 + j.val - 128, h1⟩ ⟨h.val * 64 + e.val, by omega⟩) := by
  pointwise [band, padded]
  split_ifs <;> first
    | omega
    | exact at_row x b _ _ _ (by omega)

/-- A number as a word. -/
theorem toInt_word (z : Int) (h : -2147483648 ≤ z) (h' : z < 2147483648) : (BitVec.ofInt 32 z).toInt = z := by
  rw [BitVec.toInt_ofInt]; exact Int.bmod_eq_of_le (by omega) (by omega)

theorem sle_word (y z : Int) (hy : -2147483648 ≤ y) (hy' : y < 2147483648) (hz : -2147483648 ≤ z) (hz' : z < 2147483648) :
    IntOp.cmpi .sle (BitVec.ofInt 32 y) (BitVec.ofInt 32 z) = 1#1 ↔ y ≤ z := by
  simp only [IntOp.cmpi, BitVec.sle, toInt_word y hy hy', toInt_word z hz hz']
  by_cases h : y ≤ z <;> simp [h]

theorem slt_word (y z : Int) (hy : -2147483648 ≤ y) (hy' : y < 2147483648) (hz : -2147483648 ≤ z) (hz' : z < 2147483648) :
    IntOp.cmpi .slt (BitVec.ofInt 32 y) (BitVec.ofInt 32 z) = 1#1 ↔ y < z := by
  simp only [IntOp.cmpi, BitVec.slt, toInt_word y hy hy', toInt_word z hz hz']
  by_cases h : y < z <;> simp [h]

theorem abs_word (z : Int) (hz : -2147483648 < z) (hz' : z < 2147483648) : IntOp.absi (BitVec.ofInt 32 z) = BitVec.ofInt 32 |z| := by
  unfold IntOp.absi
  rw [BitVec.msb_eq_toInt, toInt_word z (by omega) hz']
  by_cases h : z < 0
  · rw [if_pos (by simpa using h), abs_of_neg h, BitVec.ofInt_neg]
  · rw [if_neg (by simpa using h), abs_of_nonneg (by omega)]

theorem sub_word (a b : Int) : BitVec.ofInt 32 (a - b) = BitVec.ofInt 32 a - BitVec.ofInt 32 b := by
  rw [sub_eq_add_neg, BitVec.ofInt_add, BitVec.ofInt_neg, BitVec.sub_eq_add_neg]

theorem and_word (a b : BitVec 1) : IntOp.andi a b = 1#1 ↔ a = 1#1 ∧ b = 1#1 := by revert a b; decide

/-- The position of a band row. -/
theorem pos_word (n j : Nat) : IntOp.addi (IntOp.subi (IntOp.muli (BitVec.ofNat 32 n) 128#32) 128#32) (BitVec.ofNat 32 j)
    = BitVec.ofInt 32 ((n : Int) * 128 - 128 + j) := by
  rw [BitVec.ofInt_add, sub_word, BitVec.ofInt_mul, BitVec.ofInt_natCast, BitVec.ofInt_natCast]; rfl

/-- Its distance from the query. -/
theorem rel_word (n i j : Nat) : IntOp.subi (BitVec.ofInt 32 ((n : Int) * 128 - 128 + j)) (BitVec.ofNat 32 (n * 128 + i))
    = BitVec.ofInt 32 ((j : Int) - 128 - i) := by
  rw [show (j : Int) - 128 - i = ((n : Int) * 128 - 128 + j) - ((n * 128 + i : Nat) : Int) by push_cast; ring,
    sub_word, BitVec.ofInt_natCast]; rfl

theorem valid_iff (n : Fin 32) (i : Fin 128) (j : Fin 384) :
    valid (ix3 n i j) = 1#1 ↔ i.val ≤ j.val ∧ j.val ≤ i.val + 256 ∧ 128 ≤ n.val * 128 + j.val ∧ n.val * 128 + j.val < 4224 := by
  pointwise [valid, kpos]
  rw [pos_word, rel_word, abs_word _ (by omega) (by omega), and_word, and_word,
    show (128#32 : BitVec 32) = BitVec.ofInt 32 128 from rfl, show (4096#32 : BitVec 32) = BitVec.ofInt 32 4096 from rfl,
    show ∀ x : BitVec 32, IntOp.cmpi .sge x 0#32 = IntOp.cmpi .sle (BitVec.ofInt 32 0) x from fun _ => rfl,
    sle_word _ _ (le_trans (by norm_num) (abs_nonneg _)) (abs_lt.mpr ⟨by omega, by omega⟩) (by norm_num) (by norm_num),
    sle_word _ _ (by norm_num) (by norm_num) (by omega) (by omega), slt_word _ _ (by omega) (by omega) (by norm_num) (by norm_num), abs_le]
  omega

theorem sloc_apply (q : FVec Ideal S16x4096x256 .f32) (k : FVec Ideal S16x4096x128 .f32) (b : Fin 16) (h g : Fin 2) (n : Fin 32) (i : Fin 128) (j : Fin 384) :
    sloc q k (ix6 b h g n i j) = Scalar.select (valid (ix3 n i j))
      ((∑ x : Fin 64, band k (ix5 b n j h x) * q (ix3 b ⟨n.val * 128 + i.val, by omega⟩ ⟨h.val * 128 + g.val * 64 + x.val, by omega⟩))
        * Ideal.ofBits .f32 1040187392#32) (Ideal.ofBits .f32 4286578688#32) := by
  pointwise [sloc]

theorem sctx_apply (q : FVec Ideal S16x4096x256 .f32) (k : FVec Ideal S16x256x128 .f32) (b : Fin 16) (h g : Fin 2) (n : Fin 32) (i : Fin 128) (j : Fin 256) :
    sctx q k (ix6 b h g n i j)
      = (∑ x : Fin 64, k (ix3 b j ⟨h.val * 64 + x.val, by omega⟩)
          * q (ix3 b ⟨n.val * 128 + i.val, by omega⟩ ⟨h.val * 128 + g.val * 64 + x.val, by omega⟩)) * Ideal.ofBits .f32 1040187392#32 := by
  pointwise [sctx]

theorem logits_loc (u : FVec Ideal S16x2x2x32x128x384 .f32) (w : FVec Ideal S16x2x2x32x128x256 .f32) (s : FVec Ideal S4 .f32)
    (b : Fin 16) (h g : Fin 2) (n : Fin 32) (i : Fin 128) (j : Fin 384) :
    logits u w s (ix6 b h g n i ⟨j.val, by omega⟩) = u (ix6 b h g n i j) := by
  pointwise [logits]

theorem logits_ctx (u : FVec Ideal S16x2x2x32x128x384 .f32) (w : FVec Ideal S16x2x2x32x128x256 .f32) (s : FVec Ideal S4 .f32)
    (b : Fin 16) (h g : Fin 2) (n : Fin 32) (i : Fin 128) (j : Fin 256) :
    logits u w s (ix6 b h g n i ⟨384 + j.val, by omega⟩) = w (ix6 b h g n i j) := by
  pointwise [logits]

theorem logits_sink (u : FVec Ideal S16x2x2x32x128x384 .f32) (w : FVec Ideal S16x2x2x32x128x256 .f32) (s : FVec Ideal S4 .f32)
    (b : Fin 16) (h g : Fin 2) (n : Fin 32) (i : Fin 128) :
    logits u w s (ix6 b h g n i 640) = s (ix1 ⟨h.val * 2 + g.val, by omega⟩) := by
  pointwise [logits]

theorem expo_apply (x : FVec Ideal S16x2x2x32x128x641 .f32) (b : Fin 16) (h g : Fin 2) (n : Fin 32) (i : Fin 128) (j : Fin 641) :
    expo x (ix6 b h g n i j) = Ideal.exp (x (ix6 b h g n i j) - max (Ideal.ofBits .f32 4286578688#32)
      ((Finset.univ : Finset (Fin 641)).fold max (Ideal.ofBits .f32 4286578688#32) (fun k => x (ix6 b h g n i k)))) := by
  have key : ∀ R : FVec Ideal S16x2x2x32x128 .f32,
      Host.exp (subf x (broadcastInDim S16x2x2x32x128x641 ![0, 1, 2, 3, 4, 5] bcast_S16x2x2x32x128x1_S16x2x2x32x128x641_0_1_2_3_4_5
        (broadcastInDim S16x2x2x32x128x1 ![0, 1, 2, 3, 4] bcast_S16x2x2x32x128_S16x2x2x32x128x1_0_1_2_3_4
          (maximumf (broadcastInDim S16x2x2x32x128 ![] bcast_S_S16x2x2x32x128 (constant S_ .f32 0xFF800000#32)) R)))) (ix6 b h g n i j)
        = Ideal.exp (x (ix6 b h g n i j) - max (Ideal.ofBits .f32 4286578688#32) (R (ix5 b h g n i))) := by
    intro R
    pointwise
  refine (key _).trans ?_
  rw [reduceMax_last]
  rfl

theorem probs_apply (x : FVec Ideal S16x2x2x32x128x641 .f32) (b : Fin 16) (h g : Fin 2) (n : Fin 32) (i : Fin 128) (j : Fin 641) :
    probs x (ix6 b h g n i j) = Ideal.div (x (ix6 b h g n i j)) (Ideal.ofBits .f32 0#32 + ∑ k : Fin 641, x (ix6 b h g n i k)) := by
  have key : ∀ R : FVec Ideal S16x2x2x32x128 .f32,
      Host.divf x (broadcastInDim S16x2x2x32x128x641 ![0, 1, 2, 3, 4, 5] bcast_S16x2x2x32x128x1_S16x2x2x32x128x641_0_1_2_3_4_5
        (broadcastInDim S16x2x2x32x128x1 ![0, 1, 2, 3, 4] bcast_S16x2x2x32x128_S16x2x2x32x128x1_0_1_2_3_4 R)) (ix6 b h g n i j)
        = Ideal.div (x (ix6 b h g n i j)) (R (ix5 b h g n i)) := by
    intro R
    pointwise
  refine (key _).trans ?_
  rw [reduceAdd_last]
  rfl

theorem mix_apply (p : FVec Ideal S16x2x2x32x128x641 .f32) (v : FVec Ideal S16x4096x128 .f32) (vc : FVec Ideal S16x256x128 .f32) (b : Fin 16) (t : Fin 4096) (y : Fin 256) :
    mix p v vc (ix3 b t y)
      = (∑ x : Fin 384, band v (ix5 b ⟨t.val / 128, by omega⟩ x ⟨y.val / 64 % 2, by omega⟩ ⟨y.val % 64, by omega⟩)
          * p (ix6 b ⟨y.val / 64 % 2, by omega⟩ ⟨y.val / 128, by omega⟩ ⟨t.val / 128, by omega⟩ ⟨t.val % 128, by omega⟩ ⟨x.val, by omega⟩))
        + ∑ x : Fin 256, vc (ix3 b x ⟨y.val / 64 % 2 * 64 + y.val % 64, by omega⟩)
          * p (ix6 b ⟨y.val / 64 % 2, by omega⟩ ⟨y.val / 128, by omega⟩ ⟨t.val / 128, by omega⟩ ⟨t.val % 128, by omega⟩ ⟨384 + x.val, by omega⟩) := by
  pointwise [mix]

/-! ## The result at an index -/

/-- The scores that one query has against its band and the context. -/
def scores (q : FVec Ideal S16x4096x256 .f32) (k : FVec Ideal S16x4096x128 .f32) (kc : FVec Ideal S16x256x128 .f32)
    (b : Fin 16) (h g : Fin 2) (n : Fin 32) (i : Fin 128) : Fin 384 ⊕ Fin 256 → EReal :=
  Sum.elim (fun j => sloc q k (ix6 b h g n i j)) (fun j => sctx q kc (ix6 b h g n i j))

/-- The values that go with them. -/
def values (v : FVec Ideal S16x4096x128 .f32) (vc : FVec Ideal S16x256x128 .f32) (b : Fin 16) (h : Fin 2) (n : Fin 32) (d : Fin 64) :
    Fin 384 ⊕ Fin 256 → EReal :=
  Sum.elim (fun j => band v (ix5 b n j h d)) (fun j => vc (ix3 b j ⟨h.val * 64 + d.val, by omega⟩))

/-- A sum over the 641 scores, in its three parts. -/
theorem sum_parts (f : Fin 641 → EReal) :
    ∑ k, f k = (∑ x : Fin 384 ⊕ Fin 256, Sum.elim (fun j : Fin 384 => f ⟨j.val, by omega⟩) (fun j : Fin 256 => f ⟨384 + j.val, by omega⟩) x) + f 640 := by
  rw [Fintype.sum_sum_type]
  exact (Fin.sum_univ_castSucc (n := 640) f).trans (congrArg (· + f 640) (Fin.sum_univ_add (a := 384) (b := 256) (fun j => f j.castSucc)))

/-- The largest of the 641 scores, likewise. -/
theorem max_parts (f : Fin 641 → EReal) :
    (Finset.univ : Finset (Fin 641)).fold max ⊥ f
      = max ((Finset.univ : Finset (Fin 384 ⊕ Fin 256)).fold max ⊥
          (Sum.elim (fun j : Fin 384 => f ⟨j.val, by omega⟩) (fun j : Fin 256 => f ⟨384 + j.val, by omega⟩))) (f 640) := by
  apply le_antisymm
  · rw [Finset.fold_max_le]
    refine ⟨bot_le, fun k _ => ?_⟩
    by_cases h : k.val < 384
    · exact le_max_of_le_left ((Finset.le_fold_max _).mpr (.inr ⟨.inl ⟨k.val, h⟩, Finset.mem_univ _, le_rfl⟩))
    by_cases h' : k.val < 640
    · refine le_max_of_le_left ((Finset.le_fold_max _).mpr (.inr ⟨.inr ⟨k.val - 384, by omega⟩, Finset.mem_univ _, ?_⟩))
      exact le_of_eq (congrArg f (Fin.ext (by simp only; omega)))
    · exact le_max_of_le_right (le_of_eq (congrArg f (Fin.ext (by have := k.isLt; show k.val = 640; omega))))
  · refine max_le ?_ ((Finset.le_fold_max _).mpr (.inr ⟨640, Finset.mem_univ _, le_rfl⟩))
    rw [Finset.fold_max_le]
    refine ⟨bot_le, fun k _ => ?_⟩
    match k with
    | .inl j => exact (Finset.le_fold_max _).mpr (.inr ⟨_, Finset.mem_univ _, le_rfl⟩)
    | .inr j => exact (Finset.le_fold_max _).mpr (.inr ⟨_, Finset.mem_univ _, le_rfl⟩)

/-- The result at a row and a column: the attention with the weights divided first. -/
theorem result_apply (q : FVec Ideal S16x4096x256 .f32) (k v : FVec Ideal S16x4096x128 .f32) (kc vc : FVec Ideal S16x256x128 .f32)
    (s : FVec Ideal S4 .f32) (b : Fin 16) (n : Fin 32) (i : Fin 128) (g h : Fin 2) (d : Fin 64) :
    mix (probs (expo (logits (sloc q k) (sctx q kc) s))) v vc
        (ix3 b ⟨n.val * 128 + i.val, by omega⟩ ⟨g.val * 128 + h.val * 64 + d.val, by omega⟩)
      = attn' (scores q k kc b h g n i) (s (ix1 ⟨h.val * 2 + g.val, by omega⟩)) (values v vc b h n d) := by
  have eh : (⟨(g.val * 128 + h.val * 64 + d.val) / 64 % 2, by omega⟩ : Fin 2) = h := Fin.ext (by simp only; omega)
  have eg : (⟨(g.val * 128 + h.val * 64 + d.val) / 128, by omega⟩ : Fin 2) = g := Fin.ext (by simp only; omega)
  have ed : (⟨(g.val * 128 + h.val * 64 + d.val) % 64, by omega⟩ : Fin 64) = d := Fin.ext (by simp only; omega)
  have el : (⟨(g.val * 128 + h.val * 64 + d.val) / 64 % 2 * 64 + (g.val * 128 + h.val * 64 + d.val) % 64, by omega⟩ : Fin 128)
      = ⟨h.val * 64 + d.val, by omega⟩ := Fin.ext (by simp only; omega)
  have en : (⟨(n.val * 128 + i.val) / 128, by omega⟩ : Fin 32) = n := Fin.ext (by simp only; omega)
  have ei : (⟨(n.val * 128 + i.val) % 128, by omega⟩ : Fin 128) = i := Fin.ext (by simp only; omega)
  have hL : ∀ j : Fin 384, logits (sloc q k) (sctx q kc) s (ix6 b h g n i ⟨j.val, by omega⟩) = sloc q k (ix6 b h g n i j) :=
    fun j => logits_loc _ _ _ b h g n i j
  have hC : ∀ j : Fin 256, logits (sloc q k) (sctx q kc) s (ix6 b h g n i ⟨384 + j.val, by omega⟩) = sctx q kc (ix6 b h g n i j) :=
    fun j => logits_ctx _ _ _ b h g n i j
  have hS := logits_sink (sloc q k) (sctx q kc) s b h g n i
  generalize logits (sloc q k) (sctx q kc) s = L at hL hC hS
  have ht : max ⊥ ((Finset.univ : Finset (Fin 641)).fold max ⊥ (fun x => L (ix6 b h g n i x)))
      = top (scores q k kc b h g n i) (s (ix1 ⟨h.val * 2 + g.val, by omega⟩)) := by
    rw [max_eq_right bot_le, max_parts]
    simp only [hL, hC, hS]
    rfl
  have hE : ∀ x, expo L (ix6 b h g n i x) = Ideal.exp (L (ix6 b h g n i x) - top (scores q k kc b h g n i) (s (ix1 ⟨h.val * 2 + g.val, by omega⟩))) := by
    intro x
    rw [expo_apply, negInf, ht]
  have hD : Ideal.ofBits .f32 0#32 + ∑ x : Fin 641, expo L (ix6 b h g n i x)
      = den (scores q k kc b h g n i) (s (ix1 ⟨h.val * 2 + g.val, by omega⟩)) := by
    rw [Ideal.ofBits_zero_f32, zero_add, sum_parts]
    simp only [hE, hL, hC, hS, Fintype.sum_sum_type, Sum.elim_inl, Sum.elim_inr, den]
    rfl
  rw [mix_apply]
  simp only [eh, eg, ed, el, en, ei, probs_apply, hD]
  simp only [hE, hL, hC]
  unfold attn'
  rw [Fintype.sum_sum_type]
  rfl

end Cert.Swa.Ref
end
-- ==== Proof.Swa.Eq.lean ====
module

public import proofs.«01_k».proof.Proof.Swa.Blocks
public import proofs.«01_k».proof.Proof.Swa.Ref

@[expose] public section

set_option maxRecDepth 16384

noncomputable section

/-! The windowed attention's block is the reference's, where the arguments are real numbers. -/

namespace Cert.Swa

open Idealize.ShloMosaic Cert.KernelIdeal Cert.KernelIdeal.Gen

/-- A score is the scaled product of the query's and the key's lanes of its head, in whichever order the lanes lie. -/
theorem score_live (v : IVec S256x768 1) (K : FVec Ideal S768x128 .f32) (q : Vec Ideal S1x256x256 .f32) (g h : Fin 2) (i : Fin 256) (j : Fin 768)
    (Q R : Fin 2 → Fin 64 → EReal) (hv : v (ix2 i j) = 1#1)
    (hq : ∀ x : Fin 128, q (ix3 0 i ⟨g.val * 128 + x.val, by omega⟩) = Q ⟨x.val / 32 % 2, by omega⟩ ⟨x.val / 64 * 32 + x.val % 32, by omega⟩)
    (hk : ∀ x : Fin 128, K (ix2 j x) = R ⟨x.val / 32 % 2, by omega⟩ ⟨x.val / 64 * 32 + x.val % 32, by omega⟩) :
    score v K q g h i j = (∑ e : Fin 64, R h e * Q h e) * Ideal.ofBits .f32 1040187392#32 := by
  unfold score
  rw [if_pos hv, sum_mul_const _ _ _ eighth_nonneg eighth_ne_top]
  refine sum_live (fun x : Fin 128 => x.val / 32 % 2 = h.val) (fun _ => True) (fun x => ⟨x.val / 64 * 32 + x.val % 32, by omega⟩)
    (fun _ _ => trivial) ?_ ?_ _ _ (fun x hx => if_neg hx) (fun b hb => absurd trivial hb) ?_
  · intro a b ha hb e
    have e' : a.val / 64 * 32 + a.val % 32 = b.val / 64 * 32 + b.val % 32 := congrArg Fin.val e
    apply Fin.ext; omega
  · intro e _
    refine ⟨⟨e.val / 32 * 64 + h.val * 32 + e.val % 32, by omega⟩, by simp only; omega, Fin.ext ?_⟩
    simp only; omega
  · intro x hx
    have eh : (⟨x.val / 32 % 2, by omega⟩ : Fin 2) = h := Fin.ext hx
    rw [if_pos hx, hq, hk, eh]
    rw [mul_comm (Q _ _ * _), mul_assoc]

theorem at_rc {n0 n1 n2 : Nat} (x : (⟨3, ![n0, n1, n2]⟩ : Shape).Idx → EReal) (a : Fin n0) {r r' : Nat} (hr : r < n1) (hr' : r' < n1)
    {s s' : Nat} (hs : s < n2) (hs' : s' < n2) (e : r = r') (e' : s = s') : x (ix3 a ⟨r, hr⟩ ⟨s, hs⟩) = x (ix3 a ⟨r', hr'⟩ ⟨s', hs'⟩) := by
  subst e; subst e'; rfl

section
variable (m : (ℓ : Loc nD τ sig) → Buf (Elt Ideal) ℓ) (c : Dev nD) (t : Fin cfg0.N)

/-- The keys of the point's block. -/
abbrev keys : FVec Ideal S768x128 .f32 := k0_pay2 (F := Ideal) (iblk m c 2 t) (iblk m c 3 t) (iblk m c 4 t) (iblk m c 8 t)

/-- The values of the point's block. -/
abbrev vals : FVec Ideal S768x128 .f32 := k0_pay3 (F := Ideal) (iblk m c 5 t) (iblk m c 6 t) (iblk m c 7 t) (iblk m c 9 t)

/-- A key row inside the sequence. -/
theorem keys_seq (j : Fin 768) (l : Fin 128) (h : j.val < 512) (h0 : 128 ≤ t.val % 16 * 256 + j.val) (h1 : t.val % 16 * 256 + j.val < 4224) :
    keys m c t (ix2 j l) = T m c (ix3 ⟨t.val / 16, by have := point_lt t; omega⟩ ⟨t.val % 16 * 256 + j.val - 128, by omega⟩ ⟨256 + l.val, by omega⟩) := by
  rw [keys, keys_apply]
  split_ifs
  · rw [blk2]; exact at_rc _ _ _ _ _ _ (by simp only; omega) (by omega)
  · rw [blk3]; exact at_rc _ _ _ _ _ _ (by simp only; omega) (by omega)
  · rw [blk4]; exact at_rc _ _ _ _ _ _ (by simp only; omega) (by omega)
  · omega

/-- A key row of the context. -/
theorem keys_ctx (j : Fin 768) (l : Fin 128) (h : 512 ≤ j.val) :
    keys m c t (ix2 j l) = C m c (ix3 ⟨t.val / 16, by have := point_lt t; omega⟩ ⟨j.val - 512, by omega⟩ ⟨256 + l.val, by omega⟩) := by
  rw [keys, keys_apply, dif_neg (by omega), dif_neg (by omega), dif_neg (by omega), blk8]
  exact at_rc _ _ _ _ _ _ (by simp only; omega) (by omega)

/-- A value row inside the sequence. -/
theorem vals_seq (j : Fin 768) (l : Fin 128) (h : j.val < 512) (h0 : 128 ≤ t.val % 16 * 256 + j.val) (h1 : t.val % 16 * 256 + j.val < 4224) :
    vals m c t (ix2 j l) = T m c (ix3 ⟨t.val / 16, by have := point_lt t; omega⟩ ⟨t.val % 16 * 256 + j.val - 128, by omega⟩ ⟨384 + l.val, by omega⟩) := by
  rw [vals, values_apply]
  split_ifs
  · rw [blk5]; exact at_rc _ _ _ _ _ _ (by simp only; omega) (by omega)
  · rw [blk6]; exact at_rc _ _ _ _ _ _ (by simp only; omega) (by omega)
  · rw [blk7]; exact at_rc _ _ _ _ _ _ (by simp only; omega) (by omega)
  · omega

/-- A value row of the context. -/
theorem vals_ctx (j : Fin 768) (l : Fin 128) (h : 512 ≤ j.val) :
    vals m c t (ix2 j l) = C m c (ix3 ⟨t.val / 16, by have := point_lt t; omega⟩ ⟨j.val - 512, by omega⟩ ⟨384 + l.val, by omega⟩) := by
  rw [vals, values_apply, dif_neg (by omega), dif_neg (by omega), dif_neg (by omega), blk9]
  exact at_rc _ _ _ _ _ _ (by simp only; omega) (by omega)

end

/-! ## Real scores -/

/-- Every entry of the array is a real number. -/
def Reals {S : Shape} (x : S.Idx → EReal) : Prop := ∀ i, ∃ r : ℝ, x i = r

theorem sum_real {κ : Type} (S : Finset κ) (f : κ → EReal) (h : ∀ x, ∃ r : ℝ, f x = r) : ∃ r : ℝ, ∑ x ∈ S, f x = r := by
  classical
  induction S using Finset.induction_on with
  | empty => exact ⟨0, by simp⟩
  | insert a S ha ih =>
    obtain ⟨r, hr⟩ := ih
    obtain ⟨s, hs⟩ := h a
    exact ⟨s + r, by rw [Finset.sum_insert ha, hr, hs, EReal.coe_add]⟩

theorem mul_real {x y : EReal} (hx : ∃ r : ℝ, x = r) (hy : ∃ r : ℝ, y = r) : ∃ r : ℝ, x * y = r := by
  obtain ⟨r, rfl⟩ := hx
  obtain ⟨s, rfl⟩ := hy
  exact ⟨r * s, (EReal.coe_mul r s).symm⟩

theorem real_ne_top {x : EReal} (h : ∃ r : ℝ, x = r) : x ≠ ⊤ := by obtain ⟨r, rfl⟩ := h; exact EReal.coe_ne_top r
theorem real_ne_bot {x : EReal} (h : ∃ r : ℝ, x = r) : x ≠ ⊥ := by obtain ⟨r, rfl⟩ := h; exact EReal.coe_ne_bot r

section
variable (q : FVec Ideal S16x4096x256 .f32) (k : FVec Ideal S16x4096x128 .f32) (kc : FVec Ideal S16x256x128 .f32)
  (hq : Reals q) (hk : Reals k) (hkc : Reals kc)

include hq hk hkc in
/-- A real query against a real key: the score is below infinity. -/
theorem scores_ne_top (b : Fin 16) (h g : Fin 2) (n : Fin 32) (i : Fin 128) (x : Fin 384 ⊕ Fin 256) : Ref.scores q k kc b h g n i x ≠ ⊤ := by
  match x with
  | .inl j =>
    show Ref.sloc q k (ix6 b h g n i j) ≠ ⊤
    rw [Ref.sloc_apply]
    unfold Scalar.select
    split_ifs with hv
    · have hv' := (Ref.valid_iff n i j).mp hv
      refine real_ne_top (mul_real (sum_real _ _ fun x => mul_real ?_ (hq _)) ⟨_, eighth⟩)
      rw [Ref.band_apply k b n j h x hv'.2.2.1 (by omega)]
      exact hk _
    · rw [negInf]; exact bot_ne_top
  | .inr j =>
    show Ref.sctx q kc (ix6 b h g n i j) ≠ ⊤
    rw [Ref.sctx_apply]
    exact real_ne_top (mul_real (sum_real _ _ fun x => mul_real (hkc _) (hq _)) ⟨_, eighth⟩)

end

/-! ## The equation -/

section
variable (m : (ℓ : Loc nD τ sig) → Buf (Elt Ideal) ℓ) (c : Dev nD)

/-- The result array, as the reference computes it from the arguments. -/
def G : FVec Ideal S16x4096x256 .f32 :=
  Ref.mix (Ref.probs (Ref.expo (Ref.logits
      (Ref.sloc (m ((c.tc : Thread nD τ).loc main_arg0)) (m ((c.tc : Thread nD τ).loc main_arg1)))
      (Ref.sctx (m ((c.tc : Thread nD τ).loc main_arg0)) (m ((c.tc : Thread nD τ).loc main_arg3)))
      (m ((c.tc : Thread nD τ).loc main_arg5)))))
    (m ((c.tc : Thread nD τ).loc main_arg2)) (m ((c.tc : Thread nD τ).loc main_arg4))

variable (hq : Reals (S := S16x4096x256) (m ((c.tc : Thread nD τ).loc main_arg0)))
  (hk : Reals (S := S16x4096x128) (m ((c.tc : Thread nD τ).loc main_arg1)))
  (hkc : Reals (S := S16x256x128) (m ((c.tc : Thread nD τ).loc main_arg3)))
  (hs : Reals (S := S4) (m ((c.tc : Thread nD τ).loc main_arg5)))

/-- The query at a row of the point's block, by head. -/
def query (t : Fin cfg0.N) (i : Fin 256) (g h : Fin 2) (e : Fin 64) : EReal := (m ((c.tc : Thread nD τ).loc main_arg0) : FVec Ideal S16x4096x256 .f32)
  (ix3 ⟨t.val / 16, by have := point_lt t; omega⟩ ⟨t.val % 16 * 256 + i.val, by omega⟩ ⟨h.val * 128 + g.val * 64 + e.val, by omega⟩)

include hq hk hkc hs in
/-- What the body writes at a row and a column is the reference's element there. -/
theorem cell (t : Fin cfg0.N) (i : Fin 256) (g h : Fin 2) (d : Fin 64) :
    blockOf (BitVec.ofNat 32 (t.val % 16)) (iblk m c 0 t) (iblk m c 1 t) (iblk m c 2 t) (iblk m c 3 t) (iblk m c 4 t) (iblk m c 5 t) (iblk m c 6 t)
        (iblk m c 7 t) (iblk m c 8 t) (iblk m c 9 t) (ix3 0 i ⟨g.val * 128 + h.val * 64 + d.val, by omega⟩)
      = G m c (ix3 ⟨t.val / 16, by have := point_lt t; omega⟩ ⟨t.val % 16 * 256 + i.val, by omega⟩ ⟨g.val * 128 + h.val * 64 + d.val, by omega⟩) := by
  have hn : t.val % 16 < 16 := by omega
  have hb : t.val / 16 < 16 := by have := point_lt t; omega
  unfold blockOf
  rw [stored_apply, blk0]
  have hc : g.val * 128 + h.val * 64 + d.val < 256 := by omega
  have hr : (t.val % 16 * 2 + i.val / 128) * 128 + i.val % 128 < 4096 := by omega
  refine Eq.trans ?_ (at_rc (n0 := 16) (n1 := 4096) (n2 := 256) (G m c) ⟨t.val / 16, hb⟩ hr (by omega) hc hc (by omega) rfl)
  refine Eq.trans ?_ (Ref.result_apply _ _ _ _ _ _ ⟨t.val / 16, hb⟩ ⟨t.val % 16 * 2 + i.val / 128, by omega⟩ ⟨i.val % 128, by omega⟩ g h d).symm
  refine attn_live
    (fun j : Fin 768 => 512 ≤ j.val ∨ (i.val ≤ j.val ∧ j.val ≤ i.val + 256 ∧ 128 ≤ t.val % 16 * 256 + j.val ∧ t.val % 16 * 256 + j.val < 4224))
    (Sum.elim (fun k : Fin 384 => i.val % 128 ≤ k.val ∧ k.val ≤ i.val % 128 + 256 ∧ 128 ≤ (t.val % 16 * 2 + i.val / 128) * 128 + k.val
      ∧ (t.val % 16 * 2 + i.val / 128) * 128 + k.val < 4224) (fun _ => True))
    (fun j => if H : j.val < 512 then .inl ⟨(j.val - 128 * (i.val / 128)) % 384, by omega⟩ else .inr ⟨j.val - 512, by omega⟩)
    ?_ ?_ ?_ _ _ _ _ _ ?_ ?_ ?_ ?_ (real_ne_bot (hs _)) (real_ne_top (hs _)) (scores_ne_top _ _ _ hq hk hkc _ _ _ _ _)
  · intro j hj
    by_cases H : j.val < 512
    · simp only [H, dif_pos, Sum.elim_inl]; omega
    · simp only [H, dif_neg, not_false_eq_true, Sum.elim_inr]
  · intro a b ha hb' e
    by_cases H : a.val < 512 <;> by_cases H' : b.val < 512 <;> simp only [H, H', dif_pos, dif_neg, not_false_eq_true] at e
    · have e' := congrArg Fin.val (Sum.inl.inj e); simp only at e'; apply Fin.ext; omega
    · exact absurd e (by simp)
    · exact absurd e (by simp)
    · have e' := congrArg Fin.val (Sum.inr.inj e); simp only at e'; apply Fin.ext; omega
  · intro x hx
    match x with
    | .inl k =>
      simp only [Sum.elim_inl] at hx
      refine ⟨⟨k.val + 128 * (i.val / 128), by omega⟩, by simp only; omega, ?_⟩
      rw [dif_pos (by simp only; omega)]
      exact congrArg Sum.inl (Fin.ext (by simp only; omega))
    | .inr k =>
      refine ⟨⟨k.val + 512, by omega⟩, by simp only; omega, ?_⟩
      rw [dif_neg (by simp only; omega)]
      exact congrArg Sum.inr (Fin.ext (by simp only; omega))
  · intro j hj
    unfold score
    exact if_neg fun hv => hj ((live_iff ⟨t.val % 16, hn⟩ i j).mp hv)
  · intro x hx
    match x with
    | .inl k =>
      show Ref.sloc _ _ (ix6 _ _ _ _ _ _) = ⊥
      simp only [Sum.elim_inl] at hx
      rw [Ref.sloc_apply]
      exact (if_neg fun hv => hx ((Ref.valid_iff ⟨t.val % 16 * 2 + i.val / 128, by omega⟩ ⟨i.val % 128, by omega⟩ k).mp hv)).trans negInf
    | .inr k => exact absurd trivial hx
  · intro j hj
    have hv := (live_iff ⟨t.val % 16, hn⟩ i j).mpr hj
    have hQ : ∀ x : Fin 128, (iblk m c 1 t : Vec Ideal S1x256x256 .f32) (ix3 0 i ⟨g.val * 128 + x.val, by omega⟩)
        = query m c t i g ⟨x.val / 32 % 2, by omega⟩ ⟨x.val / 64 * 32 + x.val % 32, by omega⟩ := fun x =>
      (blk1 m c t i ⟨g.val * 128 + x.val, by omega⟩).trans ((at_rc _ _ _ _ _ _ rfl (by simp only; omega)).trans (tokens_q _ _ _ _ _ g x))
    by_cases H : j.val < 512
    · have hr : i.val ≤ j.val ∧ j.val ≤ i.val + 256 ∧ 128 ≤ t.val % 16 * 256 + j.val ∧ t.val % 16 * 256 + j.val < 4224 := by omega
      rw [score_live _ _ _ g h i j (query m c t i g) (fun (h : Fin 2) (e : Fin 64) => (m ((c.tc : Thread nD τ).loc main_arg1) : FVec Ideal S16x4096x128 .f32)
            (ix3 ⟨t.val / 16, hb⟩ ⟨t.val % 16 * 256 + j.val - 128, by omega⟩ ⟨h.val * 64 + e.val, by omega⟩)) hv hQ
          (fun x => (keys_seq m c t j x H hr.2.2.1 hr.2.2.2).trans (tokens_k _ _ _ _ _ x))]
      simp only [H, dif_pos, Ref.scores, Sum.elim_inl]
      rw [Ref.sloc_apply]
      refine Eq.trans ?_ (if_pos ((Ref.valid_iff ⟨t.val % 16 * 2 + i.val / 128, by omega⟩ ⟨i.val % 128, by omega⟩
        ⟨(j.val - 128 * (i.val / 128)) % 384, by omega⟩).mpr (by simp only; omega))).symm
      refine congrArg (· * _) (Finset.sum_congr rfl fun e _ => ?_)
      rw [Ref.band_apply _ _ _ _ _ _ (by simp only; omega) (by simp only; omega)]
      exact congrArg₂ (· * ·) (at_rc _ _ _ _ _ _ (by simp only; omega) rfl) (at_rc _ _ _ _ _ _ (by simp only; omega) rfl)
    · rw [score_live _ _ _ g h i j (query m c t i g) (fun (h : Fin 2) (e : Fin 64) => (m ((c.tc : Thread nD τ).loc main_arg3) : FVec Ideal S16x256x128 .f32)
            (ix3 ⟨t.val / 16, hb⟩ ⟨j.val - 512, by omega⟩ ⟨h.val * 64 + e.val, by omega⟩)) hv hQ
          (fun x => (keys_ctx m c t j x (by omega)).trans (context_k _ _ _ _ x))]
      simp only [H, dif_neg, not_false_eq_true, Ref.scores, Sum.elim_inr]
      rw [Ref.sctx_apply]
      refine congrArg (· * _) (Finset.sum_congr rfl fun e _ => ?_)
      exact congrArg₂ (· * ·) rfl (at_rc _ _ _ _ _ _ (by simp only; omega) rfl)
  · intro j hj
    by_cases H : j.val < 512
    · have hr : i.val ≤ j.val ∧ j.val ≤ i.val + 256 ∧ 128 ≤ t.val % 16 * 256 + j.val ∧ t.val % 16 * 256 + j.val < 4224 := by omega
      simp only [H, dif_pos, Ref.values, Sum.elim_inl]
      rw [Ref.band_apply _ _ _ _ _ _ (by simp only; omega) (by simp only; omega)]
      refine (vals_seq m c t j _ H hr.2.2.1 hr.2.2.2).trans ((tokens_v _ _ _ _ _ _).trans ?_)
      exact at_rc _ _ _ _ _ _ (by simp only; omega) rfl
    · simp only [H, dif_neg, not_false_eq_true, Ref.values, Sum.elim_inr]
      exact (vals_ctx m c t j _ (by omega)).trans (context_v _ _ _ _ _)

end

end Cert.Swa
end
-- ==== Proof.Swa.Pre.lean ====
module

public import proofs.«01_k».proof.Defs
public import proofs.«01_k».proof.Proof.Gen.Pre_finite
public import proofs.«01_k».proof.Proof.Swa.Eq
public import Idealize.ShloMosaic.Lib.ReduceAll

@[expose] public section

set_option maxRecDepth 16384

noncomputable section

/-! The precondition: the queries, the keys, the context's keys and the sinks are real numbers. -/

namespace Cert.Swa

open Idealize.ShloMosaic Cert.KernelIdeal Cert.KernelIdeal.Gen

theorem inf : Ideal.ofBits .f32 2139095040#32 = ⊤ := by simp [Ideal.ofBits, Ideal.ieee]

theorem real_of_abs {x : EReal} (h : max x (-x) < ⊤) : ∃ r : ℝ, x = r := by
  induction x with
  | bot => simp at h
  | top => simp at h
  | coe r => exact ⟨r, rfl⟩

instance : Subsingleton Cert.Pre_finite.S_.Idx := ⟨fun a b => funext fun i => i.elim0⟩

/-- An array whose magnitudes are all below infinity is an array of real numbers. -/
theorem reals_of_all {S : Shape} {axes : List (Fin S.rank)} (x : FVec Ideal S .f32)
    (hb : Cert.Pre_finite.S_.BroadcastsInDim S (![] : Fin 0 → Fin S.rank)) (h : S.ReducesTo axes Cert.Pre_finite.S_) (hu : 0 < Cert.Pre_finite.S_.numel)
    (j : Cert.Pre_finite.S_.Idx)
    (e : Host.reduce IntOp.andi (cmpf .olt (Host.absf x) (broadcastInDim S ![] hb (constant (F := Ideal) Cert.Pre_finite.S_ .f32 2139095040#32)))
      (constantI Cert.Pre_finite.S_ 1 1#1) h hu j = 1#1) : Reals x := fun i => by
  have e' := Host.reduce_andi_all _ _ _ _ j e i
  have e2 : Ideal.cmp .olt (max (x i) (-(x i))) (Ideal.ofBits .f32 2139095040#32) = 1#1 := e'
  rw [inf] at e2
  refine real_of_abs ?_
  by_contra hn
  simp [Ideal.cmp, hn] at e2

/-- What the precondition says of the arguments. -/
theorem reals_of_finite (q : FVec Ideal S16x4096x256 .f32) (k v : FVec Ideal S16x4096x128 .f32) (kc vc : FVec Ideal S16x256x128 .f32) (s : FVec Ideal S4 .f32)
    (h : Cert.Pre_finite.fn (F := Ideal) q k v kc vc s = fun _ => 1#1) : Reals q ∧ Reals k ∧ Reals kc ∧ Reals s := by
  have h0 := congrFun h (fun i => i.elim0)
  unfold Cert.Pre_finite.fn Cert.Pre_finite.fn_part1 at h0
  obtain ⟨h1, hs⟩ := IntOp.andi_eq_one.1 h0
  obtain ⟨h2, hkc⟩ := IntOp.andi_eq_one.1 h1
  obtain ⟨hq, hk⟩ := IntOp.andi_eq_one.1 h2
  exact ⟨reals_of_all q _ _ _ _ hq, reals_of_all k _ _ _ _ hk, reals_of_all kc _ _ _ _ hkc, reals_of_all s _ _ _ _ hs⟩

end Cert.Swa
end
-- ==== Proof.Swa.Array.lean ====
module

public import proofs.«01_k».proof.Proof.Swa.Pre

@[expose] public section

set_option maxRecDepth 16384

noncomputable section

/-! The windowed attention's result array, and the two runs' agreement. -/

namespace Cert.Swa

open Idealize.ShloMosaic Idealize.ShloMosaic.TcCoe Idealize.SL.Sem Cert.KernelIdeal Cert.KernelIdeal.Gen

/-- The block's index word of a point. -/
theorem coord : ∀ t : Fin cfg0.N, ((grid0.coords t) 1).val = t.val % 16 := (by decide +kernel : ∀ t : Fin grid0.N, _)

/-- A lane of a row of 256 is a group, a head and a place. -/
theorem lane_split (l : Fin 256) : ∃ (g h : Fin 2) (d : Fin 64), l = ⟨g.val * 128 + h.val * 64 + d.val, by omega⟩ :=
  ⟨⟨l.val / 128, by omega⟩, ⟨l.val / 64 % 2, by omega⟩, ⟨l.val % 64, by omega⟩, Fin.ext (by simp only; omega)⟩

section
variable (m : (ℓ : Loc nD τ sig) → Buf (Elt Ideal) ℓ) (c : Dev nD)
variable (hq : Reals (S := S16x4096x256) (m ((c.tc : Thread nD τ).loc main_arg0)))
  (hk : Reals (S := S16x4096x128) (m ((c.tc : Thread nD τ).loc main_arg1)))
  (hkc : Reals (S := S16x256x128) (m ((c.tc : Thread nD τ).loc main_arg3)))
  (hs : Reals (S := S4) (m ((c.tc : Thread nD τ).loc main_arg5)))

include hq hk hkc hs in
/-- What a point writes back is its block of the reference's array. -/
theorem flushed_eq (t : Fin cfg0.N) : (dats m 0 c).flushed 10 t = ((cfg0.win 10).blk t).view.read (Elt Ideal) (G m c) := by
  rw [Cert.KernelIdeal.Value.flushed10_A, out_eq]
  funext j
  rw [View.read_apply]
  show blockOf (BitVec.ofNat 32 ((grid0.coords t) 1).val) _ _ _ _ _ _ _ _ _ _ j = G m c (((cfg0.win 10).blk t).view.emb j)
  rw [coord]
  obtain ⟨e0, e1, e2⟩ := idx10 t
  have hj : j = ix3 (n0 := 1) (n1 := 256) (n2 := 256) 0 (j 1) (j 2) := by
    funext x; match x with | ⟨0, _⟩ => exact Fin.ext (by have : (j 0).val < 1 := (j 0).isLt; show (j 0).val = 0; omega) | ⟨1, _⟩ => rfl | ⟨2, _⟩ => rfl
  have he : ((cfg0.win 10).blk t).view.emb j = ix3 (n0 := 16) (n1 := 4096) (n2 := 256) ⟨t.val / 16, by have := point_lt t; omega⟩
      ⟨t.val % 16 * 256 + (j 1).val, by have : (j 1).val < 256 := (j 1).isLt; omega⟩ (j 2) := by
    funext a; apply Fin.ext
    match a with
    | ⟨0, _⟩ => show win0_10.index t 0 * 1 + 1 * (j 0).val = t.val / 16; rw [e0]; have : (j 0).val < 1 := (j 0).isLt; omega
    | ⟨1, _⟩ => show win0_10.index t 1 * 256 + 1 * (j 1).val = t.val % 16 * 256 + (j 1).val; rw [e1]; omega
    | ⟨2, _⟩ => show win0_10.index t 2 * 256 + 1 * (j 2).val = (j 2).val; rw [e2]; omega
  obtain ⟨g, h, d, hl⟩ := lane_split (j 2)
  rw [he, hj]
  show blockOf _ _ _ _ _ _ _ _ _ _ _ (ix3 (n0 := 1) (n1 := 256) (n2 := 256) 0 (j 1) (j 2)) = G m c (ix3 (n0 := 16) (n1 := 4096) (n2 := 256) _ _ (j 2))
  rw [hl]
  exact cell m c hq hk hkc hs t (j 1) g h d

/-- Every index of the result is in some point's block. -/
theorem cover (i : S16x4096x256.Idx) : ∃ t : Fin cfg0.N, (cfg0.win 10).flush t = true ∧ i ∈ ((cfg0.win 10).blk t).view.set := by
  have hi0 : (i 0).val < 16 := (i 0).isLt
  have hi1 : (i 1).val < 4096 := (i 1).isLt
  have hi2 : (i 2).val < 256 := (i 2).isLt
  have hlt : (i 0).val * 16 + (i 1).val / 256 < cfg0.N := lt_of_lt_of_eq (by omega : _ < 256) N_0.symm
  refine ⟨⟨(i 0).val * 16 + (i 1).val / 256, hlt⟩, flush0_10 _, ?_⟩
  obtain ⟨e0, e1, e2⟩ := idx10 ⟨(i 0).val * 16 + (i 1).val / 256, hlt⟩
  show i ∈ ((View.whole main_v12).slice (win0_10.rect ⟨(i 0).val * 16 + (i 1).val / 256, hlt⟩)).set
  rw [View.set_slice_whole, Rect.mem_set_unit]
  intro a
  match a with
  | ⟨0, _⟩ =>
    show win0_10.index ⟨_, hlt⟩ 0 * 1 ≤ (i 0).val ∧ (i 0).val < win0_10.index ⟨_, hlt⟩ 0 * 1 + 1
    rw [e0]; simp only; omega
  | ⟨1, _⟩ =>
    show win0_10.index ⟨_, hlt⟩ 1 * 256 ≤ (i 1).val ∧ (i 1).val < win0_10.index ⟨_, hlt⟩ 1 * 256 + 256
    rw [e1]; simp only; omega
  | ⟨2, _⟩ =>
    show win0_10.index ⟨_, hlt⟩ 2 * 256 ≤ (i 2).val ∧ (i 2).val < win0_10.index ⟨_, hlt⟩ 2 * 256 + 256
    rw [e2]; omega

include hq hk hkc hs in
/-- The result array after the run. -/
theorem final : (dats m 0 c).arrAt 10 cfg0.N = G m c :=
  (dats m 0 c).arrAt_eq_of_cover 10 (G m c) (fun t _ => flushed_eq m c hq hk hkc hs t) cover

end
end Cert.Swa
end
-- ==== Proof.Swa.Claims.lean ====
module

public import proofs.«01_k».proof.Proof.Swa.Array
public import proofs.«01_k».proof.Proof.Gen.ReferenceIdeal.Run
public import Idealize.ShloMosaic.Adequacy
public import Idealize.ShloMosaic.Init

@[expose] public section

set_option maxRecDepth 16384

noncomputable section

/-! The windowed attention's claims over the extended reals. -/

namespace Cert.Swa

open Idealize.ShloMosaic Idealize.ShloMosaic.TcCoe Idealize.SL.Sem

/-- The reference writes the same array, from a memory that agrees on the arguments. -/
theorem ref_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5)) :
    Cert.ReferenceIdeal.Value.res_main_v80 m' c = G m c := by
  rw [Ref.result_eq, h0, h1, h2, h3, h4, h5]
  rfl

/-- Both programs run and end with the same array, where the precondition holds. -/
theorem algebraic : Cert.algebraic_KernelIdeal_ReferenceIdeal_pre_finite := by
  intro m g m' g' hp ha
  refine ⟨fun c => G m c, ?_, ?_⟩
  · refine (θ_run Cert.KernelIdeal.defs _ _).mono (fun r h c => ?_) (Cert.KernelIdeal.Value.run_blocks m g)
    obtain ⟨hq, hk, hkc, hs⟩ := reals_of_finite _ _ _ _ _ _ (hp c)
    exact ⟨(h c).1.trans (final m c hq hk hkc hs), (h c).2⟩
  · refine (θ_run Cert.ReferenceIdeal.defs _ _).mono (fun r h c => ?_) (Cert.ReferenceIdeal.Value.run (F := Ideal) m' g')
    obtain ⟨h0, h1, h2, h3, h4, h5⟩ := ha c
    exact ⟨(h c).1.trans (ref_eq m m' c h0 h1 h2 h3 h4 h5), (h c).2⟩

/-- The reference runs, keeps its arguments and leaves every counter at zero. -/
theorem ref_frame (m : (ℓ : Loc ReferenceIdeal.nD ReferenceIdeal.τ ReferenceIdeal.sig) → Buf (Elt Ideal) ℓ) (g : Dev ReferenceIdeal.nD → PrngReg) :
    θ_run (Cert.ReferenceIdeal.defs (F := Ideal)) (onTc (τ := ReferenceIdeal.τ) (Cert.ReferenceIdeal.main (F := Ideal))) ⟨m, fun _ => 0, g⟩ (fun r => (∀ c : Dev ReferenceIdeal.nD,
      r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)
      ∧ r.2.mem ((c.tc : Thread ReferenceIdeal.nD ReferenceIdeal.τ).loc ReferenceIdeal.main_arg3) = m ((c.tc : Thread ReferenceIdeal.nD ReferenceIdeal.τ).loc ReferenceIdeal.main_arg3)
      ∧ r.2.mem ((c.tc : Thread ReferenceIdeal.nD ReferenceIdeal.τ).loc ReferenceIdeal.main_arg4) = m ((c.tc : Thread ReferenceIdeal.nD ReferenceIdeal.τ).loc ReferenceIdeal.main_arg4)
      ∧ r.2.mem ((c.tc : Thread ReferenceIdeal.nD ReferenceIdeal.τ).loc ReferenceIdeal.main_arg5) = m ((c.tc : Thread ReferenceIdeal.nD ReferenceIdeal.τ).loc ReferenceIdeal.main_arg5))
      ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run (F := Ideal) m g)

end Cert.Swa
end
-- ==== Proof.Mlp.Row.lean ====
module

public import Idealize.ShloMosaic.Lib.Pointwise
public import Idealize.ShloMosaic.Lib.IdealHost

@[expose] public section

noncomputable section

/-! The layer's output projection, feed-forward part and two norms, of one token. -/

namespace Cert.Mlp

open Idealize.ShloMosaic

/-- The mean of a row of 1024. -/
def mean (x : Fin 1024 → EReal) : EReal := Ideal.div (∑ k, x k) (Ideal.ofBits .f32 1149239296#32)

/-- The layer norm of a row. -/
def norm (g b x : Fin 1024 → EReal) (j : Fin 1024) : EReal :=
  (x j - mean x) * Ideal.rsqrt (mean (fun k => (x k - mean x) * (x k - mean x)) + Ideal.ofBits .f32 925353388#32) * g j + b j

/-- The scaled row plus the gated update. -/
def resid (x g u : Fin 1024 → EReal) (j : Fin 1024) : EReal := Ideal.ofBits .f32 1068827891#32 * x j + g j * u j

/-- A row times a matrix. -/
def times {m n : Nat} (x : Fin m → EReal) (w : Fin m → Fin n → EReal) (j : Fin n) : EReal := ∑ k, x k * w k j

/-- The squared ramp. -/
def ramp2 (x : EReal) : EReal := max x 0 * max x 0

/-- The modulated row. -/
def modulate (x sc sh : Fin 1024 → EReal) (j : Fin 1024) : EReal := x j * (1 + sc j) + sh j

/-- The whole: project, add, norm, modulate, feed forward, add, norm. -/
def token (y x g1 sc sh g2 : Fin 1024 → EReal) (wo : Fin 1024 → Fin 1024 → EReal) (w1 : Fin 1024 → Fin 4096 → EReal)
    (w2 : Fin 4096 → Fin 1024 → EReal) (l1g l1b l2g l2b : Fin 1024 → EReal) : Fin 1024 → EReal :=
  norm l2g l2b (resid (norm l1g l1b (resid x g1 (times y wo))) g2
    (times (fun f => ramp2 (times (modulate (norm l1g l1b (resid x g1 (times y wo))) sc sh) w1 f)) w2))

/-- The sum over 4096 columns is that of its four parts. -/
theorem sum_four (f : Fin 4096 → EReal) : ∑ k, f k
    = ∑ k : Fin 1024, f ⟨k.val, by omega⟩ + ∑ k : Fin 1024, f ⟨1024 + k.val, by omega⟩ + ∑ k : Fin 1024, f ⟨2048 + k.val, by omega⟩
      + ∑ k : Fin 1024, f ⟨3072 + k.val, by omega⟩ := by
  rw [show (∑ k, f k) = ∑ k : Fin (3072 + 1024), f k from rfl, Fin.sum_univ_add]
  congr 1
  rw [show (∑ i : Fin 3072, f (Fin.castAdd 1024 i)) = ∑ i : Fin (2048 + 1024), f (Fin.castAdd 1024 i) from rfl, Fin.sum_univ_add]
  congr 1
  rw [show (∑ i : Fin 2048, f (Fin.castAdd 1024 (Fin.castAdd 1024 i))) = ∑ i : Fin (1024 + 1024), f (Fin.castAdd 1024 (Fin.castAdd 1024 i)) from rfl, Fin.sum_univ_add]
  rfl

end Cert.Mlp
end
-- ==== Proof.Mlp.Host.lean ====
module

public import proofs.«01_k».proof.Proof.Gen.Kernel2Ideal.Value
public import proofs.«01_k».proof.Proof.Mlp.Row
public import Idealize.ShloMosaic.Lib.ReduceAll
public import Idealize.ShloMosaic.Lib.StableHlo.ReadAt

@[expose] public section

set_option maxRecDepth 16384

noncomputable section

/-! The arrays that the output projection's grid reads, in terms of the arguments. -/

namespace Cert.Mlp

open Idealize.ShloMosaic Cert.Kernel2Ideal Cert.Kernel2Ideal.Gen

/-- The windowed attention's columns, the group before the key head. -/
def swapped (y : FVec Ideal S16x4096x1024 .f32) : FVec Ideal S16x4096x256 .f32 :=
  shapeCast S16x4096x256 (transpose S16x4096x2x2x64 [0, 1, 3, 2, 4] (shapeCast S16x4096x2x2x64
      (extractStridedSlice S16x4096x256 ![0, 0, 0] y slices_S16x4096x1024_S16x4096x256_0_0_0) shapeCasts_S16x4096x256_S16x4096x2x2x64)
    transposes_S16x4096x2x2x64_S16x4096x2x2x64_0_1_3_2_4) shapeCasts_S16x4096x2x2x64_S16x4096x256

/-- The list of row numbers. -/
def rowList : IVec S1024 32 := fun i => lit0 (S1024.rowMajor i)

/-- The row numbers that are taken: a negative one counts from the end. -/
def rowIdx : IVec S1024x1 32 :=
  broadcastInDim S1024x1 ![0] bcast_S1024_S1024x1_0
    (select (cmpi .slt rowList (broadcastInDim S1024 ![] bcast_S_S1024 (constantI S_ 32 0#32)))
      (addi rowList (broadcastInDim S1024 ![] bcast_S_S1024 (constantI S_ 32 1024#32))) rowList)

/-- Which row numbers are in range. -/
def rowOk : IVec S1024x1 1 :=
  andi (cmpi .sge rowIdx (broadcastInDim S1024x1 ![] bcast_S_S1024x1 (constantI S_ 32 0#32)))
    (cmpi .sle rowIdx (broadcastInDim S1024x1 ![0, 1] bcast_S1x1_S1024x1_0_1 (broadcastInDim S1x1 ![1] bcast_S1_S1x1_1 (constantI S1 32 1023#32))))

/-- The output matrix, its rows taken in that order. -/
def taken (w : FVec Ideal S1024x1024 .f32) : FVec Ideal S1024x1024 .f32 :=
  select (broadcastInDim S1024x1024 ![0] bcast_S1024_S1024x1024_0
      (Host.reduce IntOp.andi rowOk (constantI S_ 1 1#1) reducesTo_S1024x1_S1024_d1 h_S_))
    (Host.gather gather_S1024x1024_S1024x1_S1024x1024_1_0_n_n_0_1_11024 w rowIdx)
    (broadcastInDim S1024x1024 ![] bcast_S_S1024x1024 (constant S_ .f32 0x7FC00000#32))

/-- A matrix in the products' storage type. -/
def narrow {S : Shape} (w : FVec Ideal S .f32) : FVec Ideal S .bf16 := truncf .bf16 w bitsLt_bf16_f32

section
variable (m : (ℓ : Loc nD τ sig) → Buf (Elt Ideal) ℓ) (c : Dev nD)

theorem V_v3 : V m c main_v3 = swapped (m ((c.tc : Thread nD τ).loc main_arg0)) := by
  unfold V
  rfl

set_option maxHeartbeats 4000000 in
theorem V_v5 : V m c main_v5 = narrow (taken (m ((c.tc : Thread nD τ).loc main_arg6))) := by
  unfold V
  rfl

theorem V_v6 : V m c main_v6 = narrow (S := S1024x4096) (m ((c.tc : Thread nD τ).loc main_arg7)) := by
  unfold V
  rfl

theorem V_v7 : V m c main_v7 = narrow (S := S4096x1024) (m ((c.tc : Thread nD τ).loc main_arg8)) := by
  unfold V
  rfl

theorem V_v8 : V m c main_v8 = extractStridedSlice S16x4096x256 ![0, 0, 256] (m ((c.tc : Thread nD τ).loc main_arg0) : FVec Ideal S16x4096x1024 .f32) slices_S16x4096x1024_S16x4096x256_0_0_256 := by
  unfold V
  rfl

theorem V_v9 : V m c main_v9 = extractStridedSlice S16x4096x256 ![0, 0, 512] (m ((c.tc : Thread nD τ).loc main_arg0) : FVec Ideal S16x4096x1024 .f32) slices_S16x4096x1024_S16x4096x256_0_0_512 := by
  unfold V
  rfl

theorem V_v10 : V m c main_v10 = extractStridedSlice S16x4096x256 ![0, 0, 768] (m ((c.tc : Thread nD τ).loc main_arg0) : FVec Ideal S16x4096x1024 .f32) slices_S16x4096x1024_S16x4096x256_0_0_768 := by
  unfold V
  rfl

theorem V_v11 : V m c main_v11 = shapeCast S1x1024 (m ((c.tc : Thread nD τ).loc main_arg9) : FVec Ideal S1024 .f32) shapeCasts_S1024_S1x1024 := by
  unfold V
  rfl

theorem V_v12 : V m c main_v12 = shapeCast S1x1024 (m ((c.tc : Thread nD τ).loc main_arg10) : FVec Ideal S1024 .f32) shapeCasts_S1024_S1x1024 := by
  unfold V
  rfl

theorem V_v13 : V m c main_v13 = shapeCast S1x1024 (m ((c.tc : Thread nD τ).loc main_arg11) : FVec Ideal S1024 .f32) shapeCasts_S1024_S1x1024 := by
  unfold V
  rfl

theorem V_v14 : V m c main_v14 = shapeCast S1x1024 (m ((c.tc : Thread nD τ).loc main_arg12) : FVec Ideal S1024 .f32) shapeCasts_S1024_S1x1024 := by
  unfold V
  rfl

end

/-- Where a column of the projection's input comes from: the two middle heads of the first four change places. -/
def src (k : Fin 1024) : Fin 1024 :=
  if k.val < 64 then k else if h : k.val < 128 then ⟨k.val + 64, by omega⟩ else if h : k.val < 192 then ⟨k.val - 64, by omega⟩ else k

theorem src_src : ∀ k : Fin 1024, src (src k) = k := by decide +kernel

/-- The list holds the sources. -/
theorem rowList_lit : ∀ k : Fin 1024, lit0 k = BitVec.ofNat 32 (src k).val := by decide +kernel

/-- The list at an index. -/
theorem rowList_apply (k : Fin 1024) : rowList (ix1 k) = BitVec.ofNat 32 (src k).val := by
  rw [← rowList_lit]
  show lit0 (S1024.rowMajor (ix1 k)) = lit0 k
  congr 1
  exact Fin.ext (Shape.rowMajor_val_one ..)

/-- The row numbers are the sources. -/
theorem rowIdx_apply (k : Fin 1024) (z : Fin 1) : rowIdx (ix2 k z) = BitVec.ofNat 32 (src k).val := by
  have hl := rowList_apply k
  generalize e : rowList = L at hl
  pointwise [rowIdx, e, hl]
  exact (by decide +kernel : ∀ s : Fin 1024, Scalar.select (IntOp.cmpi CmpIPredicate.slt (BitVec.ofNat 32 s.val) 0#32)
    (IntOp.addi (BitVec.ofNat 32 s.val) 1024#32) (BitVec.ofNat 32 s.val) = BitVec.ofNat 32 s.val) (src k)

/-- All are in range. -/
theorem rowOk_apply (i : S1024x1.Idx) : rowOk i = 1#1 := by
  obtain ⟨k, z, rfl⟩ : ∃ k z, i = ix2 k z := ⟨i 0, i 1, funext fun x => by match x with | ⟨0, _⟩ => rfl | ⟨1, _⟩ => rfl⟩
  have h := rowIdx_apply k z
  generalize e : rowIdx = L at h
  pointwise [rowOk, e, h]
  exact (by decide +kernel : ∀ s : Fin 1024, IntOp.andi (IntOp.cmpi CmpIPredicate.sge (BitVec.ofNat 32 s.val) 0#32)
    (IntOp.cmpi CmpIPredicate.sle (BitVec.ofNat 32 s.val) 1023#32) = 1#1) (src k)

/-- The rows that are gathered: each at its number, kept in range. -/
theorem gather_apply (w : FVec Ideal S1024x1024 .f32) (idx : IVec S1024x1 32) (k j : Fin 1024) :
    Host.gather gather_S1024x1024_S1024x1_S1024x1024_1_0_n_n_0_1_11024 w idx (ix2 k j)
      = w (ix2 ⟨min (idx (ix2 k 0)).toInt.toNat 1023, by omega⟩ j) := by
  generalize hd : gather_S1024x1024_S1024x1_S1024x1024_1_0_n_n_0_1_11024 = d
  have hm : d.startIndexMap = [0] := by rw [← hd]; rfl
  have ho : d.offsetDims = [1] := by rw [← hd]; rfl
  have hs : ∀ q, d.siIdx (ix2 k j) q = ix2 k 0 := by
    rw [← hd]; intro q; funext b; refine Fin.ext ?_
    match b with
    | ⟨0, _⟩ => rfl
    | ⟨1, _⟩ => exact congrArg Fin.val (Subsingleton.elim (α := Fin 1) _ _)
  show w _ = w _
  congr 1
  funext a
  refine Fin.ext ?_
  show d.start (ix2 k j) idx a + d.batchCoord (ix2 k j) a + d.offCoord (ix2 k j) a = _
  rw [GatherDims.batchCoord_eq_zero _ _ _ (by rw [← hd]; exact List.not_mem_nil)]
  have h01 : a = 0 ∨ a = 1 := by
    match a with
    | ⟨0, _⟩ => exact Or.inl rfl
    | ⟨1, _⟩ => exact Or.inr rfl
  rcases h01 with rfl | rfl
  · rw [GatherDims.offCoord_eq_zero _ _ _ (by rw [← hd]; exact fun h => ((GatherDims.mem_sKept _ _).mp h).1 (List.mem_singleton.mpr rfl))]
    unfold GatherDims.start
    rw [dif_pos (by rw [hm]; exact List.mem_singleton.mpr rfl), hs]
    rw [← hd]
    rfl
  · unfold GatherDims.start
    rw [dif_neg (by rw [hm]; decide), Nat.zero_add]
    unfold GatherDims.offCoord
    rw [dif_pos (by rw [← hd]; exact (GatherDims.mem_sKept _ _).mpr ⟨by decide, by decide⟩)]
    exact (fun x (hx : x = 1) => by subst hx; rfl : ∀ x : Fin 2, x = 1 → (ix2 k j x).val = j.val) _
      (List.mem_singleton.mp (ho ▸ List.getElem_mem _))

/-- Where every row is in range, the choice is the gathered array. -/
theorem taken_of (M : IVec S1024 1) (G B : FVec Ideal S1024x1024 .f32) (hM : ∀ i, M i = 1#1) (k j : Fin 1024) :
    select (broadcastInDim S1024x1024 ![0] bcast_S1024_S1024x1024_0 M) G B (ix2 k j) = G (ix2 k j) :=
  if_pos (hM _)

/-- Every row is in range. -/
theorem mask_apply (i : S1024.Idx) : Host.reduce IntOp.andi rowOk (constantI S_ 1 1#1) reducesTo_S1024x1_S1024_d1 h_S_ i = 1#1 := by
  generalize hr : rowOk = R
  refine Host.reduce_andi_one R (constantI S_ 1 1#1) reducesTo_S1024x1_S1024_d1 h_S_ i ?_ ?_
  · unfold constantI; exact rfl
  · intro i; rw [← hr]; exact rowOk_apply i

/-- A row number read back from its word. -/
theorem word_row : ∀ s : Fin 1024, min (BitVec.ofNat 32 s.val).toInt.toNat 1023 = s.val := by decide +kernel

/-- A gathered row whose number is known. -/
theorem gather_row (w : FVec Ideal S1024x1024 .f32) (idx : IVec S1024x1 32) (k j s : Fin 1024) (h : idx (ix2 k 0) = BitVec.ofNat 32 s.val) :
    Host.gather gather_S1024x1024_S1024x1_S1024x1024_1_0_n_n_0_1_11024 w idx (ix2 k j) = w (ix2 s j) := by
  rw [gather_apply]
  have e : (⟨min (idx (ix2 k 0)).toInt.toNat 1023, by omega⟩ : Fin 1024) = s :=
    Fin.ext ((congrArg (fun v : BitVec 32 => min v.toInt.toNat 1023) h).trans (word_row s))
  rw [e]

/-- The taken matrix at an index. -/
theorem taken_apply (w : FVec Ideal S1024x1024 .f32) (k j : Fin 1024) : taken w (ix2 k j) = w (ix2 (src k) j) := by
  unfold taken
  rw [taken_of _ _ _ mask_apply]
  exact gather_row w rowIdx k j (src k) (rowIdx_apply k 0)

/-- The source of one of the first columns: its group and its key head change places. -/
theorem src_col : ∀ l : Fin 256, (src ⟨l.val, by omega⟩).val = l.val / 64 % 2 * 128 + l.val / 128 * 64 + l.val % 64 := by decide +kernel

/-- The swapped columns at an index. -/
theorem swapped_apply (y : FVec Ideal S16x4096x1024 .f32) (b : Fin 16) (t : Fin 4096) (l : Fin 256) :
    swapped y (ix3 b t l) = y (ix3 b t (src ⟨l.val, by omega⟩)) := by
  pointwise [swapped]
  congr 2
  exact Fin.ext (src_col l).symm

end Cert.Mlp
end
-- ==== Proof.Mlp.Block.lean ====
module

public import proofs.«01_k».proof.Proof.Gen.Kernel2Ideal.Value
public import proofs.«01_k».proof.Proof.Mlp.Row

@[expose] public section

set_option maxRecDepth 16384

noncomputable section

/-! What one grid point of the projection and feed-forward call computes from its input blocks. -/

namespace Cert.Mlp

open Idealize.ShloMosaic Cert.Kernel2Ideal Cert.Kernel2Ideal.Gen

/-- The four mixers' rows, side by side. -/
def wide (a b c d : Vec Ideal S1x512x256 .f32) (i : Fin 512) (k : Fin 1024) : EReal :=
  if h : k.val < 256 then a (ix3 0 i ⟨k.val, h⟩) else if h : k.val - 256 < 256 then b (ix3 0 i ⟨k.val - 256, h⟩)
  else if h : k.val - 256 - 256 < 256 then c (ix3 0 i ⟨k.val - 256 - 256, h⟩) else d (ix3 0 i ⟨k.val - 256 - 256 - 256, by omega⟩)

/-- The row before the first norm. -/
theorem pay2_apply (a b c d : Vec Ideal S1x512x256 .f32) (wo : Vec Ideal S1024x1024 .bf16) (x : Vec Ideal S1x512x1024 .f32) (g : Vec Ideal S1x1x1024 .f32)
    (i : Fin 512) (j : Fin 1024) : k0_pay2 a b c d wo x g (ix2 i j)
      = resid (fun j => x (ix3 0 i j)) (fun j => g (ix3 0 0 j)) (times (wide a b c d i) (fun k j => wo (ix2 k j))) j := by
  unfold resid times wide
  pointwise [k0_pay2]

theorem pay5_apply (a b c d : Vec Ideal S1x512x256 .f32) (wo : Vec Ideal S1024x1024 .bf16) (x : Vec Ideal S1x512x1024 .f32) (g : Vec Ideal S1x1x1024 .f32)
    (i : Fin 512) : k0_pay5 a b c d wo x g (ix2 i 0) = mean (fun j => k0_pay2 a b c d wo x g (ix2 i j)) := by
  unfold mean
  generalize h : k0_pay2 a b c d wo x g = r
  pointwise [k0_pay5, h]

theorem pay6_apply (r : FVec Ideal S512x1024 .f32) (g b : FVec Ideal S1x1024 .f32) (u : FVec Ideal S512x1 .f32) (i : Fin 512) (j : Fin 1024)
    (hu : u (ix2 i 0) = mean (fun j => r (ix2 i j))) :
    k0_pay6 r g b u (ix2 i j) = norm (fun j => g (ix2 0 j)) (fun j => b (ix2 0 j)) (fun j => r (ix2 i j)) j := by
  unfold norm
  rw [← hu]
  unfold mean
  pointwise [k0_pay6]

theorem pay7_apply (r : FVec Ideal S512x1024 .f32) (g b : FVec Ideal S1x1024 .f32) (u : FVec Ideal S512x1 .f32) (sc sh : Vec Ideal S1x1x1024 .f32)
    (i : Fin 512) (j : Fin 1024) : k0_pay7 r g b u sc sh (ix2 i j)
      = modulate (fun j => k0_pay6 r g b u (ix2 i j)) (fun j => sc (ix3 0 0 j)) (fun j => sh (ix3 0 0 j)) j := by
  unfold modulate
  generalize h : k0_pay6 r g b u = x
  pointwise [k0_pay7, h]

theorem pay8_apply (r : FVec Ideal S512x1024 .f32) (g b : FVec Ideal S1x1024 .f32) (u : FVec Ideal S512x1 .f32) (sc sh : Vec Ideal S1x1x1024 .f32)
    (w1 w2 : Vec Ideal S1024x1024 .bf16) (i : Fin 512) (j : Fin 1024) : k0_pay8 r g b u sc sh w1 w2 (ix2 i j)
      = times (fun f => ramp2 (times (fun j => k0_pay7 r g b u sc sh (ix2 i j)) (fun k f => w1 (ix2 k f)) f)) (fun f j => w2 (ix2 f j)) j := by
  unfold times ramp2
  generalize h : k0_pay7 r g b u sc sh = x
  pointwise [k0_pay8, h]

theorem pay9_apply (r : FVec Ideal S512x1024 .f32) (g b : FVec Ideal S1x1024 .f32) (u : FVec Ideal S512x1 .f32) (sc sh : Vec Ideal S1x1x1024 .f32)
    (w1 : Vec Ideal S1024x1024 .bf16) (i : Fin 512) (f : Fin 1024) : k0_pay9 r g b u sc sh w1 (ix2 i f)
      = times (fun j => k0_pay7 r g b u sc sh (ix2 i j)) (fun k f => w1 (ix2 k f)) f := by
  unfold times
  generalize h : k0_pay7 r g b u sc sh = x
  pointwise [k0_pay9, h]

theorem pay10_apply (x : FVec Ideal S512x1024 .f32) (h : FVec Ideal S512x1024 .bf16) (p q : FVec Ideal S512x1024 .f32)
    (v1 w2 v2 w3 v3 : Vec Ideal S1024x1024 .bf16) (g : Vec Ideal S1x1x1024 .f32) (i : Fin 512) (j : Fin 1024) :
    k0_pay10 x h p q v1 w2 v2 w3 v3 g (ix2 i j) = resid (fun j => x (ix2 i j)) (fun j => g (ix3 0 0 j)) (fun j =>
      p (ix2 i j) + times (fun f => ramp2 (q (ix2 i f))) (fun f j => v1 (ix2 f j)) j
      + times (fun f => ramp2 (times (fun j => h (ix2 i j)) (fun k f => w2 (ix2 k f)) f)) (fun f j => v2 (ix2 f j)) j
      + times (fun f => ramp2 (times (fun j => h (ix2 i j)) (fun k f => w3 (ix2 k f)) f)) (fun f j => v3 (ix2 f j)) j) j := by
  unfold resid times ramp2
  pointwise [k0_pay10]

theorem pay1_apply (r : FVec Ideal S512x1024 .f32) (g b : Vec Ideal S1x1024 .f32) (i : Fin 512) (j : Fin 1024) :
    k0_pay1 r g b (ix3 0 i j) = norm (fun j => g (ix2 0 j)) (fun j => b (ix2 0 j)) (fun j => r (ix2 i j)) j := by
  unfold norm mean
  pointwise [k0_pay1]

theorem hz2 : (![0, 0] : Fin 2 → Nat) = fun _ => 0 := funext fun a => by fin_cases a <;> rfl
theorem hz3 : (![0, 0, 0] : Fin 3 → Nat) = fun _ => 0 := funext fun a => by fin_cases a <;> rfl

/-- A part of the first feed-forward matrix: 1024 columns from `o`. -/
theorem cols_apply (w : Vec Ideal S1024x4096 .bf16) (o : Nat) (inb : ∀ a, (![0, o] : Fin 2 → Nat) a + S1024x1024.size a ≤ S1024x4096.size a)
    (k f : Fin 1024) (h : o + f.val < 4096) :
    View.ld w (Rect.unit (s := S1024x4096) ![0, o] S1024x1024.size inb) (ix2 k f) = w (ix2 k ⟨o + f.val, h⟩) := by
  show w _ = w _
  congr 1; funext a; apply Fin.ext
  match a with
  | ⟨0, _⟩ => show 0 + 1 * k.val = k.val; omega
  | ⟨1, _⟩ => show o + 1 * f.val = o + f.val; omega

/-- A part of the second feed-forward matrix: 1024 rows from `o`. -/
theorem rows_apply (w : Vec Ideal S4096x1024 .bf16) (o : Nat) (inb : ∀ a, (![o, 0] : Fin 2 → Nat) a + S1024x1024.size a ≤ S4096x1024.size a)
    (f j : Fin 1024) (h : o + f.val < 4096) :
    View.ld w (Rect.unit (s := S4096x1024) ![o, 0] S1024x1024.size inb) (ix2 f j) = w (ix2 ⟨o + f.val, h⟩ j) := by
  show w _ = w _
  congr 1; funext a; apply Fin.ext
  match a with
  | ⟨0, _⟩ => show o + 1 * f.val = o + f.val; omega
  | ⟨1, _⟩ => show 0 + 1 * j.val = j.val; omega

/-- A part of the feed-forward sum: the 1024 hidden columns from `o`. -/
theorem part (H : Fin 1024 → EReal) (w1 : Vec Ideal S1024x4096 .bf16) (w2 : Vec Ideal S4096x1024 .bf16) (o : Nat) (ho : o + 1024 ≤ 4096)
    (inb : ∀ a, (![0, o] : Fin 2 → Nat) a + S1024x1024.size a ≤ S1024x4096.size a)
    (inb' : ∀ a, (![o, 0] : Fin 2 → Nat) a + S1024x1024.size a ≤ S4096x1024.size a) (j : Fin 1024) :
    times (fun f => ramp2 (times (fun j => H j) (fun k f => View.ld w1 (Rect.unit (s := S1024x4096) ![0, o] S1024x1024.size inb) (ix2 k f)) f))
        (fun f j => View.ld w2 (Rect.unit (s := S4096x1024) ![o, 0] S1024x1024.size inb') (ix2 f j)) j
      = ∑ f : Fin 1024, ramp2 (times H (fun k f => w1 (ix2 k f)) ⟨o + f.val, by omega⟩) * w2 (ix2 ⟨o + f.val, by omega⟩ j) := by
  refine Finset.sum_congr rfl fun f _ => ?_
  refine congrArg₂ (· * ·) (congrArg ramp2 ?_) (rows_apply w2 o inb' f j (by omega))
  exact Finset.sum_congr rfl fun k _ => congrArg (H k * ·) (cols_apply w1 o inb k f (by omega))

/-- What the body leaves in the output's buffer, row by row: the token's layer. -/
theorem out_apply (x0 x1 x2 x3 : Vec Ideal S1x512x256 .f32) (x4 : Vec Ideal S1x512x1024 .f32) (x5 x6 x7 x8 : Vec Ideal S1x1x1024 .f32)
    (x9 : Vec Ideal S1024x1024 .bf16) (x10 : Vec Ideal S1024x4096 .bf16) (x11 : Vec Ideal S4096x1024 .bf16) (x12 x13 x14 x15 : Vec Ideal S1x1024 .f32)
    (i : Fin 512) (j : Fin 1024) : out0_16 x0 x1 x2 x3 x4 x5 x6 x7 x8 x9 x10 x11 x12 x13 x14 x15 (ix3 0 i j)
      = token (wide x0 x1 x2 x3 i) (fun j => x4 (ix3 0 i j)) (fun j => x5 (ix3 0 0 j)) (fun j => x6 (ix3 0 0 j)) (fun j => x7 (ix3 0 0 j))
          (fun j => x8 (ix3 0 0 j)) (fun k j => x9 (ix2 k j)) (fun k f => x10 (ix2 k f)) (fun f j => x11 (ix2 f j))
          (fun j => x12 (ix2 0 j)) (fun j => x13 (ix2 0 j)) (fun j => x14 (ix2 0 j)) (fun j => x15 (ix2 0 j)) j := by
  unfold_out out0_16
  rw [View.canon_unit_zero hz3]
  simp only [View.ld_unit_zero (S := S1x512x256) hz3, View.ld_unit_zero (S := S1x512x1024) hz3, View.ld_unit_zero (S := S1x1x1024) hz3,
    View.ld_unit_zero (S := S1024x1024) hz2, View.ld_unit_zero (S := S1x1024) hz2]
  have e3 : k0_pay3 x12 = x12 := by funext y; pointwise [k0_pay3]
  have e4 : k0_pay4 x13 = x13 := by funext y; pointwise [k0_pay4]
  rw [e3, e4, pay1_apply]
  have hx1 : ∀ j, k0_pay6 (k0_pay2 x0 x1 x2 x3 x9 x4 x5) x12 x13 (k0_pay5 x0 x1 x2 x3 x9 x4 x5) (ix2 i j) = norm (fun j => x12 (ix2 0 j)) (fun j => x13 (ix2 0 j))
      (resid (fun j => x4 (ix3 0 i j)) (fun j => x5 (ix3 0 0 j)) (times (wide x0 x1 x2 x3 i) (fun k j => x9 (ix2 k j)))) j := fun j => by
    rw [pay6_apply _ _ _ _ i j (pay5_apply ..)]
    simp only [pay2_apply]
  unfold token
  congr 1
  funext j
  rw [pay10_apply]
  congr 1
  · funext j; rw [hx1]
  funext j
  simp only [pay8_apply, pay9_apply, pay7_apply, hx1]
  generalize norm (fun j => x12 (ix2 0 j)) (fun j => x13 (ix2 0 j)) _ = X
  generalize modulate _ _ _ = H
  rw [part H x10 x11 0 (by omega), part H x10 x11 1024 (by omega), part H x10 x11 2048 (by omega), part H x10 x11 3072 (by omega)]
  refine Eq.trans ?_ (sum_four (fun f => ramp2 (times H (fun k f => x10 (ix2 k f)) f) * x11 (ix2 f j))).symm
  simp only [Nat.zero_add]

end Cert.Mlp
end
-- ==== Proof.Mlp.Ref.lean ====
module

public import proofs.«01_k».proof.Proof.Gen.Reference2Ideal.Run
public import proofs.«01_k».proof.Proof.Mlp.Row

@[expose] public section

set_option maxRecDepth 16384

noncomputable section

/-! The reference of the output projection and the feed-forward part: its arrays, stage by stage. -/

namespace Cert.Mlp.Ref

open Idealize.ShloMosaic Cert.Reference2Ideal Cert.Reference2Ideal.Gen

/-- The mean of every row. -/
def meanArr (x : FVec Ideal S16x4096x1024 .f32) : FVec Ideal S16x4096x1 .f32 :=
  Host.divf (broadcastInDim S16x4096x1 ![0, 1] bcast_S16x4096_S16x4096x1_0_1
      (Host.reduceAdd x (constant S_ .f32 0x00000000#32) reducesTo_S16x4096x1024_S16x4096_d2 h_S_))
    (broadcastInDim S16x4096x1 ![] bcast_S_S16x4096x1 (constant S_ .f32 0x44800000#32))

/-- Every row less its mean. -/
def centred (x : FVec Ideal S16x4096x1024 .f32) : FVec Ideal S16x4096x1024 .f32 :=
  subf x (broadcastInDim S16x4096x1024 ![0, 1, 2] bcast_S16x4096x1_S16x4096x1024_0_1_2 (meanArr x))

/-- A row of 1024 for every token. -/
def spread (g : FVec Ideal S1024 .f32) : FVec Ideal S16x4096x1024 .f32 :=
  broadcastInDim S16x4096x1024 ![0, 1, 2] bcast_S1x1x1024_S16x4096x1024_0_1_2 (broadcastInDim S1x1x1024 ![2] bcast_S1024_S1x1x1024_2 g)

/-- The layer norm of every row. -/
def normArr (x : FVec Ideal S16x4096x1024 .f32) (g b : FVec Ideal S1024 .f32) : FVec Ideal S16x4096x1024 .f32 :=
  addf (mulf (mulf (centred x) (broadcastInDim S16x4096x1024 ![0, 1, 2] bcast_S16x4096x1_S16x4096x1024_0_1_2
      (Host.rsqrt (addf (meanArr (mulf (centred x) (centred x))) (broadcastInDim S16x4096x1 ![] bcast_S_S16x4096x1 (constant S_ .f32 0x3727C5AC#32))))))
    (spread g)) (spread b)

/-- A row of a batch entry for each of its tokens. -/
def perBatch (g : FVec Ideal S16x1x1024 .f32) : FVec Ideal S16x4096x1024 .f32 :=
  broadcastInDim S16x4096x1024 ![0, 1, 2] bcast_S16x1x1024_S16x4096x1024_0_1_2 g

/-- The scaled rows plus the gated update. -/
def residArr (x : FVec Ideal S16x4096x1024 .f32) (g : FVec Ideal S16x1x1024 .f32) (u : FVec Ideal S16x4096x1024 .f32) : FVec Ideal S16x4096x1024 .f32 :=
  addf (mulf (broadcastInDim S16x4096x1024 ![] bcast_S_S16x4096x1024 (constant S_ .f32 0x3FB504F3#32)) x) (mulf (perBatch g) u)

/-- The output projection. -/
def projArr (y : FVec Ideal S16x4096x1024 .f32) (w : FVec Ideal S1024x1024 .f32) : FVec Ideal S16x4096x1024 .f32 :=
  Host.dotGeneral dot_S16x4096x1024_S1024x1024_S16x4096x1024_2_0_01_1_n_n none y w

/-- The modulated rows. -/
def modArr (x : FVec Ideal S16x4096x1024 .f32) (sc sh : FVec Ideal S16x1x1024 .f32) : FVec Ideal S16x4096x1024 .f32 :=
  addf (mulf x (broadcastInDim S16x4096x1024 ![0, 1, 2] bcast_S16x1x1024_S16x4096x1024_0_1_2
    (addf (broadcastInDim S16x1x1024 ![] bcast_S_S16x1x1024 (constant S_ .f32 0x3F800000#32)) sc))) (perBatch sh)

/-- The ramp of the hidden columns. -/
def hidArr (h : FVec Ideal S16x4096x1024 .f32) (w1 : FVec Ideal S1024x4096 .f32) : FVec Ideal S16x4096x4096 .f32 :=
  maximumf (Host.dotGeneral dot_S16x4096x1024_S1024x4096_S16x4096x4096_2_0_01_1_n_n none h w1)
    (broadcastInDim S16x4096x4096 ![] bcast_S_S16x4096x4096 (constant S_ .f32 0x00000000#32))

/-- The feed-forward part. -/
def ffArr (h : FVec Ideal S16x4096x1024 .f32) (w1 : FVec Ideal S1024x4096 .f32) (w2 : FVec Ideal S4096x1024 .f32) : FVec Ideal S16x4096x1024 .f32 :=
  Host.dotGeneral dot_S16x4096x4096_S4096x1024_S16x4096x1024_2_0_01_1_n_n none (mulf (hidArr h w1) (hidArr h w1)) w2

/-- The first norm's result. -/
def firstArr (y x : FVec Ideal S16x4096x1024 .f32) (g1 : FVec Ideal S16x1x1024 .f32) (wo : FVec Ideal S1024x1024 .f32) (l1g l1b : FVec Ideal S1024 .f32) :
    FVec Ideal S16x4096x1024 .f32 := normArr (residArr x g1 (projArr y wo)) l1g l1b

/-- The result. -/
def resultArr (y x : FVec Ideal S16x4096x1024 .f32) (g1 sc sh g2 : FVec Ideal S16x1x1024 .f32) (wo : FVec Ideal S1024x1024 .f32)
    (w1 : FVec Ideal S1024x4096 .f32) (w2 : FVec Ideal S4096x1024 .f32) (l1g l1b l2g l2b : FVec Ideal S1024 .f32) : FVec Ideal S16x4096x1024 .f32 :=
  normArr (residArr (firstArr y x g1 wo l1g l1b) g2 (ffArr (modArr (firstArr y x g1 wo l1g l1b) sc sh) w1 w2)) l2g l2b

set_option maxHeartbeats 4000000 in
/-- The reference's result is that array of its arguments. -/
theorem result_eq (m : (ℓ : Loc nD τ sig) → Buf (Elt Ideal) ℓ) (c : Dev nD) : Cert.Reference2Ideal.Value.res_main_v68 m c
    = resultArr (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11))
        (m ((c.tc : Thread nD τ).loc main_arg12)) := rfl

section
variable (b : Fin 16) (t : Fin 4096)

theorem meanArr_apply (x : FVec Ideal S16x4096x1024 .f32) (z : Fin 1) : meanArr x (ix3 b t z) = mean (fun k => x (ix3 b t k)) := by
  pointwise [meanArr, mean]

theorem centred_apply (x : FVec Ideal S16x4096x1024 .f32) (j : Fin 1024) : centred x (ix3 b t j) = x (ix3 b t j) - mean (fun k => x (ix3 b t k)) := by
  have h := meanArr_apply b t x
  generalize e : meanArr x = M at h
  pointwise [centred, e, h]

theorem spread_apply (g : FVec Ideal S1024 .f32) (j : Fin 1024) : spread g (ix3 b t j) = g (ix1 j) := by
  pointwise [spread]

theorem normArr_apply (x : FVec Ideal S16x4096x1024 .f32) (g l : FVec Ideal S1024 .f32) (j : Fin 1024) :
    normArr x g l (ix3 b t j) = norm (fun j => g (ix1 j)) (fun j => l (ix1 j)) (fun j => x (ix3 b t j)) j := by
  have h := meanArr_apply b t (mulf (centred x) (centred x))
  have hc := centred_apply b t x
  have hg := spread_apply b t g
  have hl := spread_apply b t l
  have hm : ∀ k, mulf (centred x) (centred x) (ix3 b t k) = centred x (ix3 b t k) * centred x (ix3 b t k) := fun k => rfl
  simp only [hm, hc] at h
  generalize e : meanArr (mulf (centred x) (centred x)) = M at h
  generalize ec : centred x = C at hc
  generalize eg : spread g = G at hg
  generalize el : spread l = L at hl
  rw [ec] at e
  pointwise [normArr, ec, e, eg, el, h, hc, hg, hl, norm]

theorem residArr_apply (x u : FVec Ideal S16x4096x1024 .f32) (g : FVec Ideal S16x1x1024 .f32) (j : Fin 1024) :
    residArr x g u (ix3 b t j) = resid (fun j => x (ix3 b t j)) (fun j => g (ix3 b 0 j)) (fun j => u (ix3 b t j)) j := by
  pointwise [residArr, perBatch, resid]

theorem projArr_apply (y : FVec Ideal S16x4096x1024 .f32) (w : FVec Ideal S1024x1024 .f32) (j : Fin 1024) :
    projArr y w (ix3 b t j) = times (fun k => y (ix3 b t k)) (fun k j => w (ix2 k j)) j := by
  pointwise [projArr, times]

theorem modArr_apply (x : FVec Ideal S16x4096x1024 .f32) (sc sh : FVec Ideal S16x1x1024 .f32) (j : Fin 1024) :
    modArr x sc sh (ix3 b t j) = modulate (fun j => x (ix3 b t j)) (fun j => sc (ix3 b 0 j)) (fun j => sh (ix3 b 0 j)) j := by
  pointwise [modArr, perBatch, modulate]

theorem hidArr_apply (h : FVec Ideal S16x4096x1024 .f32) (w : FVec Ideal S1024x4096 .f32) (f : Fin 4096) :
    hidArr h w (ix3 b t f) = max (times (fun k => h (ix3 b t k)) (fun k f => w (ix2 k f)) f) 0 := by
  pointwise [hidArr, times]

theorem ffArr_apply (h : FVec Ideal S16x4096x1024 .f32) (w1 : FVec Ideal S1024x4096 .f32) (w2 : FVec Ideal S4096x1024 .f32) (j : Fin 1024) :
    ffArr h w1 w2 (ix3 b t j)
      = times (fun f => ramp2 (times (fun k => h (ix3 b t k)) (fun k f => w1 (ix2 k f)) f)) (fun f j => w2 (ix2 f j)) j := by
  have hh := hidArr_apply b t h w1
  generalize e : hidArr h w1 = H at hh
  pointwise [ffArr, e, hh, times, ramp2]

/-- The result at a token. -/
theorem result_apply (y x : FVec Ideal S16x4096x1024 .f32) (g1 sc sh g2 : FVec Ideal S16x1x1024 .f32) (wo : FVec Ideal S1024x1024 .f32)
    (w1 : FVec Ideal S1024x4096 .f32) (w2 : FVec Ideal S4096x1024 .f32) (l1g l1b l2g l2b : FVec Ideal S1024 .f32) (j : Fin 1024) :
    resultArr y x g1 sc sh g2 wo w1 w2 l1g l1b l2g l2b (ix3 b t j)
      = token (fun k => y (ix3 b t k)) (fun k => x (ix3 b t k)) (fun k => g1 (ix3 b 0 k)) (fun k => sc (ix3 b 0 k)) (fun k => sh (ix3 b 0 k))
          (fun k => g2 (ix3 b 0 k)) (fun k j => wo (ix2 k j)) (fun k f => w1 (ix2 k f)) (fun f j => w2 (ix2 f j))
          (fun k => l1g (ix1 k)) (fun k => l1b (ix1 k)) (fun k => l2g (ix1 k)) (fun k => l2b (ix1 k)) j := by
  unfold resultArr firstArr token
  simp only [normArr_apply, residArr_apply, projArr_apply, ffArr_apply, modArr_apply]

end
end Cert.Mlp.Ref
end
-- ==== Proof.Mlp.Blocks.lean ====
module

public import proofs.«01_k».proof.Proof.Mlp.Host
public import proofs.«01_k».proof.Proof.Mlp.Block
public import proofs.«01_k».proof.Proof.Mlp.Ref

@[expose] public section

set_option maxRecDepth 16384

noncomputable section

/-! The blocks that a grid point of the output projection reads, and the block that it writes. -/

namespace Cert.Mlp

open Idealize.ShloMosaic Cert.Kernel2Ideal Cert.Kernel2Ideal.Gen

/-! Which block each window stages at a point. -/

/-- The windows over tokens. -/
theorem idx_tok : ∀ t : Fin cfg0.N,
    (win0_0.index t (0 : Fin 3) = t.val / 8 ∧ win0_0.index t (1 : Fin 3) = t.val % 8 ∧ win0_0.index t (2 : Fin 3) = 0)
    ∧ (win0_1.index t (0 : Fin 3) = t.val / 8 ∧ win0_1.index t (1 : Fin 3) = t.val % 8 ∧ win0_1.index t (2 : Fin 3) = 0)
    ∧ (win0_2.index t (0 : Fin 3) = t.val / 8 ∧ win0_2.index t (1 : Fin 3) = t.val % 8 ∧ win0_2.index t (2 : Fin 3) = 0)
    ∧ (win0_3.index t (0 : Fin 3) = t.val / 8 ∧ win0_3.index t (1 : Fin 3) = t.val % 8 ∧ win0_3.index t (2 : Fin 3) = 0)
    ∧ (win0_4.index t (0 : Fin 3) = t.val / 8 ∧ win0_4.index t (1 : Fin 3) = t.val % 8 ∧ win0_4.index t (2 : Fin 3) = 0)
    ∧ (win0_16.index t (0 : Fin 3) = t.val / 8 ∧ win0_16.index t (1 : Fin 3) = t.val % 8 ∧ win0_16.index t (2 : Fin 3) = 0) :=
  (by decide +kernel : ∀ t : Fin grid0.N, _)

/-- The windows over a batch entry's row. -/
theorem idx_row : ∀ t : Fin cfg0.N,
    (win0_5.index t (0 : Fin 3) = t.val / 8 ∧ win0_5.index t (1 : Fin 3) = 0 ∧ win0_5.index t (2 : Fin 3) = 0)
    ∧ (win0_6.index t (0 : Fin 3) = t.val / 8 ∧ win0_6.index t (1 : Fin 3) = 0 ∧ win0_6.index t (2 : Fin 3) = 0)
    ∧ (win0_7.index t (0 : Fin 3) = t.val / 8 ∧ win0_7.index t (1 : Fin 3) = 0 ∧ win0_7.index t (2 : Fin 3) = 0)
    ∧ (win0_8.index t (0 : Fin 3) = t.val / 8 ∧ win0_8.index t (1 : Fin 3) = 0 ∧ win0_8.index t (2 : Fin 3) = 0) :=
  (by decide +kernel : ∀ t : Fin grid0.N, _)

/-- The windows that hold a whole array. -/
theorem idx_whole : ∀ (t : Fin cfg0.N) (a : Fin 2), win0_9.index t a = 0 ∧ win0_10.index t a = 0 ∧ win0_11.index t a = 0
    ∧ win0_12.index t a = 0 ∧ win0_13.index t a = 0 ∧ win0_14.index t a = 0 ∧ win0_15.index t a = 0 :=
  (by decide +kernel : ∀ (t : Fin grid0.N) (a : Fin 2), _)

theorem point_lt (t : Fin cfg0.N) : t.val < 128 := lt_of_lt_of_eq t.isLt N_0

/-- The batch entry of a point. -/
abbrev bat (t : Fin cfg0.N) : Fin 16 := ⟨t.val / 8, by have := point_lt t; omega⟩

/-- The token of a point's row. -/
abbrev tok (t : Fin cfg0.N) (i : Fin 512) : Fin 4096 := ⟨t.val % 8 * 512 + i.val, by omega⟩

/-- The array's index of a place in a block of tokens. -/
theorem tok_at {n : Nat} (t : Fin cfg0.N) (i : Fin 512) (l : Fin n) (f : Fin 3 → Nat) (hf : f 0 = t.val / 8 ∧ f 1 = t.val % 8 ∧ f 2 = 0)
    (x : (⟨3, ![16, 4096, n]⟩ : Shape).Idx) (h0 : (x 0).val = f 0 * 1 + 1 * 0) (h1 : (x 1).val = f 1 * 512 + 1 * i.val) (h2 : (x 2).val = f 2 * n + 1 * l.val) :
    x = ix3 (bat t) (tok t i) l := by
  obtain ⟨e0, e1, e2⟩ := hf
  rw [e0] at h0; rw [e1] at h1; rw [e2] at h2
  funext a; apply Fin.ext
  match a with
  | ⟨0, _⟩ => show (x 0).val = t.val / 8; omega
  | ⟨1, _⟩ => show (x 1).val = t.val % 8 * 512 + i.val; omega
  | ⟨2, _⟩ => show (x 2).val = l.val; omega

/-- The array's index of a place in a batch entry's row. -/
theorem row_at (t : Fin cfg0.N) (l : Fin 1024) (f : Fin 3 → Nat) (hf : f 0 = t.val / 8 ∧ f 1 = 0 ∧ f 2 = 0)
    (x : (⟨3, ![16, 1, 1024]⟩ : Shape).Idx) (h0 : (x 0).val = f 0 * 1 + 1 * 0) (h1 : (x 1).val = f 1 * 1 + 1 * 0) (h2 : (x 2).val = f 2 * 1024 + 1 * l.val) :
    x = ix3 (bat t) 0 l := by
  obtain ⟨e0, e1, e2⟩ := hf
  rw [e0] at h0; rw [e1] at h1; rw [e2] at h2
  funext a; apply Fin.ext
  match a with
  | ⟨0, _⟩ => show (x 0).val = t.val / 8; omega
  | ⟨1, _⟩ => show (x 1).val = 0; omega
  | ⟨2, _⟩ => show (x 2).val = l.val; omega

/-- The array's index of a place in a whole array. -/
theorem whole_at {m n : Nat} (k : Fin m) (l : Fin n) (f : Fin 2 → Nat) (hf : ∀ a, f a = 0)
    (x : (⟨2, ![m, n]⟩ : Shape).Idx) (h0 : (x 0).val = f 0 * m + 1 * k.val) (h1 : (x 1).val = f 1 * n + 1 * l.val) : x = ix2 k l := by
  rw [hf] at h0; rw [hf] at h1
  funext a; apply Fin.ext
  match a with
  | ⟨0, _⟩ => show (x 0).val = k.val; omega
  | ⟨1, _⟩ => show (x 1).val = l.val; omega

section
variable (m : (ℓ : Loc nD τ sig) → Buf (Elt Ideal) ℓ) (c : Dev nD) (t : Fin cfg0.N)

/-- The call's first argument: the mixers' outputs side by side. -/
abbrev Y : FVec Ideal S16x4096x1024 .f32 := m ((c.tc : Thread nD τ).loc main_arg0)

theorem blk0 (i : Fin 512) (l : Fin 256) : (iblk m c 0 t : Vec Ideal S1x512x256 .f32) (ix3 0 i l) = Y m c (ix3 (bat t) (tok t i) (src ⟨l.val, by omega⟩)) := by
  refine (congrArg (V m c main_v3) (tok_at t i l _ (idx_tok t).1 _ rfl rfl rfl)).trans ?_
  rw [V_v3]
  exact swapped_apply ..

theorem blk1 (i : Fin 512) (l : Fin 256) : (iblk m c 1 t : Vec Ideal S1x512x256 .f32) (ix3 0 i l) = Y m c (ix3 (bat t) (tok t i) ⟨256 + l.val, by omega⟩) := by
  refine (congrArg (V m c main_v8) (tok_at t i l _ (idx_tok t).2.1 _ rfl rfl rfl)).trans ?_
  rw [V_v8]
  pointwise

theorem blk2 (i : Fin 512) (l : Fin 256) : (iblk m c 2 t : Vec Ideal S1x512x256 .f32) (ix3 0 i l) = Y m c (ix3 (bat t) (tok t i) ⟨512 + l.val, by omega⟩) := by
  refine (congrArg (V m c main_v9) (tok_at t i l _ (idx_tok t).2.2.1 _ rfl rfl rfl)).trans ?_
  rw [V_v9]
  pointwise

theorem blk3 (i : Fin 512) (l : Fin 256) : (iblk m c 3 t : Vec Ideal S1x512x256 .f32) (ix3 0 i l) = Y m c (ix3 (bat t) (tok t i) ⟨768 + l.val, by omega⟩) := by
  refine (congrArg (V m c main_v10) (tok_at t i l _ (idx_tok t).2.2.2.1 _ rfl rfl rfl)).trans ?_
  rw [V_v10]
  pointwise

theorem blk4 (i : Fin 512) (l : Fin 1024) : (iblk m c 4 t : Vec Ideal S1x512x1024 .f32) (ix3 0 i l)
    = (m ((c.tc : Thread nD τ).loc main_arg1) : FVec Ideal S16x4096x1024 .f32) (ix3 (bat t) (tok t i) l) :=
  (congrArg (V m c main_arg1) (tok_at t i l _ (idx_tok t).2.2.2.2.1 _ rfl rfl rfl)).trans (congrFun (V_main_arg1 m c) _)

theorem blk5 (l : Fin 1024) : (iblk m c 5 t : Vec Ideal S1x1x1024 .f32) (ix3 0 0 l)
    = (m ((c.tc : Thread nD τ).loc main_arg2) : FVec Ideal S16x1x1024 .f32) (ix3 (bat t) 0 l) :=
  (congrArg (V m c main_arg2) (row_at t l _ (idx_row t).1 _ rfl rfl rfl)).trans (congrFun (V_main_arg2 m c) _)

theorem blk6 (l : Fin 1024) : (iblk m c 6 t : Vec Ideal S1x1x1024 .f32) (ix3 0 0 l)
    = (m ((c.tc : Thread nD τ).loc main_arg3) : FVec Ideal S16x1x1024 .f32) (ix3 (bat t) 0 l) :=
  (congrArg (V m c main_arg3) (row_at t l _ (idx_row t).2.1 _ rfl rfl rfl)).trans (congrFun (V_main_arg3 m c) _)

theorem blk7 (l : Fin 1024) : (iblk m c 7 t : Vec Ideal S1x1x1024 .f32) (ix3 0 0 l)
    = (m ((c.tc : Thread nD τ).loc main_arg4) : FVec Ideal S16x1x1024 .f32) (ix3 (bat t) 0 l) :=
  (congrArg (V m c main_arg4) (row_at t l _ (idx_row t).2.2.1 _ rfl rfl rfl)).trans (congrFun (V_main_arg4 m c) _)

theorem blk8 (l : Fin 1024) : (iblk m c 8 t : Vec Ideal S1x1x1024 .f32) (ix3 0 0 l)
    = (m ((c.tc : Thread nD τ).loc main_arg5) : FVec Ideal S16x1x1024 .f32) (ix3 (bat t) 0 l) :=
  (congrArg (V m c main_arg5) (row_at t l _ (idx_row t).2.2.2 _ rfl rfl rfl)).trans (congrFun (V_main_arg5 m c) _)

theorem blk9 (k j : Fin 1024) : (iblk m c 9 t : Vec Ideal S1024x1024 .bf16) (ix2 k j)
    = (m ((c.tc : Thread nD τ).loc main_arg6) : FVec Ideal S1024x1024 .f32) (ix2 (src k) j) := by
  refine (congrArg (V m c main_v5) (whole_at k j _ (fun a => (idx_whole t a).1) _ rfl rfl)).trans ?_
  rw [V_v5]
  exact taken_apply ..

theorem blk10 (k : Fin 1024) (f : Fin 4096) : (iblk m c 10 t : Vec Ideal S1024x4096 .bf16) (ix2 k f)
    = (m ((c.tc : Thread nD τ).loc main_arg7) : FVec Ideal S1024x4096 .f32) (ix2 k f) := by
  refine (congrArg (V m c main_v6) (whole_at k f _ (fun a => (idx_whole t a).2.1) _ rfl rfl)).trans ?_
  rw [V_v6]
  rfl

theorem blk11 (f : Fin 4096) (j : Fin 1024) : (iblk m c 11 t : Vec Ideal S4096x1024 .bf16) (ix2 f j)
    = (m ((c.tc : Thread nD τ).loc main_arg8) : FVec Ideal S4096x1024 .f32) (ix2 f j) := by
  refine (congrArg (V m c main_v7) (whole_at f j _ (fun a => (idx_whole t a).2.2.1) _ rfl rfl)).trans ?_
  rw [V_v7]
  rfl

/-- A vector as a row. -/
theorem row_apply (v : FVec Ideal S1024 .f32) (j : Fin 1024) : shapeCast S1x1024 v shapeCasts_S1024_S1x1024 (ix2 0 j) = v (ix1 j) := by pointwise

theorem blk12 (j : Fin 1024) : (iblk m c 12 t : Vec Ideal S1x1024 .f32) (ix2 0 j) = (m ((c.tc : Thread nD τ).loc main_arg9) : FVec Ideal S1024 .f32) (ix1 j) := by
  refine (congrArg (V m c main_v11) (whole_at 0 j _ (fun a => (idx_whole t a).2.2.2.1) _ rfl rfl)).trans ?_
  rw [V_v11, row_apply]

theorem blk13 (j : Fin 1024) : (iblk m c 13 t : Vec Ideal S1x1024 .f32) (ix2 0 j) = (m ((c.tc : Thread nD τ).loc main_arg10) : FVec Ideal S1024 .f32) (ix1 j) := by
  refine (congrArg (V m c main_v12) (whole_at 0 j _ (fun a => (idx_whole t a).2.2.2.2.1) _ rfl rfl)).trans ?_
  rw [V_v12, row_apply]

theorem blk14 (j : Fin 1024) : (iblk m c 14 t : Vec Ideal S1x1024 .f32) (ix2 0 j) = (m ((c.tc : Thread nD τ).loc main_arg11) : FVec Ideal S1024 .f32) (ix1 j) := by
  refine (congrArg (V m c main_v13) (whole_at 0 j _ (fun a => (idx_whole t a).2.2.2.2.2.1) _ rfl rfl)).trans ?_
  rw [V_v13, row_apply]

theorem blk15 (j : Fin 1024) : (iblk m c 15 t : Vec Ideal S1x1024 .f32) (ix2 0 j) = (m ((c.tc : Thread nD τ).loc main_arg12) : FVec Ideal S1024 .f32) (ix1 j) := by
  refine (congrArg (V m c main_v14) (whole_at 0 j _ (fun a => (idx_whole t a).2.2.2.2.2.2) _ rfl rfl)).trans ?_
  rw [V_v14, row_apply]

/-- The projection's input row: the first argument's, each column at its source. -/
theorem wide_eq (i : Fin 512) (k : Fin 1024) :
    wide (iblk m c 0 t) (iblk m c 1 t) (iblk m c 2 t) (iblk m c 3 t) i k = Y m c (ix3 (bat t) (tok t i) (src k)) := by
  have hs : 256 ≤ k.val → src k = k := fun h => by
    unfold src
    rw [if_neg (by omega), dif_neg (by omega), dif_neg (by omega)]
  unfold wide
  split_ifs with h1 h2 h3
  · rw [blk0]
  · rw [blk1, hs (by omega)]; congr 2; exact Fin.ext (by simp only; omega)
  · rw [blk2, hs (by omega)]; congr 2; exact Fin.ext (by simp only; omega)
  · rw [blk3, hs (by omega)]; congr 2; exact Fin.ext (by simp only; omega)

end
end Cert.Mlp
end
-- ==== Proof.Mlp.Array.lean ====
module

public import proofs.«01_k».proof.Proof.Mlp.Blocks

@[expose] public section

set_option maxRecDepth 16384

noncomputable section

/-! The feed-forward call's result array. -/

namespace Cert.Mlp

open Idealize.ShloMosaic Idealize.ShloMosaic.TcCoe Idealize.SL.Sem Cert.Kernel2Ideal Cert.Kernel2Ideal.Gen

/-- A product does not depend on the order of the columns. -/
theorem times_src (y : Fin 1024 → EReal) (w : Fin 1024 → Fin 1024 → EReal) : times (fun k => y (src k)) (fun k j => w (src k) j) = times y w := by
  funext j
  exact Equiv.sum_comp (Function.Involutive.toPerm src src_src) (fun k => y k * w k j)

section
variable (m : (ℓ : Loc nD τ sig) → Buf (Elt Ideal) ℓ) (c : Dev nD)

/-- The array that the call ends with: the reference's, of the same arguments. -/
abbrev G : FVec Ideal S16x4096x1024 .f32 :=
  Ref.resultArr (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12))

/-- A point's block at a place is the reference's array at the token. -/
theorem cell (t : Fin cfg0.N) (i : Fin 512) (j : Fin 1024) :
    out0_16 (iblk m c 0 t) (iblk m c 1 t) (iblk m c 2 t) (iblk m c 3 t) (iblk m c 4 t) (iblk m c 5 t) (iblk m c 6 t) (iblk m c 7 t) (iblk m c 8 t)
        (iblk m c 9 t) (iblk m c 10 t) (iblk m c 11 t) (iblk m c 12 t) (iblk m c 13 t) (iblk m c 14 t) (iblk m c 15 t) (ix3 0 i j)
      = G m c (ix3 (bat t) (tok t i) j) := by
  rw [out_apply, G, Ref.result_apply]
  unfold token
  simp only [blk4, blk5, blk6, blk7, blk8, blk9, blk10, blk11, blk12, blk13, blk14, blk15,
    show wide (iblk m c 0 t) (iblk m c 1 t) (iblk m c 2 t) (iblk m c 3 t) i = fun k => Y m c (ix3 (bat t) (tok t i) (src k)) from funext (wide_eq m c t i)]
  rw [times_src (fun k => Y m c (ix3 (bat t) (tok t i) k)) (fun k j => (m ((c.tc : Thread nD τ).loc main_arg6) : FVec Ideal S1024x1024 .f32) (ix2 k j))]

/-- What a point writes back is its block of the reference's array. -/
theorem flushed_eq (t : Fin cfg0.N) : (dats m 0 c).flushed 16 t = ((cfg0.win 16).blk t).view.read (Elt Ideal) (G m c) := by
  rw [Cert.Kernel2Ideal.Value.flushed16]
  funext j
  rw [View.read_apply]
  have hj : j = ix3 (n0 := 1) (n1 := 512) (n2 := 1024) 0 (j 1) (j 2) := by
    funext x; match x with | ⟨0, _⟩ => exact Fin.ext (by have : (j 0).val < 1 := (j 0).isLt; show (j 0).val = 0; omega) | ⟨1, _⟩ => rfl | ⟨2, _⟩ => rfl
  have hj0 : (j 0).val = 0 := by have : (j 0).val < 1 := (j 0).isLt; omega
  have he : ((cfg0.win 16).blk t).view.emb j = ix3 (n0 := 16) (n1 := 4096) (n2 := 1024) (bat t) (tok t (j 1)) (j 2) :=
    tok_at (n := 1024) t (j 1) (j 2) _ (idx_tok t).2.2.2.2.2 _ (by show win0_16.index t 0 * 1 + 1 * (j 0).val = _; rw [hj0]) rfl rfl
  rw [he]
  show out0_16 _ _ _ _ _ _ _ _ _ _ _ _ _ _ _ _ j = _
  rw [hj]
  exact cell m c t (j 1) (j 2)

/-- Every index of the result is in some point's block. -/
theorem cover (i : S16x4096x1024.Idx) : ∃ t : Fin cfg0.N, (cfg0.win 16).flush t = true ∧ i ∈ ((cfg0.win 16).blk t).view.set := by
  have hi0 : (i 0).val < 16 := (i 0).isLt
  have hi1 : (i 1).val < 4096 := (i 1).isLt
  have hi2 : (i 2).val < 1024 := (i 2).isLt
  have hlt : (i 0).val * 8 + (i 1).val / 512 < cfg0.N := lt_of_lt_of_eq (by omega : _ < 128) N_0.symm
  refine ⟨⟨(i 0).val * 8 + (i 1).val / 512, hlt⟩, flush0_16 _, ?_⟩
  obtain ⟨e0, e1, e2⟩ := (idx_tok ⟨(i 0).val * 8 + (i 1).val / 512, hlt⟩).2.2.2.2.2
  show i ∈ ((View.whole main_v15).slice (win0_16.rect ⟨(i 0).val * 8 + (i 1).val / 512, hlt⟩)).set
  rw [View.set_slice_whole, Rect.mem_set_unit]
  intro a
  match a with
  | ⟨0, _⟩ =>
    show win0_16.index ⟨_, hlt⟩ 0 * 1 ≤ (i 0).val ∧ (i 0).val < win0_16.index ⟨_, hlt⟩ 0 * 1 + 1
    rw [e0]; simp only; omega
  | ⟨1, _⟩ =>
    show win0_16.index ⟨_, hlt⟩ 1 * 512 ≤ (i 1).val ∧ (i 1).val < win0_16.index ⟨_, hlt⟩ 1 * 512 + 512
    rw [e1]; simp only; omega
  | ⟨2, _⟩ =>
    show win0_16.index ⟨_, hlt⟩ 2 * 1024 ≤ (i 2).val ∧ (i 2).val < win0_16.index ⟨_, hlt⟩ 2 * 1024 + 1024
    rw [e2]; omega

/-- The result array after the run. -/
theorem final : (dats m 0 c).arrAt 16 cfg0.N = G m c :=
  (dats m 0 c).arrAt_eq_of_cover 16 (G m c) (fun t _ => flushed_eq m c t) cover

end
end Cert.Mlp
end
-- ==== Proof.Mlp.Claims.lean ====
module

public import proofs.«01_k».proof.Defs
public import proofs.«01_k».proof.Proof.Mlp.Array
public import Idealize.ShloMosaic.Adequacy
public import Idealize.ShloMosaic.Init

@[expose] public section

set_option maxRecDepth 16384

noncomputable section

/-! The feed-forward call's claims over the extended reals. -/

namespace Cert.Mlp

open Idealize.ShloMosaic Idealize.ShloMosaic.TcCoe Idealize.SL.Sem

/-- The reference writes the same array, from a memory that agrees on the arguments. -/
theorem ref_eq (m : (ℓ : Loc Kernel2Ideal.nD Kernel2Ideal.τ Kernel2Ideal.sig) → Buf (Elt Ideal) ℓ)
    (m' : (ℓ : Loc Reference2Ideal.nD Reference2Ideal.τ Reference2Ideal.sig) → Buf (Elt Ideal) ℓ) (c : Dev Kernel2Ideal.nD)
    (h0 : m' ((c.tc : Thread Reference2Ideal.nD Reference2Ideal.τ).loc Reference2Ideal.main_arg0) = m ((c.tc : Thread Kernel2Ideal.nD Kernel2Ideal.τ).loc Kernel2Ideal.main_arg0))
    (h1 : m' ((c.tc : Thread Reference2Ideal.nD Reference2Ideal.τ).loc Reference2Ideal.main_arg1) = m ((c.tc : Thread Kernel2Ideal.nD Kernel2Ideal.τ).loc Kernel2Ideal.main_arg1))
    (h2 : m' ((c.tc : Thread Reference2Ideal.nD Reference2Ideal.τ).loc Reference2Ideal.main_arg2) = m ((c.tc : Thread Kernel2Ideal.nD Kernel2Ideal.τ).loc Kernel2Ideal.main_arg2))
    (h3 : m' ((c.tc : Thread Reference2Ideal.nD Reference2Ideal.τ).loc Reference2Ideal.main_arg3) = m ((c.tc : Thread Kernel2Ideal.nD Kernel2Ideal.τ).loc Kernel2Ideal.main_arg3))
    (h4 : m' ((c.tc : Thread Reference2Ideal.nD Reference2Ideal.τ).loc Reference2Ideal.main_arg4) = m ((c.tc : Thread Kernel2Ideal.nD Kernel2Ideal.τ).loc Kernel2Ideal.main_arg4))
    (h5 : m' ((c.tc : Thread Reference2Ideal.nD Reference2Ideal.τ).loc Reference2Ideal.main_arg5) = m ((c.tc : Thread Kernel2Ideal.nD Kernel2Ideal.τ).loc Kernel2Ideal.main_arg5))
    (h6 : m' ((c.tc : Thread Reference2Ideal.nD Reference2Ideal.τ).loc Reference2Ideal.main_arg6) = m ((c.tc : Thread Kernel2Ideal.nD Kernel2Ideal.τ).loc Kernel2Ideal.main_arg6))
    (h7 : m' ((c.tc : Thread Reference2Ideal.nD Reference2Ideal.τ).loc Reference2Ideal.main_arg7) = m ((c.tc : Thread Kernel2Ideal.nD Kernel2Ideal.τ).loc Kernel2Ideal.main_arg7))
    (h8 : m' ((c.tc : Thread Reference2Ideal.nD Reference2Ideal.τ).loc Reference2Ideal.main_arg8) = m ((c.tc : Thread Kernel2Ideal.nD Kernel2Ideal.τ).loc Kernel2Ideal.main_arg8))
    (h9 : m' ((c.tc : Thread Reference2Ideal.nD Reference2Ideal.τ).loc Reference2Ideal.main_arg9) = m ((c.tc : Thread Kernel2Ideal.nD Kernel2Ideal.τ).loc Kernel2Ideal.main_arg9))
    (h10 : m' ((c.tc : Thread Reference2Ideal.nD Reference2Ideal.τ).loc Reference2Ideal.main_arg10) = m ((c.tc : Thread Kernel2Ideal.nD Kernel2Ideal.τ).loc Kernel2Ideal.main_arg10))
    (h11 : m' ((c.tc : Thread Reference2Ideal.nD Reference2Ideal.τ).loc Reference2Ideal.main_arg11) = m ((c.tc : Thread Kernel2Ideal.nD Kernel2Ideal.τ).loc Kernel2Ideal.main_arg11))
    (h12 : m' ((c.tc : Thread Reference2Ideal.nD Reference2Ideal.τ).loc Reference2Ideal.main_arg12) = m ((c.tc : Thread Kernel2Ideal.nD Kernel2Ideal.τ).loc Kernel2Ideal.main_arg12)) :
    Cert.Reference2Ideal.Value.res_main_v68 m' c = G m c := by
  rw [Ref.result_eq, h0, h1, h2, h3, h4, h5, h6, h7, h8, h9, h10, h11, h12]

/-- Both programs run and end with the same array. -/
theorem algebraic : Cert.algebraic_Kernel2Ideal_Reference2Ideal := by
  intro m g m' g' _ ha
  refine ⟨fun c => G m c, ?_, ?_⟩
  · refine (θ_run Cert.Kernel2Ideal.defs _ _).mono (fun r h c => ?_) (Cert.Kernel2Ideal.Value.run_blocks m g)
    exact ⟨(h c).1.trans (final m c), (h c).2⟩
  · refine (θ_run Cert.Reference2Ideal.defs _ _).mono (fun r h c => ?_) (Cert.Reference2Ideal.Value.run (F := Ideal) m' g')
    obtain ⟨h0, h1, h2, h3, h4, h5, h6, h7, h8, h9, h10, h11, h12⟩ := ha c
    exact ⟨(h c).1.trans (ref_eq m m' c h0 h1 h2 h3 h4 h5 h6 h7 h8 h9 h10 h11 h12), (h c).2⟩

/-- The reference runs, keeps its arguments and leaves every counter at zero. -/
theorem ref_frame (m : (ℓ : Loc Reference2Ideal.nD Reference2Ideal.τ Reference2Ideal.sig) → Buf (Elt Ideal) ℓ) (g : Dev Reference2Ideal.nD → PrngReg) :
    θ_run (Cert.Reference2Ideal.defs (F := Ideal)) (onTc (τ := Reference2Ideal.τ) (Cert.Reference2Ideal.main (F := Ideal))) ⟨m, fun _ => 0, g⟩ (fun r => (∀ c : Dev Reference2Ideal.nD,
      r.2.mem ((c.tc : Thread Reference2Ideal.nD Reference2Ideal.τ).loc Reference2Ideal.main_arg0) = m ((c.tc : Thread Reference2Ideal.nD Reference2Ideal.τ).loc Reference2Ideal.main_arg0)
      ∧ r.2.mem ((c.tc : Thread Reference2Ideal.nD Reference2Ideal.τ).loc Reference2Ideal.main_arg1) = m ((c.tc : Thread Reference2Ideal.nD Reference2Ideal.τ).loc Reference2Ideal.main_arg1)
      ∧ r.2.mem ((c.tc : Thread Reference2Ideal.nD Reference2Ideal.τ).loc Reference2Ideal.main_arg2) = m ((c.tc : Thread Reference2Ideal.nD Reference2Ideal.τ).loc Reference2Ideal.main_arg2)
      ∧ r.2.mem ((c.tc : Thread Reference2Ideal.nD Reference2Ideal.τ).loc Reference2Ideal.main_arg3) = m ((c.tc : Thread Reference2Ideal.nD Reference2Ideal.τ).loc Reference2Ideal.main_arg3)
      ∧ r.2.mem ((c.tc : Thread Reference2Ideal.nD Reference2Ideal.τ).loc Reference2Ideal.main_arg4) = m ((c.tc : Thread Reference2Ideal.nD Reference2Ideal.τ).loc Reference2Ideal.main_arg4)
      ∧ r.2.mem ((c.tc : Thread Reference2Ideal.nD Reference2Ideal.τ).loc Reference2Ideal.main_arg5) = m ((c.tc : Thread Reference2Ideal.nD Reference2Ideal.τ).loc Reference2Ideal.main_arg5)
      ∧ r.2.mem ((c.tc : Thread Reference2Ideal.nD Reference2Ideal.τ).loc Reference2Ideal.main_arg6) = m ((c.tc : Thread Reference2Ideal.nD Reference2Ideal.τ).loc Reference2Ideal.main_arg6)
      ∧ r.2.mem ((c.tc : Thread Reference2Ideal.nD Reference2Ideal.τ).loc Reference2Ideal.main_arg7) = m ((c.tc : Thread Reference2Ideal.nD Reference2Ideal.τ).loc Reference2Ideal.main_arg7)
      ∧ r.2.mem ((c.tc : Thread Reference2Ideal.nD Reference2Ideal.τ).loc Reference2Ideal.main_arg8) = m ((c.tc : Thread Reference2Ideal.nD Reference2Ideal.τ).loc Reference2Ideal.main_arg8)
      ∧ r.2.mem ((c.tc : Thread Reference2Ideal.nD Reference2Ideal.τ).loc Reference2Ideal.main_arg9) = m ((c.tc : Thread Reference2Ideal.nD Reference2Ideal.τ).loc Reference2Ideal.main_arg9)
      ∧ r.2.mem ((c.tc : Thread Reference2Ideal.nD Reference2Ideal.τ).loc Reference2Ideal.main_arg10) = m ((c.tc : Thread Reference2Ideal.nD Reference2Ideal.τ).loc Reference2Ideal.main_arg10)
      ∧ r.2.mem ((c.tc : Thread Reference2Ideal.nD Reference2Ideal.τ).loc Reference2Ideal.main_arg11) = m ((c.tc : Thread Reference2Ideal.nD Reference2Ideal.τ).loc Reference2Ideal.main_arg11)
      ∧ r.2.mem ((c.tc : Thread Reference2Ideal.nD Reference2Ideal.τ).loc Reference2Ideal.main_arg12) = m ((c.tc : Thread Reference2Ideal.nD Reference2Ideal.τ).loc Reference2Ideal.main_arg12))
      ∧ r.2.sem = fun _ => 0) :=
  (θ_run Cert.Reference2Ideal.defs _ _).mono (fun r h => ⟨fun c => (h c).2, Idealize.ShloMosaic.sem_eq_zero_of_no_sems (by decide) r.2⟩)
    (Cert.Reference2Ideal.Value.run (F := Ideal) m g)

end Cert.Mlp
end
-- ==== Proof.Inp.Row.lean ====
module

public import Idealize.ShloMosaic.Lib.Pointwise
public import Idealize.ShloMosaic.Lib.IdealHost

@[expose] public section

noncomputable section

/-! The layer's input projection with its rotary embeddings, of one token. -/

namespace Cert.Inp

open Idealize.ShloMosaic

/-- A row read at any number: zero outside. -/
def rd {n : Nat} (z : Fin n → EReal) (k : Nat) : EReal := if h : k < n then z ⟨k, h⟩ else 0

theorem rd_eq {n : Nat} (z : Fin n → EReal) (k : Fin n) : z k = rd z k.val := by
  unfold rd
  rw [dif_pos k.isLt]

/-- A row read at a number that is in range. -/
theorem rd_at {n : Nat} (z : Fin n → EReal) (k : Fin n) (p : Nat) (h : k.val = p) : z k = rd z p := h ▸ rd_eq z k

/-- The modulated row times the projection's matrix. -/
def proj (x sc sh : Fin 1024 → EReal) (w : Fin 1024 → Fin 2736 → EReal) (k : Fin 2736) : EReal :=
  ∑ j, (x j * (1 + sc j) + sh j) * w j k

/-- One element of a rotated pair: the pair is `p` and `p + d`, its angle `q`. -/
def rot (z c s : Nat → EReal) (p d q : Nat) (first : Prop) [Decidable first] : EReal :=
  if first then z p * c q - z (p + d) * s q else z p * s q + z (p + d) * c q

/-- The windowed attention's columns: halves before heads. -/
def outA (z c s : Nat → EReal) (l : Nat) : EReal :=
  if l < 256 then rot z c s ((l / 32 % 2 * 2 + l / 128) * 64 + l % 32) 32 (l % 32) (l % 128 < 64)
  else if l < 384 then rot z c s (256 + l / 32 % 2 * 64 + l % 32) 32 (l % 32) (l % 128 < 64)
  else z l

/-- The recurrence's columns, then zeros. -/
def outB (z : Nat → EReal) (l : Nat) : EReal := if l < 1040 then z (512 + l) else 0

/-- The retention's columns: halves before heads. -/
def outC (z c s : Nat → EReal) (l : Nat) : EReal :=
  if l < 256 then rot z c s (1552 + l / 128 * 128 + l / 16 % 4 * 32 + l % 16) 16 (l % 16) (l % 128 < 64)
  else z (1552 + l)

/-- The latent attention's columns, and the rotated key between zeros. -/
def outD (z c s : Nat → EReal) (l : Nat) : EReal :=
  if l < 384 then z (2320 + l) else if l < 448 then 0
  else if l < 480 then rot z c s (2704 + l % 16) 16 (l % 16) (l < 464) else 0

end Cert.Inp
end
-- ==== Proof.Inp.Turn.lean ====
module

public import proofs.«01_k».proof.Proof.Inp.Row

@[expose] public section

noncomputable section

/-! What the call does to one token's laid-out columns. -/

namespace Cert.Inp

open Idealize.ShloMosaic

/-- One lane of 128 columns from `o`: the column times one table, plus the column half a turn away times another. -/
def turn (z c s : Nat → EReal) (o l : Nat) : EReal := z (o + l) * c l + z (o + (l + 64) % 128) * s l

/-- The windowed attention's block: three turned parts, then the values. -/
def putA (z c s : Nat → EReal) (l : Nat) : EReal := if l < 384 then turn z c s (l / 128 * 128) (l % 128) else z l

/-- The retention's block: two turned parts, then values and gates. -/
def putC (z c s : Nat → EReal) (l : Nat) : EReal := if l < 256 then turn z c s (1664 + l / 128 * 128) (l % 128) else z (1664 + l)

/-- The latent attention's block: its columns, then the shared key from two copies. -/
def putD (z c s : Nat → EReal) (l : Nat) : EReal :=
  if l < 384 then z (2432 + l) else z (2432 + l) * c (l - 384) + z (2944 + (l - 384)) * s (l - 384)

section
variable (z c s : Nat → EReal)

theorem putA_turn (o l : Nat) (hl : l < 128) (ho : o + l < 384) (hd : o % 128 = 0) : turn z c s o l = putA z c s (o + l) := by
  unfold putA
  rw [if_pos ho, show (o + l) / 128 * 128 = o by omega, show (o + l) % 128 = l by omega]

theorem putA_rest (l : Nat) : z (384 + l) = putA z c s (384 + l) := by
  unfold putA
  rw [if_neg (by omega)]

theorem putC_turn (o l : Nat) (hl : l < 128) (ho : o + l < 256) (hd : o % 128 = 0) : turn z c s (1664 + o) l = putC z c s (o + l) := by
  unfold putC
  rw [if_pos ho, show 1664 + (o + l) / 128 * 128 = 1664 + o by omega, show (o + l) % 128 = l by omega]

theorem putC_rest (l : Nat) : z (1920 + l) = putC z c s (256 + l) := by
  unfold putC
  rw [if_neg (by omega), show 1664 + (256 + l) = 1920 + l by omega]

theorem putD_low (l : Nat) (hl : l < 384) : z (2432 + l) = putD z c s (0 + l) := by
  unfold putD
  rw [if_pos (by omega), Nat.zero_add]

theorem putD_high (l : Nat) : z (2816 + l) * c l + z (2944 + l) * s l = putD z c s (384 + l) := by
  unfold putD
  rw [if_neg (by omega), show 2432 + (384 + l) = 2816 + l by omega, show 384 + l - 384 = l by omega]

end
end Cert.Inp
end
-- ==== Proof.Inp.Cols.lean ====
module

public import proofs.«01_k».proof.Proof.Gen.Kernel3Ideal
public import proofs.«01_k».proof.Proof.Inp.Turn

@[expose] public section

set_option maxRecDepth 16384

noncomputable section

/-! The column lists of the laid-out projection. -/

namespace Cert.Inp

open Idealize.ShloMosaic Cert.Kernel3Ideal

/-- Which laid-out columns are filled. -/
def kept (k : Nat) : Prop := k < 1552 ∨ (1664 ≤ k ∧ k < 2816) ∨ (2880 ≤ k ∧ k < 2912) ∨ (3008 ≤ k ∧ k < 3040)

instance (k : Nat) : Decidable (kept k) := by unfold kept; infer_instance

/-- The projected column that a laid-out column is. -/
def col (k : Nat) : Nat :=
  if k < 256 then (k / 32 % 2 * 2 + k / 128) * 64 + k / 64 % 2 * 32 + k % 32
  else if k < 384 then 256 + k / 32 % 2 * 64 + (k - 256) / 64 * 32 + k % 32
  else if k < 1552 then k
  else if k < 1664 then 0
  else if k < 1920 then 1552 + (k - 1664) / 128 * 128 + k / 16 % 4 * 32 + (k - 1664) % 128 / 64 * 16 + k % 16
  else if k < 2816 then k - 112
  else if k < 2880 then 0
  else if k < 2912 then 2704 + (k - 2880)
  else if k < 3008 then 0
  else if k < 3024 then 2720 + (k - 3008)
  else if k < 3040 then 2704 + (k - 3024)
  else 0

/-- The columns are in range. -/
theorem col_lt : ∀ k : Fin 3072, col k.val < 2736 := by decide +kernel

/-- The first list holds the columns. -/
theorem lit0_eq : ∀ k : Fin 3072, lit0 k = BitVec.ofNat 32 (col k.val) := by decide +kernel

/-- The second list marks the filled ones. -/
theorem lit1_eq : ∀ k : Fin 3072, lit1 k = if kept k.val then 0x3F800000#32 else 0x00000000#32 := by decide +kernel

/-- The laid-out row of a projected row. -/
def laid (z : Nat → EReal) (k : Nat) : EReal := if kept k then z (col k) else 0

end Cert.Inp
end
-- ==== Proof.Inp.Host.lean ====
module

public import proofs.«01_k».proof.Proof.Gen.Kernel3Ideal.Value
public import proofs.«01_k».proof.Proof.Inp.Cols
public import Idealize.ShloMosaic.Lib.ReduceAll
public import Idealize.ShloMosaic.Lib.StableHlo.ReadAt

@[expose] public section

set_option maxRecDepth 16384

noncomputable section

/-! The projection's matrix, its columns laid out for the mixers. -/

namespace Cert.Inp

open Idealize.ShloMosaic Cert.Kernel3Ideal Cert.Kernel3Ideal.Gen

/-- The list of column numbers. -/
def colList : IVec S3072 32 := fun i => lit0 (S3072.rowMajor i)

/-- The list of ones and zeros. -/
def keepList : FVec Ideal S3072 .f32 := fun i => FloatOps.ofBits .f32 (lit1 (S3072.rowMajor i))

/-- The column numbers that are taken: a negative one counts from the end. -/
def colIdx : IVec S3072x1 32 :=
  broadcastInDim S3072x1 ![0] bcast_S3072_S3072x1_0
    (select (cmpi .slt colList (broadcastInDim S3072 ![] bcast_S_S3072 (constantI S_ 32 0#32)))
      (addi colList (broadcastInDim S3072 ![] bcast_S_S3072 (constantI S_ 32 2736#32))) colList)

/-- Which column numbers are in range. -/
def colOk : IVec S3072x1 1 :=
  andi (cmpi .sge colIdx (broadcastInDim S3072x1 ![] bcast_S_S3072x1 (constantI S_ 32 0#32)))
    (cmpi .sle colIdx (broadcastInDim S3072x1 ![0, 1] bcast_S1x1_S3072x1_0_1 (broadcastInDim S1x1 ![1] bcast_S1_S1x1_1 (constantI S1 32 2735#32))))

/-- The matrix, its columns taken in that order. -/
def taken (w : FVec Ideal S1024x2736 .f32) : FVec Ideal S1024x3072 .f32 :=
  select (broadcastInDim S1024x3072 ![1] bcast_S3072_S1024x3072_1
      (Host.reduce IntOp.andi colOk (constantI S_ 1 1#1) reducesTo_S3072x1_S3072_d1 h_S_))
    (Host.gather gather_S1024x2736_S3072x1_S1024x3072_0_1_n_n_1_1_10241 w colIdx)
    (broadcastInDim S1024x3072 ![] bcast_S_S1024x3072 (constant S_ .f32 0x7FC00000#32))

/-- The laid-out matrix: the columns that are not filled are zero. -/
def laidMat (w : FVec Ideal S1024x2736 .f32) : FVec Ideal S1024x3072 .bf16 :=
  truncf .bf16 (mulf (taken w) (broadcastInDim S1024x3072 ![0, 1] bcast_S1x3072_S1024x3072_0_1
    (broadcastInDim S1x3072 ![1] bcast_S3072_S1x3072_1 keepList))) bitsLt_bf16_f32

set_option maxHeartbeats 4000000 in
theorem V_v4 (m : (ℓ : Loc nD τ sig) → Buf (Elt Ideal) ℓ) (c : Dev nD) :
    V m c main_v4 = laidMat (m ((c.tc : Thread nD τ).loc main_arg3)) := by
  unfold V
  rfl

/-- The lists at an index. -/
theorem colList_apply (k : Fin 3072) : colList (ix1 k) = BitVec.ofNat 32 (col k.val) := by
  rw [← lit0_eq]
  show lit0 (S3072.rowMajor (ix1 k)) = lit0 k
  congr 1
  exact Fin.ext (Shape.rowMajor_val_one ..)

theorem keepList_apply (k : Fin 3072) : keepList (ix1 k) = if kept k.val then 1 else 0 := by
  show Ideal.ofBits .f32 (lit1 (S3072.rowMajor (ix1 k))) = _
  rw [show S3072.rowMajor (ix1 k) = k from Fin.ext (Shape.rowMajor_val_one ..), lit1_eq]
  split_ifs
  · pointwise
  · pointwise

/-- A column number read back from its word. -/
theorem word_col : ∀ s : Fin 2736, (Scalar.select (IntOp.cmpi CmpIPredicate.slt (BitVec.ofNat 32 s.val) 0#32)
      (IntOp.addi (BitVec.ofNat 32 s.val) 2736#32) (BitVec.ofNat 32 s.val) = BitVec.ofNat 32 s.val)
    ∧ (IntOp.andi (IntOp.cmpi CmpIPredicate.sge (BitVec.ofNat 32 s.val) 0#32) (IntOp.cmpi CmpIPredicate.sle (BitVec.ofNat 32 s.val) 2735#32) = 1#1)
    ∧ min (BitVec.ofNat 32 s.val).toInt.toNat 2735 = s.val := by decide +kernel

/-- The column numbers are the columns. -/
theorem colIdx_apply (k : Fin 3072) (z : Fin 1) : colIdx (ix2 k z) = BitVec.ofNat 32 (col k.val) := by
  have hl := colList_apply k
  generalize e : colList = L at hl
  pointwise [colIdx, e, hl]
  exact (word_col ⟨col k.val, col_lt k⟩).1

/-- All are in range. -/
theorem colOk_apply (i : S3072x1.Idx) : colOk i = 1#1 := by
  obtain ⟨k, z, rfl⟩ : ∃ k z, i = ix2 k z := ⟨i 0, i 1, funext fun x => by match x with | ⟨0, _⟩ => rfl | ⟨1, _⟩ => rfl⟩
  have h := colIdx_apply k z
  generalize e : colIdx = L at h
  pointwise [colOk, e, h]
  exact (word_col ⟨col k.val, col_lt k⟩).2.1

/-- The columns that are gathered: each at its number, kept in range. -/
theorem gather_apply (w : FVec Ideal S1024x2736 .f32) (idx : IVec S3072x1 32) (j : Fin 1024) (k : Fin 3072) :
    Host.gather gather_S1024x2736_S3072x1_S1024x3072_0_1_n_n_1_1_10241 w idx (ix2 j k)
      = w (ix2 j ⟨min (idx (ix2 k 0)).toInt.toNat 2735, by omega⟩) := by
  generalize hd : gather_S1024x2736_S3072x1_S1024x3072_0_1_n_n_1_1_10241 = d
  have hm : d.startIndexMap = [1] := by rw [← hd]; rfl
  have ho : d.offsetDims = [0] := by rw [← hd]; rfl
  have hs : ∀ q, d.siIdx (ix2 j k) q = ix2 k 0 := by
    rw [← hd]; intro q; funext b; refine Fin.ext ?_
    match b with
    | ⟨0, _⟩ => rfl
    | ⟨1, _⟩ => exact congrArg Fin.val (Subsingleton.elim (α := Fin 1) _ _)
  show w _ = w _
  congr 1
  funext a
  refine Fin.ext ?_
  show d.start (ix2 j k) idx a + d.batchCoord (ix2 j k) a + d.offCoord (ix2 j k) a = _
  rw [GatherDims.batchCoord_eq_zero _ _ _ (by rw [← hd]; exact List.not_mem_nil)]
  have h01 : a = 0 ∨ a = 1 := by
    match a with
    | ⟨0, _⟩ => exact Or.inl rfl
    | ⟨1, _⟩ => exact Or.inr rfl
  rcases h01 with rfl | rfl
  · unfold GatherDims.start
    rw [dif_neg (by rw [hm]; decide), Nat.zero_add]
    unfold GatherDims.offCoord
    rw [dif_pos (by rw [← hd]; exact (GatherDims.mem_sKept _ _).mpr ⟨by decide, by decide⟩)]
    exact (fun x (hx : x = 0) => by subst hx; rfl : ∀ x : Fin 2, x = 0 → (ix2 j k x).val = j.val) _
      (List.mem_singleton.mp (ho ▸ List.getElem_mem _))
  · rw [GatherDims.offCoord_eq_zero _ _ _ (by rw [← hd]; exact fun h => ((GatherDims.mem_sKept _ _).mp h).1 (List.mem_singleton.mpr rfl))]
    unfold GatherDims.start
    rw [dif_pos (by rw [hm]; exact List.mem_singleton.mpr rfl), hs]
    rw [← hd]
    rfl

/-- Where every column is in range, the choice is the gathered array. -/
theorem taken_of (M : IVec S3072 1) (G B : FVec Ideal S1024x3072 .f32) (hM : ∀ i, M i = 1#1) (j : Fin 1024) (k : Fin 3072) :
    select (broadcastInDim S1024x3072 ![1] bcast_S3072_S1024x3072_1 M) G B (ix2 j k) = G (ix2 j k) :=
  if_pos (hM _)

/-- Every column is in range. -/
theorem mask_apply (i : S3072.Idx) : Host.reduce IntOp.andi colOk (constantI S_ 1 1#1) reducesTo_S3072x1_S3072_d1 h_S_ i = 1#1 := by
  generalize hr : colOk = R
  refine Host.reduce_andi_one R (constantI S_ 1 1#1) reducesTo_S3072x1_S3072_d1 h_S_ i ?_ ?_
  · unfold constantI; exact rfl
  · intro i; rw [← hr]; exact colOk_apply i

/-- A gathered column whose number is known. -/
theorem gather_col (w : FVec Ideal S1024x2736 .f32) (idx : IVec S3072x1 32) (j : Fin 1024) (k : Fin 3072) (s : Fin 2736) (h : idx (ix2 k 0) = BitVec.ofNat 32 s.val) :
    Host.gather gather_S1024x2736_S3072x1_S1024x3072_0_1_n_n_1_1_10241 w idx (ix2 j k) = w (ix2 j s) := by
  rw [gather_apply]
  have e : (⟨min (idx (ix2 k 0)).toInt.toNat 2735, by omega⟩ : Fin 2736) = s :=
    Fin.ext ((congrArg (fun v : BitVec 32 => min v.toInt.toNat 2735) h).trans (word_col s).2.2)
  rw [e]

/-- The taken matrix at an index. -/
theorem taken_apply (w : FVec Ideal S1024x2736 .f32) (j : Fin 1024) (k : Fin 3072) : taken w (ix2 j k) = w (ix2 j ⟨col k.val, col_lt k⟩) := by
  unfold taken
  rw [taken_of _ _ _ mask_apply]
  exact gather_col w colIdx j k ⟨col k.val, col_lt k⟩ (colIdx_apply k 0)

/-- The laid-out matrix at an index. -/
theorem laidMat_apply (w : FVec Ideal S1024x2736 .f32) (j : Fin 1024) (k : Fin 3072) :
    laidMat w (ix2 j k) = w (ix2 j ⟨col k.val, col_lt k⟩) * (if kept k.val then 1 else 0) := by
  have ht := taken_apply w j k
  have hk := keepList_apply k
  generalize e : taken w = T at ht
  generalize e' : keepList = L at hk
  pointwise [laidMat, e, e']
  rw [ht, hk]

end Cert.Inp
end
-- ==== Proof.Inp.Block.lean ====
module

public import proofs.«01_k».proof.Proof.Gen.Kernel3Ideal.Value
public import proofs.«01_k».proof.Proof.Inp.Turn

@[expose] public section

set_option maxRecDepth 16384

noncomputable section

/-! What one grid point of the input projection computes from its input blocks. -/

namespace Cert.Inp

open Idealize.ShloMosaic Cert.Kernel3Ideal Cert.Kernel3Ideal.Gen

/-- The modulated row times the laid-out matrix. -/
def wideProj (x sc sh : Fin 1024 → EReal) (w : Fin 1024 → Fin 3072 → EReal) (k : Fin 3072) : EReal :=
  ∑ j, (x j * (1 + sc j) + sh j) * w j k

/-- The row of a table's block. -/
abbrev lane (T : Vec Ideal S512x128 .f32) (i : Fin 512) : Nat → EReal := rd fun l => T (ix2 i l)

section
variable (x : Vec Ideal S1x512x1024 .f32) (sc sh : Vec Ideal S1x1x1024 .f32) (w : Vec Ideal S1024x3072 .bf16)

/-- A row of the product. -/
abbrev cols (i : Fin 512) : Nat → EReal :=
  rd (wideProj (fun j => x (ix3 0 i j)) (fun j => sc (ix3 0 0 j)) (fun j => sh (ix3 0 0 j)) (fun j k => w (ix2 j k)))

theorem pay5_apply (i : Fin 512) (k : Fin 3072) : k0_pay5 x sc sh w (ix2 i k) = cols x sc sh w i k.val := by
  refine Eq.trans ?_ (rd_eq _ k)
  unfold wideProj
  pointwise [k0_pay5]

theorem lane_eq (T : Vec Ideal S512x128 .f32) (i : Fin 512) (l : Fin 128) : T (ix2 i l) = lane T i l.val := rd_eq (fun l => T (ix2 i l)) l

theorem pay6_apply (i : Fin 512) (l : Fin 512) : k0_pay6 x sc sh w (ix2 i l) = cols x sc sh w i l.val := by
  have h := pay5_apply x sc sh w i
  generalize e : k0_pay5 x sc sh w = P at h
  pointwise [k0_pay6, e]
  exact h _

theorem pay7_apply (i : Fin 512) (l : Fin 768) : k0_pay7 x sc sh w (ix2 i l) = cols x sc sh w i (1664 + l.val) := by
  have h := pay5_apply x sc sh w i
  generalize e : k0_pay5 x sc sh w = P at h
  pointwise [k0_pay7, e]
  exact h _

theorem pay8_apply (i : Fin 512) (l : Fin 512) : k0_pay8 x sc sh w (ix2 i l) = cols x sc sh w i (2432 + l.val) := by
  have h := pay5_apply x sc sh w i
  generalize e : k0_pay5 x sc sh w = P at h
  pointwise [k0_pay8, e]
  exact h _

theorem pay9_apply (i : Fin 512) (l : Fin 1152) : k0_pay9 x sc sh w (ix3 0 i l) = cols x sc sh w i (512 + l.val) := by
  have h := pay5_apply x sc sh w i
  generalize e : k0_pay5 x sc sh w = P at h
  pointwise [k0_pay9, e]
  exact h _

theorem pay10_apply (i : Fin 512) (l : Fin 128) : k0_pay10 x sc sh w (ix2 i l) = cols x sc sh w i (2944 + l.val) := by
  have h := pay5_apply x sc sh w i
  generalize e : k0_pay5 x sc sh w = P at h
  pointwise [k0_pay10, e]
  exact h _

end

section
variable (C S : Vec Ideal S512x128 .f32) (z : Nat → EReal) (i : Fin 512)

/-- Half a turn. -/
theorem half_turn (l : Fin 128) : l.val + 128 - 64 = l.val + 64 := by omega

/-- The turned parts, of an array whose row is known. -/
theorem pay14_apply (x : Vec Ideal S1x512x1024 .f32) (sc sh : Vec Ideal S1x1x1024 .f32) (w : Vec Ideal S1024x3072 .bf16) (l : Fin 128) :
    k0_pay14 (k0_pay13 x sc sh w C S) (ix3 0 i l) = turn (cols x sc sh w i) (lane C i) (lane S i) 0 l.val := by
  have h := pay6_apply x sc sh w i
  generalize e : k0_pay6 x sc sh w = P at h
  unfold turn
  pointwise [k0_pay14, k0_pay13, k0_pay11, k0_pay12, e]
  simp only [h, lane_eq, half_turn, Nat.zero_add]

theorem pay15_apply (P : FVec Ideal S512x512 .f32) (h : ∀ l : Fin 512, P (ix2 i l) = z l.val) (l : Fin 128) :
    k0_pay15 P (k0_pay11 C) (k0_pay12 S) (ix3 0 i l) = turn z (lane C i) (lane S i) 128 l.val := by
  unfold turn
  pointwise [k0_pay15, k0_pay11, k0_pay12]
  simp only [h, lane_eq, half_turn]

theorem pay16_apply (P : FVec Ideal S512x512 .f32) (h : ∀ l : Fin 512, P (ix2 i l) = z l.val) (l : Fin 128) :
    k0_pay16 P (k0_pay11 C) (k0_pay12 S) (ix3 0 i l) = turn z (lane C i) (lane S i) 256 l.val := by
  unfold turn
  pointwise [k0_pay16, k0_pay11, k0_pay12]
  simp only [h, lane_eq, half_turn]

theorem pay17_apply (P : FVec Ideal S512x512 .f32) (h : ∀ l : Fin 512, P (ix2 i l) = z l.val) (l : Fin 128) :
    k0_pay17 P (ix3 0 i l) = z (384 + l.val) := by
  pointwise [k0_pay17]
  exact h _

theorem pay20_apply (P : FVec Ideal S512x768 .f32) (h : ∀ l : Fin 768, P (ix2 i l) = z (1664 + l.val)) (l : Fin 128) :
    k0_pay20 P C S (ix3 0 i l) = turn z (lane C i) (lane S i) 1664 l.val := by
  unfold turn
  pointwise [k0_pay20, k0_pay18, k0_pay19]
  simp only [h, lane_eq, half_turn]

theorem pay1_apply (P : FVec Ideal S512x768 .f32) (h : ∀ l : Fin 768, P (ix2 i l) = z (1664 + l.val)) (l : Fin 128) :
    k0_pay1 (k0_pay18 C) (k0_pay19 S) (k0_pay21 P) (ix3 0 i l) = turn z (lane C i) (lane S i) 1792 l.val := by
  unfold turn
  pointwise [k0_pay1, k0_pay18, k0_pay19, k0_pay21]
  simp only [h, lane_eq, half_turn, ← Nat.add_assoc, Nat.reduceAdd]

theorem pay2_apply (P : FVec Ideal S512x768 .f32) (h : ∀ l : Fin 768, P (ix2 i l) = z (1664 + l.val)) (l : Fin 512) :
    k0_pay2 P (ix3 0 i l) = z (1920 + l.val) := by
  pointwise [k0_pay2]
  simp only [h, ← Nat.add_assoc, Nat.reduceAdd]

theorem pay3_apply (P : FVec Ideal S512x512 .f32) (h : ∀ l : Fin 512, P (ix2 i l) = z (2432 + l.val)) (l : Fin 384) :
    k0_pay3 P (ix3 0 i l) = z (2432 + l.val) := by
  pointwise [k0_pay3]
  exact h _

theorem pay4_apply (P : FVec Ideal S512x512 .f32) (h : ∀ l : Fin 512, P (ix2 i l) = z (2432 + l.val))
    (Q : FVec Ideal S512x128 .f32) (h' : ∀ l : Fin 128, Q (ix2 i l) = z (2944 + l.val)) (l : Fin 128) :
    k0_pay4 P Q C S (ix3 0 i l) = z (2816 + l.val) * lane C i l.val + z (2944 + l.val) * lane S i l.val := by
  pointwise [k0_pay4]
  simp only [h, h', lane_eq C, lane_eq S, ← Nat.add_assoc, Nat.reduceAdd]

end

theorem hz2 : (![0, 0] : Fin 2 → Nat) = fun _ => 0 := funext fun a => by fin_cases a <;> rfl
theorem hz3 : (![0, 0, 0] : Fin 3 → Nat) = fun _ => 0 := funext fun a => by fin_cases a <;> rfl

/-- The place of a part's element in its block. -/
theorem part_emb {n k o : Nat} (h : ∀ a, (![0, 0, o] : Fin 3 → Nat) a + (![1, 512, k] : Fin 3 → Nat) a ≤ (⟨3, ![1, 512, n]⟩ : Shape).size a)
    (i : Fin 512) (l : Fin k) (hl : o + l.val < n) :
    (Rect.unit (s := ⟨3, ![1, 512, n]⟩) ![0, 0, o] ![1, 512, k] h).emb (ix3 (n0 := 1) (n1 := 512) (n2 := k) 0 i l) = ix3 0 i ⟨o + l.val, hl⟩ := by
  funext a; apply Fin.ext
  match a with
  | ⟨0, _⟩ => rfl
  | ⟨1, _⟩ => show 0 + 1 * i.val = i.val; omega
  | ⟨2, _⟩ => show o + 1 * l.val = o + l.val; omega

/-- A part of a block, whose elements are known, as the canon of pieces asks for it. -/
theorem part_of {n k o : Nat} (G : Fin 512 → Nat → EReal) (P : (⟨3, ![1, 512, k]⟩ : Shape).Idx → EReal)
    (h : ∀ a, (![0, 0, o] : Fin 3 → Nat) a + (![1, 512, k] : Fin 3 → Nat) a ≤ (⟨3, ![1, 512, n]⟩ : Shape).size a)
    (hP : ∀ (i : Fin 512) (l : Fin k), P (ix3 0 i l) = G i (o + l.val)) (x : (⟨3, ![1, 512, k]⟩ : Shape).Idx) :
    P x = (fun y : (⟨3, ![1, 512, n]⟩ : Shape).Idx => G (y 1) (y 2).val) ((Rect.unit (s := ⟨3, ![1, 512, n]⟩) ![0, 0, o] ![1, 512, k] h).emb x) := by
  obtain ⟨i, l, rfl⟩ : ∃ (i : Fin 512) (l : Fin k), x = ix3 0 i l := ⟨x 1, x 2, funext fun a => by
    match a with
    | ⟨0, _⟩ => exact Subsingleton.elim (α := Fin 1) _ _
    | ⟨1, _⟩ => rfl
    | ⟨2, _⟩ => rfl⟩
  have hl : o + l.val < n := by have := h 2; have := l.isLt; simp at *; omega
  rw [part_emb h i l hl]
  exact hP i l

section
variable (c : Dev nD) (i : grid0.Coords) (arg2 : Memref sig .tc .vmem S1x512x1024 .f32) (h2 : arg2.IsWhole) (arg3 : Memref sig .tc .vmem S1x1x1024 .f32) (h3 : arg3.IsWhole) (arg4 : Memref sig .tc .vmem S1x1x1024 .f32) (h4 : arg4.IsWhole) (arg5 : Memref sig .tc .vmem S1024x3072 .bf16) (h5 : arg5.IsWhole) (arg6 : Memref sig .tc .vmem S512x128 .f32) (h6 : arg6.IsWhole) (arg7 : Memref sig .tc .vmem S512x128 .f32) (h7 : arg7.IsWhole) (arg8 : Memref sig .tc .vmem S512x128 .f32) (h8 : arg8.IsWhole) (arg9 : Memref sig .tc .vmem S512x128 .f32) (h9 : arg9.IsWhole) (arg10 : Memref sig .tc .vmem S512x128 .f32) (h10 : arg10.IsWhole) (arg11 : Memref sig .tc .vmem S512x128 .f32) (h11 : arg11.IsWhole) (arg12 : Memref sig .tc .vmem S1x512x512 .f32) (h12 : arg12.IsWhole) (arg13 : Memref sig .tc .vmem S1x512x1152 .f32) (h13 : arg13.IsWhole) (arg14 : Memref sig .tc .vmem S1x512x768 .f32) (h14 : arg14.IsWhole) (arg15 : Memref sig .tc .vmem S1x512x512 .f32) (h15 : arg15.IsWhole)
    (x0 : Vec Ideal S1x512x1024 .f32) (x1 : Vec Ideal S1x1x1024 .f32) (x2 : Vec Ideal S1x1x1024 .f32) (x3 : Vec Ideal S1024x3072 .bf16) (x4 : Vec Ideal S512x128 .f32) (x5 : Vec Ideal S512x128 .f32) (x6 : Vec Ideal S512x128 .f32) (x7 : Vec Ideal S512x128 .f32) (x8 : Vec Ideal S512x128 .f32) (x9 : Vec Ideal S512x128 .f32)

/-- The recurrence's block. -/
theorem outB_apply (r : Fin 512) (l : Fin 1152) :
    out0_A_11 (F := Ideal) c i arg2 h2 arg3 h3 arg4 h4 arg5 h5 arg6 h6 arg7 h7 arg8 h8 arg9 h9 arg10 h10 arg11 h11 arg12 h12 arg13 h13 arg14 h14 arg15 h15
      x0 x1 x2 x3 x4 x5 x6 x7 x8 x9 (ix3 0 r l) = cols x0 x1 x2 x3 r (512 + l.val) := by
  unfold out0_A_11
  rw [View.read_writes_junk_eq_canon]
  unfold kernelRun0_A
  dsimp only
  rw [View.canon_unit_zero hz3]
  sl_unfold_words
  simp only [View.readAt_eq_ld, h2.read_unread, h3.read_unread, h4.read_unread, h5.read_unread, View.ld_unit_zero (S := S1x512x1024) hz3,
    View.ld_unit_zero (S := S1x1x1024) hz3, View.ld_unit_zero (S := S1024x3072) hz2]
  exact pay9_apply x0 x1 x2 x3 r l

/-- The windowed attention's block. -/
theorem outA_apply (r : Fin 512) (l : Fin 512) :
    out0_A_10 (F := Ideal) c i arg2 h2 arg3 h3 arg4 h4 arg5 h5 arg6 h6 arg7 h7 arg8 h8 arg9 h9 arg10 h10 arg11 h11 arg12 h12 arg13 h13 arg14 h14 arg15 h15
      x0 x1 x2 x3 x4 x5 x6 x7 x8 x9 (ix3 0 r l) = putA (cols x0 x1 x2 x3 r) (lane x4 r) (lane x5 r) l.val := by
  unfold out0_A_10
  rw [View.read_writes_junk_eq_canon]
  refine View.canon_apply_of_pieces (fun y => putA (cols x0 x1 x2 x3 (y 1)) (lane x4 (y 1)) (lane x5 (y 1)) (y 2).val) _ ?_ (ix3 0 r l)
    (cover0_A_10 (F := Ideal) c i arg2 h2 arg3 h3 arg4 h4 arg5 h5 arg6 h6 arg7 h7 arg8 h8 arg9 h9 arg10 h10 arg11 h11 arg12 h12 arg13 h13 arg14 h14 arg15 h15
      x0 x1 x2 x3 x4 x5 x6 x7 x8 x9 _)
  unfold kernelRun0_A
  dsimp only
  sl_unfold_words
  simp only [View.readAt_eq_ld, h2.read_unread, h3.read_unread, h4.read_unread, h5.read_unread, h6.read_unread, h7.read_unread, View.ld_unit_zero (S := S1x512x1024) hz3,
    View.ld_unit_zero (S := S1x1x1024) hz3, View.ld_unit_zero (S := S1024x3072) hz2, View.ld_unit_zero (S := S512x128) hz2]
  intro p hp
  rcases List.mem_cons.mp hp with rfl | hp
  · exact part_of (n := 512) (fun r => putA (cols x0 x1 x2 x3 r) (lane x4 r) (lane x5 r)) _ inb_S1x512x512_S1x512x128_0_0_384 fun r l => (pay17_apply (cols x0 x1 x2 x3 r) r _ (fun l => pay6_apply x0 x1 x2 x3 r l) l).trans (putA_rest _ _ _ l.val)
  rcases List.mem_cons.mp hp with rfl | hp
  · exact part_of (n := 512) (fun r => putA (cols x0 x1 x2 x3 r) (lane x4 r) (lane x5 r)) _ inb_S1x512x512_S1x512x128_0_0_256 fun r l => (pay16_apply x4 x5 (cols x0 x1 x2 x3 r) r _ (fun l => pay6_apply x0 x1 x2 x3 r l) l).trans (putA_turn _ _ _ 256 l.val l.isLt (by omega) rfl)
  rcases List.mem_cons.mp hp with rfl | hp
  · exact part_of (n := 512) (fun r => putA (cols x0 x1 x2 x3 r) (lane x4 r) (lane x5 r)) _ inb_S1x512x512_S1x512x128_0_0_128 fun r l => (pay15_apply x4 x5 (cols x0 x1 x2 x3 r) r _ (fun l => pay6_apply x0 x1 x2 x3 r l) l).trans (putA_turn _ _ _ 128 l.val l.isLt (by omega) rfl)
  cases List.mem_singleton.mp hp
  exact part_of (n := 512) (fun r => putA (cols x0 x1 x2 x3 r) (lane x4 r) (lane x5 r)) _ inb_S1x512x512_S1x512x128_0_0_0 fun r l => (pay14_apply x4 x5 r x0 x1 x2 x3 l).trans (putA_turn _ _ _ 0 l.val l.isLt (by omega) rfl)

/-- The retention's block. -/
theorem outC_apply (r : Fin 512) (l : Fin 768) :
    out0_A_12 (F := Ideal) c i arg2 h2 arg3 h3 arg4 h4 arg5 h5 arg6 h6 arg7 h7 arg8 h8 arg9 h9 arg10 h10 arg11 h11 arg12 h12 arg13 h13 arg14 h14 arg15 h15
      x0 x1 x2 x3 x4 x5 x6 x7 x8 x9 (ix3 0 r l) = putC (cols x0 x1 x2 x3 r) (lane x6 r) (lane x7 r) l.val := by
  unfold out0_A_12
  rw [View.read_writes_junk_eq_canon]
  refine View.canon_apply_of_pieces (fun y => putC (cols x0 x1 x2 x3 (y 1)) (lane x6 (y 1)) (lane x7 (y 1)) (y 2).val) _ ?_ (ix3 0 r l)
    (cover0_A_12 (F := Ideal) c i arg2 h2 arg3 h3 arg4 h4 arg5 h5 arg6 h6 arg7 h7 arg8 h8 arg9 h9 arg10 h10 arg11 h11 arg12 h12 arg13 h13 arg14 h14 arg15 h15
      x0 x1 x2 x3 x4 x5 x6 x7 x8 x9 _)
  unfold kernelRun0_A
  dsimp only
  sl_unfold_words
  simp only [View.readAt_eq_ld, h2.read_unread, h3.read_unread, h4.read_unread, h5.read_unread, h8.read_unread, h9.read_unread, View.ld_unit_zero (S := S1x512x1024) hz3,
    View.ld_unit_zero (S := S1x1x1024) hz3, View.ld_unit_zero (S := S1024x3072) hz2, View.ld_unit_zero (S := S512x128) hz2]
  intro p hp
  rcases List.mem_cons.mp hp with rfl | hp
  · exact part_of (n := 768) (fun r => putC (cols x0 x1 x2 x3 r) (lane x6 r) (lane x7 r)) _ inb_S1x512x768_S1x512x512_0_0_256 fun r l => (pay2_apply (cols x0 x1 x2 x3 r) r _ (fun l => pay7_apply x0 x1 x2 x3 r l) l).trans (putC_rest _ _ _ l.val)
  rcases List.mem_cons.mp hp with rfl | hp
  · exact part_of (n := 768) (fun r => putC (cols x0 x1 x2 x3 r) (lane x6 r) (lane x7 r)) _ inb_S1x512x768_S1x512x128_0_0_128 fun r l => (pay1_apply x6 x7 (cols x0 x1 x2 x3 r) r _ (fun l => pay7_apply x0 x1 x2 x3 r l) l).trans (putC_turn _ _ _ 128 l.val l.isLt (by omega) rfl)
  cases List.mem_singleton.mp hp
  exact part_of (n := 768) (fun r => putC (cols x0 x1 x2 x3 r) (lane x6 r) (lane x7 r)) _ inb_S1x512x768_S1x512x128_0_0_0 fun r l => (pay20_apply x6 x7 (cols x0 x1 x2 x3 r) r _ (fun l => pay7_apply x0 x1 x2 x3 r l) l).trans (putC_turn _ _ _ 0 l.val l.isLt (by omega) rfl)

/-- The latent attention's block. -/
theorem outD_apply (r : Fin 512) (l : Fin 512) :
    out0_A_13 (F := Ideal) c i arg2 h2 arg3 h3 arg4 h4 arg5 h5 arg6 h6 arg7 h7 arg8 h8 arg9 h9 arg10 h10 arg11 h11 arg12 h12 arg13 h13 arg14 h14 arg15 h15
      x0 x1 x2 x3 x4 x5 x6 x7 x8 x9 (ix3 0 r l) = putD (cols x0 x1 x2 x3 r) (lane x8 r) (lane x9 r) l.val := by
  unfold out0_A_13
  rw [View.read_writes_junk_eq_canon]
  refine View.canon_apply_of_pieces (fun y => putD (cols x0 x1 x2 x3 (y 1)) (lane x8 (y 1)) (lane x9 (y 1)) (y 2).val) _ ?_ (ix3 0 r l)
    (cover0_A_13 (F := Ideal) c i arg2 h2 arg3 h3 arg4 h4 arg5 h5 arg6 h6 arg7 h7 arg8 h8 arg9 h9 arg10 h10 arg11 h11 arg12 h12 arg13 h13 arg14 h14 arg15 h15
      x0 x1 x2 x3 x4 x5 x6 x7 x8 x9 _)
  unfold kernelRun0_A
  dsimp only
  sl_unfold_words
  simp only [View.readAt_eq_ld, h2.read_unread, h3.read_unread, h4.read_unread, h5.read_unread, h10.read_unread, h11.read_unread, View.ld_unit_zero (S := S1x512x1024) hz3,
    View.ld_unit_zero (S := S1x1x1024) hz3, View.ld_unit_zero (S := S1024x3072) hz2, View.ld_unit_zero (S := S512x128) hz2]
  intro p hp
  rcases List.mem_cons.mp hp with rfl | hp
  · exact part_of (n := 512) (fun r => putD (cols x0 x1 x2 x3 r) (lane x8 r) (lane x9 r)) _ inb_S1x512x512_S1x512x128_0_0_384 fun r l => (pay4_apply x8 x9 (cols x0 x1 x2 x3 r) r _ (fun l => pay8_apply x0 x1 x2 x3 r l) _ (fun l => pay10_apply x0 x1 x2 x3 r l) l).trans (putD_high _ _ _ l.val)
  cases List.mem_singleton.mp hp
  exact part_of (n := 512) (fun r => putD (cols x0 x1 x2 x3 r) (lane x8 r) (lane x9 r)) _ inb_S1x512x512_S1x512x384_0_0_0 fun r l => (pay3_apply (cols x0 x1 x2 x3 r) r _ (fun l => pay8_apply x0 x1 x2 x3 r l) l).trans (putD_low _ _ _ l.val l.isLt)

end
end Cert.Inp
end
-- ==== Proof.Inp.Lanes.lean ====
module

public import proofs.«01_k».proof.Proof.Inp.Host
public import proofs.«01_k».proof.Proof.Inp.Block

@[expose] public section

noncomputable section

/-! The call's lanes on the laid-out columns are the reference's on the projected ones. -/

namespace Cert.Inp

open Idealize.ShloMosaic

/-- A filled column. -/
theorem laid_of (z : Nat → EReal) (k p : Nat) (hk : kept k) (h : col k = p) : laid z k = z p := by
  unfold laid
  rw [if_pos hk, h]

/-- A column that is not filled. -/
theorem laid_zero (z : Nat → EReal) (k : Nat) (hk : ¬ kept k) : laid z k = 0 := if_neg hk

/-- The wide product with the laid-out matrix is the projected row laid out. -/
theorem wide_laid (x sc sh : Fin 1024 → EReal) (W : Fin 1024 → Fin 2736 → EReal) (w : Fin 1024 → Fin 3072 → EReal)
    (hw : ∀ j k, w j k = W j ⟨col k.val, col_lt k⟩ * (if kept k.val then 1 else 0)) :
    rd (wideProj x sc sh w) = laid (rd (proj x sc sh W)) := by
  funext k
  by_cases h : kept k
  · have hk : k < 3072 := by unfold kept at h; omega
    have hc := col_lt ⟨k, hk⟩
    unfold laid
    rw [if_pos h]
    unfold rd
    rw [dif_pos hk, dif_pos (show col k < 2736 from hc)]
    unfold wideProj proj
    refine Finset.sum_congr rfl fun j _ => ?_
    rw [hw, if_pos h, mul_one]
  · rw [laid_zero _ _ h]
    unfold rd
    split_ifs with hk
    · refine Finset.sum_eq_zero fun j _ => ?_
      rw [hw, if_neg h, mul_zero, mul_zero]
    · rfl

section
variable (z c s : Nat → EReal)

/-- A turned lane is the rotated pair's element: in the first half the partner is taken with the opposite sign. -/
theorem turn_rot (Z C S : Nat → EReal) (o l p d q : Nat) (first : Prop) [Decidable first] (hC : C l = c q) (hS : S l = if first then - s q else s q)
    (h1 : Z (o + l) = if first then z p else z (p + d)) (h2 : Z (o + (l + 64) % 128) = if first then z (p + d) else z p) :
    turn Z C S o l = rot z c s p d q first := by
  unfold turn rot
  rw [hC, hS, h1, h2]
  split_ifs
  · rw [mul_neg, sub_eq_add_neg]
  · exact add_comm _ _

/-- The windowed attention's lanes. -/
theorem putA_laid (C S : Nat → EReal) (hC : ∀ l, l < 128 → C l = c (l % 32)) (hS : ∀ l, l < 128 → S l = if l < 64 then - s (l % 32) else s (l % 32))
    (l : Nat) (hl : l < 512) : putA (laid z) C S l = outA z c s l := by
  unfold putA outA
  by_cases h3 : l < 256
  · rw [if_pos h3, if_pos (show l < 384 by omega)]
    refine turn_rot z c s _ _ _ _ _ _ _ _ _ ((hC _ (by omega)).trans (by rw [show l % 128 % 32 = l % 32 by omega]))
      ((hS _ (by omega)).trans (by rw [show l % 128 % 32 = l % 32 by omega])) ?_ ?_
    · split_ifs with h <;> refine laid_of _ _ _ (by unfold kept; omega) ?_ <;> unfold col <;> rw [if_pos (by omega)] <;> omega
    · split_ifs with h <;> refine laid_of _ _ _ (by unfold kept; omega) ?_ <;> unfold col <;> rw [if_pos (by omega)] <;> omega
  · by_cases h4 : l < 384
    · rw [if_pos h4, if_neg h3, if_pos h4]
      refine turn_rot z c s _ _ _ _ _ _ _ _ _ ((hC _ (by omega)).trans (by rw [show l % 128 % 32 = l % 32 by omega]))
        ((hS _ (by omega)).trans (by rw [show l % 128 % 32 = l % 32 by omega])) ?_ ?_
      · split_ifs with h <;> refine laid_of _ _ _ (by unfold kept; omega) ?_ <;> unfold col <;> rw [if_neg (by omega), if_pos (by omega)] <;> omega
      · split_ifs with h <;> refine laid_of _ _ _ (by unfold kept; omega) ?_ <;> unfold col <;> rw [if_neg (by omega), if_pos (by omega)] <;> omega
    · rw [if_neg h4, if_neg h3, if_neg h4]
      refine laid_of _ _ _ (by unfold kept; omega) ?_
      unfold col
      rw [if_neg (by omega), if_neg (by omega), if_pos (by omega)]

/-- The recurrence's lanes. -/
theorem putB_laid (l : Nat) (hl : l < 1152) : laid z (512 + l) = outB z l := by
  unfold outB
  by_cases h : l < 1040
  · rw [if_pos h]
    refine laid_of _ _ _ (by unfold kept; omega) ?_
    unfold col
    rw [if_neg (by omega), if_neg (by omega), if_pos (by omega)]
  · rw [if_neg h]
    exact laid_zero _ _ (by unfold kept; omega)

/-- The retention's lanes. -/
theorem putC_laid (C S : Nat → EReal) (hC : ∀ l, l < 128 → C l = c (l % 16)) (hS : ∀ l, l < 128 → S l = if l < 64 then - s (l % 16) else s (l % 16))
    (l : Nat) (hl : l < 768) : putC (laid z) C S l = outC z c s l := by
  unfold putC outC
  by_cases h3 : l < 256
  · rw [if_pos h3, if_pos h3]
    refine turn_rot z c s _ _ _ _ _ _ _ _ _ ((hC _ (by omega)).trans (by rw [show l % 128 % 16 = l % 16 by omega]))
      ((hS _ (by omega)).trans (by rw [show l % 128 % 16 = l % 16 by omega])) ?_ ?_
    · split_ifs with h <;> refine laid_of _ _ _ (by unfold kept; omega) ?_ <;> unfold col <;>
        rw [if_neg (by omega), if_neg (by omega), if_neg (by omega), if_neg (by omega), if_pos (by omega)] <;> omega
    · split_ifs with h <;> refine laid_of _ _ _ (by unfold kept; omega) ?_ <;> unfold col <;>
        rw [if_neg (by omega), if_neg (by omega), if_neg (by omega), if_neg (by omega), if_pos (by omega)] <;> omega
  · rw [if_neg h3, if_neg h3]
    refine laid_of _ _ _ (by unfold kept; omega) ?_
    unfold col
    rw [if_neg (by omega), if_neg (by omega), if_neg (by omega), if_neg (by omega), if_neg (by omega), if_pos (by omega)]
    omega

/-- The latent attention's lanes. -/
theorem putD_laid (C S : Nat → EReal)
    (hC : ∀ l, l < 128 → C l = if l < 64 then 1 else if l < 80 then c (l - 64) else if l < 96 then c (l - 80) else 1)
    (hS : ∀ l, l < 128 → S l = if l < 64 then 0 else if l < 80 then - s (l - 64) else if l < 96 then s (l - 80) else 0)
    (l : Nat) (hl : l < 512) : putD (laid z) C S l = outD z c s l := by
  unfold putD outD
  by_cases h0 : l < 384
  · rw [if_pos h0, if_pos h0]
    refine laid_of _ _ _ (by unfold kept; omega) ?_
    unfold col
    rw [if_neg (by omega), if_neg (by omega), if_neg (by omega), if_neg (by omega), if_neg (by omega), if_pos (by omega)]
    omega
  rw [if_neg h0, if_neg h0, hC _ (by omega), hS _ (by omega)]
  by_cases h1 : l < 448
  · rw [if_pos h1, if_pos (show l - 384 < 64 by omega), if_pos (show l - 384 < 64 by omega), laid_zero _ _ (by unfold kept; omega), zero_mul, mul_zero, add_zero]
  rw [if_neg h1, if_neg (show ¬ l - 384 < 64 by omega), if_neg (show ¬ l - 384 < 64 by omega)]
  by_cases h2 : l < 464
  · rw [if_pos (show l < 480 by omega), if_pos (show l - 384 < 80 by omega), if_pos (show l - 384 < 80 by omega)]
    unfold rot
    rw [if_pos h2, laid_of z (2432 + l) (2704 + l % 16) (by unfold kept; omega) (by
        unfold col
        rw [if_neg (by omega), if_neg (by omega), if_neg (by omega), if_neg (by omega), if_neg (by omega), if_neg (by omega), if_neg (by omega), if_pos (by omega)]
        omega),
      laid_of z (2944 + (l - 384)) (2704 + l % 16 + 16) (by unfold kept; omega) (by
        unfold col
        rw [if_neg (by omega), if_neg (by omega), if_neg (by omega), if_neg (by omega), if_neg (by omega), if_neg (by omega), if_neg (by omega), if_neg (by omega),
          if_neg (by omega), if_pos (by omega)]
        omega),
      show l - 384 - 64 = l % 16 by omega, mul_neg, sub_eq_add_neg]
  by_cases h3 : l < 480
  · rw [if_pos h3, if_neg (show ¬ l - 384 < 80 by omega), if_neg (show ¬ l - 384 < 80 by omega), if_pos (show l - 384 < 96 by omega), if_pos (show l - 384 < 96 by omega)]
    unfold rot
    rw [if_neg h2, laid_of z (2432 + l) (2704 + l % 16 + 16) (by unfold kept; omega) (by
        unfold col
        rw [if_neg (by omega), if_neg (by omega), if_neg (by omega), if_neg (by omega), if_neg (by omega), if_neg (by omega), if_neg (by omega), if_pos (by omega)]
        omega),
      laid_of z (2944 + (l - 384)) (2704 + l % 16) (by unfold kept; omega) (by
        unfold col
        rw [if_neg (by omega), if_neg (by omega), if_neg (by omega), if_neg (by omega), if_neg (by omega), if_neg (by omega), if_neg (by omega), if_neg (by omega),
          if_neg (by omega), if_neg (by omega), if_pos (by omega)]
        omega),
      show l - 384 - 80 = l % 16 by omega]
    exact add_comm _ _
  · rw [if_neg h3, if_neg (show ¬ l - 384 < 80 by omega), if_neg (show ¬ l - 384 < 80 by omega), if_neg (show ¬ l - 384 < 96 by omega), if_neg (show ¬ l - 384 < 96 by omega),
      laid_zero _ _ (by unfold kept; omega), zero_mul, mul_zero, add_zero]

end
end Cert.Inp
end
-- ==== Proof.Inp.Ref.lean ====
module

public import proofs.«01_k».proof.Proof.Gen.Reference3Ideal.Run
public import proofs.«01_k».proof.Proof.Inp.Row

@[expose] public section

set_option maxRecDepth 16384

noncomputable section

/-! The reference of the input projection: its arrays, stage by stage. -/

namespace Cert.Inp.Ref

open Idealize.ShloMosaic Cert.Reference3Ideal Cert.Reference3Ideal.Gen

/-- The projected tokens. -/
def projArr (x : FVec Ideal S16x4096x1024 .f32) (sc sh : FVec Ideal S16x1x1024 .f32) (w : FVec Ideal S1024x2736 .f32) : FVec Ideal S16x4096x2736 .f32 :=
  Host.dotGeneral dot_S16x4096x1024_S1024x2736_S16x4096x2736_2_0_01_1_n_n none
    (addf (mulf x (broadcastInDim S16x4096x1024 ![0, 1, 2] bcast_S16x1x1024_S16x4096x1024_0_1_2
        (addf (broadcastInDim S16x1x1024 ![] bcast_S_S16x1x1024 (constant S_ .f32 0x3F800000#32)) sc)))
      (broadcastInDim S16x4096x1024 ![0, 1, 2] bcast_S16x1x1024_S16x4096x1024_0_1_2 sh)) w

/-! ## The angles -/

/-- The row of the grid that a token is in. -/
def gridRow : FVec Ideal S4096 .f32 :=
  shapeCast _ (broadcastInDim S64x64 ![0, 1] bcast_S64x1_S64x64_0_1 (broadcastInDim S64x1 ![0] bcast_S64_S64x1_0 (sitofp .f32 (iotaInDim S64 32 0))))
    shapeCasts_S64x64_S4096

/-- The column of the grid that a token is in. -/
def gridCol : FVec Ideal S4096 .f32 :=
  shapeCast _ (broadcastInDim S64x64 ![0, 1] bcast_S1x64_S64x64_0_1 (broadcastInDim S1x64 ![1] bcast_S64_S1x64_1 (sitofp .f32 (iotaInDim S64 32 0))))
    shapeCasts_S64x64_S4096

/-- Sixteen frequencies. -/
def freq16 : FVec Ideal S16 .f32 :=
  Host.powf (broadcastInDim S16 ![] bcast_S_S16 (constant S_ .f32 0x461C4000#32)) (Host.divf (Host.negf (addf
    (broadcastInDim S16 ![] bcast_S_S16 (constant S_ .f32 0x00000000#32)) (mulf (broadcastInDim S16 ![] bcast_S_S16 (constant S_ .f32 0x40000000#32))
      (sitofp .f32 (iotaInDim S16 32 0))))) (broadcastInDim S16 ![] bcast_S_S16 (constant S_ .f32 0x42000000#32)))

/-- Eight frequencies. -/
def freq8 : FVec Ideal S8 .f32 :=
  Host.powf (broadcastInDim S8 ![] bcast_S_S8 (constant S_ .f32 0x461C4000#32)) (Host.divf (Host.negf (addf
    (broadcastInDim S8 ![] bcast_S_S8 (constant S_ .f32 0x00000000#32)) (mulf (broadcastInDim S8 ![] bcast_S_S8 (constant S_ .f32 0x40000000#32))
      (sitofp .f32 (iotaInDim S8 32 0))))) (broadcastInDim S8 ![] bcast_S_S8 (constant S_ .f32 0x41800000#32)))

/-- Every position times every one of sixteen frequencies. -/
def outer16 (p : FVec Ideal S4096 .f32) : FVec Ideal S4096x16 .f32 :=
  mulf (broadcastInDim S4096x16 ![0, 1] bcast_S4096x1_S4096x16_0_1 (broadcastInDim S4096x1 ![0] bcast_S4096_S4096x1_0 p))
    (broadcastInDim S4096x16 ![0, 1] bcast_S1x16_S4096x16_0_1 (broadcastInDim S1x16 ![1] bcast_S16_S1x16_1 freq16))

/-- Every position times every one of eight frequencies. -/
def outer8 (p : FVec Ideal S4096 .f32) : FVec Ideal S4096x8 .f32 :=
  mulf (broadcastInDim S4096x8 ![0, 1] bcast_S4096x1_S4096x8_0_1 (broadcastInDim S4096x1 ![0] bcast_S4096_S4096x1_0 p))
    (broadcastInDim S4096x8 ![0, 1] bcast_S1x8_S4096x8_0_1 (broadcastInDim S1x8 ![1] bcast_S8_S1x8_1 freq8))

/-- The windowed attention's angles. -/
def angA : FVec Ideal S4096x32 .f32 :=
  concatenate S4096x32 1 [⟨S4096x16, outer16 gridRow⟩, ⟨S4096x16, outer16 gridCol⟩] concatenates_S4096x16_S4096x16_S4096x32_d1

/-- The retention's angles. -/
def angC : FVec Ideal S4096x16 .f32 := outer16 (sitofp .f32 (iotaInDim S4096 32 0))

/-- The latent attention's angles. -/
def angD : FVec Ideal S4096x16 .f32 :=
  concatenate S4096x16 1 [⟨S4096x8, outer8 gridRow⟩, ⟨S4096x8, outer8 gridCol⟩] concatenates_S4096x8_S4096x8_S4096x16_d1

/-! ## The rotations -/

section
variable (z : FVec Ideal S16x4096x2736 .f32)

/-- The windowed attention's queries, in heads. -/
def headsQ : FVec Ideal S16x4096x4x64 .f32 :=
  shapeCast _ (extractStridedSlice S16x4096x256 ![0, 0, 0] z slices_S16x4096x2736_S16x4096x256_0_0_0) shapeCasts_S16x4096x256_S16x4096x4x64

/-- The windowed attention's keys, in heads. -/
def headsK : FVec Ideal S16x4096x2x64 .f32 :=
  shapeCast _ (extractStridedSlice S16x4096x128 ![0, 0, 256] z slices_S16x4096x2736_S16x4096x128_0_0_256) shapeCasts_S16x4096x128_S16x4096x2x64

/-- The retention's queries, in heads. -/
def headsQ' : FVec Ideal S16x4096x4x32 .f32 :=
  shapeCast _ (extractStridedSlice S16x4096x128 ![0, 0, 1552] z slices_S16x4096x2736_S16x4096x128_0_0_1552) shapeCasts_S16x4096x128_S16x4096x4x32

/-- The retention's keys, in heads. -/
def headsK' : FVec Ideal S16x4096x4x32 .f32 :=
  shapeCast _ (extractStridedSlice S16x4096x128 ![0, 0, 1680] z slices_S16x4096x2736_S16x4096x128_0_0_1680) shapeCasts_S16x4096x128_S16x4096x4x32

/-- The latent attention's shared key, one head. -/
def headR : FVec Ideal S16x4096x1x32 .f32 :=
  shapeCast _ (extractStridedSlice S16x4096x32 ![0, 0, 2704] z slices_S16x4096x2736_S16x4096x32_0_0_2704) shapeCasts_S16x4096x32_S16x4096x1x32

end

/-- Four heads of 64, rotated. -/
def ropeQ (u : FVec Ideal S16x4096x4x64 .f32) (c s : FVec Ideal S4096x32 .f32) : FVec Ideal S16x4096x4x64 .f32 :=
  let t := fun a : FVec Ideal S4096x32 .f32 => broadcastInDim S16x4096x4x32 ![0, 1, 2, 3] bcast_S1x4096x1x32_S16x4096x4x32_0_1_2_3
    (broadcastInDim S1x4096x1x32 ![1, 2, 3] bcast_S4096x1x32_S1x4096x1x32_1_2_3 (broadcastInDim S4096x1x32 ![0, 2] bcast_S4096x32_S4096x1x32_0_2 a))
  let x := extractStridedSlice S16x4096x4x32 ![0, 0, 0, 0] u slices_S16x4096x4x64_S16x4096x4x32_0_0_0_0
  let y := extractStridedSlice S16x4096x4x32 ![0, 0, 0, 32] u slices_S16x4096x4x64_S16x4096x4x32_0_0_0_32
  concatenate S16x4096x4x64 3 [⟨S16x4096x4x32, subf (mulf x (t c)) (mulf y (t s))⟩, ⟨S16x4096x4x32, addf (mulf x (t s)) (mulf y (t c))⟩]
    concatenates_S16x4096x4x32_S16x4096x4x32_S16x4096x4x64_d3

/-- Two heads of 64, rotated. -/
def ropeK (u : FVec Ideal S16x4096x2x64 .f32) (c s : FVec Ideal S4096x32 .f32) : FVec Ideal S16x4096x2x64 .f32 :=
  let t := fun a : FVec Ideal S4096x32 .f32 => broadcastInDim S16x4096x2x32 ![0, 1, 2, 3] bcast_S1x4096x1x32_S16x4096x2x32_0_1_2_3
    (broadcastInDim S1x4096x1x32 ![1, 2, 3] bcast_S4096x1x32_S1x4096x1x32_1_2_3 (broadcastInDim S4096x1x32 ![0, 2] bcast_S4096x32_S4096x1x32_0_2 a))
  let x := extractStridedSlice S16x4096x2x32 ![0, 0, 0, 0] u slices_S16x4096x2x64_S16x4096x2x32_0_0_0_0
  let y := extractStridedSlice S16x4096x2x32 ![0, 0, 0, 32] u slices_S16x4096x2x64_S16x4096x2x32_0_0_0_32
  concatenate S16x4096x2x64 3 [⟨S16x4096x2x32, subf (mulf x (t c)) (mulf y (t s))⟩, ⟨S16x4096x2x32, addf (mulf x (t s)) (mulf y (t c))⟩]
    concatenates_S16x4096x2x32_S16x4096x2x32_S16x4096x2x64_d3

/-- Four heads of 32, rotated. -/
def ropeC (u : FVec Ideal S16x4096x4x32 .f32) (c s : FVec Ideal S4096x16 .f32) : FVec Ideal S16x4096x4x32 .f32 :=
  let t := fun a : FVec Ideal S4096x16 .f32 => broadcastInDim S16x4096x4x16 ![0, 1, 2, 3] bcast_S1x4096x1x16_S16x4096x4x16_0_1_2_3
    (broadcastInDim S1x4096x1x16 ![1, 2, 3] bcast_S4096x1x16_S1x4096x1x16_1_2_3 (broadcastInDim S4096x1x16 ![0, 2] bcast_S4096x16_S4096x1x16_0_2 a))
  let x := extractStridedSlice S16x4096x4x16 ![0, 0, 0, 0] u slices_S16x4096x4x32_S16x4096x4x16_0_0_0_0
  let y := extractStridedSlice S16x4096x4x16 ![0, 0, 0, 16] u slices_S16x4096x4x32_S16x4096x4x16_0_0_0_16
  concatenate S16x4096x4x32 3 [⟨S16x4096x4x16, subf (mulf x (t c)) (mulf y (t s))⟩, ⟨S16x4096x4x16, addf (mulf x (t s)) (mulf y (t c))⟩]
    concatenates_S16x4096x4x16_S16x4096x4x16_S16x4096x4x32_d3

/-- One head of 32, rotated. -/
def ropeD (u : FVec Ideal S16x4096x1x32 .f32) (c s : FVec Ideal S4096x16 .f32) : FVec Ideal S16x4096x1x32 .f32 :=
  let t := fun a : FVec Ideal S4096x16 .f32 => broadcastInDim S16x4096x1x16 ![0, 1, 2, 3] bcast_S1x4096x1x16_S16x4096x1x16_0_1_2_3
    (broadcastInDim S1x4096x1x16 ![1, 2, 3] bcast_S4096x1x16_S1x4096x1x16_1_2_3 (broadcastInDim S4096x1x16 ![0, 2] bcast_S4096x16_S4096x1x16_0_2 a))
  let x := extractStridedSlice S16x4096x1x16 ![0, 0, 0, 0] u slices_S16x4096x1x32_S16x4096x1x16_0_0_0_0
  let y := extractStridedSlice S16x4096x1x16 ![0, 0, 0, 16] u slices_S16x4096x1x32_S16x4096x1x16_0_0_0_16
  concatenate S16x4096x1x32 3 [⟨S16x4096x1x16, subf (mulf x (t c)) (mulf y (t s))⟩, ⟨S16x4096x1x16, addf (mulf x (t s)) (mulf y (t c))⟩]
    concatenates_S16x4096x1x16_S16x4096x1x16_S16x4096x1x32_d3

/-! ## The layouts -/

/-- Four heads of 64: the second of a pair, the half, the pair. -/
def layQ (u : FVec Ideal S16x4096x4x64 .f32) : FVec Ideal S16x4096x256 .f32 :=
  shapeCast _ (transpose S16x4096x2x2x2x32 [0, 1, 3, 4, 2, 5] (shapeCast _ u shapeCasts_S16x4096x4x64_S16x4096x2x2x2x32)
    transposes_S16x4096x2x2x2x32_S16x4096x2x2x2x32_0_1_3_4_2_5) shapeCasts_S16x4096x2x2x2x32_S16x4096x256

/-- Two heads of 64: the half before the head. -/
def layK (u : FVec Ideal S16x4096x2x64 .f32) : FVec Ideal S16x4096x128 .f32 :=
  shapeCast _ (transpose S16x4096x2x2x32 [0, 1, 3, 2, 4] (shapeCast _ u shapeCasts_S16x4096x2x64_S16x4096x2x2x32)
    transposes_S16x4096x2x2x32_S16x4096x2x2x32_0_1_3_2_4) shapeCasts_S16x4096x2x2x32_S16x4096x128

/-- Four heads of 32: the half before the head. -/
def layC (u : FVec Ideal S16x4096x4x32 .f32) : FVec Ideal S16x4096x128 .f32 :=
  shapeCast _ (transpose S16x4096x2x4x16 [0, 1, 3, 2, 4] (shapeCast _ u shapeCasts_S16x4096x4x32_S16x4096x4x2x16)
    transposes_S16x4096x4x2x16_S16x4096x2x4x16_0_1_3_2_4) shapeCasts_S16x4096x2x4x16_S16x4096x128

/-- The shared key between zeros. -/
def layD (u : FVec Ideal S16x4096x1x32 .f32) : FVec Ideal S16x4096x128 .f32 :=
  pad S16x4096x128 ![0, 0, 64] ![0, 0, 32] ![0, 0, 0] (shapeCast _ u shapeCasts_S16x4096x1x32_S16x4096x32)
    (sitofp .f32 (constantI S_ 32 0#32)) pads_S16x4096x32_S16x4096x128_000_000_64320 h_S_

/-! ## The four results -/

section
variable (z : FVec Ideal S16x4096x2736 .f32)

/-- The windowed attention's result. -/
def arrA : FVec Ideal S16x4096x512 .f32 :=
  concatenate S16x4096x512 2 [⟨S16x4096x256, layQ (ropeQ (headsQ z) (Host.cos angA) (Host.sin angA))⟩,
    ⟨S16x4096x128, layK (ropeK (headsK z) (Host.cos angA) (Host.sin angA))⟩,
    ⟨S16x4096x128, extractStridedSlice S16x4096x128 ![0, 0, 384] z slices_S16x4096x2736_S16x4096x128_0_0_384⟩]
    concatenates_S16x4096x256_S16x4096x128_S16x4096x128_S16x4096x512_d2

/-- The recurrence's result. -/
def arrB : FVec Ideal S16x4096x1152 .f32 :=
  pad S16x4096x1152 ![0, 0, 0] ![0, 0, 112] ![0, 0, 0] (concatenate S16x4096x1040 2
    [⟨S16x4096x768, extractStridedSlice S16x4096x768 ![0, 0, 512] z slices_S16x4096x2736_S16x4096x768_0_0_512⟩,
     ⟨S16x4096x256, extractStridedSlice S16x4096x256 ![0, 0, 1280] z slices_S16x4096x2736_S16x4096x256_0_0_1280⟩,
     ⟨S16x4096x16, extractStridedSlice S16x4096x16 ![0, 0, 1536] z slices_S16x4096x2736_S16x4096x16_0_0_1536⟩]
    concatenates_S16x4096x768_S16x4096x256_S16x4096x16_S16x4096x1040_d2) (sitofp .f32 (constantI S_ 32 0#32))
    pads_S16x4096x1040_S16x4096x1152_000_000_01120 h_S_

/-- The retention's result. -/
def arrC : FVec Ideal S16x4096x768 .f32 :=
  concatenate S16x4096x768 2 [⟨S16x4096x128, layC (ropeC (headsQ' z) (Host.cos angC) (Host.sin angC))⟩,
    ⟨S16x4096x128, layC (ropeC (headsK' z) (Host.cos angC) (Host.sin angC))⟩,
    ⟨S16x4096x256, extractStridedSlice S16x4096x256 ![0, 0, 1808] z slices_S16x4096x2736_S16x4096x256_0_0_1808⟩,
    ⟨S16x4096x256, extractStridedSlice S16x4096x256 ![0, 0, 2064] z slices_S16x4096x2736_S16x4096x256_0_0_2064⟩]
    concatenates_S16x4096x128_S16x4096x128_S16x4096x256_S16x4096x256_S16x4096x768_d2

/-- The latent attention's result. -/
def arrD : FVec Ideal S16x4096x512 .f32 :=
  concatenate S16x4096x512 2
    [⟨S16x4096x256, extractStridedSlice S16x4096x256 ![0, 0, 2320] z slices_S16x4096x2736_S16x4096x256_0_0_2320⟩,
     ⟨S16x4096x128, extractStridedSlice S16x4096x128 ![0, 0, 2576] z slices_S16x4096x2736_S16x4096x128_0_0_2576⟩,
     ⟨S16x4096x128, layD (ropeD (headR z) (Host.cos angD) (Host.sin angD))⟩]
    concatenates_S16x4096x256_S16x4096x128_S16x4096x128_S16x4096x512_d2

end

/-! ## The arrays at a token -/

section
variable (b : Fin 16) (t : Fin 4096)

theorem projArr_apply (x : FVec Ideal S16x4096x1024 .f32) (sc sh : FVec Ideal S16x1x1024 .f32) (w : FVec Ideal S1024x2736 .f32) (k : Fin 2736) :
    projArr x sc sh w (ix3 b t k)
      = proj (fun j => x (ix3 b t j)) (fun j => sc (ix3 b 0 j)) (fun j => sh (ix3 b 0 j)) (fun j k => w (ix2 j k)) k := by
  pointwise [projArr, proj]

theorem headsQ_apply (z : FVec Ideal S16x4096x2736 .f32) (h : Fin 4) (l : Fin 64) :
    headsQ z (ix4 b t h l) = rd (fun k => z (ix3 b t k)) (h.val * 64 + l.val) := by
  refine Eq.trans ?_ (rd_at (fun k => z (ix3 b t k)) ⟨h.val * 64 + l.val, by omega⟩ _ rfl)
  pointwise [headsQ]

theorem headsK_apply (z : FVec Ideal S16x4096x2736 .f32) (h : Fin 2) (l : Fin 64) :
    headsK z (ix4 b t h l) = rd (fun k => z (ix3 b t k)) (256 + h.val * 64 + l.val) := by
  refine Eq.trans ?_ (rd_at (fun k => z (ix3 b t k)) ⟨256 + (h.val * 64 + l.val), by omega⟩ _ (by simp only; omega))
  pointwise [headsK]

theorem headsQ'_apply (z : FVec Ideal S16x4096x2736 .f32) (h : Fin 4) (l : Fin 32) :
    headsQ' z (ix4 b t h l) = rd (fun k => z (ix3 b t k)) (1552 + h.val * 32 + l.val) := by
  refine Eq.trans ?_ (rd_at (fun k => z (ix3 b t k)) ⟨1552 + (h.val * 32 + l.val), by omega⟩ _ (by simp only; omega))
  pointwise [headsQ']

theorem headsK'_apply (z : FVec Ideal S16x4096x2736 .f32) (h : Fin 4) (l : Fin 32) :
    headsK' z (ix4 b t h l) = rd (fun k => z (ix3 b t k)) (1680 + h.val * 32 + l.val) := by
  refine Eq.trans ?_ (rd_at (fun k => z (ix3 b t k)) ⟨1680 + (h.val * 32 + l.val), by omega⟩ _ (by simp only; omega))
  pointwise [headsK']

theorem headR_apply (z : FVec Ideal S16x4096x2736 .f32) (l : Fin 32) :
    headR z (ix4 b t 0 l) = rd (fun k => z (ix3 b t k)) (2704 + l.val) := by
  refine Eq.trans ?_ (rd_at (fun k => z (ix3 b t k)) ⟨2704 + l.val, by omega⟩ _ rfl)
  pointwise [headR]

theorem layQ_apply (u : FVec Ideal S16x4096x4x64 .f32) (l : Fin 256) :
    layQ u (ix3 b t l) = u (ix4 b t ⟨l.val / 32 % 2 * 2 + l.val / 128, by omega⟩ ⟨l.val / 64 % 2 * 32 + l.val % 32, by omega⟩) := by
  pointwise [layQ]

theorem layK_apply (u : FVec Ideal S16x4096x2x64 .f32) (l : Fin 128) :
    layK u (ix3 b t l) = u (ix4 b t ⟨l.val / 32 % 2, by omega⟩ ⟨l.val / 64 * 32 + l.val % 32, by omega⟩) := by
  pointwise [layK]

theorem layC_apply (u : FVec Ideal S16x4096x4x32 .f32) (l : Fin 128) :
    layC u (ix3 b t l) = u (ix4 b t ⟨l.val / 16 % 4, by omega⟩ ⟨l.val / 64 * 16 + l.val % 16, by omega⟩) := by
  pointwise [layC]

theorem zero_eq : FloatOps.sitofp (F := Ideal) FTy.f32 0#32 = 0 := by
  show (((0#32 : BitVec 32).toInt : ℝ) : EReal) = 0
  simp

theorem layD_apply (u : FVec Ideal S16x4096x1x32 .f32) (l : Fin 128) :
    layD u (ix3 b t l) = if h : 64 ≤ l.val ∧ l.val - 64 < 32 then u (ix4 b t 0 ⟨l.val - 64, h.2⟩) else 0 := by
  pointwise [layD]
  rw [zero_eq]

/-- A rotated element, by its place in the head. -/
theorem rot_dite (z c s : Nat → EReal) (o d l : Nat) (h : l < 2 * d) :
    (if l < d then z (o + l) * c l - z (o + (d + l)) * s l else z (o + (l - d)) * s (l - d) + z (o + (d + (l - d))) * c (l - d))
      = rot z c s (o + l % d) d (l % d) (l < d) := by
  unfold rot
  split_ifs with h1
  · rw [Nat.mod_eq_of_lt h1, show o + (d + l) = o + l + d by omega]
  · have e : l % d = l - d := by rw [Nat.mod_eq_sub_mod (by omega), Nat.mod_eq_of_lt (by omega)]
    rw [e, show o + (d + (l - d)) = o + (l - d) + d by omega]

/-- A table's row. -/
abbrev tab {n : Nat} (c : FVec Ideal ⟨2, ![4096, n]⟩ .f32) (t : Fin 4096) : Nat → EReal := rd fun k => c (ix2 t k)

theorem ropeQ_apply (u : FVec Ideal S16x4096x4x64 .f32) (c s : FVec Ideal S4096x32 .f32) (h : Fin 4) (l : Fin 64) (z : Nat → EReal) (o : Nat)
    (hu : ∀ k : Fin 64, u (ix4 b t h k) = z (o + k.val)) :
    ropeQ u c s (ix4 b t h l) = rot z (tab c t) (tab s t) (o + l.val % 32) 32 (l.val % 32) (l.val < 32) := by
  have hc : ∀ q, c (ix2 t q) = tab c t q.val := fun q => rd_eq (fun k => c (ix2 t k)) q
  have hs : ∀ q, s (ix2 t q) = tab s t q.val := fun q => rd_eq (fun k => s (ix2 t k)) q
  refine Eq.trans ?_ (rot_dite z (tab c t) (tab s t) o 32 l.val l.isLt)
  pointwise [ropeQ]
  simp only [hu, hc, hs, dite_eq_ite]

theorem ropeK_apply (u : FVec Ideal S16x4096x2x64 .f32) (c s : FVec Ideal S4096x32 .f32) (h : Fin 2) (l : Fin 64) (z : Nat → EReal) (o : Nat)
    (hu : ∀ k : Fin 64, u (ix4 b t h k) = z (o + k.val)) :
    ropeK u c s (ix4 b t h l) = rot z (tab c t) (tab s t) (o + l.val % 32) 32 (l.val % 32) (l.val < 32) := by
  have hc : ∀ q, c (ix2 t q) = tab c t q.val := fun q => rd_eq (fun k => c (ix2 t k)) q
  have hs : ∀ q, s (ix2 t q) = tab s t q.val := fun q => rd_eq (fun k => s (ix2 t k)) q
  refine Eq.trans ?_ (rot_dite z (tab c t) (tab s t) o 32 l.val l.isLt)
  pointwise [ropeK]
  simp only [hu, hc, hs, dite_eq_ite]

theorem ropeC_apply (u : FVec Ideal S16x4096x4x32 .f32) (c s : FVec Ideal S4096x16 .f32) (h : Fin 4) (l : Fin 32) (z : Nat → EReal) (o : Nat)
    (hu : ∀ k : Fin 32, u (ix4 b t h k) = z (o + k.val)) :
    ropeC u c s (ix4 b t h l) = rot z (tab c t) (tab s t) (o + l.val % 16) 16 (l.val % 16) (l.val < 16) := by
  have hc : ∀ q, c (ix2 t q) = tab c t q.val := fun q => rd_eq (fun k => c (ix2 t k)) q
  have hs : ∀ q, s (ix2 t q) = tab s t q.val := fun q => rd_eq (fun k => s (ix2 t k)) q
  refine Eq.trans ?_ (rot_dite z (tab c t) (tab s t) o 16 l.val l.isLt)
  pointwise [ropeC]
  simp only [hu, hc, hs, dite_eq_ite]

theorem ropeD_apply (u : FVec Ideal S16x4096x1x32 .f32) (c s : FVec Ideal S4096x16 .f32) (l : Fin 32) (z : Nat → EReal) (o : Nat)
    (hu : ∀ k : Fin 32, u (ix4 b t 0 k) = z (o + k.val)) :
    ropeD u c s (ix4 b t 0 l) = rot z (tab c t) (tab s t) (o + l.val % 16) 16 (l.val % 16) (l.val < 16) := by
  have hc : ∀ q, c (ix2 t q) = tab c t q.val := fun q => rd_eq (fun k => c (ix2 t k)) q
  have hs : ∀ q, s (ix2 t q) = tab s t q.val := fun q => rd_eq (fun k => s (ix2 t k)) q
  refine Eq.trans ?_ (rot_dite z (tab c t) (tab s t) o 16 l.val l.isLt)
  pointwise [ropeD]
  simp only [hu, hc, hs, dite_eq_ite]

/-- Two rotated elements of the same pair, angle and half. -/
theorem rot_congr (z c s : Nat → EReal) {p p' d q q' : Nat} {a a' : Prop} [Decidable a] [Decidable a'] (hp : p = p') (hq : q = q') (ha : a ↔ a') :
    rot z c s p d q a = rot z c s p' d q' a' := by
  subst hp hq
  unfold rot
  by_cases h : a
  · rw [if_pos h, if_pos (ha.mp h)]
  · rw [if_neg h, if_neg (fun h' => h (ha.mpr h'))]

section
variable (z : FVec Ideal S16x4096x2736 .f32)

/-- A token's projected row. -/
abbrev zrow : Nat → EReal := rd fun k => z (ix3 b t k)

theorem arrA_apply (l : Fin 512) : arrA z (ix3 b t l) = outA (zrow b t z) (tab (Host.cos angA) t) (tab (Host.sin angA) t) l.val := by
  unfold arrA
  generalize Host.cos angA = c
  generalize Host.sin angA = s
  have hQ := fun l : Fin 256 => (layQ_apply b t (ropeQ (headsQ z) c s) l).trans (ropeQ_apply b t (headsQ z) c s _ _ (zrow b t z)
    ((l.val / 32 % 2 * 2 + l.val / 128) * 64) (fun k => headsQ_apply b t z _ k))
  have hK := fun l : Fin 128 => (layK_apply b t (ropeK (headsK z) c s) l).trans (ropeK_apply b t (headsK z) c s _ _ (zrow b t z)
    (256 + l.val / 32 % 2 * 64) (fun k => headsK_apply b t z _ k))
  generalize layQ (ropeQ (headsQ z) c s) = Q at hQ ⊢
  generalize layK (ropeK (headsK z) c s) = K at hK ⊢
  have hz : ∀ k, z (ix3 b t k) = zrow b t z k.val := fun k => rd_eq (fun k => z (ix3 b t k)) k
  pointwise
  simp only [hQ, hK, hz]
  unfold outA
  split_ifs <;> first | omega | exact rot_congr _ _ _ (by omega) (by omega) (by omega) | (rw [if_pos (show l.val < 384 by omega)]; exact rot_congr _ _ _ (by omega) (by omega) (by omega)) | (congr 1; omega)

theorem arrB_apply (l : Fin 1152) : arrB z (ix3 b t l) = outB (zrow b t z) l.val := by
  have hz : ∀ k, z (ix3 b t k) = zrow b t z k.val := fun k => rd_eq (fun k => z (ix3 b t k)) k
  pointwise [arrB]
  simp only [hz, zero_eq]
  unfold outB
  split_ifs <;> first | omega | rfl | (congr 1; omega)

theorem arrC_apply (l : Fin 768) : arrC z (ix3 b t l) = outC (zrow b t z) (tab (Host.cos angC) t) (tab (Host.sin angC) t) l.val := by
  unfold arrC
  generalize Host.cos angC = c
  generalize Host.sin angC = s
  have hQ := fun l : Fin 128 => (layC_apply b t (ropeC (headsQ' z) c s) l).trans (ropeC_apply b t (headsQ' z) c s _ _ (zrow b t z)
    (1552 + l.val / 16 % 4 * 32) (fun k => headsQ'_apply b t z _ k))
  have hK := fun l : Fin 128 => (layC_apply b t (ropeC (headsK' z) c s) l).trans (ropeC_apply b t (headsK' z) c s _ _ (zrow b t z)
    (1680 + l.val / 16 % 4 * 32) (fun k => headsK'_apply b t z _ k))
  generalize layC (ropeC (headsQ' z) c s) = Q at hQ ⊢
  generalize layC (ropeC (headsK' z) c s) = K at hK ⊢
  have hz : ∀ k, z (ix3 b t k) = zrow b t z k.val := fun k => rd_eq (fun k => z (ix3 b t k)) k
  pointwise
  simp only [hQ, hK, hz]
  unfold outC
  split_ifs <;> first | omega | exact rot_congr _ _ _ (by omega) (by omega) (by omega) | (rw [if_pos (show l.val < 256 by omega)]; exact rot_congr _ _ _ (by omega) (by omega) (by omega)) | (congr 1; omega)

theorem arrD_apply (l : Fin 512) : arrD z (ix3 b t l) = outD (zrow b t z) (tab (Host.cos angD) t) (tab (Host.sin angD) t) l.val := by
  unfold arrD
  generalize Host.cos angD = c
  generalize Host.sin angD = s
  have hR := fun k : Fin 32 => ropeD_apply b t (headR z) c s k (zrow b t z) 2704 (fun k => headR_apply b t z k)
  have hL := fun l : Fin 128 => layD_apply b t (ropeD (headR z) c s) l
  simp only [hR] at hL
  generalize layD (ropeD (headR z) c s) = R at hL ⊢
  have hz : ∀ k, z (ix3 b t k) = zrow b t z k.val := fun k => rd_eq (fun k => z (ix3 b t k)) k
  pointwise
  simp only [hL, hz]
  unfold outD
  split_ifs <;> first | omega | rfl | exact rot_congr _ _ _ (by omega) (by omega) (by omega) | (rw [if_neg (show ¬ l.val < 384 by omega), if_neg (show ¬ l.val < 448 by omega), if_pos (show l.val < 480 by omega)]; exact rot_congr _ _ _ (by omega) (by omega) (by omega)) | (congr 1; omega)

end
end
end Cert.Inp.Ref
end
-- ==== Proof.Inp.Tables.lean ====
module

public import proofs.«01_k».proof.Proof.Inp.Lanes
public import proofs.«01_k».proof.Proof.Inp.Ref

@[expose] public section

set_option maxRecDepth 16384

noncomputable section

/-! The rotation tables that the call is given. -/

namespace Cert.Inp

open Idealize.ShloMosaic Cert.Kernel3Ideal Cert.Kernel3Ideal.Gen

/-- A table of 32 columns, four times side by side. -/
def four32 (u : FVec Ideal S4096x32 .f32) : FVec Ideal S4096x128 .f32 :=
  shapeCast S4096x128 (broadcastInDim S1x4096x4x32 ![0, 1, 2, 3] bcast_S1x4096x1x32_S1x4096x4x32_0_1_2_3
    (shapeCast S1x4096x1x32 u shapeCasts_S4096x32_S1x4096x1x32)) shapeCasts_S1x4096x4x32_S4096x128

/-- A table of 32 columns, twice side by side. -/
def two32 (u : FVec Ideal S4096x32 .f32) : FVec Ideal S4096x64 .f32 :=
  shapeCast S4096x64 (broadcastInDim S1x4096x2x32 ![0, 1, 2, 3] bcast_S1x4096x1x32_S1x4096x2x32_0_1_2_3
    (shapeCast S1x4096x1x32 u shapeCasts_S4096x32_S1x4096x1x32)) shapeCasts_S1x4096x2x32_S4096x64

/-- A table of 16 columns, eight times side by side. -/
def eight16 (u : FVec Ideal S4096x16 .f32) : FVec Ideal S4096x128 .f32 :=
  shapeCast S4096x128 (broadcastInDim S1x4096x8x16 ![0, 1, 2, 3] bcast_S1x4096x1x16_S1x4096x8x16_0_1_2_3
    (shapeCast S1x4096x1x16 u shapeCasts_S4096x16_S1x4096x1x16)) shapeCasts_S1x4096x8x16_S4096x128

/-- A table of 16 columns, four times side by side. -/
def four16 (u : FVec Ideal S4096x16 .f32) : FVec Ideal S4096x64 .f32 :=
  shapeCast S4096x64 (broadcastInDim S1x4096x4x16 ![0, 1, 2, 3] bcast_S1x4096x1x16_S1x4096x4x16_0_1_2_3
    (shapeCast S1x4096x1x16 u shapeCasts_S4096x16_S1x4096x1x16)) shapeCasts_S1x4096x4x16_S4096x64

/-- A table beside its negative. -/
def signed (u : FVec Ideal S4096x64 .f32) : FVec Ideal S4096x128 .f32 :=
  concatenate S4096x128 1 [⟨S4096x64, Host.negf u⟩, ⟨S4096x64, u⟩] concatenates_S4096x64_S4096x64_S4096x128_d1

/-- Two tables of 16 columns between columns of one constant. -/
def between (b : FVec Ideal S4096x64 .f32) (u v : FVec Ideal S4096x16 .f32) : FVec Ideal S4096x128 .f32 :=
  concatenate S4096x128 1 [⟨S4096x64, b⟩, ⟨S4096x16, u⟩, ⟨S4096x16, v⟩,
    ⟨S4096x32, extractStridedSlice S4096x32 ![0, 0] b slices_S4096x64_S4096x32_0_0⟩] concatenates_S4096x64_S4096x16_S4096x16_S4096x32_S4096x128_d1

/-- Ones. -/
def ones : FVec Ideal S4096x64 .f32 := broadcastInDim S4096x64 ![] bcast_S_S4096x64 (constant S_ .f32 0x3F800000#32)
/-- Zeros. -/
def zeros : FVec Ideal S4096x64 .f32 := broadcastInDim S4096x64 ![] bcast_S_S4096x64 (constant S_ .f32 0x00000000#32)

section
variable (m : (ℓ : Loc nD τ sig) → Buf (Elt Ideal) ℓ) (c : Dev nD)

set_option maxHeartbeats 4000000 in
theorem V_v74 : V m c main_v74 = four32 (Host.cos Ref.angA) := by
  unfold V
  rfl

set_option maxHeartbeats 4000000 in
theorem V_v84 : V m c main_v84 = signed (two32 (Host.sin Ref.angA)) := by
  unfold V
  rfl

set_option maxHeartbeats 4000000 in
theorem V_v88 : V m c main_v88 = eight16 (Host.cos Ref.angC) := by
  unfold V
  rfl

set_option maxHeartbeats 4000000 in
theorem V_v98 : V m c main_v98 = signed (four16 (Host.sin Ref.angC)) := by
  unfold V
  rfl

set_option maxHeartbeats 4000000 in
theorem V_v104 : V m c main_v104 = between ones (Host.cos Ref.angD) (Host.cos Ref.angD) := by
  unfold V
  rfl

set_option maxHeartbeats 4000000 in
theorem V_v109 : V m c main_v109 = between zeros (Host.negf (Host.sin Ref.angD)) (Host.sin Ref.angD) := by
  unfold V
  rfl

end

/-! The tables at an index. -/

theorem four32_apply (u : FVec Ideal S4096x32 .f32) (t : Fin 4096) (l : Fin 128) : four32 u (ix2 t l) = Ref.tab u t (l.val % 32) := by
  have h : four32 u (ix2 t l) = u (ix2 t ⟨l.val % 32, by omega⟩) := by pointwise [four32]
  exact h.trans (rd_at (fun k => u (ix2 t k)) ⟨l.val % 32, by omega⟩ _ rfl)

theorem two32_apply (u : FVec Ideal S4096x32 .f32) (t : Fin 4096) (l : Fin 64) : two32 u (ix2 t l) = Ref.tab u t (l.val % 32) := by
  have h : two32 u (ix2 t l) = u (ix2 t ⟨l.val % 32, by omega⟩) := by pointwise [two32]
  exact h.trans (rd_at (fun k => u (ix2 t k)) ⟨l.val % 32, by omega⟩ _ rfl)

theorem eight16_apply (u : FVec Ideal S4096x16 .f32) (t : Fin 4096) (l : Fin 128) : eight16 u (ix2 t l) = Ref.tab u t (l.val % 16) := by
  have h : eight16 u (ix2 t l) = u (ix2 t ⟨l.val % 16, by omega⟩) := by pointwise [eight16]
  exact h.trans (rd_at (fun k => u (ix2 t k)) ⟨l.val % 16, by omega⟩ _ rfl)

theorem four16_apply (u : FVec Ideal S4096x16 .f32) (t : Fin 4096) (l : Fin 64) : four16 u (ix2 t l) = Ref.tab u t (l.val % 16) := by
  have h : four16 u (ix2 t l) = u (ix2 t ⟨l.val % 16, by omega⟩) := by pointwise [four16]
  exact h.trans (rd_at (fun k => u (ix2 t k)) ⟨l.val % 16, by omega⟩ _ rfl)

/-- A table beside its negative, of a table that repeats. -/
theorem signed_apply (u : FVec Ideal S4096x64 .f32) (s : Nat → EReal) (d : Nat) (t : Fin 4096) (l : Fin 128) (hu : ∀ l : Fin 64, u (ix2 t l) = s (l.val % d))
    (hd : ∀ n, (n + 64) % d = n % d) : signed u (ix2 t l) = if l.val < 64 then - s (l.val % d) else s (l.val % d) := by
  pointwise [signed]
  by_cases h : l.val < 64
  · rw [dif_pos h, if_pos h, hu]
  · rw [dif_neg h, if_neg h, hu]
    exact congrArg s (by rw [← hd]; congr 1; simp only; omega)

/-- Two tables between columns of a constant. -/
theorem between_apply (b : FVec Ideal S4096x64 .f32) (u v : FVec Ideal S4096x16 .f32) (k : EReal) (f g : Nat → EReal) (t : Fin 4096) (l : Fin 128)
    (hb : ∀ l : Fin 64, b (ix2 t l) = k) (hu : ∀ l : Fin 16, u (ix2 t l) = f l.val) (hv : ∀ l : Fin 16, v (ix2 t l) = g l.val) :
    between b u v (ix2 t l) = if l.val < 64 then k else if l.val < 80 then f (l.val - 64) else if l.val < 96 then g (l.val - 80) else k := by
  pointwise [between]
  by_cases h0 : l.val < 64
  · rw [dif_pos h0, if_pos h0, hb]
  rw [dif_neg h0, if_neg h0]
  by_cases h1 : l.val < 80
  · rw [dif_pos (show l.val - 64 < 16 by omega), if_pos h1, hu]
  rw [dif_neg (show ¬ l.val - 64 < 16 by omega), if_neg h1]
  by_cases h2 : l.val < 96
  · rw [dif_pos (show l.val - 64 - 16 < 16 by omega), if_pos h2, hv]
    exact congrArg g (by simp only; omega)
  · rw [dif_neg (show ¬ l.val - 64 - 16 < 16 by omega), if_neg h2, hb]

theorem ones_apply (t : Fin 4096) (l : Fin 64) : ones (ix2 t l) = 1 := by pointwise [ones]
theorem zeros_apply (t : Fin 4096) (l : Fin 64) : zeros (ix2 t l) = 0 := by
  pointwise [zeros]

/-! The six tables of a token, as the lanes need them. -/

section
variable (t : Fin 4096) (l : Fin 128)

theorem cosA_at : four32 (Host.cos Ref.angA) (ix2 t l) = Ref.tab (Host.cos Ref.angA) t (l.val % 32) := four32_apply ..

theorem sinA_at : signed (two32 (Host.sin Ref.angA)) (ix2 t l)
    = if l.val < 64 then - Ref.tab (Host.sin Ref.angA) t (l.val % 32) else Ref.tab (Host.sin Ref.angA) t (l.val % 32) :=
  signed_apply _ _ 32 t l (two32_apply _ t) (by intro n; omega)

theorem cosC_at : eight16 (Host.cos Ref.angC) (ix2 t l) = Ref.tab (Host.cos Ref.angC) t (l.val % 16) := eight16_apply ..

theorem sinC_at : signed (four16 (Host.sin Ref.angC)) (ix2 t l)
    = if l.val < 64 then - Ref.tab (Host.sin Ref.angC) t (l.val % 16) else Ref.tab (Host.sin Ref.angC) t (l.val % 16) :=
  signed_apply _ _ 16 t l (four16_apply _ t) (by intro n; omega)

theorem cosD_at : between ones (Host.cos Ref.angD) (Host.cos Ref.angD) (ix2 t l)
    = if l.val < 64 then 1 else if l.val < 80 then Ref.tab (Host.cos Ref.angD) t (l.val - 64)
      else if l.val < 96 then Ref.tab (Host.cos Ref.angD) t (l.val - 80) else 1 :=
  between_apply _ _ _ _ (Ref.tab (Host.cos Ref.angD) t) (Ref.tab (Host.cos Ref.angD) t) t l (ones_apply t)
    (rd_eq fun k => Host.cos Ref.angD (ix2 t k)) (rd_eq fun k => Host.cos Ref.angD (ix2 t k))

theorem sinD_at : between zeros (Host.negf (Host.sin Ref.angD)) (Host.sin Ref.angD) (ix2 t l)
    = if l.val < 64 then 0 else if l.val < 80 then - Ref.tab (Host.sin Ref.angD) t (l.val - 64)
      else if l.val < 96 then Ref.tab (Host.sin Ref.angD) t (l.val - 80) else 0 :=
  between_apply _ _ _ _ (fun n => - Ref.tab (Host.sin Ref.angD) t n) (Ref.tab (Host.sin Ref.angD) t) t l (zeros_apply t)
    (fun k => congrArg Neg.neg (rd_eq (fun k => Host.sin Ref.angD (ix2 t k)) k)) (rd_eq fun k => Host.sin Ref.angD (ix2 t k))

end

end Cert.Inp
end
-- ==== Proof.Inp.Blocks.lean ====
module

public import proofs.«01_k».proof.Proof.Inp.Tables

@[expose] public section

set_option maxRecDepth 16384

noncomputable section

/-! The blocks that a grid point of the input projection reads. -/

namespace Cert.Inp

open Idealize.ShloMosaic Cert.Kernel3Ideal Cert.Kernel3Ideal.Gen

/-! Which block each window stages at a point. -/

/-- The windows over tokens: the first argument and the four results. -/
theorem idx_tok : ∀ t : Fin cfg0.N,
    (win0_0.index t (0 : Fin 3) = t.val / 8 ∧ win0_0.index t (1 : Fin 3) = t.val % 8 ∧ win0_0.index t (2 : Fin 3) = 0)
    ∧ (win0_10.index t (0 : Fin 3) = t.val / 8 ∧ win0_10.index t (1 : Fin 3) = t.val % 8 ∧ win0_10.index t (2 : Fin 3) = 0)
    ∧ (win0_11.index t (0 : Fin 3) = t.val / 8 ∧ win0_11.index t (1 : Fin 3) = t.val % 8 ∧ win0_11.index t (2 : Fin 3) = 0)
    ∧ (win0_12.index t (0 : Fin 3) = t.val / 8 ∧ win0_12.index t (1 : Fin 3) = t.val % 8 ∧ win0_12.index t (2 : Fin 3) = 0)
    ∧ (win0_13.index t (0 : Fin 3) = t.val / 8 ∧ win0_13.index t (1 : Fin 3) = t.val % 8 ∧ win0_13.index t (2 : Fin 3) = 0) :=
  (by decide +kernel : ∀ t : Fin grid0.N, _)

/-- The windows over a batch entry's row. -/
theorem idx_row : ∀ t : Fin cfg0.N,
    (win0_1.index t (0 : Fin 3) = t.val / 8 ∧ win0_1.index t (1 : Fin 3) = 0 ∧ win0_1.index t (2 : Fin 3) = 0)
    ∧ (win0_2.index t (0 : Fin 3) = t.val / 8 ∧ win0_2.index t (1 : Fin 3) = 0 ∧ win0_2.index t (2 : Fin 3) = 0) :=
  (by decide +kernel : ∀ t : Fin grid0.N, _)

/-- The window that holds the whole matrix. -/
theorem idx_whole : ∀ (t : Fin cfg0.N) (a : Fin 2), win0_3.index t a = 0 :=
  (by decide +kernel : ∀ (t : Fin grid0.N) (a : Fin 2), _)

/-- The windows over a table. -/
theorem idx_tab : ∀ t : Fin cfg0.N,
    (win0_4.index t (0 : Fin 2) = t.val % 8 ∧ win0_4.index t (1 : Fin 2) = 0)
    ∧ (win0_5.index t (0 : Fin 2) = t.val % 8 ∧ win0_5.index t (1 : Fin 2) = 0)
    ∧ (win0_6.index t (0 : Fin 2) = t.val % 8 ∧ win0_6.index t (1 : Fin 2) = 0)
    ∧ (win0_7.index t (0 : Fin 2) = t.val % 8 ∧ win0_7.index t (1 : Fin 2) = 0)
    ∧ (win0_8.index t (0 : Fin 2) = t.val % 8 ∧ win0_8.index t (1 : Fin 2) = 0)
    ∧ (win0_9.index t (0 : Fin 2) = t.val % 8 ∧ win0_9.index t (1 : Fin 2) = 0) :=
  (by decide +kernel : ∀ t : Fin grid0.N, _)

theorem point_lt (t : Fin cfg0.N) : t.val < 128 := lt_of_lt_of_eq t.isLt N_0

/-- The batch entry of a point. -/
abbrev bat (t : Fin cfg0.N) : Fin 16 := ⟨t.val / 8, by have := point_lt t; omega⟩

/-- The token of a point's row. -/
abbrev tok (t : Fin cfg0.N) (i : Fin 512) : Fin 4096 := ⟨t.val % 8 * 512 + i.val, by omega⟩

/-- The index of a place in a point's block of tokens. -/
theorem at_tok {n : Nat} (t : Fin cfg0.N) (i : Fin 512) (l : Fin n) (x : (⟨3, ![16, 4096, n]⟩ : Shape).Idx) (q : Fin 3 → Nat)
    (hq : q 0 = t.val / 8 ∧ q 1 = t.val % 8 ∧ q 2 = 0) (e0 : (x 0).val = q 0 * 1 + 1 * 0) (e1 : (x 1).val = q 1 * 512 + 1 * i.val)
    (e2 : (x 2).val = q 2 * n + 1 * l.val) : x = ix3 (bat t) (tok t i) l := by
  rcases hq with ⟨a0, a1, a2⟩
  rw [a0] at e0; rw [a1] at e1; rw [a2, Nat.zero_mul] at e2
  refine funext fun d => Fin.ext ?_
  match d with
  | ⟨0, _⟩ => exact e0.trans (by show t.val / 8 * 1 + 1 * 0 = t.val / 8; omega)
  | ⟨1, _⟩ => exact e1.trans (by show _ = t.val % 8 * 512 + i.val; omega)
  | ⟨2, _⟩ => exact e2.trans (by show _ = l.val; omega)

/-- The index of a place in a point's row of factors. -/
theorem at_row (t : Fin cfg0.N) (l : Fin 1024) (x : (⟨3, ![16, 1, 1024]⟩ : Shape).Idx) (q : Fin 3 → Nat)
    (hq : q 0 = t.val / 8 ∧ q 1 = 0 ∧ q 2 = 0) (e0 : (x 0).val = q 0 * 1 + 1 * 0) (e2 : (x 2).val = q 2 * 1024 + 1 * l.val) :
    x = ix3 (bat t) 0 l := by
  rcases hq with ⟨a0, -, a2⟩
  rw [a0] at e0; rw [a2, Nat.zero_mul] at e2
  refine funext fun d => Fin.ext ?_
  match d with
  | ⟨0, _⟩ => exact e0.trans (by show t.val / 8 * 1 + 1 * 0 = t.val / 8; omega)
  | ⟨1, _⟩ => exact congrArg Fin.val (Subsingleton.elim (α := Fin 1) _ _)
  | ⟨2, _⟩ => exact e2.trans (by show _ = l.val; omega)

/-- The index of a place in a block of rows of a matrix: from row `o`, all columns. -/
theorem at_rows {h n : Nat} (o r : Nat) (k : Fin h) (l : Fin n) (x : (⟨2, ![h, n]⟩ : Shape).Idx) (q : Fin 2 → Nat) (b : Nat)
    (hq : q 0 = o ∧ q 1 = 0) (hk : k.val = o * b + r) (e0 : (x 0).val = q 0 * b + 1 * r) (e1 : (x 1).val = q 1 * n + 1 * l.val) : x = ix2 k l := by
  rcases hq with ⟨a0, a1⟩
  rw [a0, Nat.one_mul] at e0; rw [a1, Nat.zero_mul] at e1
  refine funext fun d => Fin.ext ?_
  match d with
  | ⟨0, _⟩ => exact e0.trans hk.symm
  | ⟨1, _⟩ => exact e1.trans (by show _ = l.val; omega)

/-- The laid-out columns of a row of a block, of the arrays that the block is from. -/
theorem cols_of (x0 : Vec Ideal S1x512x1024 .f32) (x1 x2 : Vec Ideal S1x1x1024 .f32) (x3 : Vec Ideal S1024x3072 .bf16) (i : Fin 512) (b : Fin 16) (k : Fin 4096)
    (x : FVec Ideal S16x4096x1024 .f32) (sc sh : FVec Ideal S16x1x1024 .f32) (w : FVec Ideal S1024x2736 .f32)
    (h0 : ∀ l, x0 (ix3 0 i l) = x (ix3 b k l)) (h1 : ∀ l, x1 (ix3 0 0 l) = sc (ix3 b 0 l)) (h2 : ∀ l, x2 (ix3 0 0 l) = sh (ix3 b 0 l))
    (h3 : ∀ j (l : Fin 3072), x3 (ix2 j l) = w (ix2 j ⟨col l.val, col_lt l⟩) * (if kept l.val then 1 else 0)) :
    cols x0 x1 x2 x3 i = laid (Ref.zrow b k (Ref.projArr x sc sh w)) := by
  have e : (fun l => Ref.projArr x sc sh w (ix3 b k l)) = proj (fun j => x (ix3 b k j)) (fun j => sc (ix3 b 0 j)) (fun j => sh (ix3 b 0 j)) (fun j k => w (ix2 j k)) :=
    funext fun l => Ref.projArr_apply b k x sc sh w l
  show rd (wideProj (fun j => x0 (ix3 0 i j)) (fun j => x1 (ix3 0 0 j)) (fun j => x2 (ix3 0 0 j)) (fun j l => x3 (ix2 j l)))
    = laid (rd fun l => Ref.projArr x sc sh w (ix3 b k l))
  rw [e, funext h0, funext h1, funext h2]
  exact wide_laid _ _ _ _ _ h3

section
variable (m : (ℓ : Loc nD τ sig) → Buf (Elt Ideal) ℓ) (c : Dev nD) (t : Fin cfg0.N)

/-- The call's arguments. -/
abbrev X : FVec Ideal S16x4096x1024 .f32 := m ((c.tc : Thread nD τ).loc main_arg0)
abbrev SC : FVec Ideal S16x1x1024 .f32 := m ((c.tc : Thread nD τ).loc main_arg1)
abbrev SH : FVec Ideal S16x1x1024 .f32 := m ((c.tc : Thread nD τ).loc main_arg2)
abbrev W : FVec Ideal S1024x2736 .f32 := m ((c.tc : Thread nD τ).loc main_arg3)

theorem blk0 (i : Fin 512) (l : Fin 1024) : (iblk m c 0 t : Vec Ideal S1x512x1024 .f32) (ix3 0 i l) = X m c (ix3 (bat t) (tok t i) l) :=
  (congrArg (V m c main_arg0) (at_tok t i l _ _ (idx_tok t).1 rfl rfl rfl)).trans (congrFun (V_main_arg0 m c) _)

theorem blk1 (l : Fin 1024) : (iblk m c 1 t : Vec Ideal S1x1x1024 .f32) (ix3 0 0 l) = SC m c (ix3 (bat t) 0 l) :=
  (congrArg (V m c main_arg1) (at_row t l _ _ (idx_row t).1 rfl rfl)).trans (congrFun (V_main_arg1 m c) _)

theorem blk2 (l : Fin 1024) : (iblk m c 2 t : Vec Ideal S1x1x1024 .f32) (ix3 0 0 l) = SH m c (ix3 (bat t) 0 l) :=
  (congrArg (V m c main_arg2) (at_row t l _ _ (idx_row t).2 rfl rfl)).trans (congrFun (V_main_arg2 m c) _)

theorem blk3 (j : Fin 1024) (k : Fin 3072) : (iblk m c 3 t : Vec Ideal S1024x3072 .bf16) (ix2 j k)
    = W m c (ix2 j ⟨col k.val, col_lt k⟩) * (if kept k.val then 1 else 0) := by
  refine (congrArg (V m c main_v4) (at_rows 0 j.val j k _ _ 1024 ⟨idx_whole t 0, idx_whole t 1⟩ (by omega) rfl rfl)).trans ?_
  rw [V_v4]
  exact laidMat_apply ..

/-- The laid-out columns of a point's row are the projected ones of its token. -/
theorem cols_at (i : Fin 512) : cols (iblk m c 0 t) (iblk m c 1 t) (iblk m c 2 t) (iblk m c 3 t) i
    = laid (Ref.zrow (bat t) (tok t i) (Ref.projArr (X m c) (SC m c) (SH m c) (W m c))) :=
  cols_of _ _ _ _ i (bat t) (tok t i) _ _ _ _ (blk0 m c t i) (blk1 m c t) (blk2 m c t) (blk3 m c t)

theorem lane_of {C : Vec Ideal S512x128 .f32} {i : Fin 512} {f : Nat → EReal} (h : ∀ l : Fin 128, C (ix2 i l) = f l.val) (l : Nat) (hl : l < 128) : lane C i l = f l :=
  (rd_eq (fun k => C (ix2 i k)) ⟨l, hl⟩).symm.trans (h ⟨l, hl⟩)

/-- A table's block. -/
theorem tab_at (i : Fin 512) (l : Fin 128) (x : (⟨2, ![4096, 128]⟩ : Shape).Idx) (q : Fin 2 → Nat) (hq : q 0 = t.val % 8 ∧ q 1 = 0)
    (e0 : (x 0).val = q 0 * 512 + 1 * i.val) (e1 : (x 1).val = q 1 * 128 + 1 * l.val) : x = ix2 (tok t i) l :=
  at_rows (t.val % 8) i.val (tok t i) l x q 512 hq rfl e0 e1

theorem blk4 (i : Fin 512) (l : Fin 128) : (iblk m c 4 t : Vec Ideal S512x128 .f32) (ix2 i l) = four32 (Host.cos Ref.angA) (ix2 (tok t i) l) :=
  (congrArg (V m c main_v74) (tab_at t i l _ _ (idx_tab t).1 rfl rfl)).trans (congrFun (V_v74 m c) _)

theorem blk5 (i : Fin 512) (l : Fin 128) : (iblk m c 5 t : Vec Ideal S512x128 .f32) (ix2 i l) = signed (two32 (Host.sin Ref.angA)) (ix2 (tok t i) l) :=
  (congrArg (V m c main_v84) (tab_at t i l _ _ (idx_tab t).2.1 rfl rfl)).trans (congrFun (V_v84 m c) _)

theorem blk6 (i : Fin 512) (l : Fin 128) : (iblk m c 6 t : Vec Ideal S512x128 .f32) (ix2 i l) = eight16 (Host.cos Ref.angC) (ix2 (tok t i) l) :=
  (congrArg (V m c main_v88) (tab_at t i l _ _ (idx_tab t).2.2.1 rfl rfl)).trans (congrFun (V_v88 m c) _)

theorem blk7 (i : Fin 512) (l : Fin 128) : (iblk m c 7 t : Vec Ideal S512x128 .f32) (ix2 i l) = signed (four16 (Host.sin Ref.angC)) (ix2 (tok t i) l) :=
  (congrArg (V m c main_v98) (tab_at t i l _ _ (idx_tab t).2.2.2.1 rfl rfl)).trans (congrFun (V_v98 m c) _)

theorem blk8 (i : Fin 512) (l : Fin 128) : (iblk m c 8 t : Vec Ideal S512x128 .f32) (ix2 i l)
    = between ones (Host.cos Ref.angD) (Host.cos Ref.angD) (ix2 (tok t i) l) :=
  (congrArg (V m c main_v104) (tab_at t i l _ _ (idx_tab t).2.2.2.2.1 rfl rfl)).trans (congrFun (V_v104 m c) _)

theorem blk9 (i : Fin 512) (l : Fin 128) : (iblk m c 9 t : Vec Ideal S512x128 .f32) (ix2 i l)
    = between zeros (Host.negf (Host.sin Ref.angD)) (Host.sin Ref.angD) (ix2 (tok t i) l) :=
  (congrArg (V m c main_v109) (tab_at t i l _ _ (idx_tab t).2.2.2.2.2 rfl rfl)).trans (congrFun (V_v109 m c) _)

end
end Cert.Inp
end
-- ==== Proof.Inp.Array.lean ====
module

public import proofs.«01_k».proof.Proof.Inp.Blocks

@[expose] public section

set_option maxRecDepth 16384

noncomputable section

/-! The input projection's four result arrays. -/

namespace Cert.Inp

open Idealize.ShloMosaic Idealize.ShloMosaic.TcCoe Idealize.SL.Sem Cert.Kernel3Ideal Cert.Kernel3Ideal.Gen

/-- An index of a block of one batch entry. -/
theorem at_first {n : Nat} (j : (⟨3, ![1, 512, n]⟩ : Shape).Idx) : j = ix3 (n0 := 1) (n1 := 512) (n2 := n) 0 (j 1) (j 2) := by
  funext x
  match x with
  | ⟨0, _⟩ => exact Subsingleton.elim (α := Fin 1) _ _
  | ⟨1, _⟩ => rfl
  | ⟨2, _⟩ => rfl

/-- The array's index of a place in a result's block. -/
theorem emb_tok {n : Nat} (t : Fin cfg0.N) (j : (⟨3, ![1, 512, n]⟩ : Shape).Idx) (x : (⟨3, ![16, 4096, n]⟩ : Shape).Idx) (q : Fin 3 → Nat)
    (hq : q 0 = t.val / 8 ∧ q 1 = t.val % 8 ∧ q 2 = 0) (e0 : (x 0).val = q 0 * 1 + 1 * (j 0).val) (e1 : (x 1).val = q 1 * 512 + 1 * (j 1).val)
    (e2 : (x 2).val = q 2 * n + 1 * (j 2).val) : x = ix3 (n0 := 16) (n1 := 4096) (n2 := n) (bat t) (tok t (j 1)) (j 2) := by
  have h : (j 0).val < 1 := (j 0).isLt
  exact at_tok (n := n) t (j 1) (j 2) x q hq (e0.trans (by rw [show (j 0).val = 0 by omega])) e1 e2

/-- The point whose blocks hold a token. -/
theorem point_of (b k : Nat) (hb : b < 16) (hk : k < 4096) : ∃ t : Fin cfg0.N, t.val = b * 8 + k / 512 :=
  ⟨⟨b * 8 + k / 512, lt_of_lt_of_eq (by omega : _ < 128) N_0.symm⟩, rfl⟩

/-- A token is in its point's block. -/
theorem in_block {n : Nat} (t : Fin cfg0.N) (i : (⟨3, ![16, 4096, n]⟩ : Shape).Idx) (q : Fin 3 → Nat) (ht : t.val = (i 0).val * 8 + (i 1).val / 512)
    (hq : q 0 = t.val / 8 ∧ q 1 = t.val % 8 ∧ q 2 = 0) (a : Fin 3) :
    q a * (![1, 512, n] : Fin 3 → Nat) a ≤ (i a).val ∧ (i a).val < q a * (![1, 512, n] : Fin 3 → Nat) a + (![1, 512, n] : Fin 3 → Nat) a := by
  rcases hq with ⟨a0, a1, a2⟩
  have h1 : (i 1).val < 4096 := (i 1).isLt
  have h2 : (i 2).val < n := (i 2).isLt
  match a with
  | ⟨0, _⟩ => show q 0 * 1 ≤ (i 0).val ∧ (i 0).val < q 0 * 1 + 1; omega
  | ⟨1, _⟩ => show q 1 * 512 ≤ (i 1).val ∧ (i 1).val < q 1 * 512 + 512; omega
  | ⟨2, _⟩ => show q 2 * n ≤ (i 2).val ∧ (i 2).val < q 2 * n + n; rw [a2, Nat.zero_mul]; omega

section
variable (m : (ℓ : Loc nD τ sig) → Buf (Elt Ideal) ℓ) (c : Dev nD)

/-- The reference's projection of the same arguments. -/
abbrev P : FVec Ideal Cert.Reference3Ideal.S16x4096x2736 .f32 := Ref.projArr (X m c) (SC m c) (SH m c) (W m c)

/-! ## The windowed attention's array -/

/-- The block that a point writes. -/
abbrev blkA (t : Fin cfg0.N) : Vec Ideal S1x512x512 .f32 :=
  out0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t)
    (iblk m c 0 t) (iblk m c 1 t) (iblk m c 2 t) (iblk m c 3 t) (iblk m c 4 t) (iblk m c 5 t) (iblk m c 6 t) (iblk m c 7 t) (iblk m c 8 t) (iblk m c 9 t)

/-- A block's place is the reference's array at the token. -/
theorem cellA (t : Fin cfg0.N) (i : Fin 512) (l : Fin 512) : blkA m c t (ix3 0 i l) = Ref.arrA (P m c) (ix3 (bat t) (tok t i) l) := by
  rw [blkA, outA_apply, cols_at, Ref.arrA_apply]
  exact putA_laid _ _ _ _ _ (lane_of fun l => (blk4 m c t i l).trans (cosA_at _ l)) (lane_of fun l => (blk5 m c t i l).trans (sinA_at _ l)) l.val l.isLt

/-- What a point writes back is its block of the reference's array. -/
theorem flushedA (t : Fin cfg0.N) : (dats m 0 c).flushed 10 t = ((cfg0.win 10).blk t).view.read (Elt Ideal) (Ref.arrA (P m c)) := by
  rw [Cert.Kernel3Ideal.Value.flushed10_A]
  funext j
  rw [View.read_apply, emb_tok (n := 512) t j (((cfg0.win 10).blk t).view.emb j) _ (idx_tok t).2.1 rfl rfl rfl]
  exact (congrArg (blkA m c t) (at_first j)).trans (cellA m c t (j 1) (j 2))

/-- The array after the run. -/
theorem finalA : (dats m 0 c).arrAt 10 cfg0.N = Ref.arrA (P m c) := by
  refine (dats m 0 c).arrAt_eq_of_cover 10 _ (fun t _ => flushedA m c t) fun i => ?_
  obtain ⟨t, ht⟩ := point_of (i 0).val (i 1).val (i 0).isLt (i 1).isLt
  refine ⟨t, flush0_10 t, ?_⟩
  show i ∈ ((View.whole main_v110_0).slice (win0_10.rect t)).set
  rw [View.set_slice_whole, Rect.mem_set_unit]
  exact in_block (n := 512) t i (win0_10.index t) ht (idx_tok t).2.1

/-! ## The recurrence's array -/

/-- The block that a point writes. -/
abbrev blkB (t : Fin cfg0.N) : Vec Ideal S1x512x1152 .f32 :=
  out0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t)
    (iblk m c 0 t) (iblk m c 1 t) (iblk m c 2 t) (iblk m c 3 t) (iblk m c 4 t) (iblk m c 5 t) (iblk m c 6 t) (iblk m c 7 t) (iblk m c 8 t) (iblk m c 9 t)

/-- A block's place is the reference's array at the token. -/
theorem cellB (t : Fin cfg0.N) (i : Fin 512) (l : Fin 1152) : blkB m c t (ix3 0 i l) = Ref.arrB (P m c) (ix3 (bat t) (tok t i) l) := by
  rw [blkB, outB_apply, cols_at, Ref.arrB_apply]
  exact putB_laid _ l.val l.isLt

/-- What a point writes back is its block of the reference's array. -/
theorem flushedB (t : Fin cfg0.N) : (dats m 0 c).flushed 11 t = ((cfg0.win 11).blk t).view.read (Elt Ideal) (Ref.arrB (P m c)) := by
  rw [Cert.Kernel3Ideal.Value.flushed11_A]
  funext j
  rw [View.read_apply, emb_tok (n := 1152) t j (((cfg0.win 11).blk t).view.emb j) _ (idx_tok t).2.2.1 rfl rfl rfl]
  exact (congrArg (blkB m c t) (at_first j)).trans (cellB m c t (j 1) (j 2))

/-- The array after the run. -/
theorem finalB : (dats m 0 c).arrAt 11 cfg0.N = Ref.arrB (P m c) := by
  refine (dats m 0 c).arrAt_eq_of_cover 11 _ (fun t _ => flushedB m c t) fun i => ?_
  obtain ⟨t, ht⟩ := point_of (i 0).val (i 1).val (i 0).isLt (i 1).isLt
  refine ⟨t, flush0_11 t, ?_⟩
  show i ∈ ((View.whole main_v110_1).slice (win0_11.rect t)).set
  rw [View.set_slice_whole, Rect.mem_set_unit]
  exact in_block (n := 1152) t i (win0_11.index t) ht (idx_tok t).2.2.1

/-! ## The retention's array -/

/-- The block that a point writes. -/
abbrev blkC (t : Fin cfg0.N) : Vec Ideal S1x512x768 .f32 :=
  out0_A_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t)
    (iblk m c 0 t) (iblk m c 1 t) (iblk m c 2 t) (iblk m c 3 t) (iblk m c 4 t) (iblk m c 5 t) (iblk m c 6 t) (iblk m c 7 t) (iblk m c 8 t) (iblk m c 9 t)

/-- A block's place is the reference's array at the token. -/
theorem cellC (t : Fin cfg0.N) (i : Fin 512) (l : Fin 768) : blkC m c t (ix3 0 i l) = Ref.arrC (P m c) (ix3 (bat t) (tok t i) l) := by
  rw [blkC, outC_apply, cols_at, Ref.arrC_apply]
  exact putC_laid _ _ _ _ _ (lane_of fun l => (blk6 m c t i l).trans (cosC_at _ l)) (lane_of fun l => (blk7 m c t i l).trans (sinC_at _ l)) l.val l.isLt

/-- What a point writes back is its block of the reference's array. -/
theorem flushedC (t : Fin cfg0.N) : (dats m 0 c).flushed 12 t = ((cfg0.win 12).blk t).view.read (Elt Ideal) (Ref.arrC (P m c)) := by
  rw [Cert.Kernel3Ideal.Value.flushed12_A]
  funext j
  rw [View.read_apply, emb_tok (n := 768) t j (((cfg0.win 12).blk t).view.emb j) _ (idx_tok t).2.2.2.1 rfl rfl rfl]
  exact (congrArg (blkC m c t) (at_first j)).trans (cellC m c t (j 1) (j 2))

/-- The array after the run. -/
theorem finalC : (dats m 0 c).arrAt 12 cfg0.N = Ref.arrC (P m c) := by
  refine (dats m 0 c).arrAt_eq_of_cover 12 _ (fun t _ => flushedC m c t) fun i => ?_
  obtain ⟨t, ht⟩ := point_of (i 0).val (i 1).val (i 0).isLt (i 1).isLt
  refine ⟨t, flush0_12 t, ?_⟩
  show i ∈ ((View.whole main_v110_2).slice (win0_12.rect t)).set
  rw [View.set_slice_whole, Rect.mem_set_unit]
  exact in_block (n := 768) t i (win0_12.index t) ht (idx_tok t).2.2.2.1

/-! ## The latent attention's array -/

/-- The block that a point writes. -/
abbrev blkD (t : Fin cfg0.N) : Vec Ideal S1x512x512 .f32 :=
  out0_A_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t)
    (iblk m c 0 t) (iblk m c 1 t) (iblk m c 2 t) (iblk m c 3 t) (iblk m c 4 t) (iblk m c 5 t) (iblk m c 6 t) (iblk m c 7 t) (iblk m c 8 t) (iblk m c 9 t)

/-- A block's place is the reference's array at the token. -/
theorem cellD (t : Fin cfg0.N) (i : Fin 512) (l : Fin 512) : blkD m c t (ix3 0 i l) = Ref.arrD (P m c) (ix3 (bat t) (tok t i) l) := by
  rw [blkD, outD_apply, cols_at, Ref.arrD_apply]
  exact putD_laid _ _ _ _ _ (lane_of fun l => (blk8 m c t i l).trans (cosD_at _ l)) (lane_of fun l => (blk9 m c t i l).trans (sinD_at _ l)) l.val l.isLt

/-- What a point writes back is its block of the reference's array. -/
theorem flushedD (t : Fin cfg0.N) : (dats m 0 c).flushed 13 t = ((cfg0.win 13).blk t).view.read (Elt Ideal) (Ref.arrD (P m c)) := by
  rw [Cert.Kernel3Ideal.Value.flushed13_A]
  funext j
  rw [View.read_apply, emb_tok (n := 512) t j (((cfg0.win 13).blk t).view.emb j) _ (idx_tok t).2.2.2.2 rfl rfl rfl]
  exact (congrArg (blkD m c t) (at_first j)).trans (cellD m c t (j 1) (j 2))

/-- The array after the run. -/
theorem finalD : (dats m 0 c).arrAt 13 cfg0.N = Ref.arrD (P m c) := by
  refine (dats m 0 c).arrAt_eq_of_cover 13 _ (fun t _ => flushedD m c t) fun i => ?_
  obtain ⟨t, ht⟩ := point_of (i 0).val (i 1).val (i 0).isLt (i 1).isLt
  refine ⟨t, flush0_13 t, ?_⟩
  show i ∈ ((View.whole main_v110_3).slice (win0_13.rect t)).set
  rw [View.set_slice_whole, Rect.mem_set_unit]
  exact in_block (n := 512) t i (win0_13.index t) ht (idx_tok t).2.2.2.2

end
end Cert.Inp
end
-- ==== Proof.Inp.Claims.lean ====
module

public import proofs.«01_k».proof.Defs
public import proofs.«01_k».proof.Proof.Inp.Array
public import Idealize.ShloMosaic.Adequacy
public import Idealize.ShloMosaic.Init

@[expose] public section

set_option maxRecDepth 16384

noncomputable section

/-! The input projection's claims over the extended reals. -/

namespace Cert.Inp

open Idealize.ShloMosaic Idealize.ShloMosaic.TcCoe Idealize.SL.Sem

section
variable (m' : (ℓ : Loc Reference3Ideal.nD Reference3Ideal.τ Reference3Ideal.sig) → Buf (Elt Ideal) ℓ) (g' : Dev Reference3Ideal.nD → PrngReg)

/-- The reference's projection of its own arguments. -/
abbrev Q (c : Dev Reference3Ideal.nD) : FVec Ideal Reference3Ideal.S16x4096x2736 .f32 :=
  Ref.projArr (m' ((c.tc : Thread Reference3Ideal.nD Reference3Ideal.τ).loc Reference3Ideal.main_arg0))
    (m' ((c.tc : Thread Reference3Ideal.nD Reference3Ideal.τ).loc Reference3Ideal.main_arg1))
    (m' ((c.tc : Thread Reference3Ideal.nD Reference3Ideal.τ).loc Reference3Ideal.main_arg2))
    (m' ((c.tc : Thread Reference3Ideal.nD Reference3Ideal.τ).loc Reference3Ideal.main_arg3))

set_option maxHeartbeats 8000000 in
/-- The reference runs and ends with its four arrays. -/
theorem ref_run : θ_run (Cert.Reference3Ideal.defs (F := Ideal)) (onTc (τ := Reference3Ideal.τ) (Cert.Reference3Ideal.main (F := Ideal))) ⟨m', fun _ => 0, g'⟩
    (fun r => ∀ c : Dev Reference3Ideal.nD,
      r.2.mem ((c.tc : Thread Reference3Ideal.nD Reference3Ideal.τ).loc Reference3Ideal.main_v207) = Ref.arrA (Q m' c)
      ∧ r.2.mem ((c.tc : Thread Reference3Ideal.nD Reference3Ideal.τ).loc Reference3Ideal.main_v209) = Ref.arrB (Q m' c)
      ∧ r.2.mem ((c.tc : Thread Reference3Ideal.nD Reference3Ideal.τ).loc Reference3Ideal.main_v216) = Ref.arrC (Q m' c)
      ∧ r.2.mem ((c.tc : Thread Reference3Ideal.nD Reference3Ideal.τ).loc Reference3Ideal.main_v218) = Ref.arrD (Q m' c)
      ∧ r.2.mem ((c.tc : Thread Reference3Ideal.nD Reference3Ideal.τ).loc Reference3Ideal.main_arg0) = m' ((c.tc : Thread Reference3Ideal.nD Reference3Ideal.τ).loc Reference3Ideal.main_arg0)
      ∧ r.2.mem ((c.tc : Thread Reference3Ideal.nD Reference3Ideal.τ).loc Reference3Ideal.main_arg1) = m' ((c.tc : Thread Reference3Ideal.nD Reference3Ideal.τ).loc Reference3Ideal.main_arg1)
      ∧ r.2.mem ((c.tc : Thread Reference3Ideal.nD Reference3Ideal.τ).loc Reference3Ideal.main_arg2) = m' ((c.tc : Thread Reference3Ideal.nD Reference3Ideal.τ).loc Reference3Ideal.main_arg2)
      ∧ r.2.mem ((c.tc : Thread Reference3Ideal.nD Reference3Ideal.τ).loc Reference3Ideal.main_arg3) = m' ((c.tc : Thread Reference3Ideal.nD Reference3Ideal.τ).loc Reference3Ideal.main_arg3)) :=
  Cert.Reference3Ideal.Value.run (F := Ideal) m' g'

/-- The reference runs, keeps its arguments and leaves every counter at zero. -/
theorem ref_frame : θ_run (Cert.Reference3Ideal.defs (F := Ideal)) (onTc (τ := Reference3Ideal.τ) (Cert.Reference3Ideal.main (F := Ideal))) ⟨m', fun _ => 0, g'⟩
    (fun r => (∀ c : Dev Reference3Ideal.nD,
      r.2.mem ((c.tc : Thread Reference3Ideal.nD Reference3Ideal.τ).loc Reference3Ideal.main_arg0) = m' ((c.tc : Thread Reference3Ideal.nD Reference3Ideal.τ).loc Reference3Ideal.main_arg0)
      ∧ r.2.mem ((c.tc : Thread Reference3Ideal.nD Reference3Ideal.τ).loc Reference3Ideal.main_arg1) = m' ((c.tc : Thread Reference3Ideal.nD Reference3Ideal.τ).loc Reference3Ideal.main_arg1)
      ∧ r.2.mem ((c.tc : Thread Reference3Ideal.nD Reference3Ideal.τ).loc Reference3Ideal.main_arg2) = m' ((c.tc : Thread Reference3Ideal.nD Reference3Ideal.τ).loc Reference3Ideal.main_arg2)
      ∧ r.2.mem ((c.tc : Thread Reference3Ideal.nD Reference3Ideal.τ).loc Reference3Ideal.main_arg3) = m' ((c.tc : Thread Reference3Ideal.nD Reference3Ideal.τ).loc Reference3Ideal.main_arg3))
      ∧ r.2.sem = fun _ => 0) :=
  (θ_run Cert.Reference3Ideal.defs _ _).mono (fun r h => ⟨fun c => (h c).2.2.2.2, Idealize.ShloMosaic.sem_eq_zero_of_no_sems (by decide) r.2⟩)
    (ref_run m' g')

end

/-- The two programs project the same, from memories that agree on the arguments. -/
theorem proj_eq (m : (ℓ : Loc Kernel3Ideal.nD Kernel3Ideal.τ Kernel3Ideal.sig) → Buf (Elt Ideal) ℓ)
    (m' : (ℓ : Loc Reference3Ideal.nD Reference3Ideal.τ Reference3Ideal.sig) → Buf (Elt Ideal) ℓ) (c : Dev Kernel3Ideal.nD)
    (h0 : m' ((c.tc : Thread Reference3Ideal.nD Reference3Ideal.τ).loc Reference3Ideal.main_arg0) = m ((c.tc : Thread Kernel3Ideal.nD Kernel3Ideal.τ).loc Kernel3Ideal.main_arg0))
    (h1 : m' ((c.tc : Thread Reference3Ideal.nD Reference3Ideal.τ).loc Reference3Ideal.main_arg1) = m ((c.tc : Thread Kernel3Ideal.nD Kernel3Ideal.τ).loc Kernel3Ideal.main_arg1))
    (h2 : m' ((c.tc : Thread Reference3Ideal.nD Reference3Ideal.τ).loc Reference3Ideal.main_arg2) = m ((c.tc : Thread Kernel3Ideal.nD Kernel3Ideal.τ).loc Kernel3Ideal.main_arg2))
    (h3 : m' ((c.tc : Thread Reference3Ideal.nD Reference3Ideal.τ).loc Reference3Ideal.main_arg3) = m ((c.tc : Thread Kernel3Ideal.nD Kernel3Ideal.τ).loc Kernel3Ideal.main_arg3)) :
    Q m' c = P m c := by
  unfold Q P
  rw [h0, h1, h2, h3]

/-- Both programs run and end with the same four arrays. -/
theorem algebraic : Cert.algebraic_Kernel3Ideal_Reference3Ideal := by
  intro m g m' g' _ ha
  refine ⟨fun c => Ref.arrA (P m c), fun c => Ref.arrB (P m c), fun c => Ref.arrC (P m c), fun c => Ref.arrD (P m c), ?_, ?_⟩
  · refine (θ_run Cert.Kernel3Ideal.defs _ _).mono (fun r h c => ?_) (Cert.Kernel3Ideal.Value.run_blocks m g)
    obtain ⟨hA, hB, hC, hD, hk⟩ := h c
    exact ⟨hA.trans (finalA m c), hB.trans (finalB m c), hC.trans (finalC m c), hD.trans (finalD m c), hk⟩
  · refine (θ_run Cert.Reference3Ideal.defs _ _).mono (fun r h c => ?_) (ref_run m' g')
    obtain ⟨hA, hB, hC, hD, hk⟩ := h c
    obtain ⟨h0, h1, h2, h3⟩ := ha c
    have e := proj_eq m m' c h0 h1 h2 h3
    exact ⟨hA.trans (congrArg Ref.arrA e), hB.trans (congrArg Ref.arrB e), hC.trans (congrArg Ref.arrC e), hD.trans (congrArg Ref.arrD e), hk⟩

end Cert.Inp
end
-- ==== Proof.Ada.Block.lean ====
module

public import proofs.«01_k».proof.Proof.Gen.Kernel4Ideal.Value
public import proofs.«01_k».proof.Proof.Inp.Blocks

@[expose] public section

set_option maxRecDepth 16384

noncomputable section

/-! The modulation's own projection: one row of it, and what a grid point computes from its blocks. -/

namespace Cert.Ada

open Idealize.ShloMosaic Cert.Kernel4Ideal Cert.Kernel4Ideal.Gen

/-- A row's projection: the row times its own logistic, times the matrix, plus the bias. -/
def modRow (c : Fin 1024 → EReal) (w : Fin 1024 → EReal) (b : EReal) : EReal := (∑ k, c k * Ideal.logistic (c k) * w k) + b

/-- A row of zeros projects to the bias. -/
theorem modRow_zero (w : Fin 1024 → EReal) (b : EReal) : modRow (fun _ => 0) w b = b := by
  simp only [modRow, zero_mul, Finset.sum_const_zero, zero_add]

/-- The arguments' row: the conditioning's rows, then the one vector, then zeros. -/
def argRow (x : FVec Ideal S16x1024 .f32) (v : FVec Ideal S1024 .f32) (r : Fin 24) (k : Fin 1024) : EReal :=
  if h : r.val < 16 then x (ix2 ⟨r.val, h⟩ k) else if _h : r.val - 16 < 1 then v (ix1 k) else 0

/-- The three groups of rows, one below the other. -/
def stacked (x : FVec Ideal S16x1024 .f32) (v : FVec Ideal S1024 .f32) : FVec Ideal S24x1024 .f32 :=
  concatenate S24x1024 0 [⟨S16x1024, x⟩, ⟨S1x1024, broadcastInDim S1x1024 ![1] bcast_S1024_S1x1024_1 v⟩,
    ⟨S7x1024, broadcastInDim S7x1024 ![] bcast_S_S7x1024 (constant S_ .f32 0x00000000#32)⟩] concatenates_S16x1024_S1x1024_S7x1024_S24x1024_d0

/-- The stacked rows, row by row. -/
theorem stacked_apply (x : FVec Ideal S16x1024 .f32) (v : FVec Ideal S1024 .f32) (r : Fin 24) (k : Fin 1024) :
    stacked x v (ix2 r k) = argRow x v r k := by
  unfold argRow
  pointwise [stacked]

/-- The block that a point writes, place by place. -/
theorem out_apply (x0 : Vec Ideal S24x1024 .f32) (x1 : Vec Ideal S1024x1536 .f32) (x2 : Vec Ideal S1x1536 .f32) (r : Fin 24) (j : Fin 1536) :
    out0_3 x0 x1 x2 (ix2 r j) = modRow (fun k => x0 (ix2 r k)) (fun k => x1 (ix2 k j)) (x2 (ix2 0 j)) := by
  have hz2 : (![0, 0] : Fin 2 → Nat) = fun _ => 0 := by decide
  unfold out0_3
  rw [View.canon_unit_zero hz2, View.ld_unit_zero (S := S24x1024) hz2, View.ld_unit_zero (S := S1024x1536) hz2, View.ld_unit_zero (S := S1x1536) hz2]
  unfold modRow
  pointwise [k0_pay1]

end Cert.Ada
end
-- ==== Proof.Ada.Ref.lean ====
module

public import proofs.«01_k».proof.Proof.Gen.Reference4Ideal.Run
public import proofs.«01_k».proof.Proof.Ada.Block

@[expose] public section

set_option maxRecDepth 16384

noncomputable section

/-! The reference of the modulation's own projection. -/

namespace Cert.Ada

open Idealize.ShloMosaic Cert.Reference4Ideal Cert.Reference4Ideal.Gen

/-- The reference's array. -/
def result (x : FVec Ideal S16x1024 .f32) (v : FVec Ideal S1024 .f32) (w : FVec Ideal S1024x6144 .f32) (b : FVec Ideal S6144 .f32) :
    FVec Ideal S24x6144 .f32 :=
  concatenate S24x6144 0 [⟨S16x6144, addf (Host.dotGeneral dot_S16x1024_S1024x6144_S16x6144_1_0_0_1_n_n none
      (mulf x (Host.divf (broadcastInDim S16x1024 ![] bcast_S_S16x1024 (constant S_ .f32 0x3F800000#32))
        (addf (broadcastInDim S16x1024 ![] bcast_S_S16x1024 (constant S_ .f32 0x3F800000#32)) (Host.exp (Host.negf x))))) w)
      (broadcastInDim S16x6144 ![0, 1] bcast_S1x6144_S16x6144_0_1 (broadcastInDim S1x6144 ![1] bcast_S6144_S1x6144_1 b))⟩,
    ⟨S1x6144, broadcastInDim S1x6144 ![1] bcast_S6144_S1x6144_1 (addf (Host.dotGeneral dot_S1024_S1024x6144_S6144_0_0_n_1_n_n none
      (mulf v (Host.divf (broadcastInDim S1024 ![] bcast_S_S1024 (constant S_ .f32 0x3F800000#32))
        (addf (broadcastInDim S1024 ![] bcast_S_S1024 (constant S_ .f32 0x3F800000#32)) (Host.exp (Host.negf v))))) w) b)⟩,
    ⟨S7x6144, broadcastInDim S7x6144 ![0, 1] bcast_S1x6144_S7x6144_0_1 (broadcastInDim S1x6144 ![1] bcast_S6144_S1x6144_1 b)⟩]
    concatenates_S16x6144_S1x6144_S7x6144_S24x6144_d0

/-- The reference's array is the projection of the stacked rows. -/
theorem result_apply (x : FVec Ideal S16x1024 .f32) (v : FVec Ideal S1024 .f32) (w : FVec Ideal S1024x6144 .f32) (b : FVec Ideal S6144 .f32)
    (r : Fin 24) (j : Fin 6144) : result x v w b (ix2 r j) = modRow (argRow x v r) (fun k => w (ix2 k j)) (b (ix1 j)) := by
  have e : argRow x v r = if h : r.val < 16 then (fun k => x (ix2 ⟨r.val, h⟩ k)) else if _h : r.val - 16 < 1 then (fun k => v (ix1 k)) else fun _ => 0 := by
    funext k
    unfold argRow
    split
    · rfl
    · split <;> rfl
  rw [e]
  have hd : modRow (if h : r.val < 16 then (fun k => x (ix2 ⟨r.val, h⟩ k)) else if _h : r.val - 16 < 1 then (fun k => v (ix1 k)) else fun _ => 0)
      (fun k => w (ix2 k j)) (b (ix1 j))
      = if h : r.val < 16 then modRow (fun k => x (ix2 ⟨r.val, h⟩ k)) (fun k => w (ix2 k j)) (b (ix1 j))
        else if _h : r.val - 16 < 1 then modRow (fun k => v (ix1 k)) (fun k => w (ix2 k j)) (b (ix1 j)) else b (ix1 j) := by
    split
    · rfl
    · split
      · rfl
      · exact modRow_zero _ _
  rw [hd]
  unfold modRow Ideal.logistic
  pointwise [result]

end Cert.Ada
end
-- ==== Proof.Ada.Claims.lean ====
module

public import proofs.«01_k».proof.Defs
public import proofs.«01_k».proof.Proof.Ada.Ref
public import Idealize.ShloMosaic.Adequacy
public import Idealize.ShloMosaic.Init

@[expose] public section

set_option maxRecDepth 16384

noncomputable section

/-! The array of the modulation's own projection, and its claims over the extended reals. -/

namespace Cert.Ada

open Idealize.ShloMosaic Idealize.ShloMosaic.TcCoe Idealize.SL.Sem

section
open Cert.Kernel4Ideal Cert.Kernel4Ideal.Gen

/-- Which block each window stages at a point: the rows whole, the others by columns. -/
theorem idx_cols : ∀ t : Fin cfg0.N,
    (win0_0.index t (0 : Fin 2) = 0 ∧ win0_0.index t (1 : Fin 2) = 0) ∧ (win0_1.index t (0 : Fin 2) = 0 ∧ win0_1.index t (1 : Fin 2) = t.val)
    ∧ (win0_2.index t (0 : Fin 2) = 0 ∧ win0_2.index t (1 : Fin 2) = t.val) ∧ (win0_3.index t (0 : Fin 2) = 0 ∧ win0_3.index t (1 : Fin 2) = t.val) :=
  (by decide +kernel : ∀ t : Fin grid0.N, _)

theorem point_lt (t : Fin cfg0.N) : t.val < 4 := lt_of_lt_of_eq t.isLt N_0

/-- The array's column of a point's column. -/
abbrev colAt (t : Fin cfg0.N) (j : Fin 1536) : Fin 6144 := ⟨t.val * 1536 + j.val, by have := point_lt t; omega⟩

/-- The index of a place in a block of columns. -/
theorem at_cols {h : Nat} (t : Fin cfg0.N) (k : Fin h) (l : Fin 1536) (x : (⟨2, ![h, 6144]⟩ : Shape).Idx) (q : Fin 2 → Nat)
    (hq : q 0 = 0 ∧ q 1 = t.val) (e0 : (x 0).val = q 0 * h + 1 * k.val) (e1 : (x 1).val = q 1 * 1536 + 1 * l.val) : x = ix2 k (colAt t l) := by
  rcases hq with ⟨a0, a1⟩
  rw [a0, Nat.zero_mul] at e0; rw [a1] at e1
  refine funext fun d => Fin.ext ?_
  match d with
  | ⟨0, _⟩ => exact e0.trans (by show _ = k.val; omega)
  | ⟨1, _⟩ => exact e1.trans (by show _ = t.val * 1536 + l.val; omega)

variable (m : (ℓ : Loc nD τ sig) → Buf (Elt Ideal) ℓ) (c : Dev nD)

/-- The call's arguments. -/
abbrev X : FVec Ideal S16x1024 .f32 := m ((c.tc : Thread nD τ).loc main_arg0)
abbrev U : FVec Ideal S1024 .f32 := m ((c.tc : Thread nD τ).loc main_arg1)
abbrev W : FVec Ideal S1024x6144 .f32 := m ((c.tc : Thread nD τ).loc main_arg2)
abbrev B : FVec Ideal S6144 .f32 := m ((c.tc : Thread nD τ).loc main_arg3)

set_option maxHeartbeats 4000000 in
theorem V_v2 : V m c main_v2 = stacked (X m c) (U m c) := by
  unfold V
  rfl

set_option maxHeartbeats 4000000 in
theorem V_v3 : V m c main_v3 = shapeCast S1x6144 (B m c) shapeCasts_S6144_S1x6144 := by
  unfold V
  rfl

theorem blk0 (t : Fin cfg0.N) (r : Fin 24) (k : Fin 1024) : (iblk m c 0 t : Vec Ideal S24x1024 .f32) (ix2 r k) = argRow (X m c) (U m c) r k := by
  refine (congrArg (V m c main_v2) (Inp.at_rows 0 r.val r k _ _ 24 (idx_cols t).1 (by omega) rfl rfl)).trans ?_
  rw [V_v2]
  exact stacked_apply ..

theorem blk1 (t : Fin cfg0.N) (k : Fin 1024) (j : Fin 1536) : (iblk m c 1 t : Vec Ideal S1024x1536 .f32) (ix2 k j) = W m c (ix2 k (colAt t j)) :=
  (congrArg (V m c main_arg2) (at_cols t k j _ _ (idx_cols t).2.1 rfl rfl)).trans (congrFun (V_main_arg2 m c) _)

theorem blk2 (t : Fin cfg0.N) (j : Fin 1536) : (iblk m c 2 t : Vec Ideal S1x1536 .f32) (ix2 0 j) = B m c (ix1 (colAt t j)) := by
  refine (congrArg (V m c main_v3) (at_cols (h := 1) t 0 j _ _ (idx_cols t).2.2.1 rfl rfl)).trans ?_
  rw [V_v3]
  generalize B m c = b
  pointwise

/-- The reference's array of the same arguments. -/
abbrev G : FVec Ideal S24x6144 .f32 := result (X m c) (U m c) (W m c) (B m c)

/-- A block's place is the reference's array at the column. -/
theorem cell (t : Fin cfg0.N) (r : Fin 24) (j : Fin 1536) :
    out0_3 (iblk m c 0 t) (iblk m c 1 t) (iblk m c 2 t) (ix2 r j) = G m c (ix2 r (colAt t j)) := by
  rw [out_apply, G, result_apply, blk2]
  exact congrArg₂ (fun p q => modRow p q _) (funext fun k => blk0 m c t r k) (funext fun k => blk1 m c t k j)

/-- What a point writes back is its block of the reference's array. -/
theorem flushed_eq (t : Fin cfg0.N) : (dats m 0 c).flushed 3 t = ((cfg0.win 3).blk t).view.read (Elt Ideal) (G m c) := by
  rw [Cert.Kernel4Ideal.Value.flushed3]
  funext j
  rw [View.read_apply, at_cols (h := 24) t (j 0) (j 1) (((cfg0.win 3).blk t).view.emb j) _ (idx_cols t).2.2.2 rfl rfl]
  have hj : j = ix2 (n0 := 24) (n1 := 1536) (j 0) (j 1) := by
    funext x
    match x with
    | ⟨0, _⟩ => rfl
    | ⟨1, _⟩ => rfl
  exact (congrArg (out0_3 (iblk m c 0 t) (iblk m c 1 t) (iblk m c 2 t)) hj).trans (cell m c t (j 0) (j 1))

/-- The array after the run. -/
theorem final : (dats m 0 c).arrAt 3 cfg0.N = G m c := by
  refine (dats m 0 c).arrAt_eq_of_cover 3 _ (fun t _ => flushed_eq m c t) fun i => ?_
  have h0 : (i 0).val < 24 := (i 0).isLt
  have h1 : (i 1).val < 6144 := (i 1).isLt
  obtain ⟨t, ht⟩ : ∃ t : Fin cfg0.N, t.val = (i 1).val / 1536 := ⟨⟨(i 1).val / 1536, lt_of_lt_of_eq (by omega : _ < 4) N_0.symm⟩, rfl⟩
  refine ⟨t, flush0_3 t, ?_⟩
  show i ∈ ((View.whole main_v4).slice (win0_3.rect t)).set
  rw [View.set_slice_whole, Rect.mem_set_unit]
  obtain ⟨a0, a1⟩ := (idx_cols t).2.2.2
  intro a
  match a with
  | ⟨0, _⟩ => show win0_3.index t 0 * 24 ≤ (i 0).val ∧ (i 0).val < win0_3.index t 0 * 24 + 24; omega
  | ⟨1, _⟩ => show win0_3.index t 1 * 1536 ≤ (i 1).val ∧ (i 1).val < win0_3.index t 1 * 1536 + 1536; omega

end

section
variable (m' : (ℓ : Loc Reference4Ideal.nD Reference4Ideal.τ Reference4Ideal.sig) → Buf (Elt Ideal) ℓ) (g' : Dev Reference4Ideal.nD → PrngReg)

/-- The reference's array of its own arguments. -/
abbrev R (c : Dev Reference4Ideal.nD) : FVec Ideal Reference4Ideal.S24x6144 .f32 :=
  result (m' ((c.tc : Thread Reference4Ideal.nD Reference4Ideal.τ).loc Reference4Ideal.main_arg0))
    (m' ((c.tc : Thread Reference4Ideal.nD Reference4Ideal.τ).loc Reference4Ideal.main_arg1))
    (m' ((c.tc : Thread Reference4Ideal.nD Reference4Ideal.τ).loc Reference4Ideal.main_arg2))
    (m' ((c.tc : Thread Reference4Ideal.nD Reference4Ideal.τ).loc Reference4Ideal.main_arg3))

set_option maxHeartbeats 8000000 in
/-- The reference runs and ends with its array. -/
theorem ref_run : θ_run (Cert.Reference4Ideal.defs (F := Ideal)) (onTc (τ := Reference4Ideal.τ) (Cert.Reference4Ideal.main (F := Ideal))) ⟨m', fun _ => 0, g'⟩
    (fun r => ∀ c : Dev Reference4Ideal.nD,
      r.2.mem ((c.tc : Thread Reference4Ideal.nD Reference4Ideal.τ).loc Reference4Ideal.main_v11) = R m' c
      ∧ r.2.mem ((c.tc : Thread Reference4Ideal.nD Reference4Ideal.τ).loc Reference4Ideal.main_arg0) = m' ((c.tc : Thread Reference4Ideal.nD Reference4Ideal.τ).loc Reference4Ideal.main_arg0)
      ∧ r.2.mem ((c.tc : Thread Reference4Ideal.nD Reference4Ideal.τ).loc Reference4Ideal.main_arg1) = m' ((c.tc : Thread Reference4Ideal.nD Reference4Ideal.τ).loc Reference4Ideal.main_arg1)
      ∧ r.2.mem ((c.tc : Thread Reference4Ideal.nD Reference4Ideal.τ).loc Reference4Ideal.main_arg2) = m' ((c.tc : Thread Reference4Ideal.nD Reference4Ideal.τ).loc Reference4Ideal.main_arg2)
      ∧ r.2.mem ((c.tc : Thread Reference4Ideal.nD Reference4Ideal.τ).loc Reference4Ideal.main_arg3) = m' ((c.tc : Thread Reference4Ideal.nD Reference4Ideal.τ).loc Reference4Ideal.main_arg3)) :=
  Cert.Reference4Ideal.Value.run (F := Ideal) m' g'

/-- The reference runs, keeps its arguments and leaves every counter at zero. -/
theorem ref_frame : θ_run (Cert.Reference4Ideal.defs (F := Ideal)) (onTc (τ := Reference4Ideal.τ) (Cert.Reference4Ideal.main (F := Ideal))) ⟨m', fun _ => 0, g'⟩
    (fun r => (∀ c : Dev Reference4Ideal.nD,
      r.2.mem ((c.tc : Thread Reference4Ideal.nD Reference4Ideal.τ).loc Reference4Ideal.main_arg0) = m' ((c.tc : Thread Reference4Ideal.nD Reference4Ideal.τ).loc Reference4Ideal.main_arg0)
      ∧ r.2.mem ((c.tc : Thread Reference4Ideal.nD Reference4Ideal.τ).loc Reference4Ideal.main_arg1) = m' ((c.tc : Thread Reference4Ideal.nD Reference4Ideal.τ).loc Reference4Ideal.main_arg1)
      ∧ r.2.mem ((c.tc : Thread Reference4Ideal.nD Reference4Ideal.τ).loc Reference4Ideal.main_arg2) = m' ((c.tc : Thread Reference4Ideal.nD Reference4Ideal.τ).loc Reference4Ideal.main_arg2)
      ∧ r.2.mem ((c.tc : Thread Reference4Ideal.nD Reference4Ideal.τ).loc Reference4Ideal.main_arg3) = m' ((c.tc : Thread Reference4Ideal.nD Reference4Ideal.τ).loc Reference4Ideal.main_arg3))
      ∧ r.2.sem = fun _ => 0) :=
  (θ_run Cert.Reference4Ideal.defs _ _).mono (fun r h => ⟨fun c => (h c).2, Idealize.ShloMosaic.sem_eq_zero_of_no_sems (by decide) r.2⟩)
    (ref_run m' g')

end

/-- Both programs run and end with the same array. -/
theorem algebraic : Cert.algebraic_Kernel4Ideal_Reference4Ideal := by
  intro m g m' g' _ ha
  refine ⟨fun c => G m c, ?_, ?_⟩
  · exact (θ_run Cert.Kernel4Ideal.defs _ _).mono (fun r h c => ⟨(h c).1.trans (final m c), (h c).2⟩) (Cert.Kernel4Ideal.Value.run_blocks m g)
  · refine (θ_run Cert.Reference4Ideal.defs _ _).mono (fun r h c => ?_) (ref_run m' g')
    obtain ⟨h0, h1, h2, h3⟩ := ha c
    refine ⟨(h c).1.trans ?_, (h c).2⟩
    show R m' c = G m c
    unfold R G
    rw [h0, h1, h2, h3]

end Cert.Ada
end
-- ==== Proof.Lat.Stage.lean ====
module

public import proofs.«01_k».proof.Proof.Gen.Kernel5Ideal.Frame
public import proofs.«01_k».proof.Proof.Inp.Ref

@[expose] public section

set_option maxRecDepth 16384

noncomputable section

/-! The columns staged for the latent attention's call. -/

namespace Cert.Lat

open Idealize.ShloMosaic Cert.Kernel5Ideal Cert.Kernel5Ideal.Gen

/-- The staged columns: the queries' latent row, the keys' one, and the shared key between zeros. -/
def staged (x : FVec Ideal S16x4096x256 .f32) (y : FVec Ideal S16x4096x128 .f32) (r : FVec Ideal S16x4096x32 .f32) : FVec Ideal S16x4096x512 .f32 :=
  concatenate S16x4096x512 2 [⟨S16x4096x256, x⟩, ⟨S16x4096x128, y⟩, ⟨S16x4096x128, pad S16x4096x128 ![0, 0, 64] ![0, 0, 32] ![0, 0, 0] r
    (sitofp .f32 (constantI S_ 32 0#32)) pads_S16x4096x32_S16x4096x128_000_000_64320 h_S_⟩] concatenates_S16x4096x256_S16x4096x128_S16x4096x128_S16x4096x512_d2

/-! The arrays at an index. -/

section
variable (x : FVec Ideal S16x4096x256 .f32) (y : FVec Ideal S16x4096x128 .f32) (r : FVec Ideal S16x4096x32 .f32) (b : Fin 16) (t : Fin 4096)

theorem stagedQ (j : Fin 256) : staged x y r (ix3 b t ⟨j.val, by omega⟩) = x (ix3 b t j) := by
  pointwise [staged]

theorem stagedK (j : Fin 128) : staged x y r (ix3 b t ⟨256 + j.val, by omega⟩) = y (ix3 b t j) := by
  pointwise [staged]

theorem stagedR (l : Fin 128) : staged x y r (ix3 b t ⟨384 + l.val, by omega⟩)
    = if l.val < 64 then 0 else if l.val < 96 then Inp.rd (fun k => r (ix3 b t k)) (l.val - 64) else 0 := by
  pointwise [staged]
  simp only [Inp.Ref.zero_eq]
  have hr : ∀ k, r (ix3 b t k) = Inp.rd (fun k => r (ix3 b t k)) k.val := fun k => Inp.rd_eq (fun k => r (ix3 b t k)) k
  generalize Inp.rd (fun k => r (ix3 b t k)) = R at hr ⊢
  rw [dif_neg (by omega), dif_neg (by omega)]
  simp only [hr, dite_eq_ite]
  rw [show 384 + l.val - 256 - 128 = l.val by omega]
  split_ifs <;> first | rfl | omega

end

end Cert.Lat
end
-- ==== Proof.Lat.Take.lean ====
module

public import Idealize.ShloMosaic.Lib.Pointwise
public import Idealize.ShloMosaic.Lib.IdealHost
public import Idealize.ShloMosaic.Lib.ReduceAll
public import Idealize.ShloMosaic.Lib.StableHlo.ReadAt

@[expose] public section

set_option maxRecDepth 16384

noncomputable section

/-! A matrix whose columns are taken by a list of numbers and multiplied by a list of factors. -/

namespace Cert.Lat

open Idealize.ShloMosaic

/-- A list as a column, at an index. -/
theorem bcast_list {α : Type} {p : Nat} (b : (⟨1, ![p]⟩ : Shape).BroadcastsInDim ⟨2, ![p, 1]⟩ ![0]) (x : (⟨1, ![p]⟩ : Shape).Idx → α) (k : Fin p) (z : Fin 1) :
    broadcastInDim ⟨2, ![p, 1]⟩ ![0] b x (ix2 k z) = x (ix1 k) := by
  show x _ = x _
  congr 1
  funext a
  refine Fin.ext ?_
  match a with
  | ⟨0, _⟩ =>
    show (if h1 : p = 1 then (⟨0, _⟩ : Fin p) else ⟨k.val, _⟩).val = k.val
    split
    · show 0 = k.val; omega
    · rfl

/-- A list repeated over the rows, at an index. -/
theorem bcast_rows {α : Type} {h p : Nat} (b1 : (⟨1, ![p]⟩ : Shape).BroadcastsInDim ⟨2, ![1, p]⟩ ![1])
    (b2 : (⟨2, ![1, p]⟩ : Shape).BroadcastsInDim ⟨2, ![h, p]⟩ ![0, 1]) (x : (⟨1, ![p]⟩ : Shape).Idx → α) (j : Fin h) (k : Fin p) :
    broadcastInDim ⟨2, ![h, p]⟩ ![0, 1] b2 (broadcastInDim ⟨2, ![1, p]⟩ ![1] b1 x) (ix2 j k) = x (ix1 k) := by
  show x _ = x _
  congr 1
  funext a
  refine Fin.ext ?_
  match a with
  | ⟨0, _⟩ =>
    show (if h1 : p = 1 then (⟨0, _⟩ : Fin p) else ⟨(if h1 : p = 1 then (⟨0, _⟩ : Fin p) else ⟨k.val, _⟩).val, _⟩).val = k.val
    by_cases h1 : p = 1
    · rw [dif_pos h1]; show 0 = k.val; omega
    · rw [dif_neg h1]
      show (if h1 : p = 1 then (⟨0, _⟩ : Fin p) else ⟨k.val, _⟩).val = k.val
      rw [dif_neg h1]

/-- The gather of whole columns. -/
def colDims (h n p : Nat) (wf : GatherDims.WF ⟨2, ![h, n]⟩ ⟨2, ![p, 1]⟩ ⟨2, ![h, p]⟩ [0] [1] [] [1] [] 1 ![h, 1]) :
    GatherDims ⟨2, ![h, n]⟩ ⟨2, ![p, 1]⟩ ⟨2, ![h, p]⟩ where
  offsetDims := [0]
  collapsedSliceDims := [1]
  operandBatchingDims := []
  startIndicesBatchingDims := []
  startIndexMap := [1]
  indexVectorDim := 1
  sliceSizes := ![h, 1]
  wf := wf

/-- A gathered column whose number is known. -/
theorem gather_col {h n p : Nat} (wf : GatherDims.WF ⟨2, ![h, n]⟩ ⟨2, ![p, 1]⟩ ⟨2, ![h, p]⟩ [0] [1] [] [1] [] 1 ![h, 1])
    (w : FVec Ideal ⟨2, ![h, n]⟩ .f32) (idx : IVec ⟨2, ![p, 1]⟩ 32) (j : Fin h) (k : Fin p) (s : Fin n)
    (hs : min (idx (ix2 k 0)).toInt.toNat (n - 1) = s.val) : Host.gather (colDims h n p wf) w idx (ix2 j k) = w (ix2 j s) := by
  generalize hd : colDims h n p wf = d
  have hm : d.startIndexMap = [1] := by rw [← hd]; rfl
  have ho : d.offsetDims = [0] := by rw [← hd]; rfl
  have hsi : ∀ q, d.siIdx (ix2 j k) q = ix2 k 0 := by
    rw [← hd]; intro q; funext b; refine Fin.ext ?_
    match b with
    | ⟨0, _⟩ => rfl
    | ⟨1, _⟩ => exact congrArg Fin.val (Subsingleton.elim (α := Fin 1) _ _)
  show w _ = w _
  congr 1
  funext a
  refine Fin.ext ?_
  show d.start (ix2 j k) idx a + d.batchCoord (ix2 j k) a + d.offCoord (ix2 j k) a = _
  rw [GatherDims.batchCoord_eq_zero _ _ _ (by rw [← hd]; exact List.not_mem_nil)]
  have h01 : a = 0 ∨ a = 1 := by
    match a with
    | ⟨0, _⟩ => exact Or.inl rfl
    | ⟨1, _⟩ => exact Or.inr rfl
  rcases h01 with rfl | rfl
  · unfold GatherDims.start
    rw [dif_neg (by rw [hm]; exact (by decide : (0 : Fin 2) ∉ ([1] : List (Fin 2)))), Nat.zero_add]
    unfold GatherDims.offCoord
    rw [dif_pos (by rw [← hd]; exact (GatherDims.mem_sKept _ _).mpr ⟨(by decide : (0 : Fin 2) ∉ ([1] : List (Fin 2))), List.not_mem_nil⟩)]
    exact (fun x (hx : x = 0) => by subst hx; rfl : ∀ x : Fin 2, x = 0 → (ix2 j k x).val = j.val) _
      (List.mem_singleton.mp (ho ▸ List.getElem_mem _))
  · rw [GatherDims.offCoord_eq_zero _ _ _ (by rw [← hd]; exact fun h => ((GatherDims.mem_sKept _ _).mp h).1 (List.mem_singleton.mpr rfl))]
    unfold GatherDims.start
    rw [dif_pos (by rw [hm]; exact List.mem_singleton.mpr rfl), hsi]
    rw [← hd]
    exact hs

/-- A column number read back from its word: it is not counted from the end, it is in range, and it is itself. -/
def names (n : Nat) (N top : BitVec 32) (s : Nat) : Prop :=
  Scalar.select (IntOp.cmpi CmpIPredicate.slt (BitVec.ofNat 32 s) 0#32) (IntOp.addi (BitVec.ofNat 32 s) N) (BitVec.ofNat 32 s) = BitVec.ofNat 32 s
  ∧ IntOp.andi (IntOp.cmpi CmpIPredicate.sge (BitVec.ofNat 32 s) 0#32) (IntOp.cmpi CmpIPredicate.sle (BitVec.ofNat 32 s) top) = 1#1
  ∧ min (BitVec.ofNat 32 s).toInt.toNat (n - 1) = s

instance (n : Nat) (N top : BitVec 32) (s : Nat) : Decidable (names n N top s) := by unfold names; infer_instance

/-- The numbers of 384 columns. -/
theorem names_384 : ∀ s : Fin 384, names 384 384#32 383#32 s.val := by decide +kernel

/-- The numbers of 512 columns. -/
theorem names_512 : ∀ s : Fin 512, names 512 512#32 511#32 s.val := by decide +kernel

/-- The shapes that a choice of `p` columns among `n`, of `h` rows, goes through. -/
structure Fits (h n p : Nat) : Prop where
  one : (⟨0, ![]⟩ : Shape).BroadcastsInDim ⟨1, ![p]⟩ ![]
  col : (⟨1, ![p]⟩ : Shape).BroadcastsInDim ⟨2, ![p, 1]⟩ ![0]
  oneCol : (⟨0, ![]⟩ : Shape).BroadcastsInDim ⟨2, ![p, 1]⟩ ![]
  top : (⟨1, ![1]⟩ : Shape).BroadcastsInDim ⟨2, ![1, 1]⟩ ![1]
  topCol : (⟨2, ![1, 1]⟩ : Shape).BroadcastsInDim ⟨2, ![p, 1]⟩ ![0, 1]
  red : (⟨2, ![p, 1]⟩ : Shape).ReducesTo [1] ⟨1, ![p]⟩
  pos : 0 < (⟨0, ![]⟩ : Shape).numel
  mask : (⟨1, ![p]⟩ : Shape).BroadcastsInDim ⟨2, ![h, p]⟩ ![1]
  fill : (⟨0, ![]⟩ : Shape).BroadcastsInDim ⟨2, ![h, p]⟩ ![]
  row : (⟨1, ![p]⟩ : Shape).BroadcastsInDim ⟨2, ![1, p]⟩ ![1]
  rows : (⟨2, ![1, p]⟩ : Shape).BroadcastsInDim ⟨2, ![h, p]⟩ ![0, 1]
  wf : GatherDims.WF ⟨2, ![h, n]⟩ ⟨2, ![p, 1]⟩ ⟨2, ![h, p]⟩ [0] [1] [] [1] [] 1 ![h, 1]

section
variable {h n p : Nat} (A : Fits h n p) (N top : BitVec 32) (L : IVec ⟨1, ![p]⟩ 32) (K : FVec Ideal ⟨1, ![p]⟩ .f32) (w : FVec Ideal ⟨2, ![h, n]⟩ .f32)

/-- The column numbers that are taken: a negative one counts from the end. -/
def takeIdx : IVec ⟨2, ![p, 1]⟩ 32 :=
  broadcastInDim ⟨2, ![p, 1]⟩ ![0] A.col
    (select (cmpi .slt L (broadcastInDim ⟨1, ![p]⟩ ![] A.one (constantI ⟨0, ![]⟩ 32 0#32)))
      (addi L (broadcastInDim ⟨1, ![p]⟩ ![] A.one (constantI ⟨0, ![]⟩ 32 N))) L)

/-- Which column numbers are in range. -/
def takeOk : IVec ⟨2, ![p, 1]⟩ 1 :=
  andi (cmpi .sge (takeIdx A N L) (broadcastInDim ⟨2, ![p, 1]⟩ ![] A.oneCol (constantI ⟨0, ![]⟩ 32 0#32)))
    (cmpi .sle (takeIdx A N L) (broadcastInDim ⟨2, ![p, 1]⟩ ![0, 1] A.topCol (broadcastInDim ⟨2, ![1, 1]⟩ ![1] A.top (constantI ⟨1, ![1]⟩ 32 top))))

/-- The matrix, its columns taken in the list's order. -/
def taken : FVec Ideal ⟨2, ![h, p]⟩ .f32 :=
  select (broadcastInDim ⟨2, ![h, p]⟩ ![1] A.mask (Host.reduce IntOp.andi (takeOk A N top L) (constantI ⟨0, ![]⟩ 1 1#1) A.red A.pos))
    (Host.gather (colDims h n p A.wf) w (takeIdx A N L))
    (broadcastInDim ⟨2, ![h, p]⟩ ![] A.fill (constant ⟨0, ![]⟩ .f32 0x7FC00000#32))

/-- The taken columns, each times its factor. -/
def laidCols (hb : FTy.bf16.bits < FTy.f32.bits) : FVec Ideal ⟨2, ![h, p]⟩ .bf16 :=
  truncf .bf16 (mulf (taken A N top L w) (broadcastInDim ⟨2, ![h, p]⟩ ![0, 1] A.rows (broadcastInDim ⟨2, ![1, p]⟩ ![1] A.row K))) hb

variable (src : Fin p → Fin n) (hL : ∀ k, L (ix1 k) = BitVec.ofNat 32 (src k).val) (hn : ∀ s : Fin n, names n N top s.val)
include hL hn

/-- The column numbers are the columns. -/
theorem takeIdx_apply (k : Fin p) (z : Fin 1) : takeIdx A N L (ix2 k z) = BitVec.ofNat 32 (src k).val := by
  unfold takeIdx
  rw [bcast_list]
  show Scalar.select (IntOp.cmpi CmpIPredicate.slt (L (ix1 k)) 0#32) (IntOp.addi (L (ix1 k)) N) (L (ix1 k)) = _
  rw [hL]
  exact (hn (src k)).1

/-- All are in range. -/
theorem takeOk_apply (i : (⟨2, ![p, 1]⟩ : Shape).Idx) : takeOk A N top L i = 1#1 := by
  obtain ⟨k, z, rfl⟩ : ∃ (k : Fin p) (z : Fin 1), i = ix2 k z := ⟨i 0, i 1, funext fun x => by match x with | ⟨0, _⟩ => rfl | ⟨1, _⟩ => rfl⟩
  show IntOp.andi (IntOp.cmpi CmpIPredicate.sge (takeIdx A N L (ix2 k z)) 0#32) (IntOp.cmpi CmpIPredicate.sle (takeIdx A N L (ix2 k z)) top) = 1#1
  rw [takeIdx_apply A N top L src hL hn]
  exact (hn (src k)).2.1

/-- The taken matrix at an index. -/
theorem taken_apply (j : Fin h) (k : Fin p) : taken A N top L w (ix2 j k) = w (ix2 j (src k)) := by
  unfold taken
  refine Eq.trans (if_pos ?_) (gather_col A.wf w (takeIdx A N L) j k (src k) ?_)
  · exact Host.reduce_andi_one _ _ A.red A.pos _ rfl (takeOk_apply A N top L src hL hn)
  · rw [takeIdx_apply A N top L src hL hn]
    exact (hn (src k)).2.2

/-- The laid-out matrix at an index. -/
theorem laidCols_apply (hb : FTy.bf16.bits < FTy.f32.bits) (j : Fin h) (k : Fin p) :
    laidCols A N top L K w hb (ix2 j k) = w (ix2 j (src k)) * K (ix1 k) := by
  show taken A N top L w (ix2 j k) * broadcastInDim ⟨2, ![h, p]⟩ ![0, 1] A.rows (broadcastInDim ⟨2, ![1, p]⟩ ![1] A.row K) (ix2 j k) = _
  rw [bcast_rows, taken_apply A N top L w src hL hn]

end
end Cert.Lat
end
-- ==== Proof.Lat.Row.lean ====
module

public import proofs.«01_k».proof.Proof.Inp.Row

@[expose] public section

noncomputable section

/-! The latent attention's queries, keys and values, of one token. -/

namespace Cert.Lat

open Idealize.ShloMosaic

/-- A row divided by the root of its mean square, times the norm's weights. -/
def rms {n : Nat} (len : EReal) (x g : Fin n → EReal) (k : Fin n) : EReal :=
  x k * Ideal.rsqrt (Ideal.div (∑ j, x j * x j) len + Ideal.ofBits .f32 0x358637BD#32) * g k

/-- A row times a matrix, read at any number. -/
abbrev prod {n p : Nat} (q : Fin n → EReal) (w : Fin n → Fin p → EReal) : Nat → EReal := Inp.rd fun c => ∑ j, q j * w j c

/-- The scores' factor, for powers of two. -/
abbrev factor : EReal := Ideal.ofBits .f32 0x3E16C740#32

/-- A lane of the queries: the turned columns times the factor. -/
def putQ (A B C S : Nat → EReal) (l : Nat) : EReal := (A l * C (l % 128) + B l * S (l % 128)) * factor

/-- A lane of the keys: the projected column plus the shared part. -/
def putK (A R : Nat → EReal) (l : Nat) : EReal := A l + R (384 + l % 128)

/-- A lane of the reference's queries: 64 columns, 32 rotated ones, and 32 zeros in every head. -/
def outQ (z c s : Nat → EReal) (l : Nat) : EReal :=
  if l % 128 < 64 then z (l / 128 * 96 + l % 128) * factor
  else if l % 128 < 80 then (z (l / 128 * 96 + l % 128) * c (l % 128 - 64) - z (l / 128 * 96 + l % 128 + 16) * s (l % 128 - 64)) * factor
  else if l % 128 < 96 then (z (l / 128 * 96 + l % 128 - 16) * s (l % 128 - 80) + z (l / 128 * 96 + l % 128) * c (l % 128 - 80)) * factor
  else 0

/-- A lane of the reference's keys: 64 columns, the 32 shared ones, and 32 zeros in every head. -/
def outK (z r : Nat → EReal) (l : Nat) : EReal :=
  if l % 128 < 64 then z l else if l % 128 < 96 then r (l % 128 - 64) else 0

/-- A lane of the reference's values: the last 64 columns of every head. -/
def outV (z : Nat → EReal) (l : Nat) : EReal := z (l / 64 * 128 + 64 + l % 64)

end Cert.Lat
end
-- ==== Proof.Lat.Cols.lean ====
module

public import proofs.«01_k».proof.Proof.Gen.Kernel5Ideal
public import proofs.«01_k».proof.Proof.Lat.Row

@[expose] public section

set_option maxRecDepth 16384

noncomputable section

/-! The column lists of the laid-out latent matrices. -/

namespace Cert.Lat

open Idealize.ShloMosaic Cert.Kernel5Ideal

/-- The queries' columns: 96 lanes of every 128 are filled. -/
def colA (k : Nat) : Nat := if k % 128 < 96 then k / 128 * 96 + k % 128 else 0

/-- The queries' partners: the other element of a rotated pair. -/
def colB (k : Nat) : Nat :=
  if k % 128 < 64 then 0 else if k % 128 < 80 then k / 128 * 96 + k % 128 + 16 else if k % 128 < 96 then k / 128 * 96 + k % 128 - 16 else 0

/-- The keys' columns: 64 lanes of every 128 are filled. -/
def colK (k : Nat) : Nat := if k % 128 < 64 then k else 0

/-- The values' columns. -/
def colV (k : Nat) : Nat := k / 64 * 128 + 64 + k % 64

/-- The lanes with a query column. -/
abbrev hasA (k : Nat) : Prop := k % 128 < 96
/-- The lanes with a partner. -/
abbrev hasB (k : Nat) : Prop := 64 ≤ k % 128 ∧ k % 128 < 96
/-- The lanes with a key column. -/
abbrev hasK (k : Nat) : Prop := k % 128 < 64

theorem colA_lt (k : Fin 512) : colA k.val < 384 := by unfold colA; split_ifs <;> omega
theorem colB_lt (k : Fin 512) : colB k.val < 384 := by unfold colB; split_ifs <;> omega
theorem colK_lt (k : Fin 512) : colK k.val < 512 := by unfold colK; split_ifs <;> omega
theorem colV_lt (k : Fin 256) : colV k.val < 512 := by unfold colV; omega

/-- The lists hold the columns. -/
theorem lit0_eq : ∀ k : Fin 512, lit0 k = BitVec.ofNat 32 (colA k.val) := by decide +kernel
theorem lit2_eq : ∀ k : Fin 512, lit2 k = BitVec.ofNat 32 (colB k.val) := by decide +kernel
theorem lit4_eq : ∀ k : Fin 512, lit4 k = BitVec.ofNat 32 (colK k.val) := by decide +kernel
theorem lit6_eq : ∀ k : Fin 256, lit6 k = BitVec.ofNat 32 (colV k.val) := by decide +kernel

/-- The lists mark the filled lanes. -/
theorem lit1_eq : ∀ k : Fin 512, lit1 k = if hasA k.val then 0x3F800000#32 else 0x00000000#32 := by decide +kernel
theorem lit3_eq : ∀ k : Fin 512, lit3 k = if hasB k.val then 0x3F800000#32 else 0x00000000#32 := by decide +kernel
theorem lit5_eq : ∀ k : Fin 512, lit5 k = if hasK k.val then 0x3F800000#32 else 0x00000000#32 := by decide +kernel

/-- A product with a matrix of taken columns, each kept or put to zero. -/
theorem prod_laid {n p d : Nat} (q : Fin n → EReal) (W : Fin n → Fin p → EReal) (w : Fin n → Fin d → EReal) (col : Nat → Nat) (has : Nat → Prop) [DecidablePred has]
    (hc : ∀ k : Fin d, col k.val < p) (hw : ∀ j (k : Fin d), w j k = W j ⟨col k.val, hc k⟩ * (if has k.val then 1 else 0)) (l : Nat) (hl : l < d) :
    prod q w l = if has l then prod q W (col l) else 0 := by
  have e := Inp.rd_eq (fun c => ∑ j, q j * w j c) ⟨l, hl⟩
  refine e.symm.trans ?_
  split_ifs with h
  · refine Eq.trans ?_ (Inp.rd_at (fun c => ∑ j, q j * W j c) ⟨col l, hc ⟨l, hl⟩⟩ (col l) rfl)
    refine Finset.sum_congr rfl fun j _ => ?_
    rw [hw, if_pos h, mul_one]
  · refine Finset.sum_eq_zero fun j _ => ?_
    rw [hw, if_neg h, mul_zero, mul_zero]

end Cert.Lat
end
-- ==== Proof.Lat.Host.lean ====
module

public import proofs.«01_k».proof.Proof.Gen.Kernel5Ideal.Frame
public import proofs.«01_k».proof.Proof.Inp.Tables
public import proofs.«01_k».proof.Proof.Lat.Stage
public import proofs.«01_k».proof.Proof.Lat.Take
public import proofs.«01_k».proof.Proof.Lat.Cols

@[expose] public section

set_option maxRecDepth 16384

noncomputable section

/-! The arrays that the latent attention's call is given. -/

namespace Cert.Lat

open Idealize.ShloMosaic Cert.Kernel5Ideal Cert.Kernel5Ideal.Gen

/-- The shapes of the choice of the queries' columns. -/
theorem fitsQ : Fits 256 384 512 where
  one := bcast_S_S512
  col := bcast_S512_S512x1_0
  oneCol := bcast_S_S512x1
  top := bcast_S1_S1x1_1
  topCol := bcast_S1x1_S512x1_0_1
  red := reducesTo_S512x1_S512_d1
  pos := h_S_
  mask := bcast_S512_S256x512_1
  fill := bcast_S_S256x512
  row := bcast_S512_S1x512_1
  rows := bcast_S1x512_S256x512_0_1
  wf := gather_S256x384_S512x1_S256x512_0_1_n_n_1_1_2561_wf

/-- The shapes of the choice of the keys' columns. -/
theorem fitsK : Fits 128 512 512 where
  one := bcast_S_S512
  col := bcast_S512_S512x1_0
  oneCol := bcast_S_S512x1
  top := bcast_S1_S1x1_1
  topCol := bcast_S1x1_S512x1_0_1
  red := reducesTo_S512x1_S512_d1
  pos := h_S_
  mask := bcast_S512_S128x512_1
  fill := bcast_S_S128x512
  row := bcast_S512_S1x512_1
  rows := bcast_S1x512_S128x512_0_1
  wf := gather_S128x512_S512x1_S128x512_0_1_n_n_1_1_1281_wf

/-- The shapes of the choice of the values' columns. -/
theorem fitsV : Fits 128 512 256 where
  one := bcast_S_S256
  col := bcast_S256_S256x1_0
  oneCol := bcast_S_S256x1
  top := bcast_S1_S1x1_1
  topCol := bcast_S1x1_S256x1_0_1
  red := reducesTo_S256x1_S256_d1
  pos := h_S_
  mask := bcast_S256_S128x256_1
  fill := bcast_S_S128x256
  row := bcast_S256_S1x256_1
  rows := bcast_S1x256_S128x256_0_1
  wf := gather_S128x512_S256x1_S128x256_0_1_n_n_1_1_1281_wf

/-- A list of column numbers. -/
abbrev nums (f : Fin 512 → BitVec 32) : IVec S512 32 := fun i => f (S512.rowMajor i)
/-- A list of factors. -/
abbrev ons (f : Fin 512 → BitVec 32) : FVec Ideal S512 .f32 := fun i => FloatOps.ofBits .f32 (f (S512.rowMajor i))
/-- The values' column numbers. -/
abbrev numsV : IVec S256 32 := fun i => lit6 (S256.rowMajor i)

section
variable (m : (ℓ : Loc nD τ sig) → Buf (Elt Ideal) ℓ) (c : Dev nD)

/-- The call's arguments. -/
abbrev CQ : FVec Ideal S16x4096x256 .f32 := m ((c.tc : Thread nD τ).loc main_arg0)
abbrev CKV : FVec Ideal S16x4096x128 .f32 := m ((c.tc : Thread nD τ).loc main_arg1)
abbrev KR : FVec Ideal S16x4096x32 .f32 := m ((c.tc : Thread nD τ).loc main_arg2)
abbrev GQ : FVec Ideal S256 .f32 := m ((c.tc : Thread nD τ).loc main_arg3)
abbrev WQ : FVec Ideal S256x384 .f32 := m ((c.tc : Thread nD τ).loc main_arg4)
abbrev GK : FVec Ideal S128 .f32 := m ((c.tc : Thread nD τ).loc main_arg5)
abbrev WK : FVec Ideal S128x512 .f32 := m ((c.tc : Thread nD τ).loc main_arg6)

set_option maxHeartbeats 4000000 in
theorem V_v1 : V m c main_v1 = staged (CQ m c) (CKV m c) (KR m c) := by
  unfold V
  rfl

set_option maxHeartbeats 4000000 in
theorem V_v6 : V m c main_v6 = laidCols fitsQ 384#32 383#32 (nums lit0) (ons lit1) (WQ m c) bitsLt_bf16_f32 := by
  unfold V
  rfl

set_option maxHeartbeats 4000000 in
theorem V_v11 : V m c main_v11 = laidCols fitsQ 384#32 383#32 (nums lit2) (ons lit3) (WQ m c) bitsLt_bf16_f32 := by
  unfold V
  rfl

set_option maxHeartbeats 4000000 in
theorem V_v16 : V m c main_v16 = laidCols fitsK 512#32 511#32 (nums lit4) (ons lit5) (WK m c) bitsLt_bf16_f32 := by
  unfold V
  rfl

set_option maxHeartbeats 4000000 in
theorem V_v21 : V m c main_v21 = laidCols fitsV 512#32 511#32 numsV (constant S256 .f32 0x3F800000#32) (WK m c) bitsLt_bf16_f32 := by
  unfold V
  rfl

set_option maxHeartbeats 4000000 in
theorem V_v121 : V m c main_v121 = Inp.between Inp.ones (Host.cos Inp.Ref.angD) (Host.cos Inp.Ref.angD) := by
  unfold V
  rfl

set_option maxHeartbeats 4000000 in
theorem V_v126 : V m c main_v126 = Inp.between Inp.zeros (Host.negf (Host.sin Inp.Ref.angD)) (Host.sin Inp.Ref.angD) := by
  unfold V
  rfl

set_option maxHeartbeats 4000000 in
theorem V_v127 : V m c main_v127 = (shapeCast S1x256 (GQ m c) shapeCasts_S256_S1x256 : FVec Ideal S1x256 .f32) := by
  unfold V
  rfl

set_option maxHeartbeats 4000000 in
theorem V_v128 : V m c main_v128 = (shapeCast S1x128 (GK m c) shapeCasts_S128_S1x128 : FVec Ideal S1x128 .f32) := by
  unfold V
  rfl

end

/-- The four matrices at an index. -/
theorem nums_apply (f : Fin 512 → BitVec 32) (k : Fin 512) : nums f (ix1 k) = f k := congrArg f (Fin.ext (Shape.rowMajor_val_one ..))
theorem numsV_apply (k : Fin 256) : numsV (ix1 k) = lit6 k := congrArg lit6 (Fin.ext (Shape.rowMajor_val_one ..))

theorem ons_apply (f : Fin 512 → BitVec 32) (p : Prop) [Decidable p] (k : Fin 512) (h : f k = if p then 0x3F800000#32 else 0x00000000#32) :
    ons f (ix1 k) = if p then 1 else 0 := by
  show Ideal.ofBits .f32 (f (S512.rowMajor (ix1 k))) = _
  rw [show S512.rowMajor (ix1 k) = k from Fin.ext (Shape.rowMajor_val_one ..), h]
  split_ifs
  · pointwise
  · pointwise

section
variable (wq : FVec Ideal S256x384 .f32) (wk : FVec Ideal S128x512 .f32)

theorem laidA_apply (j : Fin 256) (k : Fin 512) : laidCols fitsQ 384#32 383#32 (nums lit0) (ons lit1) wq bitsLt_bf16_f32 (ix2 j k)
    = wq (ix2 j ⟨colA k.val, colA_lt k⟩) * (if hasA k.val then 1 else 0) := by
  rw [laidCols_apply fitsQ 384#32 383#32 (nums lit0) (ons lit1) wq (fun k => ⟨colA k.val, colA_lt k⟩) (fun k => (nums_apply lit0 k).trans (lit0_eq k)) names_384,
    ons_apply lit1 _ k (lit1_eq k)]

theorem laidB_apply (j : Fin 256) (k : Fin 512) : laidCols fitsQ 384#32 383#32 (nums lit2) (ons lit3) wq bitsLt_bf16_f32 (ix2 j k)
    = wq (ix2 j ⟨colB k.val, colB_lt k⟩) * (if hasB k.val then 1 else 0) := by
  rw [laidCols_apply fitsQ 384#32 383#32 (nums lit2) (ons lit3) wq (fun k => ⟨colB k.val, colB_lt k⟩) (fun k => (nums_apply lit2 k).trans (lit2_eq k)) names_384,
    ons_apply lit3 _ k (lit3_eq k)]

theorem laidK_apply (j : Fin 128) (k : Fin 512) : laidCols fitsK 512#32 511#32 (nums lit4) (ons lit5) wk bitsLt_bf16_f32 (ix2 j k)
    = wk (ix2 j ⟨colK k.val, colK_lt k⟩) * (if hasK k.val then 1 else 0) := by
  rw [laidCols_apply fitsK 512#32 511#32 (nums lit4) (ons lit5) wk (fun k => ⟨colK k.val, colK_lt k⟩) (fun k => (nums_apply lit4 k).trans (lit4_eq k)) names_512,
    ons_apply lit5 _ k (lit5_eq k)]

theorem laidV_apply (j : Fin 128) (k : Fin 256) : laidCols fitsV 512#32 511#32 numsV (constant S256 .f32 0x3F800000#32) wk bitsLt_bf16_f32 (ix2 j k)
    = wk (ix2 j ⟨colV k.val, colV_lt k⟩) * (if True then 1 else 0) := by
  rw [laidCols_apply fitsV 512#32 511#32 numsV (constant S256 .f32 0x3F800000#32) wk (fun k => ⟨colV k.val, colV_lt k⟩) (fun k => (numsV_apply k).trans (lit6_eq k)) names_512,
    if_pos trivial]
  congr 1
  pointwise

end

theorem gainQ_apply (g : FVec Ideal S256 .f32) (j : Fin 256) : (shapeCast S1x256 g shapeCasts_S256_S1x256 : FVec Ideal S1x256 .f32) (ix2 0 j) = g (ix1 j) := by
  pointwise

theorem gainK_apply (g : FVec Ideal S128 .f32) (j : Fin 128) : (shapeCast S1x128 g shapeCasts_S128_S1x128 : FVec Ideal S1x128 .f32) (ix2 0 j) = g (ix1 j) := by
  pointwise

end Cert.Lat
end
-- ==== Proof.Lat.Block.lean ====
module

public import proofs.«01_k».proof.Proof.Gen.Kernel5Ideal.Frame
public import proofs.«01_k».proof.Proof.Inp.Block
public import proofs.«01_k».proof.Proof.Lat.Row
public import Idealize.ShloMosaic.Lib.UnfoldOut

@[expose] public section

set_option maxRecDepth 16384

noncomputable section

/-! What one grid point of the latent attention's preparation computes from its input blocks. -/

namespace Cert.Lat

open Idealize.ShloMosaic Cert.Kernel5Ideal Cert.Kernel5Ideal.Gen

/-- The length of a query's latent row. -/
abbrev len256 : EReal := Ideal.ofBits .f32 0x43800000#32
/-- The length of a key's latent row. -/
abbrev len128 : EReal := Ideal.ofBits .f32 0x43000000#32

/-- A row of a table's block. -/
abbrev lane (T : Vec Ideal S512x128 .f32) (i : Fin 512) : Nat → EReal := Inp.rd fun l => T (ix2 i l)
/-- A row of the staged columns. -/
abbrev row (x : Vec Ideal S1x512x512 .f32) (i : Fin 512) : Nat → EReal := Inp.rd fun l => x (ix3 0 i l)

section
variable (x : Vec Ideal S1x512x512 .f32) (gq : Vec Ideal S1x256 .f32) (gk : Vec Ideal S1x128 .f32)

/-- A query's normalized latent row. -/
abbrev nq (i : Fin 512) : Fin 256 → EReal := rms len256 (fun j => x (ix3 0 i ⟨j.val, by omega⟩)) fun j => gq (ix2 0 j)
/-- A key's normalized latent row. -/
abbrev nk (i : Fin 512) : Fin 128 → EReal := rms len128 (fun j => x (ix3 0 i ⟨256 + j.val, by omega⟩)) fun j => gk (ix2 0 j)

theorem pay3_apply (i : Fin 512) (l : Fin 128) : k0_pay3 x (ix2 i l) = row x i (384 + l.val) := by
  have h : k0_pay3 x (ix2 i l) = x (ix3 0 i ⟨384 + l.val, by omega⟩) := by pointwise [k0_pay3, k0_pay2]
  exact h.trans (Inp.rd_at (fun k => x (ix3 0 i k)) ⟨384 + l.val, by omega⟩ _ rfl)

theorem pay4_apply (i : Fin 512) (j : Fin 256) : k0_pay4 x gq (ix2 i j) = nq x gq i j := by
  unfold nq rms
  pointwise [k0_pay4, k0_pay2]

theorem pay5_apply (i : Fin 512) (j : Fin 128) : k0_pay5 x gk (ix2 i j) = nk x gk i j := by
  unfold nk rms
  pointwise [k0_pay5, k0_pay2]

theorem pay6_apply (w : Vec Ideal S256x512 .bf16) (i : Fin 512) (l : Fin 512) : k0_pay6 x gq w (ix2 i l) = prod (nq x gq i) (fun j k => w (ix2 j k)) l.val := by
  have h := pay4_apply x gq i
  generalize e : k0_pay4 x gq = P at h
  refine Eq.trans ?_ (Inp.rd_eq (fun c => ∑ j, nq x gq i j * w (ix2 j c)) l)
  simp only [← h]
  pointwise [k0_pay6, e]

theorem pay9_apply (w : Vec Ideal S256x512 .bf16) (i : Fin 512) (l : Fin 512) :
    k0_pay9 (k0_pay7 w) (k0_pay8 x gq) (ix2 i l) = prod (nq x gq i) (fun j k => w (ix2 j k)) l.val := by
  have h := pay4_apply x gq i
  generalize e : k0_pay4 x gq = P at h
  refine Eq.trans ?_ (Inp.rd_eq (fun c => ∑ j, nq x gq i j * w (ix2 j c)) l)
  simp only [← h]
  pointwise [k0_pay9, k0_pay7, k0_pay8, e]

theorem pay12_apply (w : Vec Ideal S128x512 .bf16) (i : Fin 512) (l : Fin 512) :
    k0_pay12 (k0_pay5 x gk) w (ix2 i l) = prod (nk x gk i) (fun j k => w (ix2 j k)) l.val := by
  have h := pay5_apply x gk i
  generalize e : k0_pay5 x gk = P at h
  refine Eq.trans ?_ (Inp.rd_eq (fun c => ∑ j, nk x gk i j * w (ix2 j c)) l)
  simp only [← h]
  pointwise [k0_pay12]

theorem pay1_apply (w : Vec Ideal S128x256 .bf16) (i : Fin 512) (l : Fin 256) :
    k0_pay1 (k0_pay5 x gk) w (ix3 0 i l) = prod (nk x gk i) (fun j k => w (ix2 j k)) l.val := by
  have h := pay5_apply x gk i
  generalize e : k0_pay5 x gk = P at h
  refine Eq.trans ?_ (Inp.rd_eq (fun c => ∑ j, nk x gk i j * w (ix2 j c)) l)
  simp only [← h]
  pointwise [k0_pay1]

end

/-! The pieces: one head each. -/

theorem lane_eq (T : Vec Ideal S512x128 .f32) (i : Fin 512) (l : Fin 128) : T (ix2 i l) = lane T i l.val := Inp.rd_eq (fun l => T (ix2 i l)) l

/-- A head's lanes of the queries, from its columns and their partners. -/
theorem putQ_of (A B C S : Nat → EReal) (o l : Nat) (hl : l < 128) (ho : o % 128 = 0) :
    (A (o + l) * C l + B (o + l) * S l) * factor = putQ A B C S (o + l) := by
  unfold putQ
  rw [show (o + l) % 128 = l by omega]

/-- A head's lanes of the keys. -/
theorem putK_of (A R : Nat → EReal) (o l : Nat) (hl : l < 128) (ho : o % 128 = 0) : A (o + l) + R (384 + l) = putK A R (o + l) := by
  unfold putK
  rw [show (o + l) % 128 = l by omega]

section
variable (C S : Vec Ideal S512x128 .f32) (A B : FVec Ideal S512x512 .f32) (a b : Nat → EReal) (i : Fin 512)
  (ha : ∀ l : Fin 512, A (ix2 i l) = a l.val) (hb : ∀ l : Fin 512, B (ix2 i l) = b l.val)
include ha hb

theorem pay18_apply (l : Fin 128) : k0_pay18 A B (k0_pay10 C) (k0_pay11 S) (ix3 0 i l) = putQ a b (lane C i) (lane S i) (256 + l.val) := by
  refine Eq.trans ?_ (putQ_of _ _ _ _ 256 l.val l.isLt rfl)
  rw [← lane_eq, ← lane_eq]
  pointwise [k0_pay18, k0_pay10, k0_pay11]
  rw [ha, hb]

theorem pay20_apply (l : Fin 128) : k0_pay20 A B (k0_pay10 C) (k0_pay11 S) (ix3 0 i l) = putQ a b (lane C i) (lane S i) (384 + l.val) := by
  refine Eq.trans ?_ (putQ_of _ _ _ _ 384 l.val l.isLt rfl)
  rw [← lane_eq, ← lane_eq]
  pointwise [k0_pay20, k0_pay10, k0_pay11]
  rw [ha, hb]

end

section
variable (C S : Vec Ideal S512x128 .f32) (A : FVec Ideal S512x512 .f32) (w : FVec Ideal S256x512 .bf16) (q : FVec Ideal S512x256 .bf16) (a b : Nat → EReal) (i : Fin 512)
  (ha : ∀ l : Fin 512, A (ix2 i l) = a l.val) (hb : ∀ l : Fin 512, k0_pay9 w q (ix2 i l) = b l.val)
include ha hb

theorem pay13_apply (l : Fin 128) : k0_pay13 A w q C S (ix3 0 i l) = putQ a b (lane C i) (lane S i) (0 + l.val) := by
  refine Eq.trans ?_ (putQ_of _ _ _ _ 0 l.val l.isLt rfl)
  rw [← lane_eq, ← lane_eq, Nat.zero_add]
  generalize e : k0_pay9 w q = B at hb
  pointwise [k0_pay13, e, k0_pay10, k0_pay11]
  rw [ha, hb]

theorem pay15_apply (l : Fin 128) : k0_pay15 A w q C S (ix3 0 i l) = putQ a b (lane C i) (lane S i) (128 + l.val) := by
  refine Eq.trans ?_ (putQ_of _ _ _ _ 128 l.val l.isLt rfl)
  rw [← lane_eq, ← lane_eq]
  generalize e : k0_pay9 w q = B at hb
  pointwise [k0_pay15, e, k0_pay10, k0_pay11]
  rw [ha, hb]

end

section
variable (R : FVec Ideal S512x128 .f32) (v : FVec Ideal S512x128 .f32) (w : Vec Ideal S128x512 .bf16) (r a : Nat → EReal) (i : Fin 512)
  (hr : ∀ l : Fin 128, R (ix2 i l) = r (384 + l.val)) (ha : ∀ l : Fin 512, k0_pay12 v w (ix2 i l) = a l.val)
include hr ha

theorem pay14_apply (l : Fin 128) : k0_pay14 R v w (ix3 0 i l) = putK a r (0 + l.val) := by
  refine Eq.trans ?_ (putK_of _ _ 0 l.val l.isLt rfl)
  rw [Nat.zero_add]
  generalize e : k0_pay12 v w = A at ha
  pointwise [k0_pay14, e]
  rw [ha, hr]

theorem pay17_apply (l : Fin 128) : k0_pay17 R (k0_pay16 v w) (ix3 0 i l) = putK a r (128 + l.val) := by
  refine Eq.trans ?_ (putK_of _ _ 128 l.val l.isLt rfl)
  generalize e : k0_pay12 v w = A at ha
  pointwise [k0_pay17, k0_pay16, e]
  rw [ha, hr]

theorem pay19_apply (l : Fin 128) : k0_pay19 R (k0_pay12 v w) (ix3 0 i l) = putK a r (256 + l.val) := by
  refine Eq.trans ?_ (putK_of _ _ 256 l.val l.isLt rfl)
  generalize e : k0_pay12 v w = A at ha ⊢
  pointwise [k0_pay19]
  rw [ha, hr]

theorem pay21_apply (l : Fin 128) : k0_pay21 R (k0_pay12 v w) (ix3 0 i l) = putK a r (384 + l.val) := by
  refine Eq.trans ?_ (putK_of _ _ 384 l.val l.isLt rfl)
  generalize e : k0_pay12 v w = A at ha ⊢
  pointwise [k0_pay21]
  rw [ha, hr]

end

/-! The three blocks that a point writes. -/

section
variable (x0 : Vec Ideal S1x512x512 .f32) (x1 : Vec Ideal S1x256 .f32) (x2 : Vec Ideal S1x128 .f32) (x3 x4 : Vec Ideal S256x512 .bf16)
  (x5 : Vec Ideal S128x512 .bf16) (x6 : Vec Ideal S128x256 .bf16) (x7 x8 : Vec Ideal S512x128 .f32)

/-- The queries' block. -/
theorem outQ_apply (r : Fin 512) (l : Fin 512) : out0_9 x0 x1 x2 x3 x4 x5 x6 x7 x8 (ix3 0 r l)
    = putQ (prod (nq x0 x1 r) fun j k => x3 (ix2 j k)) (prod (nq x0 x1 r) fun j k => x4 (ix2 j k)) (lane x7 r) (lane x8 r) l.val := by
  have hz2 : (![0, 0] : Fin 2 → Nat) = fun _ => 0 := by decide
  have hz3 : (![0, 0, 0] : Fin 3 → Nat) = fun _ => 0 := by decide
  unfold_out out0_9
  refine View.canon_apply_of_pieces (Val := Elt Ideal) (fun y => putQ (prod (nq x0 x1 (y 1)) fun j k => x3 (ix2 j k)) (prod (nq x0 x1 (y 1)) fun j k => x4 (ix2 j k))
    (lane x7 (y 1)) (lane x8 (y 1)) (y 2).val : FVec Ideal S1x512x512 .bf16) _ ?_ (ix3 0 r l) (cover0_9 _ _ _ _ _)
  simp only [View.ld_unit_zero (S := S1x512x512) hz3, View.ld_unit_zero (S := S1x256) hz2, View.ld_unit_zero (S := S256x512) hz2, View.ld_unit_zero (S := S512x128) hz2]
  intro p hp
  rcases List.mem_cons.mp hp with rfl | hp
  · exact Inp.part_of (n := 512) (fun r => putQ (prod (nq x0 x1 r) fun j k => x3 (ix2 j k)) (prod (nq x0 x1 r) fun j k => x4 (ix2 j k)) (lane x7 r) (lane x8 r)) _
      inb_S1x512x512_S1x512x128_0_0_384 fun r l => pay20_apply x7 x8 _ _ _ _ r (pay6_apply x0 x1 x3 r) (pay9_apply x0 x1 x4 r) l
  rcases List.mem_cons.mp hp with rfl | hp
  · exact Inp.part_of (n := 512) (fun r => putQ (prod (nq x0 x1 r) fun j k => x3 (ix2 j k)) (prod (nq x0 x1 r) fun j k => x4 (ix2 j k)) (lane x7 r) (lane x8 r)) _
      inb_S1x512x512_S1x512x128_0_0_256 fun r l => pay18_apply x7 x8 _ _ _ _ r (pay6_apply x0 x1 x3 r) (pay9_apply x0 x1 x4 r) l
  rcases List.mem_cons.mp hp with rfl | hp
  · exact Inp.part_of (n := 512) (fun r => putQ (prod (nq x0 x1 r) fun j k => x3 (ix2 j k)) (prod (nq x0 x1 r) fun j k => x4 (ix2 j k)) (lane x7 r) (lane x8 r)) _
      inb_S1x512x512_S1x512x128_0_0_128 fun r l => pay15_apply x7 x8 _ _ _ _ _ r (pay6_apply x0 x1 x3 r) (pay9_apply x0 x1 x4 r) l
  cases List.mem_singleton.mp hp
  exact Inp.part_of (n := 512) (fun r => putQ (prod (nq x0 x1 r) fun j k => x3 (ix2 j k)) (prod (nq x0 x1 r) fun j k => x4 (ix2 j k)) (lane x7 r) (lane x8 r)) _
    inb_S1x512x512_S1x512x128_0_0_0 fun r l => pay13_apply x7 x8 _ _ _ _ _ r (pay6_apply x0 x1 x3 r) (pay9_apply x0 x1 x4 r) l

/-- The keys' block. -/
theorem outK_apply (r : Fin 512) (l : Fin 512) : out0_10 x0 x1 x2 x3 x4 x5 x6 x7 x8 (ix3 0 r l)
    = putK (prod (nk x0 x2 r) fun j k => x5 (ix2 j k)) (row x0 r) l.val := by
  have hz2 : (![0, 0] : Fin 2 → Nat) = fun _ => 0 := by decide
  have hz3 : (![0, 0, 0] : Fin 3 → Nat) = fun _ => 0 := by decide
  unfold_out out0_10
  refine View.canon_apply_of_pieces (Val := Elt Ideal) (fun y => putK (prod (nk x0 x2 (y 1)) fun j k => x5 (ix2 j k)) (row x0 (y 1)) (y 2).val : FVec Ideal S1x512x512 .bf16) _ ?_ (ix3 0 r l) (cover0_10 _ _ _ _ _)
  simp only [View.ld_unit_zero (S := S1x512x512) hz3, View.ld_unit_zero (S := S1x128) hz2, View.ld_unit_zero (S := S128x512) hz2]
  intro p hp
  rcases List.mem_cons.mp hp with rfl | hp
  · exact Inp.part_of (n := 512) (fun r => putK (prod (nk x0 x2 r) fun j k => x5 (ix2 j k)) (row x0 r)) _
      inb_S1x512x512_S1x512x128_0_0_384 fun r l => pay21_apply _ _ _ _ _ r (pay3_apply x0 r) (pay12_apply x0 x2 x5 r) l
  rcases List.mem_cons.mp hp with rfl | hp
  · exact Inp.part_of (n := 512) (fun r => putK (prod (nk x0 x2 r) fun j k => x5 (ix2 j k)) (row x0 r)) _
      inb_S1x512x512_S1x512x128_0_0_256 fun r l => pay19_apply _ _ _ _ _ r (pay3_apply x0 r) (pay12_apply x0 x2 x5 r) l
  rcases List.mem_cons.mp hp with rfl | hp
  · exact Inp.part_of (n := 512) (fun r => putK (prod (nk x0 x2 r) fun j k => x5 (ix2 j k)) (row x0 r)) _
      inb_S1x512x512_S1x512x128_0_0_128 fun r l => pay17_apply _ _ _ _ _ r (pay3_apply x0 r) (pay12_apply x0 x2 x5 r) l
  cases List.mem_singleton.mp hp
  exact Inp.part_of (n := 512) (fun r => putK (prod (nk x0 x2 r) fun j k => x5 (ix2 j k)) (row x0 r)) _
    inb_S1x512x512_S1x512x128_0_0_0 fun r l => pay14_apply _ _ _ _ _ r (pay3_apply x0 r) (pay12_apply x0 x2 x5 r) l

/-- The values' block. -/
theorem outV_apply (r : Fin 512) (l : Fin 256) : out0_11 x0 x1 x2 x3 x4 x5 x6 x7 x8 (ix3 0 r l)
    = prod (nk x0 x2 r) (fun j k => x6 (ix2 j k)) l.val := by
  have hz2 : (![0, 0] : Fin 2 → Nat) = fun _ => 0 := by decide
  have hz3 : (![0, 0, 0] : Fin 3 → Nat) = fun _ => 0 := by decide
  unfold_out out0_11
  rw [View.canon_unit_zero hz3, View.ld_unit_zero (S := S1x512x512) hz3, View.ld_unit_zero (S := S1x128) hz2, View.ld_unit_zero (S := S128x256) hz2]
  exact pay1_apply x0 x2 x6 r l

end
end Cert.Lat
end
-- ==== Proof.Lat.Lanes.lean ====
module

public import proofs.«01_k».proof.Proof.Lat.Cols

@[expose] public section

noncomputable section

/-! The call's lanes on the laid-out columns are the reference's on the projected ones. -/

namespace Cert.Lat

open Idealize.ShloMosaic

/-- The queries' lanes. -/
theorem putQ_laid (z c s A B C S : Nat → EReal) (l : Nat)
    (hA : A l = if hasA l then z (colA l) else 0) (hB : B l = if hasB l then z (colB l) else 0)
    (hC : C (l % 128) = if l % 128 < 64 then 1 else if l % 128 < 80 then c (l % 128 - 64) else if l % 128 < 96 then c (l % 128 - 80) else 1)
    (hS : S (l % 128) = if l % 128 < 64 then 0 else if l % 128 < 80 then - s (l % 128 - 64) else if l % 128 < 96 then s (l % 128 - 80) else 0) :
    putQ A B C S l = outQ z c s l := by
  unfold putQ outQ
  rw [hA, hB, hC, hS]
  by_cases h0 : l % 128 < 64
  · rw [if_pos (show hasA l by omega), if_neg (show ¬ hasB l by omega), if_pos h0, if_pos h0, if_pos h0, mul_one, mul_zero, add_zero]
    unfold colA
    rw [if_pos (by omega)]
  rw [if_neg h0, if_neg h0, if_neg h0]
  by_cases h1 : l % 128 < 80
  · rw [if_pos (show hasA l by omega), if_pos (show hasB l by omega), if_pos h1, if_pos h1, if_pos h1, mul_neg, sub_eq_add_neg]
    unfold colA colB
    rw [if_pos (by omega), if_neg h0, if_pos h1]
  rw [if_neg h1, if_neg h1, if_neg h1]
  by_cases h2 : l % 128 < 96
  · rw [if_pos (show hasA l by omega), if_pos (show hasB l by omega), if_pos h2, if_pos h2, if_pos h2, add_comm]
    unfold colA colB
    rw [if_neg h0, if_neg h1, if_pos h2, if_pos h2]
  · rw [if_neg (show ¬ hasA l by omega), if_neg (show ¬ hasB l by omega), if_neg h2, if_neg h2, if_neg h2, zero_mul, zero_mul, add_zero, zero_mul]

/-- The keys' lanes. -/
theorem putK_laid (z r A R : Nat → EReal) (l : Nat) (hA : A l = if hasK l then z (colK l) else 0)
    (hR : R (384 + l % 128) = if l % 128 < 64 then 0 else if l % 128 < 96 then r (l % 128 - 64) else 0) : putK A R l = outK z r l := by
  unfold putK outK
  rw [hA, hR]
  by_cases h0 : l % 128 < 64
  · rw [if_pos h0, if_pos h0, if_pos h0, add_zero]
    unfold colK
    rw [if_pos h0]
  · rw [if_neg h0, if_neg h0, if_neg h0, zero_add]

end Cert.Lat
end
-- ==== Proof.Lat.Blocks.lean ====
module

public import proofs.«01_k».proof.Proof.Lat.Host
public import proofs.«01_k».proof.Proof.Lat.Block
public import proofs.«01_k».proof.Proof.Lat.Lanes
public import proofs.«01_k».proof.Proof.Inp.Array

@[expose] public section

set_option maxRecDepth 16384

noncomputable section

/-! The blocks that a grid point of the latent attention's preparation reads. -/

namespace Cert.Lat

open Idealize.ShloMosaic Cert.Kernel5Ideal Cert.Kernel5Ideal.Gen

/-! Which block each window stages at a point. -/

/-- The windows over tokens: the staged columns and the three results. -/
theorem idx_tok : ∀ t : Fin cfg0.N,
    (win0_0.index t (0 : Fin 3) = t.val / 8 ∧ win0_0.index t (1 : Fin 3) = t.val % 8 ∧ win0_0.index t (2 : Fin 3) = 0)
    ∧ (win0_9.index t (0 : Fin 3) = t.val / 8 ∧ win0_9.index t (1 : Fin 3) = t.val % 8 ∧ win0_9.index t (2 : Fin 3) = 0)
    ∧ (win0_10.index t (0 : Fin 3) = t.val / 8 ∧ win0_10.index t (1 : Fin 3) = t.val % 8 ∧ win0_10.index t (2 : Fin 3) = 0)
    ∧ (win0_11.index t (0 : Fin 3) = t.val / 8 ∧ win0_11.index t (1 : Fin 3) = t.val % 8 ∧ win0_11.index t (2 : Fin 3) = 0) :=
  (by decide +kernel : ∀ t : Fin grid0.N, _)

/-- The windows that hold a whole array. -/
theorem idx_whole : ∀ t : Fin cfg0.N,
    (win0_1.index t (0 : Fin 2) = 0 ∧ win0_1.index t (1 : Fin 2) = 0) ∧ (win0_2.index t (0 : Fin 2) = 0 ∧ win0_2.index t (1 : Fin 2) = 0)
    ∧ (win0_3.index t (0 : Fin 2) = 0 ∧ win0_3.index t (1 : Fin 2) = 0) ∧ (win0_4.index t (0 : Fin 2) = 0 ∧ win0_4.index t (1 : Fin 2) = 0)
    ∧ (win0_5.index t (0 : Fin 2) = 0 ∧ win0_5.index t (1 : Fin 2) = 0) ∧ (win0_6.index t (0 : Fin 2) = 0 ∧ win0_6.index t (1 : Fin 2) = 0) :=
  (by decide +kernel : ∀ t : Fin grid0.N, _)

/-- The windows over a table. -/
theorem idx_tab : ∀ t : Fin cfg0.N,
    (win0_7.index t (0 : Fin 2) = t.val % 8 ∧ win0_7.index t (1 : Fin 2) = 0) ∧ (win0_8.index t (0 : Fin 2) = t.val % 8 ∧ win0_8.index t (1 : Fin 2) = 0) :=
  (by decide +kernel : ∀ t : Fin grid0.N, _)

theorem point_lt (t : Fin cfg0.N) : t.val < 128 := lt_of_lt_of_eq t.isLt N_0

/-- The batch entry of a point. -/
abbrev bat (t : Fin cfg0.N) : Fin 16 := ⟨t.val / 8, by have := point_lt t; omega⟩

/-- The token of a point's row. -/
abbrev tok (t : Fin cfg0.N) (i : Fin 512) : Fin 4096 := ⟨t.val % 8 * 512 + i.val, by omega⟩

/-- The index of a place in a point's block of tokens. -/
theorem at_tok {n : Nat} (t : Fin cfg0.N) (i : Fin 512) (l : Fin n) (x : (⟨3, ![16, 4096, n]⟩ : Shape).Idx) (q : Fin 3 → Nat)
    (hq : q 0 = t.val / 8 ∧ q 1 = t.val % 8 ∧ q 2 = 0) (e0 : (x 0).val = q 0 * 1 + 1 * 0) (e1 : (x 1).val = q 1 * 512 + 1 * i.val)
    (e2 : (x 2).val = q 2 * n + 1 * l.val) : x = ix3 (bat t) (tok t i) l := by
  obtain ⟨a0, a1, a2⟩ := hq
  rw [a0] at e0; rw [a1] at e1; rw [a2, Nat.zero_mul] at e2
  funext d
  apply Fin.ext
  match d with
  | ⟨0, _⟩ => exact e0.trans (show t.val / 8 * 1 + 1 * 0 = t.val / 8 by omega)
  | ⟨1, _⟩ => exact e1.trans (show t.val % 8 * 512 + 1 * i.val = t.val % 8 * 512 + i.val by omega)
  | ⟨2, _⟩ => exact e2.trans (show 0 + 1 * l.val = l.val by omega)

/-- A whole array's block. -/
theorem at_whole {h n : Nat} (j : Fin h) (k : Fin n) (x : (⟨2, ![h, n]⟩ : Shape).Idx) (q : Fin 2 → Nat) (hq : q 0 = 0 ∧ q 1 = 0)
    (e0 : (x 0).val = q 0 * h + 1 * j.val) (e1 : (x 1).val = q 1 * n + 1 * k.val) : x = ix2 j k :=
  Inp.at_rows 0 j.val j k x q h hq (by omega) e0 e1

/-- A table's block. -/
theorem at_tab (t : Fin cfg0.N) (i : Fin 512) (l : Fin 128) (x : (⟨2, ![4096, 128]⟩ : Shape).Idx) (q : Fin 2 → Nat) (hq : q 0 = t.val % 8 ∧ q 1 = 0)
    (e0 : (x 0).val = q 0 * 512 + 1 * i.val) (e1 : (x 1).val = q 1 * 128 + 1 * l.val) : x = ix2 (tok t i) l :=
  Inp.at_rows (t.val % 8) i.val (tok t i) l x q 512 hq rfl e0 e1

section
variable (m : (ℓ : Loc nD τ sig) → Buf (Elt Ideal) ℓ) (c : Dev nD) (t : Fin cfg0.N)

theorem blk0 (i : Fin 512) (l : Fin 512) : (iblk m c 0 t : Vec Ideal S1x512x512 .f32) (ix3 0 i l) = staged (CQ m c) (CKV m c) (KR m c) (ix3 (bat t) (tok t i) l) :=
  (congrArg (V m c main_v1) (at_tok t i l _ _ (idx_tok t).1 rfl rfl rfl)).trans (congrFun (V_v1 m c) _)

theorem blk1 (j : Fin 256) : (iblk m c 1 t : Vec Ideal S1x256 .f32) (ix2 0 j) = GQ m c (ix1 j) :=
  (congrArg (V m c main_v127) (at_whole 0 j _ _ (idx_whole t).1 rfl rfl)).trans ((congrFun (V_v127 m c) _).trans (gainQ_apply _ j))

theorem blk2 (j : Fin 128) : (iblk m c 2 t : Vec Ideal S1x128 .f32) (ix2 0 j) = GK m c (ix1 j) :=
  (congrArg (V m c main_v128) (at_whole 0 j _ _ (idx_whole t).2.1 rfl rfl)).trans ((congrFun (V_v128 m c) _).trans (gainK_apply _ j))

theorem blk3 (j : Fin 256) (k : Fin 512) : (iblk m c 3 t : Vec Ideal S256x512 .bf16) (ix2 j k)
    = WQ m c (ix2 j ⟨colA k.val, colA_lt k⟩) * (if hasA k.val then 1 else 0) :=
  (congrArg (V m c main_v6) (at_whole j k _ _ (idx_whole t).2.2.1 rfl rfl)).trans ((congrFun (V_v6 m c) _).trans (laidA_apply _ j k))

theorem blk4 (j : Fin 256) (k : Fin 512) : (iblk m c 4 t : Vec Ideal S256x512 .bf16) (ix2 j k)
    = WQ m c (ix2 j ⟨colB k.val, colB_lt k⟩) * (if hasB k.val then 1 else 0) :=
  (congrArg (V m c main_v11) (at_whole j k _ _ (idx_whole t).2.2.2.1 rfl rfl)).trans ((congrFun (V_v11 m c) _).trans (laidB_apply _ j k))

theorem blk5 (j : Fin 128) (k : Fin 512) : (iblk m c 5 t : Vec Ideal S128x512 .bf16) (ix2 j k)
    = WK m c (ix2 j ⟨colK k.val, colK_lt k⟩) * (if hasK k.val then 1 else 0) :=
  (congrArg (V m c main_v16) (at_whole j k _ _ (idx_whole t).2.2.2.2.1 rfl rfl)).trans ((congrFun (V_v16 m c) _).trans (laidK_apply _ j k))

theorem blk6 (j : Fin 128) (k : Fin 256) : (iblk m c 6 t : Vec Ideal S128x256 .bf16) (ix2 j k)
    = WK m c (ix2 j ⟨colV k.val, colV_lt k⟩) * (if True then 1 else 0) :=
  (congrArg (V m c main_v21) (at_whole j k _ _ (idx_whole t).2.2.2.2.2 rfl rfl)).trans ((congrFun (V_v21 m c) _).trans (laidV_apply _ j k))

theorem blk7 (i : Fin 512) (l : Fin 128) : (iblk m c 7 t : Vec Ideal S512x128 .f32) (ix2 i l)
    = Inp.between Inp.ones (Host.cos Inp.Ref.angD) (Host.cos Inp.Ref.angD) (ix2 (tok t i) l) :=
  (congrArg (V m c main_v121) (at_tab t i l _ _ (idx_tab t).1 rfl rfl)).trans (congrFun (V_v121 m c) _)

theorem blk8 (i : Fin 512) (l : Fin 128) : (iblk m c 8 t : Vec Ideal S512x128 .f32) (ix2 i l)
    = Inp.between Inp.zeros (Host.negf (Host.sin Inp.Ref.angD)) (Host.sin Inp.Ref.angD) (ix2 (tok t i) l) :=
  (congrArg (V m c main_v126) (at_tab t i l _ _ (idx_tab t).2 rfl rfl)).trans (congrFun (V_v126 m c) _)

theorem lane_of {C : Vec Ideal S512x128 .f32} {i : Fin 512} {f : Nat → EReal} (h : ∀ l : Fin 128, C (ix2 i l) = f l.val) (l : Nat) (hl : l < 128) : lane C i l = f l :=
  (Inp.rd_eq (fun k => C (ix2 i k)) ⟨l, hl⟩).symm.trans (h ⟨l, hl⟩)

end
end Cert.Lat
end
-- ==== Proof.Lat.Ref.lean ====
module

public import proofs.«01_k».proof.Proof.Gen.Reference5Ideal.Run
public import proofs.«01_k».proof.Proof.Inp.Ref
public import proofs.«01_k».proof.Proof.Lat.Row

@[expose] public section

set_option maxRecDepth 16384

noncomputable section

/-! The reference of the latent attention's preparation: its arrays, stage by stage. -/

namespace Cert.Lat.Ref

open Idealize.ShloMosaic Cert.Reference5Ideal Cert.Reference5Ideal.Gen

/-- The queries' latent rows, normed. -/
def normQ (x : FVec Ideal S16x4096x256 .f32) (g : FVec Ideal S256 .f32) : FVec Ideal S16x4096x256 .f32 :=
  mulf (mulf x (broadcastInDim S16x4096x256 ![0, 1, 2] bcast_S16x4096x1_S16x4096x256_0_1_2 (Host.rsqrt (addf (Host.divf
    (broadcastInDim S16x4096x1 ![0, 1] bcast_S16x4096_S16x4096x1_0_1 (Host.reduceAdd (mulf x x) (constant S_ .f32 0x00000000#32) reducesTo_S16x4096x256_S16x4096_d2 h_S_))
    (broadcastInDim S16x4096x1 ![] bcast_S_S16x4096x1 (constant S_ .f32 0x43800000#32))) (broadcastInDim S16x4096x1 ![] bcast_S_S16x4096x1 (constant S_ .f32 0x358637BD#32))))))
    (broadcastInDim S16x4096x256 ![0, 1, 2] bcast_S1x1x256_S16x4096x256_0_1_2 (broadcastInDim S1x1x256 ![2] bcast_S256_S1x1x256_2 g))

/-- The keys' latent rows, normed. -/
def normK (x : FVec Ideal S16x4096x128 .f32) (g : FVec Ideal S128 .f32) : FVec Ideal S16x4096x128 .f32 :=
  mulf (mulf x (broadcastInDim S16x4096x128 ![0, 1, 2] bcast_S16x4096x1_S16x4096x128_0_1_2 (Host.rsqrt (addf (Host.divf
    (broadcastInDim S16x4096x1 ![0, 1] bcast_S16x4096_S16x4096x1_0_1 (Host.reduceAdd (mulf x x) (constant S_ .f32 0x00000000#32) reducesTo_S16x4096x128_S16x4096_d2 h_S_))
    (broadcastInDim S16x4096x1 ![] bcast_S_S16x4096x1 (constant S_ .f32 0x43000000#32))) (broadcastInDim S16x4096x1 ![] bcast_S_S16x4096x1 (constant S_ .f32 0x358637BD#32))))))
    (broadcastInDim S16x4096x128 ![0, 1, 2] bcast_S1x1x128_S16x4096x128_0_1_2 (broadcastInDim S1x1x128 ![2] bcast_S128_S1x1x128_2 g))

/-- The projected queries. -/
def projQ (x : FVec Ideal S16x4096x256 .f32) (g : FVec Ideal S256 .f32) (w : FVec Ideal S256x384 .f32) : FVec Ideal S16x4096x384 .f32 :=
  Host.dotGeneral dot_S16x4096x256_S256x384_S16x4096x384_2_0_01_1_n_n none (normQ x g) w

/-- The projected keys and values. -/
def projK (x : FVec Ideal S16x4096x128 .f32) (g : FVec Ideal S128 .f32) (w : FVec Ideal S128x512 .f32) : FVec Ideal S16x4096x512 .f32 :=
  Host.dotGeneral dot_S16x4096x128_S128x512_S16x4096x512_2_0_01_1_n_n none (normK x g) w

/-- The queries' heads. -/
def headsQ (z : FVec Ideal S16x4096x384 .f32) : FVec Ideal S16x4096x4x96 .f32 := shapeCast _ z shapeCasts_S16x4096x384_S16x4096x4x96

/-- The heads of the keys and values. -/
def headsK (z : FVec Ideal S16x4096x512 .f32) : FVec Ideal S16x4096x4x128 .f32 := shapeCast _ z shapeCasts_S16x4096x512_S16x4096x4x128

/-- Four heads of 32, rotated. -/
def turned (u : FVec Ideal S16x4096x4x32 .f32) (c s : FVec Ideal S4096x16 .f32) : FVec Ideal S16x4096x4x32 .f32 :=
  let t := fun a : FVec Ideal S4096x16 .f32 => broadcastInDim S16x4096x4x16 ![0, 1, 2, 3] bcast_S1x4096x1x16_S16x4096x4x16_0_1_2_3
    (broadcastInDim S1x4096x1x16 ![1, 2, 3] bcast_S4096x1x16_S1x4096x1x16_1_2_3 (broadcastInDim S4096x1x16 ![0, 2] bcast_S4096x16_S4096x1x16_0_2 a))
  let x := extractStridedSlice S16x4096x4x16 ![0, 0, 0, 0] u slices_S16x4096x4x32_S16x4096x4x16_0_0_0_0
  let y := extractStridedSlice S16x4096x4x16 ![0, 0, 0, 16] u slices_S16x4096x4x32_S16x4096x4x16_0_0_0_16
  concatenate S16x4096x4x32 3 [⟨S16x4096x4x16, subf (mulf x (t c)) (mulf y (t s))⟩, ⟨S16x4096x4x16, addf (mulf x (t s)) (mulf y (t c))⟩]
    concatenates_S16x4096x4x16_S16x4096x4x16_S16x4096x4x32_d3

/-- The queries' heads with their last third rotated. -/
def wholeQ (u : FVec Ideal S16x4096x4x96 .f32) (c s : FVec Ideal S4096x16 .f32) : FVec Ideal S16x4096x4x96 .f32 :=
  concatenate S16x4096x4x96 3 [⟨S16x4096x4x64, extractStridedSlice S16x4096x4x64 ![0, 0, 0, 0] u slices_S16x4096x4x96_S16x4096x4x64_0_0_0_0⟩,
    ⟨S16x4096x4x32, turned (extractStridedSlice S16x4096x4x32 ![0, 0, 0, 64] u slices_S16x4096x4x96_S16x4096x4x32_0_0_0_64) c s⟩]
    concatenates_S16x4096x4x64_S16x4096x4x32_S16x4096x4x96_d3

/-- The keys' heads: their own columns and the shared ones. -/
def wholeK (v : FVec Ideal S16x4096x4x128 .f32) (r : FVec Ideal S16x4096x32 .f32) : FVec Ideal S16x4096x4x96 .f32 :=
  concatenate S16x4096x4x96 3 [⟨S16x4096x4x64, extractStridedSlice S16x4096x4x64 ![0, 0, 0, 0] v slices_S16x4096x4x128_S16x4096x4x64_0_0_0_0⟩,
    ⟨S16x4096x4x32, broadcastInDim S16x4096x4x32 ![0, 1, 2, 3] bcast_S16x4096x1x32_S16x4096x4x32_0_1_2_3
      (broadcastInDim S16x4096x1x32 ![0, 1, 3] bcast_S16x4096x32_S16x4096x1x32_0_1_3 r)⟩]
    concatenates_S16x4096x4x64_S16x4096x4x32_S16x4096x4x96_d3

/-- Four heads of 96, each followed by 32 zeros. -/
def spread (u : FVec Ideal S16x4096x4x96 .f32) : FVec Ideal S16x4096x512 .bf16 :=
  truncf .bf16 (shapeCast _ (pad S16x4096x4x128 ![0, 0, 0, 0] ![0, 0, 0, 32] ![0, 0, 0, 0] u (sitofp .f32 (constantI S_ 32 0#32))
    pads_S16x4096x4x96_S16x4096x4x128_000_000_000_0320 h_S_) shapeCasts_S16x4096x4x128_S16x4096x512) bitsLt_bf16_f32

/-- The reference's queries. -/
def arrQ (x : FVec Ideal S16x4096x256 .f32) (g : FVec Ideal S256 .f32) (w : FVec Ideal S256x384 .f32) : FVec Ideal S16x4096x512 .bf16 :=
  spread (mulf (wholeQ (headsQ (projQ x g w)) (Host.cos Inp.Ref.angD) (Host.sin Inp.Ref.angD))
    (broadcastInDim S16x4096x4x96 ![] bcast_S_S16x4096x4x96 (constant S_ .f32 0x3E16C740#32)))

/-- The reference's keys. -/
def arrK (x : FVec Ideal S16x4096x128 .f32) (r : FVec Ideal S16x4096x32 .f32) (g : FVec Ideal S128 .f32) (w : FVec Ideal S128x512 .f32) : FVec Ideal S16x4096x512 .bf16 :=
  spread (wholeK (headsK (projK x g w)) r)

/-- The reference's values. -/
def arrV (x : FVec Ideal S16x4096x128 .f32) (g : FVec Ideal S128 .f32) (w : FVec Ideal S128x512 .f32) : FVec Ideal S16x4096x256 .bf16 :=
  truncf .bf16 (shapeCast _ (extractStridedSlice S16x4096x4x64 ![0, 0, 0, 64] (headsK (projK x g w)) slices_S16x4096x4x128_S16x4096x4x64_0_0_0_64)
    shapeCasts_S16x4096x4x64_S16x4096x256) bitsLt_bf16_f32

/-! ## The arrays at a token -/

section
variable (b : Fin 16) (t : Fin 4096)

/-- The norms' lengths. -/
abbrev len256 : EReal := Ideal.ofBits .f32 0x43800000#32
abbrev len128 : EReal := Ideal.ofBits .f32 0x43000000#32

theorem normQ_apply (x : FVec Ideal S16x4096x256 .f32) (g : FVec Ideal S256 .f32) (j : Fin 256) :
    normQ x g (ix3 b t j) = rms len256 (fun j => x (ix3 b t j)) (fun j => g (ix1 j)) j := by
  pointwise [normQ, rms]

theorem normK_apply (x : FVec Ideal S16x4096x128 .f32) (g : FVec Ideal S128 .f32) (j : Fin 128) :
    normK x g (ix3 b t j) = rms len128 (fun j => x (ix3 b t j)) (fun j => g (ix1 j)) j := by
  pointwise [normK, rms]

/-- A token's normed rows. -/
abbrev rowQ (x : FVec Ideal S16x4096x256 .f32) (g : FVec Ideal S256 .f32) : Fin 256 → EReal := rms len256 (fun j => x (ix3 b t j)) fun j => g (ix1 j)
abbrev rowK (x : FVec Ideal S16x4096x128 .f32) (g : FVec Ideal S128 .f32) : Fin 128 → EReal := rms len128 (fun j => x (ix3 b t j)) fun j => g (ix1 j)

theorem projQ_apply (x : FVec Ideal S16x4096x256 .f32) (g : FVec Ideal S256 .f32) (w : FVec Ideal S256x384 .f32) (k : Fin 384) :
    projQ x g w (ix3 b t k) = prod (rowQ b t x g) (fun j k => w (ix2 j k)) k.val := by
  refine Eq.trans ?_ (Inp.rd_eq _ k)
  have h := normQ_apply b t x g
  unfold projQ
  generalize normQ x g = y at h ⊢
  pointwise
  simp only [h]

theorem projK_apply (x : FVec Ideal S16x4096x128 .f32) (g : FVec Ideal S128 .f32) (w : FVec Ideal S128x512 .f32) (k : Fin 512) :
    projK x g w (ix3 b t k) = prod (rowK b t x g) (fun j k => w (ix2 j k)) k.val := by
  refine Eq.trans ?_ (Inp.rd_eq _ k)
  have h := normK_apply b t x g
  unfold projK
  generalize normK x g = y at h ⊢
  pointwise
  simp only [h]

/-- Four heads at a lane. -/
theorem spread_apply (u : FVec Ideal S16x4096x4x96 .f32) (l : Fin 512) :
    spread u (ix3 b t l) = if h : l.val % 128 < 96 then u (ix4 b t ⟨l.val / 128, by omega⟩ ⟨l.val % 128, h⟩) else 0 := by
  pointwise [spread]
  simp only [Inp.Ref.zero_eq]
  by_cases h : l.val % 128 < 96
  · rw [dif_pos ⟨by omega, h⟩, dif_pos h]
  · rw [dif_neg (fun h' => h h'.2), dif_neg h]

theorem turned_apply (u : FVec Ideal S16x4096x4x32 .f32) (c s : FVec Ideal S4096x16 .f32) (h : Fin 4) (l : Fin 32) (z : Nat → EReal) (o : Nat)
    (hu : ∀ k : Fin 32, u (ix4 b t h k) = z (o + k.val)) :
    turned u c s (ix4 b t h l) = Inp.rot z (Inp.Ref.tab c t) (Inp.Ref.tab s t) (o + l.val % 16) 16 (l.val % 16) (l.val < 16) := by
  have hc : ∀ q, c (ix2 t q) = Inp.Ref.tab c t q.val := fun q => Inp.rd_eq (fun k => c (ix2 t k)) q
  have hs : ∀ q, s (ix2 t q) = Inp.Ref.tab s t q.val := fun q => Inp.rd_eq (fun k => s (ix2 t k)) q
  refine Eq.trans ?_ (Inp.Ref.rot_dite z (Inp.Ref.tab c t) (Inp.Ref.tab s t) o 16 l.val l.isLt)
  pointwise [turned]
  simp only [hu, hc, hs, dite_eq_ite]

theorem arrV_apply (x : FVec Ideal S16x4096x128 .f32) (g : FVec Ideal S128 .f32) (w : FVec Ideal S128x512 .f32) (l : Fin 256) :
    arrV x g w (ix3 b t l) = outV (prod (rowK b t x g) fun j k => w (ix2 j k)) l.val := by
  have h := projK_apply b t x g w
  unfold arrV
  generalize projK x g w = y at h ⊢
  pointwise [headsK]
  rw [h]
  unfold outV
  congr 1
  simp only
  omega

theorem wholeK_apply (v : FVec Ideal S16x4096x4x128 .f32) (r : FVec Ideal S16x4096x32 .f32) (h : Fin 4) (l : Fin 96) :
    wholeK v r (ix4 b t h l) = if l.val < 64 then v (ix4 b t h ⟨l.val, by omega⟩) else Inp.rd (fun k => r (ix3 b t k)) (l.val - 64) := by
  have hr : ∀ k, r (ix3 b t k) = Inp.rd (fun k => r (ix3 b t k)) k.val := fun k => Inp.rd_eq (fun k => r (ix3 b t k)) k
  generalize Inp.rd (fun k => r (ix3 b t k)) = R at hr ⊢
  pointwise [wholeK]
  simp only [hr]
  split_ifs <;> rfl

theorem headsK_apply (z : FVec Ideal S16x4096x512 .f32) (h : Fin 4) (l : Fin 128) :
    headsK z (ix4 b t h l) = Inp.rd (fun k => z (ix3 b t k)) (h.val * 128 + l.val) := by
  refine Eq.trans ?_ (Inp.rd_at (fun k => z (ix3 b t k)) ⟨h.val * 128 + l.val, by omega⟩ _ rfl)
  pointwise [headsK]

theorem headsQ_apply (z : FVec Ideal S16x4096x384 .f32) (h : Fin 4) (l : Fin 96) :
    headsQ z (ix4 b t h l) = Inp.rd (fun k => z (ix3 b t k)) (h.val * 96 + l.val) := by
  refine Eq.trans ?_ (Inp.rd_at (fun k => z (ix3 b t k)) ⟨h.val * 96 + l.val, by omega⟩ _ rfl)
  pointwise [headsQ]

theorem wholeQ_apply (u : FVec Ideal S16x4096x4x96 .f32) (c s : FVec Ideal S4096x16 .f32) (h : Fin 4) (l : Fin 96) (z : Nat → EReal) (o : Nat)
    (hu : ∀ k : Fin 96, u (ix4 b t h k) = z (o + k.val)) :
    wholeQ u c s (ix4 b t h l) = if l.val < 64 then z (o + l.val)
      else Inp.rot z (Inp.Ref.tab c t) (Inp.Ref.tab s t) (o + 64 + (l.val - 64) % 16) 16 ((l.val - 64) % 16) (l.val - 64 < 16) := by
  have ht := fun k : Fin 32 => turned_apply b t (extractStridedSlice S16x4096x4x32 ![0, 0, 0, 64] u slices_S16x4096x4x96_S16x4096x4x32_0_0_0_64) c s h k z (o + 64) fun k => by
    pointwise
    rw [hu]
    congr 1
    simp only
    omega
  unfold wholeQ
  generalize turned (extractStridedSlice S16x4096x4x32 ![0, 0, 0, 64] u slices_S16x4096x4x96_S16x4096x4x32_0_0_0_64) c s = T at ht ⊢
  pointwise
  simp only [hu, ht]
  split_ifs <;> rfl

/-- A place of the reference's keys, in its head. -/
theorem outK_head (z r : Nat → EReal) (l : Nat) :
    (if l % 128 < 96 then if l % 128 < 64 then z (l / 128 * 128 + l % 128) else r (l % 128 - 64) else 0) = outK z r l := by
  unfold outK
  rw [show l / 128 * 128 + l % 128 = l by omega]
  split_ifs <;> first | rfl | omega

/-- A place of the reference's queries, in its head. -/
theorem outQ_head (z c s : Nat → EReal) (l : Nat) :
    (if l % 128 < 96 then (if l % 128 < 64 then z (l / 128 * 96 + l % 128)
      else Inp.rot z c s (l / 128 * 96 + 64 + (l % 128 - 64) % 16) 16 ((l % 128 - 64) % 16) (l % 128 - 64 < 16)) * factor else 0) = outQ z c s l := by
  unfold outQ Inp.rot
  by_cases h0 : l % 128 < 64
  · rw [if_pos (by omega), if_pos h0, if_pos h0]
  rw [if_neg h0, if_neg h0]
  by_cases h1 : l % 128 < 80
  · rw [if_pos (by omega), if_pos (by omega), if_pos h1, show (l % 128 - 64) % 16 = l % 128 - 64 by omega,
      show l / 128 * 96 + 64 + (l % 128 - 64) = l / 128 * 96 + l % 128 by omega]
  rw [if_neg h1]
  by_cases h2 : l % 128 < 96
  · rw [if_pos h2, if_neg (by omega), if_pos h2, show (l % 128 - 64) % 16 = l % 128 - 80 by omega,
      show l / 128 * 96 + 64 + (l % 128 - 80) = l / 128 * 96 + l % 128 - 16 by omega, show l / 128 * 96 + l % 128 - 16 + 16 = l / 128 * 96 + l % 128 by omega]
  · rw [if_neg h2, if_neg h2]

theorem arrK_apply (x : FVec Ideal S16x4096x128 .f32) (r : FVec Ideal S16x4096x32 .f32) (g : FVec Ideal S128 .f32) (w : FVec Ideal S128x512 .f32) (l : Fin 512) :
    arrK x r g w (ix3 b t l) = outK (prod (rowK b t x g) fun j k => w (ix2 j k)) (Inp.rd fun k => r (ix3 b t k)) l.val := by
  have e : (fun k => projK x g w (ix3 b t k)) = fun k => ∑ j, rowK b t x g j * w (ix2 j k) := funext fun k => (projK_apply b t x g w k).trans (Inp.rd_eq _ k).symm
  unfold arrK
  rw [spread_apply]
  simp only [wholeK_apply, headsK_apply, e, dite_eq_ite]
  exact outK_head _ _ _

theorem arrQ_apply (x : FVec Ideal S16x4096x256 .f32) (g : FVec Ideal S256 .f32) (w : FVec Ideal S256x384 .f32) (l : Fin 512) :
    arrQ x g w (ix3 b t l) = outQ (prod (rowQ b t x g) fun j k => w (ix2 j k)) (Inp.Ref.tab (Host.cos Inp.Ref.angD) t) (Inp.Ref.tab (Host.sin Inp.Ref.angD) t) l.val := by
  have e : (fun k => projQ x g w (ix3 b t k)) = fun k => ∑ j, rowQ b t x g j * w (ix2 j k) := funext fun k => (projQ_apply b t x g w k).trans (Inp.rd_eq _ k).symm
  have h := fun (h : Fin 4) (l : Fin 96) => wholeQ_apply b t (headsQ (projQ x g w)) (Host.cos Inp.Ref.angD) (Host.sin Inp.Ref.angD) h l
    (Inp.rd fun k => projQ x g w (ix3 b t k)) (h.val * 96) (headsQ_apply b t _ h)
  rw [e] at h
  unfold arrQ
  generalize wholeQ (headsQ (projQ x g w)) (Host.cos Inp.Ref.angD) (Host.sin Inp.Ref.angD) = T at h ⊢
  rw [spread_apply]
  have hm : ∀ h l, mulf T (broadcastInDim S16x4096x4x96 ![] bcast_S_S16x4096x4x96 (constant S_ .f32 0x3E16C740#32)) (ix4 b t h l) = T (ix4 b t h l) * factor := by
    intro h l
    pointwise
  simp only [hm, h, dite_eq_ite]
  exact outQ_head _ _ _ _

end
end Cert.Lat.Ref
end
-- ==== Proof.Lat.Run.lean ====
module

public import proofs.«01_k».proof.Proof.Gen.Kernel5Ideal.Frame
public import proofs.«01_k».proof.Proof.Inp.Row
public import Idealize.ShloMosaic.Lib.Pipeline.Value

@[expose] public section

noncomputable section

/-! The run of the latent attention's preparation: its three arrays after it, and what a grid point writes to each. -/

namespace Cert.Lat

open Idealize.ShloMosaic Idealize.ShloMosaic.TcCoe Idealize.SL.Sem
open Cert.Kernel5Ideal Cert.Kernel5Ideal.Gen

variable (m : (ℓ : Loc nD τ sig) → Buf (Elt Ideal) ℓ) (ρ : Dev nD → PrngReg)

/-- A point writes the queries' block that the body leaves. -/
theorem flushedQ (c : Dev nD) (t : Fin cfg0.N) : (dats m 0 c).flushed 9 t
    = (cfg0.win 9).cut (grid0.coords t) (out0_9 (iblk m c 0 t) (iblk m c 1 t) (iblk m c 2 t) (iblk m c 3 t) (iblk m c 4 t) (iblk m c 5 t) (iblk m c 6 t) (iblk m c 7 t) (iblk m c 8 t)) :=
  congrArg ((cfg0.win 9).cut (grid0.coords t)) (after0_9 m c t)

/-- A point writes the keys' block that the body leaves. -/
theorem flushedK (c : Dev nD) (t : Fin cfg0.N) : (dats m 0 c).flushed 10 t
    = (cfg0.win 10).cut (grid0.coords t) (out0_10 (iblk m c 0 t) (iblk m c 1 t) (iblk m c 2 t) (iblk m c 3 t) (iblk m c 4 t) (iblk m c 5 t) (iblk m c 6 t) (iblk m c 7 t) (iblk m c 8 t)) :=
  congrArg ((cfg0.win 10).cut (grid0.coords t)) (after0_10 m c t)

/-- A point writes the values' block that the body leaves. -/
theorem flushedV (c : Dev nD) (t : Fin cfg0.N) : (dats m 0 c).flushed 11 t
    = (cfg0.win 11).cut (grid0.coords t) (out0_11 (iblk m c 0 t) (iblk m c 1 t) (iblk m c 2 t) (iblk m c 3 t) (iblk m c 4 t) (iblk m c 5 t) (iblk m c 6 t) (iblk m c 7 t) (iblk m c 8 t)) :=
  congrArg ((cfg0.win 11).cut (grid0.coords t)) (after0_11 m c t)

/-- An argument that no window stages is as launched. -/
theorem kept {r : PUnit × MemSt nD τ sig (Elt Ideal)} (h : Pipeline.FramePost cfgs (dats m) 0 (V m) r) (c : Dev nD) (b : Ref sig .tc)
    (hs : b.isScoped = false) (hn : ∀ w, (spec0 w).arr.view.ref ≠ b) (hv : V m c b = m ((c : Thread nD τ).loc b)) :
    r.2.mem ((c : Thread nD τ).loc b) = m ((c : Thread nD τ).loc b) :=
  ((h c).2 b (Pipeline.mem_restRefs_of b hs hn)).trans hv

end Cert.Lat
end
-- ==== Proof.Lat.Array.lean ====
module

public import proofs.«01_k».proof.Proof.Lat.Blocks
public import proofs.«01_k».proof.Proof.Lat.Ref
public import proofs.«01_k».proof.Proof.Lat.Run

@[expose] public section

set_option maxRecDepth 16384

noncomputable section

/-! The three arrays of the latent attention's preparation. -/

namespace Cert.Lat

open Idealize.ShloMosaic Idealize.ShloMosaic.TcCoe Idealize.SL.Sem Cert.Kernel5Ideal Cert.Kernel5Ideal.Gen

/-- The array's index of a place in a result's block. -/
theorem emb_tok {n : Nat} (t : Fin cfg0.N) (j : (⟨3, ![1, 512, n]⟩ : Shape).Idx) (x : (⟨3, ![16, 4096, n]⟩ : Shape).Idx) (q : Fin 3 → Nat)
    (hq : q 0 = t.val / 8 ∧ q 1 = t.val % 8 ∧ q 2 = 0) (e0 : (x 0).val = q 0 * 1 + 1 * (j 0).val) (e1 : (x 1).val = q 1 * 512 + 1 * (j 1).val)
    (e2 : (x 2).val = q 2 * n + 1 * (j 2).val) : x = ix3 (n0 := 16) (n1 := 4096) (n2 := n) (bat t) (tok t (j 1)) (j 2) := by
  have h : (j 0).val < 1 := (j 0).isLt
  exact at_tok (n := n) t (j 1) (j 2) x q hq (e0.trans (by rw [show (j 0).val = 0 by omega])) e1 e2

/-- The point whose blocks hold a token. -/
theorem point_of (b k : Nat) (hb : b < 16) (hk : k < 4096) : ∃ t : Fin cfg0.N, t.val = b * 8 + k / 512 :=
  ⟨⟨b * 8 + k / 512, lt_of_lt_of_eq (by omega : _ < 128) N_0.symm⟩, rfl⟩

/-- A token is in its point's block. -/
theorem in_block {n : Nat} (t : Fin cfg0.N) (i : (⟨3, ![16, 4096, n]⟩ : Shape).Idx) (q : Fin 3 → Nat) (ht : t.val = (i 0).val * 8 + (i 1).val / 512)
    (hq : q 0 = t.val / 8 ∧ q 1 = t.val % 8 ∧ q 2 = 0) (a : Fin 3) :
    q a * (![1, 512, n] : Fin 3 → Nat) a ≤ (i a).val ∧ (i a).val < q a * (![1, 512, n] : Fin 3 → Nat) a + (![1, 512, n] : Fin 3 → Nat) a := by
  obtain ⟨a0, a1, a2⟩ := hq
  have h1 : (i 1).val < 4096 := (i 1).isLt
  have h2 : (i 2).val < n := (i 2).isLt
  match a with
  | ⟨0, _⟩ => show q 0 * 1 ≤ (i 0).val ∧ (i 0).val < q 0 * 1 + 1; omega
  | ⟨1, _⟩ => show q 1 * 512 ≤ (i 1).val ∧ (i 1).val < q 1 * 512 + 512; omega
  | ⟨2, _⟩ => show q 2 * n ≤ (i 2).val ∧ (i 2).val < q 2 * n + n; rw [a2, Nat.zero_mul]; omega

section
variable (m : (ℓ : Loc nD τ sig) → Buf (Elt Ideal) ℓ) (c : Dev nD)

/-- The normed row of the keys, of a point's token. -/
theorem row_keys (t : Fin cfg0.N) (i : Fin 512) : nk (iblk m c 0 t) (iblk m c 2 t) i = Ref.rowK (bat t) (tok t i) (CKV m c) (GK m c) :=
  congrArg₂ (rms len128) (funext fun j => (blk0 m c t i _).trans (stagedK _ _ _ _ _ j)) (funext fun j => blk2 m c t j)

/-- The shared key's columns, of a point's token. -/
theorem row_shared (t : Fin cfg0.N) (i : Fin 512) (l : Fin 128) : row (iblk m c 0 t) i (384 + l.val)
    = if l.val < 64 then 0 else if l.val < 96 then Inp.rd (fun k => KR m c (ix3 (bat t) (tok t i) k)) (l.val - 64) else 0 :=
  (Inp.rd_at (fun k => (iblk m c 0 t : Vec Ideal S1x512x512 .f32) (ix3 0 i k)) ⟨384 + l.val, by omega⟩ _ rfl).symm.trans
    ((blk0 m c t i _).trans (stagedR _ _ _ _ _ l))

/-! ## The queries -/

/-- The block that a point writes. -/
abbrev blkQ (t : Fin cfg0.N) : Vec Ideal S1x512x512 .bf16 :=
  out0_9 (F := Ideal) (iblk m c 0 t) (iblk m c 1 t) (iblk m c 2 t) (iblk m c 3 t) (iblk m c 4 t) (iblk m c 5 t) (iblk m c 6 t) (iblk m c 7 t) (iblk m c 8 t)

/-- The reference's queries of the same arguments. -/
abbrev arrQ : FVec Ideal S16x4096x512 .bf16 := Ref.arrQ (CQ m c) (GQ m c) (WQ m c)

/-- A block's place is the reference's array at the token. -/
theorem cellQ (t : Fin cfg0.N) (i : Fin 512) (l : Fin 512) : blkQ m c t (ix3 0 i l) = arrQ m c (ix3 (bat t) (tok t i) l) := by
  rw [blkQ, outQ_apply, arrQ, Ref.arrQ_apply]
  have e : nq (iblk m c 0 t) (iblk m c 1 t) i = Ref.rowQ (bat t) (tok t i) (CQ m c) (GQ m c) :=
    congrArg₂ (rms len256) (funext fun j => (blk0 m c t i _).trans (stagedQ _ _ _ _ _ j)) (funext fun j => blk1 m c t j)
  rw [e]
  exact putQ_laid _ _ _ _ _ _ _ l.val (prod_laid _ (fun j k => WQ m c (ix2 j k)) _ colA hasA colA_lt (blk3 m c t) l.val l.isLt)
    (prod_laid _ (fun j k => WQ m c (ix2 j k)) _ colB hasB colB_lt (blk4 m c t) l.val l.isLt)
    (lane_of (f := fun l => if l < 64 then 1 else if l < 80 then Inp.Ref.tab (Host.cos Inp.Ref.angD) (tok t i) (l - 64)
      else if l < 96 then Inp.Ref.tab (Host.cos Inp.Ref.angD) (tok t i) (l - 80) else 1) (fun l => (blk7 m c t i l).trans (Inp.cosD_at _ l)) _ (Nat.mod_lt _ (by decide)))
    (lane_of (f := fun l => if l < 64 then 0 else if l < 80 then - Inp.Ref.tab (Host.sin Inp.Ref.angD) (tok t i) (l - 64)
      else if l < 96 then Inp.Ref.tab (Host.sin Inp.Ref.angD) (tok t i) (l - 80) else 0) (fun l => (blk8 m c t i l).trans (Inp.sinD_at _ l)) _ (Nat.mod_lt _ (by decide)))

/-- A block that agrees with an array at every place is the array's. -/
theorem cutQ (t : Fin cfg0.N) (B : Vec Ideal S1x512x512 .bf16) (A : FVec Ideal S16x4096x512 .bf16)
    (h : ∀ (i : Fin 512) (l : Fin 512), B (ix3 0 i l) = A (ix3 (bat t) (tok t i) l)) :
    (cfg0.win 9).cut (grid0.coords t) B = ((cfg0.win 9).blk t).view.read (Elt Ideal) A := by
  funext j
  rw [View.read_apply, emb_tok (n := 512) t j (((cfg0.win 9).blk t).view.emb j) _ (idx_tok t).2.1 rfl rfl rfl]
  exact (congrArg B (Inp.at_first j)).trans (h (j 1) (j 2))

/-- What a point writes back is its block of the reference's array. -/
theorem backQ (t : Fin cfg0.N) : (dats m 0 c).flushed 9 t = ((cfg0.win 9).blk t).view.read (Elt Ideal) (arrQ m c) :=
  (flushedQ m c t).trans (cutQ t _ _ (cellQ m c t))

/-- The array after the run. -/
theorem finalQ : (dats m 0 c).arrAt 9 cfg0.N = arrQ m c := by
  refine (dats m 0 c).arrAt_eq_of_cover 9 _ (fun t _ => backQ m c t) fun i => ?_
  obtain ⟨t, ht⟩ := point_of (i 0).val (i 1).val (i 0).isLt (i 1).isLt
  refine ⟨t, flush0_9 t, ?_⟩
  show i ∈ ((View.whole main_v129_0).slice (win0_9.rect t)).set
  rw [View.set_slice_whole, Rect.mem_set_unit]
  exact in_block (n := 512) t i (win0_9.index t) ht (idx_tok t).2.1

/-! ## The keys -/

/-- The block that a point writes. -/
abbrev blkK (t : Fin cfg0.N) : Vec Ideal S1x512x512 .bf16 :=
  out0_10 (F := Ideal) (iblk m c 0 t) (iblk m c 1 t) (iblk m c 2 t) (iblk m c 3 t) (iblk m c 4 t) (iblk m c 5 t) (iblk m c 6 t) (iblk m c 7 t) (iblk m c 8 t)

/-- The reference's keys of the same arguments. -/
abbrev arrK : FVec Ideal S16x4096x512 .bf16 := Ref.arrK (CKV m c) (KR m c) (GK m c) (WK m c)

/-- A block's place is the reference's array at the token. -/
theorem cellK (t : Fin cfg0.N) (i : Fin 512) (l : Fin 512) : blkK m c t (ix3 0 i l) = arrK m c (ix3 (bat t) (tok t i) l) := by
  rw [blkK, outK_apply, arrK, Ref.arrK_apply, row_keys]
  exact putK_laid _ _ _ _ l.val (prod_laid _ (fun j k => WK m c (ix2 j k)) _ colK hasK colK_lt (blk5 m c t) l.val l.isLt)
    (row_shared m c t i ⟨l.val % 128, Nat.mod_lt _ (by decide)⟩)

/-- A block that agrees with an array at every place is the array's. -/
theorem cutK (t : Fin cfg0.N) (B : Vec Ideal S1x512x512 .bf16) (A : FVec Ideal S16x4096x512 .bf16)
    (h : ∀ (i : Fin 512) (l : Fin 512), B (ix3 0 i l) = A (ix3 (bat t) (tok t i) l)) :
    (cfg0.win 10).cut (grid0.coords t) B = ((cfg0.win 10).blk t).view.read (Elt Ideal) A := by
  funext j
  rw [View.read_apply, emb_tok (n := 512) t j (((cfg0.win 10).blk t).view.emb j) _ (idx_tok t).2.2.1 rfl rfl rfl]
  exact (congrArg B (Inp.at_first j)).trans (h (j 1) (j 2))

/-- What a point writes back is its block of the reference's array. -/
theorem backK (t : Fin cfg0.N) : (dats m 0 c).flushed 10 t = ((cfg0.win 10).blk t).view.read (Elt Ideal) (arrK m c) :=
  (flushedK m c t).trans (cutK t _ _ (cellK m c t))

/-- The array after the run. -/
theorem finalK : (dats m 0 c).arrAt 10 cfg0.N = arrK m c := by
  refine (dats m 0 c).arrAt_eq_of_cover 10 _ (fun t _ => backK m c t) fun i => ?_
  obtain ⟨t, ht⟩ := point_of (i 0).val (i 1).val (i 0).isLt (i 1).isLt
  refine ⟨t, flush0_10 t, ?_⟩
  show i ∈ ((View.whole main_v129_1).slice (win0_10.rect t)).set
  rw [View.set_slice_whole, Rect.mem_set_unit]
  exact in_block (n := 512) t i (win0_10.index t) ht (idx_tok t).2.2.1

/-! ## The values -/

/-- The block that a point writes. -/
abbrev blkV (t : Fin cfg0.N) : Vec Ideal S1x512x256 .bf16 :=
  out0_11 (F := Ideal) (iblk m c 0 t) (iblk m c 1 t) (iblk m c 2 t) (iblk m c 3 t) (iblk m c 4 t) (iblk m c 5 t) (iblk m c 6 t) (iblk m c 7 t) (iblk m c 8 t)

/-- The reference's values of the same arguments. -/
abbrev arrV : FVec Ideal S16x4096x256 .bf16 := Ref.arrV (CKV m c) (GK m c) (WK m c)

/-- A block's place is the reference's array at the token. -/
theorem cellV (t : Fin cfg0.N) (i : Fin 512) (l : Fin 256) : blkV m c t (ix3 0 i l) = arrV m c (ix3 (bat t) (tok t i) l) := by
  rw [blkV, outV_apply, arrV, Ref.arrV_apply, row_keys]
  exact (prod_laid _ (fun j k => WK m c (ix2 j k)) _ colV (fun _ => True) colV_lt (blk6 m c t) l.val l.isLt).trans (if_pos trivial)

/-- A block that agrees with an array at every place is the array's. -/
theorem cutV (t : Fin cfg0.N) (B : Vec Ideal S1x512x256 .bf16) (A : FVec Ideal S16x4096x256 .bf16)
    (h : ∀ (i : Fin 512) (l : Fin 256), B (ix3 0 i l) = A (ix3 (bat t) (tok t i) l)) :
    (cfg0.win 11).cut (grid0.coords t) B = ((cfg0.win 11).blk t).view.read (Elt Ideal) A := by
  funext j
  rw [View.read_apply, emb_tok (n := 256) t j (((cfg0.win 11).blk t).view.emb j) _ (idx_tok t).2.2.2 rfl rfl rfl]
  exact (congrArg B (Inp.at_first j)).trans (h (j 1) (j 2))

/-- What a point writes back is its block of the reference's array. -/
theorem backV (t : Fin cfg0.N) : (dats m 0 c).flushed 11 t = ((cfg0.win 11).blk t).view.read (Elt Ideal) (arrV m c) :=
  (flushedV m c t).trans (cutV t _ _ (cellV m c t))

/-- The array after the run. -/
theorem finalV : (dats m 0 c).arrAt 11 cfg0.N = arrV m c := by
  refine (dats m 0 c).arrAt_eq_of_cover 11 _ (fun t _ => backV m c t) fun i => ?_
  obtain ⟨t, ht⟩ := point_of (i 0).val (i 1).val (i 0).isLt (i 1).isLt
  refine ⟨t, flush0_11 t, ?_⟩
  show i ∈ ((View.whole main_v129_2).slice (win0_11.rect t)).set
  rw [View.set_slice_whole, Rect.mem_set_unit]
  exact in_block (n := 256) t i (win0_11.index t) ht (idx_tok t).2.2.2

end
end Cert.Lat
end
-- ==== Proof.Lat.Claims.lean ====
module

public import proofs.«01_k».proof.Defs
public import proofs.«01_k».proof.Proof.Lat.Array
public import Idealize.ShloMosaic.Adequacy
public import Idealize.ShloMosaic.Init

@[expose] public section

set_option maxRecDepth 16384

noncomputable section

/-! The claims of the latent attention's preparation over the extended reals. -/

namespace Cert.Lat

open Idealize.ShloMosaic Idealize.ShloMosaic.TcCoe Idealize.SL.Sem

section
variable (m' : (ℓ : Loc Reference5Ideal.nD Reference5Ideal.τ Reference5Ideal.sig) → Buf (Elt Ideal) ℓ) (g' : Dev Reference5Ideal.nD → PrngReg)

/-- The reference's queries of its own arguments. -/
abbrev refQ (c : Dev Reference5Ideal.nD) : FVec Ideal Reference5Ideal.S16x4096x512 .bf16 :=
  Ref.arrQ (m' ((c.tc : Thread Reference5Ideal.nD Reference5Ideal.τ).loc Reference5Ideal.main_arg0))
    (m' ((c.tc : Thread Reference5Ideal.nD Reference5Ideal.τ).loc Reference5Ideal.main_arg3))
    (m' ((c.tc : Thread Reference5Ideal.nD Reference5Ideal.τ).loc Reference5Ideal.main_arg4))

/-- The reference's keys of its own arguments. -/
abbrev refK (c : Dev Reference5Ideal.nD) : FVec Ideal Reference5Ideal.S16x4096x512 .bf16 :=
  Ref.arrK (m' ((c.tc : Thread Reference5Ideal.nD Reference5Ideal.τ).loc Reference5Ideal.main_arg1))
    (m' ((c.tc : Thread Reference5Ideal.nD Reference5Ideal.τ).loc Reference5Ideal.main_arg2))
    (m' ((c.tc : Thread Reference5Ideal.nD Reference5Ideal.τ).loc Reference5Ideal.main_arg5))
    (m' ((c.tc : Thread Reference5Ideal.nD Reference5Ideal.τ).loc Reference5Ideal.main_arg6))

/-- The reference's values of its own arguments. -/
abbrev refV (c : Dev Reference5Ideal.nD) : FVec Ideal Reference5Ideal.S16x4096x256 .bf16 :=
  Ref.arrV (m' ((c.tc : Thread Reference5Ideal.nD Reference5Ideal.τ).loc Reference5Ideal.main_arg1))
    (m' ((c.tc : Thread Reference5Ideal.nD Reference5Ideal.τ).loc Reference5Ideal.main_arg5))
    (m' ((c.tc : Thread Reference5Ideal.nD Reference5Ideal.τ).loc Reference5Ideal.main_arg6))

set_option maxHeartbeats 8000000 in
/-- The reference runs and ends with its three arrays. -/
theorem ref_run : θ_run (Cert.Reference5Ideal.defs (F := Ideal)) (onTc (τ := Reference5Ideal.τ) (Cert.Reference5Ideal.main (F := Ideal))) ⟨m', fun _ => 0, g'⟩
    (fun r => ∀ c : Dev Reference5Ideal.nD,
      r.2.mem ((c.tc : Thread Reference5Ideal.nD Reference5Ideal.τ).loc Reference5Ideal.main_v91) = refQ m' c
      ∧ r.2.mem ((c.tc : Thread Reference5Ideal.nD Reference5Ideal.τ).loc Reference5Ideal.main_v94) = refK m' c
      ∧ r.2.mem ((c.tc : Thread Reference5Ideal.nD Reference5Ideal.τ).loc Reference5Ideal.main_v97) = refV m' c
      ∧ r.2.mem ((c.tc : Thread Reference5Ideal.nD Reference5Ideal.τ).loc Reference5Ideal.main_arg0) = m' ((c.tc : Thread Reference5Ideal.nD Reference5Ideal.τ).loc Reference5Ideal.main_arg0)
      ∧ r.2.mem ((c.tc : Thread Reference5Ideal.nD Reference5Ideal.τ).loc Reference5Ideal.main_arg1) = m' ((c.tc : Thread Reference5Ideal.nD Reference5Ideal.τ).loc Reference5Ideal.main_arg1)
      ∧ r.2.mem ((c.tc : Thread Reference5Ideal.nD Reference5Ideal.τ).loc Reference5Ideal.main_arg2) = m' ((c.tc : Thread Reference5Ideal.nD Reference5Ideal.τ).loc Reference5Ideal.main_arg2)
      ∧ r.2.mem ((c.tc : Thread Reference5Ideal.nD Reference5Ideal.τ).loc Reference5Ideal.main_arg3) = m' ((c.tc : Thread Reference5Ideal.nD Reference5Ideal.τ).loc Reference5Ideal.main_arg3)
      ∧ r.2.mem ((c.tc : Thread Reference5Ideal.nD Reference5Ideal.τ).loc Reference5Ideal.main_arg4) = m' ((c.tc : Thread Reference5Ideal.nD Reference5Ideal.τ).loc Reference5Ideal.main_arg4)
      ∧ r.2.mem ((c.tc : Thread Reference5Ideal.nD Reference5Ideal.τ).loc Reference5Ideal.main_arg5) = m' ((c.tc : Thread Reference5Ideal.nD Reference5Ideal.τ).loc Reference5Ideal.main_arg5)
      ∧ r.2.mem ((c.tc : Thread Reference5Ideal.nD Reference5Ideal.τ).loc Reference5Ideal.main_arg6) = m' ((c.tc : Thread Reference5Ideal.nD Reference5Ideal.τ).loc Reference5Ideal.main_arg6)) :=
  Cert.Reference5Ideal.Value.run (F := Ideal) m' g'

/-- The reference runs, keeps its arguments and leaves every counter at zero. -/
theorem ref_frame : θ_run (Cert.Reference5Ideal.defs (F := Ideal)) (onTc (τ := Reference5Ideal.τ) (Cert.Reference5Ideal.main (F := Ideal))) ⟨m', fun _ => 0, g'⟩
    (fun r => (∀ c : Dev Reference5Ideal.nD,
      r.2.mem ((c.tc : Thread Reference5Ideal.nD Reference5Ideal.τ).loc Reference5Ideal.main_arg0) = m' ((c.tc : Thread Reference5Ideal.nD Reference5Ideal.τ).loc Reference5Ideal.main_arg0)
      ∧ r.2.mem ((c.tc : Thread Reference5Ideal.nD Reference5Ideal.τ).loc Reference5Ideal.main_arg1) = m' ((c.tc : Thread Reference5Ideal.nD Reference5Ideal.τ).loc Reference5Ideal.main_arg1)
      ∧ r.2.mem ((c.tc : Thread Reference5Ideal.nD Reference5Ideal.τ).loc Reference5Ideal.main_arg2) = m' ((c.tc : Thread Reference5Ideal.nD Reference5Ideal.τ).loc Reference5Ideal.main_arg2)
      ∧ r.2.mem ((c.tc : Thread Reference5Ideal.nD Reference5Ideal.τ).loc Reference5Ideal.main_arg3) = m' ((c.tc : Thread Reference5Ideal.nD Reference5Ideal.τ).loc Reference5Ideal.main_arg3)
      ∧ r.2.mem ((c.tc : Thread Reference5Ideal.nD Reference5Ideal.τ).loc Reference5Ideal.main_arg4) = m' ((c.tc : Thread Reference5Ideal.nD Reference5Ideal.τ).loc Reference5Ideal.main_arg4)
      ∧ r.2.mem ((c.tc : Thread Reference5Ideal.nD Reference5Ideal.τ).loc Reference5Ideal.main_arg5) = m' ((c.tc : Thread Reference5Ideal.nD Reference5Ideal.τ).loc Reference5Ideal.main_arg5)
      ∧ r.2.mem ((c.tc : Thread Reference5Ideal.nD Reference5Ideal.τ).loc Reference5Ideal.main_arg6) = m' ((c.tc : Thread Reference5Ideal.nD Reference5Ideal.τ).loc Reference5Ideal.main_arg6))
      ∧ r.2.sem = fun _ => 0) :=
  (θ_run Cert.Reference5Ideal.defs _ _).mono (fun r h => ⟨fun c => (h c).2.2.2, Idealize.ShloMosaic.sem_eq_zero_of_no_sems (by decide) r.2⟩)
    (ref_run m' g')

end

/-- The two programs prepare the same, from memories that agree on the arguments. -/
theorem prep_eq (m : (ℓ : Loc Kernel5Ideal.nD Kernel5Ideal.τ Kernel5Ideal.sig) → Buf (Elt Ideal) ℓ)
    (m' : (ℓ : Loc Reference5Ideal.nD Reference5Ideal.τ Reference5Ideal.sig) → Buf (Elt Ideal) ℓ) (c : Dev Kernel5Ideal.nD)
    (h0 : m' ((c.tc : Thread Reference5Ideal.nD Reference5Ideal.τ).loc Reference5Ideal.main_arg0) = m ((c.tc : Thread Kernel5Ideal.nD Kernel5Ideal.τ).loc Kernel5Ideal.main_arg0))
    (h1 : m' ((c.tc : Thread Reference5Ideal.nD Reference5Ideal.τ).loc Reference5Ideal.main_arg1) = m ((c.tc : Thread Kernel5Ideal.nD Kernel5Ideal.τ).loc Kernel5Ideal.main_arg1))
    (h2 : m' ((c.tc : Thread Reference5Ideal.nD Reference5Ideal.τ).loc Reference5Ideal.main_arg2) = m ((c.tc : Thread Kernel5Ideal.nD Kernel5Ideal.τ).loc Kernel5Ideal.main_arg2))
    (h3 : m' ((c.tc : Thread Reference5Ideal.nD Reference5Ideal.τ).loc Reference5Ideal.main_arg3) = m ((c.tc : Thread Kernel5Ideal.nD Kernel5Ideal.τ).loc Kernel5Ideal.main_arg3))
    (h4 : m' ((c.tc : Thread Reference5Ideal.nD Reference5Ideal.τ).loc Reference5Ideal.main_arg4) = m ((c.tc : Thread Kernel5Ideal.nD Kernel5Ideal.τ).loc Kernel5Ideal.main_arg4))
    (h5 : m' ((c.tc : Thread Reference5Ideal.nD Reference5Ideal.τ).loc Reference5Ideal.main_arg5) = m ((c.tc : Thread Kernel5Ideal.nD Kernel5Ideal.τ).loc Kernel5Ideal.main_arg5))
    (h6 : m' ((c.tc : Thread Reference5Ideal.nD Reference5Ideal.τ).loc Reference5Ideal.main_arg6) = m ((c.tc : Thread Kernel5Ideal.nD Kernel5Ideal.τ).loc Kernel5Ideal.main_arg6)) :
    refQ m' c = arrQ m c ∧ refK m' c = arrK m c ∧ refV m' c = arrV m c := by
  unfold refQ refK refV arrQ arrK arrV
  rw [h0, h1, h2, h3, h4, h5, h6]
  exact ⟨rfl, rfl, rfl⟩

set_option maxHeartbeats 4000000 in
/-- The kernel runs and ends with the reference's three arrays of its arguments, which it keeps. -/
theorem ker_run (m : (ℓ : Loc Kernel5Ideal.nD Kernel5Ideal.τ Kernel5Ideal.sig) → Buf (Elt Ideal) ℓ) (g : Dev Kernel5Ideal.nD → PrngReg) :
    θ_run (Cert.Kernel5Ideal.defs (F := Ideal)) (onTc (τ := Kernel5Ideal.τ) (Cert.Kernel5Ideal.main (F := Ideal))) ⟨m, fun _ => 0, g⟩
    (fun r => ∀ c : Dev Kernel5Ideal.nD,
      r.2.mem ((c.tc : Thread Kernel5Ideal.nD Kernel5Ideal.τ).loc Kernel5Ideal.main_v129_0) = arrQ m c
      ∧ r.2.mem ((c.tc : Thread Kernel5Ideal.nD Kernel5Ideal.τ).loc Kernel5Ideal.main_v129_1) = arrK m c
      ∧ r.2.mem ((c.tc : Thread Kernel5Ideal.nD Kernel5Ideal.τ).loc Kernel5Ideal.main_v129_2) = arrV m c
      ∧ r.2.mem ((c.tc : Thread Kernel5Ideal.nD Kernel5Ideal.τ).loc Kernel5Ideal.main_arg0) = m ((c.tc : Thread Kernel5Ideal.nD Kernel5Ideal.τ).loc Kernel5Ideal.main_arg0)
      ∧ r.2.mem ((c.tc : Thread Kernel5Ideal.nD Kernel5Ideal.τ).loc Kernel5Ideal.main_arg1) = m ((c.tc : Thread Kernel5Ideal.nD Kernel5Ideal.τ).loc Kernel5Ideal.main_arg1)
      ∧ r.2.mem ((c.tc : Thread Kernel5Ideal.nD Kernel5Ideal.τ).loc Kernel5Ideal.main_arg2) = m ((c.tc : Thread Kernel5Ideal.nD Kernel5Ideal.τ).loc Kernel5Ideal.main_arg2)
      ∧ r.2.mem ((c.tc : Thread Kernel5Ideal.nD Kernel5Ideal.τ).loc Kernel5Ideal.main_arg3) = m ((c.tc : Thread Kernel5Ideal.nD Kernel5Ideal.τ).loc Kernel5Ideal.main_arg3)
      ∧ r.2.mem ((c.tc : Thread Kernel5Ideal.nD Kernel5Ideal.τ).loc Kernel5Ideal.main_arg4) = m ((c.tc : Thread Kernel5Ideal.nD Kernel5Ideal.τ).loc Kernel5Ideal.main_arg4)
      ∧ r.2.mem ((c.tc : Thread Kernel5Ideal.nD Kernel5Ideal.τ).loc Kernel5Ideal.main_arg5) = m ((c.tc : Thread Kernel5Ideal.nD Kernel5Ideal.τ).loc Kernel5Ideal.main_arg5)
      ∧ r.2.mem ((c.tc : Thread Kernel5Ideal.nD Kernel5Ideal.τ).loc Kernel5Ideal.main_arg6) = m ((c.tc : Thread Kernel5Ideal.nD Kernel5Ideal.τ).loc Kernel5Ideal.main_arg6)) :=
  (θ_run Cert.Kernel5Ideal.defs _ _).mono (fun r h c => ⟨((h c).1 9).trans (finalQ m c), ((h c).1 10).trans (finalK m c), ((h c).1 11).trans (finalV m c),
    kept m h c Kernel5Ideal.main_arg0 (by decide) (by decide) (Kernel5Ideal.Gen.V_main_arg0 m c),
    kept m h c Kernel5Ideal.main_arg1 (by decide) (by decide) (Kernel5Ideal.Gen.V_main_arg1 m c),
    kept m h c Kernel5Ideal.main_arg2 (by decide) (by decide) (Kernel5Ideal.Gen.V_main_arg2 m c),
    kept m h c Kernel5Ideal.main_arg3 (by decide) (by decide) (Kernel5Ideal.Gen.V_main_arg3 m c),
    kept m h c Kernel5Ideal.main_arg4 (by decide) (by decide) (Kernel5Ideal.Gen.V_main_arg4 m c),
    kept m h c Kernel5Ideal.main_arg5 (by decide) (by decide) (Kernel5Ideal.Gen.V_main_arg5 m c),
    kept m h c Kernel5Ideal.main_arg6 (by decide) (by decide) (Kernel5Ideal.Gen.V_main_arg6 m c)⟩)
    (Kernel5Ideal.Gen.run_main m g)

/-- Both programs run and end with the same three arrays. -/
theorem algebraic : Cert.algebraic_Kernel5Ideal_Reference5Ideal := by
  intro m g m' g' _ ha
  refine ⟨fun c => arrQ m c, fun c => arrK m c, fun c => arrV m c, ker_run m g, ?_⟩
  refine (θ_run Cert.Reference5Ideal.defs _ _).mono (fun r h c => ?_) (ref_run m' g')
  obtain ⟨hQ, hK, hV, hk⟩ := h c
  obtain ⟨h0, h1, h2, h3, h4, h5, h6⟩ := ha c
  obtain ⟨eQ, eK, eV⟩ := prep_eq m m' c h0 h1 h2 h3 h4 h5 h6
  exact ⟨hQ.trans eQ, hK.trans eK, hV.trans eV, hk⟩

end Cert.Lat
end
-- ==== Proof.lean ====
module

public import proofs.«01_k».proof.Defs
public import proofs.«01_k».proof.Proof.Gen.Kernel
public import proofs.«01_k».proof.Proof.Gen.Kernel.Frame
public import proofs.«01_k».proof.Proof.Gen.KernelIdeal.Frame
public import proofs.«01_k».proof.Proof.Swa.Claims
public import proofs.«01_k».proof.Proof.Gen.Kernel2
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Mlp.Claims
public import proofs.«01_k».proof.Proof.Gen.Kernel3
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Inp.Claims
public import proofs.«01_k».proof.Proof.Gen.Kernel4
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Ada.Claims
public import proofs.«01_k».proof.Proof.Gen.Kernel5
public import proofs.«01_k».proof.Proof.Gen.Kernel5.Frame
public import proofs.«01_k».proof.Proof.Gen.Kernel5Ideal.Frame
public import proofs.«01_k».proof.Proof.Gen.Reference5Ideal.Run
public import proofs.«01_k».proof.Proof.Lat.Claims

@[expose] public section

noncomputable section

namespace Cert.Proof

open Idealize.ShloMosaic Idealize.SL.Sem

/-- The programs run and keep their arguments; over the extended reals the windowed attention's two programs give the
    same array, the feed-forward call's two the same array, the input projection's two the same four arrays, the
    modulation's two the same array, and the two that prepare the latent attention the same three arrays. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_finite.Gen.facts,
    fun m ρ _ => Cert.Kernel.Gen.frame m ρ,
    fun m ρ _ => Cert.KernelIdeal.Gen.frame m ρ,
    fun m ρ _ => Cert.KernelIdeal.Gen.frame m ρ,
    fun m ρ _ => Cert.Swa.ref_frame m ρ,
    fun m ρ _ => Cert.Swa.ref_frame m ρ,
    fun m ρ _ => Cert.Kernel2.Gen.frame m ρ,
    fun m ρ _ => Cert.Kernel2Ideal.Gen.frame m ρ,
    fun m ρ _ => Cert.Mlp.ref_frame m ρ,
    fun m ρ _ => Cert.Kernel3.Gen.frame m ρ,
    fun m ρ _ => Cert.Kernel3Ideal.Gen.frame m ρ,
    fun m ρ _ => Cert.Inp.ref_frame m ρ,
    fun m ρ _ => Cert.Kernel4.Gen.frame m ρ,
    fun m ρ _ => Cert.Kernel4Ideal.Gen.frame m ρ,
    fun m ρ _ => Cert.Ada.ref_frame m ρ,
    fun m ρ _ => Cert.Kernel5.Gen.frame m ρ,
    fun m ρ _ => Cert.Kernel5Ideal.Gen.frame m ρ,
    fun m ρ _ => Cert.Lat.ref_frame m ρ,
    IdealRules.named_const.statement Cert.KernelIdeal.κ "mask" .f32 0xF149F2CA#32 ⊥ rfl,
    Cert.Swa.algebraic,
    trivial,
    Cert.Mlp.algebraic,
    trivial,
    Cert.Inp.algebraic,
    trivial,
    Cert.Ada.algebraic,
    trivial,
    Cert.Lat.algebraic⟩

end Cert.Proof

end
